-- ==== Defs.lean ====
def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelAttn (m : (ℓ : Loc Cert.KernelAttn.nD Cert.KernelAttn.τ Cert.KernelAttn.sig) → Buf (Elt Bits) ℓ) : Prop :=
  True

def Pre_KernelAttnIdeal (m : (ℓ : Loc Cert.KernelAttnIdeal.nD Cert.KernelAttnIdeal.τ Cert.KernelAttnIdeal.sig) → Buf (Elt Ideal) ℓ) : Prop :=
  True

def Pre_KernelAttnIdeal_finite_attn [hPre_finite_attn : Cert.Pre_finite_attn.Facts] (m : (ℓ : Loc Cert.KernelAttnIdeal.nD Cert.KernelAttnIdeal.τ Cert.KernelAttnIdeal.sig) → Buf (Elt Ideal) ℓ) : Prop :=
  ∀ c : Dev Cert.KernelAttnIdeal.nD,
    (Cert.Pre_finite_attn.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3))) = (fun _ => 1#1)

def Pre_ReferenceAttnIdeal (m : (ℓ : Loc Cert.ReferenceAttnIdeal.nD Cert.ReferenceAttnIdeal.τ Cert.ReferenceAttnIdeal.sig) → Buf (Elt Ideal) ℓ) : Prop :=
  True

def Pre_ReferenceAttnIdeal_finite_attn [hPre_finite_attn : Cert.Pre_finite_attn.Facts] (m : (ℓ : Loc Cert.ReferenceAttnIdeal.nD Cert.ReferenceAttnIdeal.τ Cert.ReferenceAttnIdeal.sig) → Buf (Elt Ideal) ℓ) : Prop :=
  ∀ c : Dev Cert.ReferenceAttnIdeal.nD,
    (Cert.Pre_finite_attn.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2)) (m ((c.tc : Thread Cert.ReferenceAttnIdeal.nD Cert.ReferenceAttnIdeal.τ).loc Cert.ReferenceAttnIdeal.main_arg3))) = (fun _ => 1#1)

def Pre_KernelGlu (m : (ℓ : Loc Cert.KernelGlu.nD Cert.KernelGlu.τ Cert.KernelGlu.sig) → Buf (Elt Bits) ℓ) : Prop :=
  True

def Pre_KernelGluIdeal (m : (ℓ : Loc Cert.KernelGluIdeal.nD Cert.KernelGluIdeal.τ Cert.KernelGluIdeal.sig) → Buf (Elt Ideal) ℓ) : Prop :=
  True

def Pre_KernelGluIdeal_finite_glu [hPre_finite_glu : Cert.Pre_finite_glu.Facts] (m : (ℓ : Loc Cert.KernelGluIdeal.nD Cert.KernelGluIdeal.τ Cert.KernelGluIdeal.sig) → Buf (Elt Ideal) ℓ) : Prop :=
  ∀ c : Dev Cert.KernelGluIdeal.nD,
    (Cert.Pre_finite_glu.fn (F := Ideal) (m ((c.tc : Thread Cert.KernelGluIdeal.nD Cert.KernelGluIdeal.τ).loc Cert.KernelGluIdeal.main_arg0)) (m ((c.tc : Thread Cert.KernelGluIdeal.nD Cert.KernelGluIdeal.τ).loc Cert.KernelGluIdeal.main_arg1)) (m ((c.tc : Thread Cert.KernelGluIdeal.nD Cert.KernelGluIdeal.τ).loc Cert.KernelGluIdeal.main_arg2)) (m ((c.tc : Thread Cert.KernelGluIdeal.nD Cert.KernelGluIdeal.τ).loc Cert.KernelGluIdeal.main_arg3)) (m ((c.tc : Thread Cert.KernelGluIdeal.nD Cert.KernelGluIdeal.τ).loc Cert.KernelGluIdeal.main_arg4))) = (fun _ => 1#1)

def Pre_ReferenceGluIdeal (m : (ℓ : Loc Cert.ReferenceGluIdeal.nD Cert.ReferenceGluIdeal.τ Cert.ReferenceGluIdeal.sig) → Buf (Elt Ideal) ℓ) : Prop :=
  True

def Pre_ReferenceGluIdeal_finite_glu [hPre_finite_glu : Cert.Pre_finite_glu.Facts] (m : (ℓ : Loc Cert.ReferenceGluIdeal.nD Cert.ReferenceGluIdeal.τ Cert.ReferenceGluIdeal.sig) → Buf (Elt Ideal) ℓ) : Prop :=
  ∀ c : Dev Cert.ReferenceGluIdeal.nD,
    (Cert.Pre_finite_glu.fn (F := Ideal) (m ((c.tc : Thread Cert.ReferenceGluIdeal.nD Cert.ReferenceGluIdeal.τ).loc Cert.ReferenceGluIdeal.main_arg0)) (m ((c.tc : Thread Cert.ReferenceGluIdeal.nD Cert.ReferenceGluIdeal.τ).loc Cert.ReferenceGluIdeal.main_arg1)) (m ((c.tc : Thread Cert.ReferenceGluIdeal.nD Cert.ReferenceGluIdeal.τ).loc Cert.ReferenceGluIdeal.main_arg2)) (m ((c.tc : Thread Cert.ReferenceGluIdeal.nD Cert.ReferenceGluIdeal.τ).loc Cert.ReferenceGluIdeal.main_arg3)) (m ((c.tc : Thread Cert.ReferenceGluIdeal.nD Cert.ReferenceGluIdeal.τ).loc Cert.ReferenceGluIdeal.main_arg4))) = (fun _ => 1#1)

def Pre_KernelMlp (m : (ℓ : Loc Cert.KernelMlp.nD Cert.KernelMlp.τ Cert.KernelMlp.sig) → Buf (Elt Bits) ℓ) : Prop :=
  True

def Pre_KernelMlpIdeal (m : (ℓ : Loc Cert.KernelMlpIdeal.nD Cert.KernelMlpIdeal.τ Cert.KernelMlpIdeal.sig) → Buf (Elt Ideal) ℓ) : Prop :=
  True

def Pre_KernelMlpIdeal_finite_mlp [hPre_finite_mlp : Cert.Pre_finite_mlp.Facts] (m : (ℓ : Loc Cert.KernelMlpIdeal.nD Cert.KernelMlpIdeal.τ Cert.KernelMlpIdeal.sig) → Buf (Elt Ideal) ℓ) : Prop :=
  ∀ c : Dev Cert.KernelMlpIdeal.nD,
    (Cert.Pre_finite_mlp.fn (F := Ideal) (m ((c.tc : Thread Cert.KernelMlpIdeal.nD Cert.KernelMlpIdeal.τ).loc Cert.KernelMlpIdeal.main_arg0)) (m ((c.tc : Thread Cert.KernelMlpIdeal.nD Cert.KernelMlpIdeal.τ).loc Cert.KernelMlpIdeal.main_arg1)) (m ((c.tc : Thread Cert.KernelMlpIdeal.nD Cert.KernelMlpIdeal.τ).loc Cert.KernelMlpIdeal.main_arg2)) (m ((c.tc : Thread Cert.KernelMlpIdeal.nD Cert.KernelMlpIdeal.τ).loc Cert.KernelMlpIdeal.main_arg3)) (m ((c.tc : Thread Cert.KernelMlpIdeal.nD Cert.KernelMlpIdeal.τ).loc Cert.KernelMlpIdeal.main_arg4))) = (fun _ => 1#1)

def Pre_ReferenceMlpIdeal (m : (ℓ : Loc Cert.ReferenceMlpIdeal.nD Cert.ReferenceMlpIdeal.τ Cert.ReferenceMlpIdeal.sig) → Buf (Elt Ideal) ℓ) : Prop :=
  True

def Pre_ReferenceMlpIdeal_finite_mlp [hPre_finite_mlp : Cert.Pre_finite_mlp.Facts] (m : (ℓ : Loc Cert.ReferenceMlpIdeal.nD Cert.ReferenceMlpIdeal.τ Cert.ReferenceMlpIdeal.sig) → Buf (Elt Ideal) ℓ) : Prop :=
  ∀ c : Dev Cert.ReferenceMlpIdeal.nD,
    (Cert.Pre_finite_mlp.fn (F := Ideal) (m ((c.tc : Thread Cert.ReferenceMlpIdeal.nD Cert.ReferenceMlpIdeal.τ).loc Cert.ReferenceMlpIdeal.main_arg0)) (m ((c.tc : Thread Cert.ReferenceMlpIdeal.nD Cert.ReferenceMlpIdeal.τ).loc Cert.ReferenceMlpIdeal.main_arg1)) (m ((c.tc : Thread Cert.ReferenceMlpIdeal.nD Cert.ReferenceMlpIdeal.τ).loc Cert.ReferenceMlpIdeal.main_arg2)) (m ((c.tc : Thread Cert.ReferenceMlpIdeal.nD Cert.ReferenceMlpIdeal.τ).loc Cert.ReferenceMlpIdeal.main_arg3)) (m ((c.tc : Thread Cert.ReferenceMlpIdeal.nD Cert.ReferenceMlpIdeal.τ).loc Cert.ReferenceMlpIdeal.main_arg4))) = (fun _ => 1#1)

def Pre_KernelInproj (m : (ℓ : Loc Cert.KernelInproj.nD Cert.KernelInproj.τ Cert.KernelInproj.sig) → Buf (Elt Bits) ℓ) : Prop :=
  True

def Pre_KernelInprojIdeal (m : (ℓ : Loc Cert.KernelInprojIdeal.nD Cert.KernelInprojIdeal.τ Cert.KernelInprojIdeal.sig) → Buf (Elt Ideal) ℓ) : Prop :=
  True

def Pre_KernelPrep (m : (ℓ : Loc Cert.KernelPrep.nD Cert.KernelPrep.τ Cert.KernelPrep.sig) → Buf (Elt Bits) ℓ) : Prop :=
  True

def Pre_KernelPrepIdeal (m : (ℓ : Loc Cert.KernelPrepIdeal.nD Cert.KernelPrepIdeal.τ Cert.KernelPrepIdeal.sig) → Buf (Elt Ideal) ℓ) : Prop :=
  True

def Pre_KernelQkv (m : (ℓ : Loc Cert.KernelQkv.nD Cert.KernelQkv.τ Cert.KernelQkv.sig) → Buf (Elt Bits) ℓ) : Prop :=
  True

def Pre_KernelQkvIdeal (m : (ℓ : Loc Cert.KernelQkvIdeal.nD Cert.KernelQkvIdeal.τ Cert.KernelQkvIdeal.sig) → Buf (Elt Ideal) ℓ) : Prop :=
  True

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6)
      ∧ r.2.mem ((c.tc : Thread Cert.KernelMerge.nD Cert.KernelMerge.τ).loc Cert.KernelMerge.main_arg7) = m ((c.tc : Thread Cert.KernelMerge.nD Cert.KernelMerge.τ).loc Cert.KernelMerge.main_arg7))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
      ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6)
      ∧ r.2.mem ((c.tc : Thread Cert.ReferenceMergeIdeal.nD Cert.ReferenceMergeIdeal.τ).loc Cert.ReferenceMergeIdeal.main_arg7) = m ((c.tc : Thread Cert.ReferenceMergeIdeal.nD Cert.ReferenceMergeIdeal.τ).loc Cert.ReferenceMergeIdeal.main_arg7))
      ∧ r.2.sem = fun _ => 0)

def quiescent_KernelAttn [hKernelAttn : Cert.KernelAttn.Facts] : Prop :=
  ∀ (m : (ℓ : Loc Cert.KernelAttn.nD Cert.KernelAttn.τ Cert.KernelAttn.sig) → Buf (Elt Bits) ℓ) (g : Dev Cert.KernelAttn.nD → PrngReg), Pre_KernelAttn m →
    θ_run (Cert.KernelAttn.defs (F := Bits)) (onTc (τ := Cert.KernelAttn.τ) (Cert.KernelAttn.main (F := Bits))) ⟨m, fun _ => 0, g⟩ (fun r => (∀ c : Dev Cert.KernelAttn.nD,
      r.2.mem ((c.tc : Thread Cert.KernelAttn.nD Cert.KernelAttn.τ).loc Cert.KernelAttn.main_arg0) = m ((c.tc : Thread Cert.KernelAttn.nD Cert.KernelAttn.τ).loc Cert.KernelAttn.main_arg0)
      ∧ r.2.mem ((c.tc : Thread Cert.KernelAttn.nD Cert.KernelAttn.τ).loc Cert.KernelAttn.main_arg1) = m ((c.tc : Thread Cert.KernelAttn.nD Cert.KernelAttn.τ).loc Cert.KernelAttn.main_arg1)
      ∧ r.2.mem ((c.tc : Thread Cert.KernelAttn.nD Cert.KernelAttn.τ).loc Cert.KernelAttn.main_arg2) = m ((c.tc : Thread Cert.KernelAttn.nD Cert.KernelAttn.τ).loc Cert.KernelAttn.main_arg2)
      ∧ r.2.mem ((c.tc : Thread Cert.KernelAttn.nD Cert.KernelAttn.τ).loc Cert.KernelAttn.main_arg3) = m ((c.tc : Thread Cert.KernelAttn.nD Cert.KernelAttn.τ).loc Cert.KernelAttn.main_arg3))
      ∧ r.2.sem = fun _ => 0)

def quiescent_KernelAttnIdeal [hKernelAttnIdeal : Cert.KernelAttnIdeal.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
      ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3))
      ∧ r.2.sem = fun _ => 0)

def quiescent_KernelAttnIdeal_pre_finite_attn [hKernelAttnIdeal : Cert.KernelAttnIdeal.Facts] [hPre_finite_attn : Cert.Pre_finite_attn.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal_finite_attn m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
      ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3))
      ∧ r.2.sem = fun _ => 0)

def quiescent_ReferenceAttnIdeal [hReferenceAttnIdeal : Cert.ReferenceAttnIdeal.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2)
      ∧ r.2.mem ((c.tc : Thread Cert.ReferenceAttnIdeal.nD Cert.ReferenceAttnIdeal.τ).loc Cert.ReferenceAttnIdeal.main_arg3) = m ((c.tc : Thread Cert.ReferenceAttnIdeal.nD Cert.ReferenceAttnIdeal.τ).loc Cert.ReferenceAttnIdeal.main_arg3))
      ∧ r.2.sem = fun _ => 0)

def quiescent_ReferenceAttnIdeal_pre_finite_attn [hReferenceAttnIdeal : Cert.ReferenceAttnIdeal.Facts] [hPre_finite_attn : Cert.Pre_finite_attn.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal_finite_attn m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2)
      ∧ r.2.mem ((c.tc : Thread Cert.ReferenceAttnIdeal.nD Cert.ReferenceAttnIdeal.τ).loc Cert.ReferenceAttnIdeal.main_arg3) = m ((c.tc : Thread Cert.ReferenceAttnIdeal.nD Cert.ReferenceAttnIdeal.τ).loc Cert.ReferenceAttnIdeal.main_arg3))
      ∧ r.2.sem = fun _ => 0)

def quiescent_KernelGlu [hKernelGlu : Cert.KernelGlu.Facts] : Prop :=
  ∀ (m : (ℓ : Loc Cert.KernelGlu.nD Cert.KernelGlu.τ Cert.KernelGlu.sig) → Buf (Elt Bits) ℓ) (g : Dev Cert.KernelGlu.nD → PrngReg), Pre_KernelGlu m →
    θ_run (Cert.KernelGlu.defs (F := Bits)) (onTc (τ := Cert.KernelGlu.τ) (Cert.KernelGlu.main (F := Bits))) ⟨m, fun _ => 0, g⟩ (fun r => (∀ c : Dev Cert.KernelGlu.nD,
      r.2.mem ((c.tc : Thread Cert.KernelGlu.nD Cert.KernelGlu.τ).loc Cert.KernelGlu.main_arg0) = m ((c.tc : Thread Cert.KernelGlu.nD Cert.KernelGlu.τ).loc Cert.KernelGlu.main_arg0)
      ∧ r.2.mem ((c.tc : Thread Cert.KernelGlu.nD Cert.KernelGlu.τ).loc Cert.KernelGlu.main_arg1) = m ((c.tc : Thread Cert.KernelGlu.nD Cert.KernelGlu.τ).loc Cert.KernelGlu.main_arg1)
      ∧ r.2.mem ((c.tc : Thread Cert.KernelGlu.nD Cert.KernelGlu.τ).loc Cert.KernelGlu.main_arg2) = m ((c.tc : Thread Cert.KernelGlu.nD Cert.KernelGlu.τ).loc Cert.KernelGlu.main_arg2)
      ∧ r.2.mem ((c.tc : Thread Cert.KernelGlu.nD Cert.KernelGlu.τ).loc Cert.KernelGlu.main_arg3) = m ((c.tc : Thread Cert.KernelGlu.nD Cert.KernelGlu.τ).loc Cert.KernelGlu.main_arg3)
      ∧ r.2.mem ((c.tc : Thread Cert.KernelGlu.nD Cert.KernelGlu.τ).loc Cert.KernelGlu.main_arg4) = m ((c.tc : Thread Cert.KernelGlu.nD Cert.KernelGlu.τ).loc Cert.KernelGlu.main_arg4))
      ∧ r.2.sem = fun _ => 0)

def quiescent_KernelGluIdeal [hKernelGluIdeal : Cert.KernelGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg), Pre_KernelGluIdeal m →
    θ_run (Cert.KernelGluIdeal.defs (F := Ideal)) (onTc (τ := Cert.KernelGluIdeal.τ) (Cert.KernelGluIdeal.main (F := Ideal))) ⟨m, fun _ => 0, g⟩ (fun r => (∀ c : Dev Cert.KernelGluIdeal.nD,
      r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
      ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1)
      ∧ r.2.mem ((c.tc : Thread Cert.KernelGluIdeal.nD Cert.KernelGluIdeal.τ).loc Cert.KernelGluIdeal.main_arg2) = m ((c.tc : Thread Cert.KernelGluIdeal.nD Cert.KernelGluIdeal.τ).loc Cert.KernelGluIdeal.main_arg2)
      ∧ r.2.mem ((c.tc : Thread Cert.KernelGluIdeal.nD Cert.KernelGluIdeal.τ).loc Cert.KernelGluIdeal.main_arg3) = m ((c.tc : Thread Cert.KernelGluIdeal.nD Cert.KernelGluIdeal.τ).loc Cert.KernelGluIdeal.main_arg3)
      ∧ r.2.mem ((c.tc : Thread Cert.KernelGluIdeal.nD Cert.KernelGluIdeal.τ).loc Cert.KernelGluIdeal.main_arg4) = m ((c.tc : Thread Cert.KernelGluIdeal.nD Cert.KernelGluIdeal.τ).loc Cert.KernelGluIdeal.main_arg4))
      ∧ r.2.sem = fun _ => 0)

def quiescent_KernelGluIdeal_pre_finite_glu [hKernelGluIdeal : Cert.KernelGluIdeal.Facts] [hPre_finite_glu : Cert.Pre_finite_glu.Facts] : Prop :=
  ∀ (m : (ℓ : Loc Cert.KernelGluIdeal.nD Cert.KernelGluIdeal.τ Cert.KernelGluIdeal.sig) → Buf (Elt Ideal) ℓ) (g : Dev Cert.KernelGluIdeal.nD → PrngReg), Pre_KernelGluIdeal_finite_glu m →
    θ_run (Cert.KernelGluIdeal.defs (F := Ideal)) (onTc (τ := Cert.KernelGluIdeal.τ) (Cert.KernelGluIdeal.main (F := Ideal))) ⟨m, fun _ => 0, g⟩ (fun r => (∀ c : Dev Cert.KernelGluIdeal.nD,
      r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
      ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1)
      ∧ r.2.mem ((c.tc : Thread Cert.KernelGluIdeal.nD Cert.KernelGluIdeal.τ).loc Cert.KernelGluIdeal.main_arg2) = m ((c.tc : Thread Cert.KernelGluIdeal.nD Cert.KernelGluIdeal.τ).loc Cert.KernelGluIdeal.main_arg2)
      ∧ r.2.mem ((c.tc : Thread Cert.KernelGluIdeal.nD Cert.KernelGluIdeal.τ).loc Cert.KernelGluIdeal.main_arg3) = m ((c.tc : Thread Cert.KernelGluIdeal.nD Cert.KernelGluIdeal.τ).loc Cert.KernelGluIdeal.main_arg3)
      ∧ r.2.mem ((c.tc : Thread Cert.KernelGluIdeal.nD Cert.KernelGluIdeal.τ).loc Cert.KernelGluIdeal.main_arg4) = m ((c.tc : Thread Cert.KernelGluIdeal.nD Cert.KernelGluIdeal.τ).loc Cert.KernelGluIdeal.main_arg4))
      ∧ r.2.sem = fun _ => 0)

def quiescent_ReferenceGluIdeal [hReferenceGluIdeal : Cert.ReferenceGluIdeal.Facts] : Prop :=
  ∀ (m : (ℓ : Loc Cert.ReferenceGluIdeal.nD Cert.ReferenceGluIdeal.τ Cert.ReferenceGluIdeal.sig) → Buf (Elt Ideal) ℓ) (g : Dev Cert.ReferenceGluIdeal.nD → PrngReg), Pre_ReferenceGluIdeal m →
    θ_run (Cert.ReferenceGluIdeal.defs (F := Ideal)) (onTc (τ := Cert.ReferenceGluIdeal.τ) (Cert.ReferenceGluIdeal.main (F := Ideal))) ⟨m, fun _ => 0, g⟩ (fun r => (∀ c : Dev Cert.ReferenceGluIdeal.nD,
      r.2.mem ((c.tc : Thread Cert.ReferenceGluIdeal.nD Cert.ReferenceGluIdeal.τ).loc Cert.ReferenceGluIdeal.main_arg0) = m ((c.tc : Thread Cert.ReferenceGluIdeal.nD Cert.ReferenceGluIdeal.τ).loc Cert.ReferenceGluIdeal.main_arg0)
      ∧ r.2.mem ((c.tc : Thread Cert.ReferenceGluIdeal.nD Cert.ReferenceGluIdeal.τ).loc Cert.ReferenceGluIdeal.main_arg1) = m ((c.tc : Thread Cert.ReferenceGluIdeal.nD Cert.ReferenceGluIdeal.τ).loc Cert.ReferenceGluIdeal.main_arg1)
      ∧ r.2.mem ((c.tc : Thread Cert.ReferenceGluIdeal.nD Cert.ReferenceGluIdeal.τ).loc Cert.ReferenceGluIdeal.main_arg2) = m ((c.tc : Thread Cert.ReferenceGluIdeal.nD Cert.ReferenceGluIdeal.τ).loc Cert.ReferenceGluIdeal.main_arg2)
      ∧ r.2.mem ((c.tc : Thread Cert.ReferenceGluIdeal.nD Cert.ReferenceGluIdeal.τ).loc Cert.ReferenceGluIdeal.main_arg3) = m ((c.tc : Thread Cert.ReferenceGluIdeal.nD Cert.ReferenceGluIdeal.τ).loc Cert.ReferenceGluIdeal.main_arg3)
      ∧ r.2.mem ((c.tc : Thread Cert.ReferenceGluIdeal.nD Cert.ReferenceGluIdeal.τ).loc Cert.ReferenceGluIdeal.main_arg4) = m ((c.tc : Thread Cert.ReferenceGluIdeal.nD Cert.ReferenceGluIdeal.τ).loc Cert.ReferenceGluIdeal.main_arg4))
      ∧ r.2.sem = fun _ => 0)

def quiescent_ReferenceGluIdeal_pre_finite_glu [hReferenceGluIdeal : Cert.ReferenceGluIdeal.Facts] [hPre_finite_glu : Cert.Pre_finite_glu.Facts] : Prop :=
  ∀ (m : (ℓ : Loc Cert.ReferenceGluIdeal.nD Cert.ReferenceGluIdeal.τ Cert.ReferenceGluIdeal.sig) → Buf (Elt Ideal) ℓ) (g : Dev Cert.ReferenceGluIdeal.nD → PrngReg), Pre_ReferenceGluIdeal_finite_glu m →
    θ_run (Cert.ReferenceGluIdeal.defs (F := Ideal)) (onTc (τ := Cert.ReferenceGluIdeal.τ) (Cert.ReferenceGluIdeal.main (F := Ideal))) ⟨m, fun _ => 0, g⟩ (fun r => (∀ c : Dev Cert.ReferenceGluIdeal.nD,
      r.2.mem ((c.tc : Thread Cert.ReferenceGluIdeal.nD Cert.ReferenceGluIdeal.τ).loc Cert.ReferenceGluIdeal.main_arg0) = m ((c.tc : Thread Cert.ReferenceGluIdeal.nD Cert.ReferenceGluIdeal.τ).loc Cert.ReferenceGluIdeal.main_arg0)
      ∧ r.2.mem ((c.tc : Thread Cert.ReferenceGluIdeal.nD Cert.ReferenceGluIdeal.τ).loc Cert.ReferenceGluIdeal.main_arg1) = m ((c.tc : Thread Cert.ReferenceGluIdeal.nD Cert.ReferenceGluIdeal.τ).loc Cert.ReferenceGluIdeal.main_arg1)
      ∧ r.2.mem ((c.tc : Thread Cert.ReferenceGluIdeal.nD Cert.ReferenceGluIdeal.τ).loc Cert.ReferenceGluIdeal.main_arg2) = m ((c.tc : Thread Cert.ReferenceGluIdeal.nD Cert.ReferenceGluIdeal.τ).loc Cert.ReferenceGluIdeal.main_arg2)
      ∧ r.2.mem ((c.tc : Thread Cert.ReferenceGluIdeal.nD Cert.ReferenceGluIdeal.τ).loc Cert.ReferenceGluIdeal.main_arg3) = m ((c.tc : Thread Cert.ReferenceGluIdeal.nD Cert.ReferenceGluIdeal.τ).loc Cert.ReferenceGluIdeal.main_arg3)
      ∧ r.2.mem ((c.tc : Thread Cert.ReferenceGluIdeal.nD Cert.ReferenceGluIdeal.τ).loc Cert.ReferenceGluIdeal.main_arg4) = m ((c.tc : Thread Cert.ReferenceGluIdeal.nD Cert.ReferenceGluIdeal.τ).loc Cert.ReferenceGluIdeal.main_arg4))
      ∧ r.2.sem = fun _ => 0)

def quiescent_KernelMlp [hKernelMlp : Cert.KernelMlp.Facts] : Prop :=
  ∀ (m : (ℓ : Loc Cert.KernelMlp.nD Cert.KernelMlp.τ Cert.KernelMlp.sig) → Buf (Elt Bits) ℓ) (g : Dev Cert.KernelMlp.nD → PrngReg), Pre_KernelMlp m →
    θ_run (Cert.KernelMlp.defs (F := Bits)) (onTc (τ := Cert.KernelMlp.τ) (Cert.KernelMlp.main (F := Bits))) ⟨m, fun _ => 0, g⟩ (fun r => (∀ c : Dev Cert.KernelMlp.nD,
      r.2.mem ((c.tc : Thread Cert.KernelMlp.nD Cert.KernelMlp.τ).loc Cert.KernelMlp.main_arg0) = m ((c.tc : Thread Cert.KernelMlp.nD Cert.KernelMlp.τ).loc Cert.KernelMlp.main_arg0)
      ∧ r.2.mem ((c.tc : Thread Cert.KernelMlp.nD Cert.KernelMlp.τ).loc Cert.KernelMlp.main_arg1) = m ((c.tc : Thread Cert.KernelMlp.nD Cert.KernelMlp.τ).loc Cert.KernelMlp.main_arg1)
      ∧ r.2.mem ((c.tc : Thread Cert.KernelMlp.nD Cert.KernelMlp.τ).loc Cert.KernelMlp.main_arg2) = m ((c.tc : Thread Cert.KernelMlp.nD Cert.KernelMlp.τ).loc Cert.KernelMlp.main_arg2)
      ∧ r.2.mem ((c.tc : Thread Cert.KernelMlp.nD Cert.KernelMlp.τ).loc Cert.KernelMlp.main_arg3) = m ((c.tc : Thread Cert.KernelMlp.nD Cert.KernelMlp.τ).loc Cert.KernelMlp.main_arg3)
      ∧ r.2.mem ((c.tc : Thread Cert.KernelMlp.nD Cert.KernelMlp.τ).loc Cert.KernelMlp.main_arg4) = m ((c.tc : Thread Cert.KernelMlp.nD Cert.KernelMlp.τ).loc Cert.KernelMlp.main_arg4))
      ∧ r.2.sem = fun _ => 0)

def quiescent_KernelMlpIdeal [hKernelMlpIdeal : Cert.KernelMlpIdeal.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg), Pre_KernelMlpIdeal m →
    θ_run (Cert.KernelMlpIdeal.defs (F := Ideal)) (onTc (τ := Cert.KernelMlpIdeal.τ) (Cert.KernelMlpIdeal.main (F := Ideal))) ⟨m, fun _ => 0, g⟩ (fun r => (∀ c : Dev Cert.KernelMlpIdeal.nD,
      r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
      ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
      ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
      ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3)
      ∧ r.2.mem ((c.tc : Thread Cert.KernelMlpIdeal.nD Cert.KernelMlpIdeal.τ).loc Cert.KernelMlpIdeal.main_arg4) = m ((c.tc : Thread Cert.KernelMlpIdeal.nD Cert.KernelMlpIdeal.τ).loc Cert.KernelMlpIdeal.main_arg4))
      ∧ r.2.sem = fun _ => 0)

def quiescent_KernelMlpIdeal_pre_finite_mlp [hKernelMlpIdeal : Cert.KernelMlpIdeal.Facts] [hPre_finite_mlp : Cert.Pre_finite_mlp.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg), Pre_KernelMlpIdeal_finite_mlp m →
    θ_run (Cert.KernelMlpIdeal.defs (F := Ideal)) (onTc (τ := Cert.KernelMlpIdeal.τ) (Cert.KernelMlpIdeal.main (F := Ideal))) ⟨m, fun _ => 0, g⟩ (fun r => (∀ c : Dev Cert.KernelMlpIdeal.nD,
      r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
      ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
      ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
      ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3)
      ∧ r.2.mem ((c.tc : Thread Cert.KernelMlpIdeal.nD Cert.KernelMlpIdeal.τ).loc Cert.KernelMlpIdeal.main_arg4) = m ((c.tc : Thread Cert.KernelMlpIdeal.nD Cert.KernelMlpIdeal.τ).loc Cert.KernelMlpIdeal.main_arg4))
      ∧ r.2.sem = fun _ => 0)

def quiescent_ReferenceMlpIdeal [hReferenceMlpIdeal : Cert.ReferenceMlpIdeal.Facts] : Prop :=
  ∀ (m : (ℓ : Loc Cert.ReferenceMlpIdeal.nD Cert.ReferenceMlpIdeal.τ Cert.ReferenceMlpIdeal.sig) → Buf (Elt Ideal) ℓ) (g : Dev Cert.ReferenceMlpIdeal.nD → PrngReg), Pre_ReferenceMlpIdeal m →
    θ_run (Cert.ReferenceMlpIdeal.defs (F := Ideal)) (onTc (τ := Cert.ReferenceMlpIdeal.τ) (Cert.ReferenceMlpIdeal.main (F := Ideal))) ⟨m, fun _ => 0, g⟩ (fun r => (∀ c : Dev Cert.ReferenceMlpIdeal.nD,
      r.2.mem ((c.tc : Thread Cert.ReferenceMlpIdeal.nD Cert.ReferenceMlpIdeal.τ).loc Cert.ReferenceMlpIdeal.main_arg0) = m ((c.tc : Thread Cert.ReferenceMlpIdeal.nD Cert.ReferenceMlpIdeal.τ).loc Cert.ReferenceMlpIdeal.main_arg0)
      ∧ r.2.mem ((c.tc : Thread Cert.ReferenceMlpIdeal.nD Cert.ReferenceMlpIdeal.τ).loc Cert.ReferenceMlpIdeal.main_arg1) = m ((c.tc : Thread Cert.ReferenceMlpIdeal.nD Cert.ReferenceMlpIdeal.τ).loc Cert.ReferenceMlpIdeal.main_arg1)
      ∧ r.2.mem ((c.tc : Thread Cert.ReferenceMlpIdeal.nD Cert.ReferenceMlpIdeal.τ).loc Cert.ReferenceMlpIdeal.main_arg2) = m ((c.tc : Thread Cert.ReferenceMlpIdeal.nD Cert.ReferenceMlpIdeal.τ).loc Cert.ReferenceMlpIdeal.main_arg2)
      ∧ r.2.mem ((c.tc : Thread Cert.ReferenceMlpIdeal.nD Cert.ReferenceMlpIdeal.τ).loc Cert.ReferenceMlpIdeal.main_arg3) = m ((c.tc : Thread Cert.ReferenceMlpIdeal.nD Cert.ReferenceMlpIdeal.τ).loc Cert.ReferenceMlpIdeal.main_arg3)
      ∧ r.2.mem ((c.tc : Thread Cert.ReferenceMlpIdeal.nD Cert.ReferenceMlpIdeal.τ).loc Cert.ReferenceMlpIdeal.main_arg4) = m ((c.tc : Thread Cert.ReferenceMlpIdeal.nD Cert.ReferenceMlpIdeal.τ).loc Cert.ReferenceMlpIdeal.main_arg4))
      ∧ r.2.sem = fun _ => 0)

def quiescent_ReferenceMlpIdeal_pre_finite_mlp [hReferenceMlpIdeal : Cert.ReferenceMlpIdeal.Facts] [hPre_finite_mlp : Cert.Pre_finite_mlp.Facts] : Prop :=
  ∀ (m : (ℓ : Loc Cert.ReferenceMlpIdeal.nD Cert.ReferenceMlpIdeal.τ Cert.ReferenceMlpIdeal.sig) → Buf (Elt Ideal) ℓ) (g : Dev Cert.ReferenceMlpIdeal.nD → PrngReg), Pre_ReferenceMlpIdeal_finite_mlp m →
    θ_run (Cert.ReferenceMlpIdeal.defs (F := Ideal)) (onTc (τ := Cert.ReferenceMlpIdeal.τ) (Cert.ReferenceMlpIdeal.main (F := Ideal))) ⟨m, fun _ => 0, g⟩ (fun r => (∀ c : Dev Cert.ReferenceMlpIdeal.nD,
      r.2.mem ((c.tc : Thread Cert.ReferenceMlpIdeal.nD Cert.ReferenceMlpIdeal.τ).loc Cert.ReferenceMlpIdeal.main_arg0) = m ((c.tc : Thread Cert.ReferenceMlpIdeal.nD Cert.ReferenceMlpIdeal.τ).loc Cert.ReferenceMlpIdeal.main_arg0)
      ∧ r.2.mem ((c.tc : Thread Cert.ReferenceMlpIdeal.nD Cert.ReferenceMlpIdeal.τ).loc Cert.ReferenceMlpIdeal.main_arg1) = m ((c.tc : Thread Cert.ReferenceMlpIdeal.nD Cert.ReferenceMlpIdeal.τ).loc Cert.ReferenceMlpIdeal.main_arg1)
      ∧ r.2.mem ((c.tc : Thread Cert.ReferenceMlpIdeal.nD Cert.ReferenceMlpIdeal.τ).loc Cert.ReferenceMlpIdeal.main_arg2) = m ((c.tc : Thread Cert.ReferenceMlpIdeal.nD Cert.ReferenceMlpIdeal.τ).loc Cert.ReferenceMlpIdeal.main_arg2)
      ∧ r.2.mem ((c.tc : Thread Cert.ReferenceMlpIdeal.nD Cert.ReferenceMlpIdeal.τ).loc Cert.ReferenceMlpIdeal.main_arg3) = m ((c.tc : Thread Cert.ReferenceMlpIdeal.nD Cert.ReferenceMlpIdeal.τ).loc Cert.ReferenceMlpIdeal.main_arg3)
      ∧ r.2.mem ((c.tc : Thread Cert.ReferenceMlpIdeal.nD Cert.ReferenceMlpIdeal.τ).loc Cert.ReferenceMlpIdeal.main_arg4) = m ((c.tc : Thread Cert.ReferenceMlpIdeal.nD Cert.ReferenceMlpIdeal.τ).loc Cert.ReferenceMlpIdeal.main_arg4))
      ∧ r.2.sem = fun _ => 0)

def quiescent_KernelInproj [hKernelInproj : Cert.KernelInproj.Facts] : Prop :=
  ∀ (m : (ℓ : Loc Cert.KernelInproj.nD Cert.KernelInproj.τ Cert.KernelInproj.sig) → Buf (Elt Bits) ℓ) (g : Dev Cert.KernelInproj.nD → PrngReg), Pre_KernelInproj m →
    θ_run (Cert.KernelInproj.defs (F := Bits)) (onTc (τ := Cert.KernelInproj.τ) (Cert.KernelInproj.main (F := Bits))) ⟨m, fun _ => 0, g⟩ (fun r => (∀ c : Dev Cert.KernelInproj.nD,
      r.2.mem ((c.tc : Thread Cert.KernelInproj.nD Cert.KernelInproj.τ).loc Cert.KernelInproj.main_arg0) = m ((c.tc : Thread Cert.KernelInproj.nD Cert.KernelInproj.τ).loc Cert.KernelInproj.main_arg0)
      ∧ r.2.mem ((c.tc : Thread Cert.KernelInproj.nD Cert.KernelInproj.τ).loc Cert.KernelInproj.main_arg1) = m ((c.tc : Thread Cert.KernelInproj.nD Cert.KernelInproj.τ).loc Cert.KernelInproj.main_arg1)
      ∧ r.2.mem ((c.tc : Thread Cert.KernelInproj.nD Cert.KernelInproj.τ).loc Cert.KernelInproj.main_arg2) = m ((c.tc : Thread Cert.KernelInproj.nD Cert.KernelInproj.τ).loc Cert.KernelInproj.main_arg2)
      ∧ r.2.mem ((c.tc : Thread Cert.KernelInproj.nD Cert.KernelInproj.τ).loc Cert.KernelInproj.main_arg3) = m ((c.tc : Thread Cert.KernelInproj.nD Cert.KernelInproj.τ).loc Cert.KernelInproj.main_arg3)
      ∧ r.2.mem ((c.tc : Thread Cert.KernelInproj.nD Cert.KernelInproj.τ).loc Cert.KernelInproj.main_arg4) = m ((c.tc : Thread Cert.KernelInproj.nD Cert.KernelInproj.τ).loc Cert.KernelInproj.main_arg4)
      ∧ r.2.mem ((c.tc : Thread Cert.KernelInproj.nD Cert.KernelInproj.τ).loc Cert.KernelInproj.main_arg5) = m ((c.tc : Thread Cert.KernelInproj.nD Cert.KernelInproj.τ).loc Cert.KernelInproj.main_arg5)
      ∧ r.2.mem ((c.tc : Thread Cert.KernelInproj.nD Cert.KernelInproj.τ).loc Cert.KernelInproj.main_arg6) = m ((c.tc : Thread Cert.KernelInproj.nD Cert.KernelInproj.τ).loc Cert.KernelInproj.main_arg6)
      ∧ r.2.mem ((c.tc : Thread Cert.KernelInproj.nD Cert.KernelInproj.τ).loc Cert.KernelInproj.main_arg7) = m ((c.tc : Thread Cert.KernelInproj.nD Cert.KernelInproj.τ).loc Cert.KernelInproj.main_arg7)
      ∧ r.2.mem ((c.tc : Thread Cert.KernelInproj.nD Cert.KernelInproj.τ).loc Cert.KernelInproj.main_arg8) = m ((c.tc : Thread Cert.KernelInproj.nD Cert.KernelInproj.τ).loc Cert.KernelInproj.main_arg8))
      ∧ r.2.sem = fun _ => 0)

def quiescent_KernelInprojIdeal [hKernelInprojIdeal : Cert.KernelInprojIdeal.Facts] : Prop :=
  ∀ (m : (ℓ : Loc Cert.KernelInprojIdeal.nD Cert.KernelInprojIdeal.τ Cert.KernelInprojIdeal.sig) → Buf (Elt Ideal) ℓ) (g : Dev Cert.KernelInprojIdeal.nD → PrngReg), Pre_KernelInprojIdeal m →
    θ_run (Cert.KernelInprojIdeal.defs (F := Ideal)) (onTc (τ := Cert.KernelInprojIdeal.τ) (Cert.KernelInprojIdeal.main (F := Ideal))) ⟨m, fun _ => 0, g⟩ (fun r => (∀ c : Dev Cert.KernelInprojIdeal.nD,
      r.2.mem ((c.tc : Thread Cert.KernelInprojIdeal.nD Cert.KernelInprojIdeal.τ).loc Cert.KernelInprojIdeal.main_arg0) = m ((c.tc : Thread Cert.KernelInprojIdeal.nD Cert.KernelInprojIdeal.τ).loc Cert.KernelInprojIdeal.main_arg0)
      ∧ r.2.mem ((c.tc : Thread Cert.KernelInprojIdeal.nD Cert.KernelInprojIdeal.τ).loc Cert.KernelInprojIdeal.main_arg1) = m ((c.tc : Thread Cert.KernelInprojIdeal.nD Cert.KernelInprojIdeal.τ).loc Cert.KernelInprojIdeal.main_arg1)
      ∧ r.2.mem ((c.tc : Thread Cert.KernelInprojIdeal.nD Cert.KernelInprojIdeal.τ).loc Cert.KernelInprojIdeal.main_arg2) = m ((c.tc : Thread Cert.KernelInprojIdeal.nD Cert.KernelInprojIdeal.τ).loc Cert.KernelInprojIdeal.main_arg2)
      ∧ r.2.mem ((c.tc : Thread Cert.KernelInprojIdeal.nD Cert.KernelInprojIdeal.τ).loc Cert.KernelInprojIdeal.main_arg3) = m ((c.tc : Thread Cert.KernelInprojIdeal.nD Cert.KernelInprojIdeal.τ).loc Cert.KernelInprojIdeal.main_arg3)
      ∧ r.2.mem ((c.tc : Thread Cert.KernelInprojIdeal.nD Cert.KernelInprojIdeal.τ).loc Cert.KernelInprojIdeal.main_arg4) = m ((c.tc : Thread Cert.KernelInprojIdeal.nD Cert.KernelInprojIdeal.τ).loc Cert.KernelInprojIdeal.main_arg4)
      ∧ r.2.mem ((c.tc : Thread Cert.KernelInprojIdeal.nD Cert.KernelInprojIdeal.τ).loc Cert.KernelInprojIdeal.main_arg5) = m ((c.tc : Thread Cert.KernelInprojIdeal.nD Cert.KernelInprojIdeal.τ).loc Cert.KernelInprojIdeal.main_arg5)
      ∧ r.2.mem ((c.tc : Thread Cert.KernelInprojIdeal.nD Cert.KernelInprojIdeal.τ).loc Cert.KernelInprojIdeal.main_arg6) = m ((c.tc : Thread Cert.KernelInprojIdeal.nD Cert.KernelInprojIdeal.τ).loc Cert.KernelInprojIdeal.main_arg6)
      ∧ r.2.mem ((c.tc : Thread Cert.KernelInprojIdeal.nD Cert.KernelInprojIdeal.τ).loc Cert.KernelInprojIdeal.main_arg7) = m ((c.tc : Thread Cert.KernelInprojIdeal.nD Cert.KernelInprojIdeal.τ).loc Cert.KernelInprojIdeal.main_arg7)
      ∧ r.2.mem ((c.tc : Thread Cert.KernelInprojIdeal.nD Cert.KernelInprojIdeal.τ).loc Cert.KernelInprojIdeal.main_arg8) = m ((c.tc : Thread Cert.KernelInprojIdeal.nD Cert.KernelInprojIdeal.τ).loc Cert.KernelInprojIdeal.main_arg8))
      ∧ r.2.sem = fun _ => 0)

def quiescent_KernelPrep [hKernelPrep : Cert.KernelPrep.Facts] : Prop :=
  ∀ (m : (ℓ : Loc Cert.KernelPrep.nD Cert.KernelPrep.τ Cert.KernelPrep.sig) → Buf (Elt Bits) ℓ) (g : Dev Cert.KernelPrep.nD → PrngReg), Pre_KernelPrep m →
    θ_run (Cert.KernelPrep.defs (F := Bits)) (onTc (τ := Cert.KernelPrep.τ) (Cert.KernelPrep.main (F := Bits))) ⟨m, fun _ => 0, g⟩ (fun r => (∀ c : Dev Cert.KernelPrep.nD,
      r.2.mem ((c.tc : Thread Cert.KernelPrep.nD Cert.KernelPrep.τ).loc Cert.KernelPrep.main_arg0) = m ((c.tc : Thread Cert.KernelPrep.nD Cert.KernelPrep.τ).loc Cert.KernelPrep.main_arg0)
      ∧ r.2.mem ((c.tc : Thread Cert.KernelPrep.nD Cert.KernelPrep.τ).loc Cert.KernelPrep.main_arg1) = m ((c.tc : Thread Cert.KernelPrep.nD Cert.KernelPrep.τ).loc Cert.KernelPrep.main_arg1)
      ∧ r.2.mem ((c.tc : Thread Cert.KernelPrep.nD Cert.KernelPrep.τ).loc Cert.KernelPrep.main_arg2) = m ((c.tc : Thread Cert.KernelPrep.nD Cert.KernelPrep.τ).loc Cert.KernelPrep.main_arg2)
      ∧ r.2.mem ((c.tc : Thread Cert.KernelPrep.nD Cert.KernelPrep.τ).loc Cert.KernelPrep.main_arg3) = m ((c.tc : Thread Cert.KernelPrep.nD Cert.KernelPrep.τ).loc Cert.KernelPrep.main_arg3)
      ∧ r.2.mem ((c.tc : Thread Cert.KernelPrep.nD Cert.KernelPrep.τ).loc Cert.KernelPrep.main_arg4) = m ((c.tc : Thread Cert.KernelPrep.nD Cert.KernelPrep.τ).loc Cert.KernelPrep.main_arg4)
      ∧ r.2.mem ((c.tc : Thread Cert.KernelPrep.nD Cert.KernelPrep.τ).loc Cert.KernelPrep.main_arg5) = m ((c.tc : Thread Cert.KernelPrep.nD Cert.KernelPrep.τ).loc Cert.KernelPrep.main_arg5)
      ∧ r.2.mem ((c.tc : Thread Cert.KernelPrep.nD Cert.KernelPrep.τ).loc Cert.KernelPrep.main_arg6) = m ((c.tc : Thread Cert.KernelPrep.nD Cert.KernelPrep.τ).loc Cert.KernelPrep.main_arg6)
      ∧ r.2.mem ((c.tc : Thread Cert.KernelPrep.nD Cert.KernelPrep.τ).loc Cert.KernelPrep.main_arg7) = m ((c.tc : Thread Cert.KernelPrep.nD Cert.KernelPrep.τ).loc Cert.KernelPrep.main_arg7))
      ∧ r.2.sem = fun _ => 0)

def quiescent_KernelPrepIdeal [hKernelPrepIdeal : Cert.KernelPrepIdeal.Facts] : Prop :=
  ∀ (m : (ℓ : Loc Cert.KernelPrepIdeal.nD Cert.KernelPrepIdeal.τ Cert.KernelPrepIdeal.sig) → Buf (Elt Ideal) ℓ) (g : Dev Cert.KernelPrepIdeal.nD → PrngReg), Pre_KernelPrepIdeal m →
    θ_run (Cert.KernelPrepIdeal.defs (F := Ideal)) (onTc (τ := Cert.KernelPrepIdeal.τ) (Cert.KernelPrepIdeal.main (F := Ideal))) ⟨m, fun _ => 0, g⟩ (fun r => (∀ c : Dev Cert.KernelPrepIdeal.nD,
      r.2.mem ((c.tc : Thread Cert.KernelPrepIdeal.nD Cert.KernelPrepIdeal.τ).loc Cert.KernelPrepIdeal.main_arg0) = m ((c.tc : Thread Cert.KernelPrepIdeal.nD Cert.KernelPrepIdeal.τ).loc Cert.KernelPrepIdeal.main_arg0)
      ∧ r.2.mem ((c.tc : Thread Cert.KernelPrepIdeal.nD Cert.KernelPrepIdeal.τ).loc Cert.KernelPrepIdeal.main_arg1) = m ((c.tc : Thread Cert.KernelPrepIdeal.nD Cert.KernelPrepIdeal.τ).loc Cert.KernelPrepIdeal.main_arg1)
      ∧ r.2.mem ((c.tc : Thread Cert.KernelPrepIdeal.nD Cert.KernelPrepIdeal.τ).loc Cert.KernelPrepIdeal.main_arg2) = m ((c.tc : Thread Cert.KernelPrepIdeal.nD Cert.KernelPrepIdeal.τ).loc Cert.KernelPrepIdeal.main_arg2)
      ∧ r.2.mem ((c.tc : Thread Cert.KernelPrepIdeal.nD Cert.KernelPrepIdeal.τ).loc Cert.KernelPrepIdeal.main_arg3) = m ((c.tc : Thread Cert.KernelPrepIdeal.nD Cert.KernelPrepIdeal.τ).loc Cert.KernelPrepIdeal.main_arg3)
      ∧ r.2.mem ((c.tc : Thread Cert.KernelPrepIdeal.nD Cert.KernelPrepIdeal.τ).loc Cert.KernelPrepIdeal.main_arg4) = m ((c.tc : Thread Cert.KernelPrepIdeal.nD Cert.KernelPrepIdeal.τ).loc Cert.KernelPrepIdeal.main_arg4)
      ∧ r.2.mem ((c.tc : Thread Cert.KernelPrepIdeal.nD Cert.KernelPrepIdeal.τ).loc Cert.KernelPrepIdeal.main_arg5) = m ((c.tc : Thread Cert.KernelPrepIdeal.nD Cert.KernelPrepIdeal.τ).loc Cert.KernelPrepIdeal.main_arg5)
      ∧ r.2.mem ((c.tc : Thread Cert.KernelPrepIdeal.nD Cert.KernelPrepIdeal.τ).loc Cert.KernelPrepIdeal.main_arg6) = m ((c.tc : Thread Cert.KernelPrepIdeal.nD Cert.KernelPrepIdeal.τ).loc Cert.KernelPrepIdeal.main_arg6)
      ∧ r.2.mem ((c.tc : Thread Cert.KernelPrepIdeal.nD Cert.KernelPrepIdeal.τ).loc Cert.KernelPrepIdeal.main_arg7) = m ((c.tc : Thread Cert.KernelPrepIdeal.nD Cert.KernelPrepIdeal.τ).loc Cert.KernelPrepIdeal.main_arg7))
      ∧ r.2.sem = fun _ => 0)

def quiescent_KernelQkv [hKernelQkv : Cert.KernelQkv.Facts] : Prop :=
  ∀ (m : (ℓ : Loc Cert.KernelQkv.nD Cert.KernelQkv.τ Cert.KernelQkv.sig) → Buf (Elt Bits) ℓ) (g : Dev Cert.KernelQkv.nD → PrngReg), Pre_KernelQkv m →
    θ_run (Cert.KernelQkv.defs (F := Bits)) (onTc (τ := Cert.KernelQkv.τ) (Cert.KernelQkv.main (F := Bits))) ⟨m, fun _ => 0, g⟩ (fun r => (∀ c : Dev Cert.KernelQkv.nD,
      r.2.mem ((c.tc : Thread Cert.KernelQkv.nD Cert.KernelQkv.τ).loc Cert.KernelQkv.main_arg0) = m ((c.tc : Thread Cert.KernelQkv.nD Cert.KernelQkv.τ).loc Cert.KernelQkv.main_arg0)
      ∧ r.2.mem ((c.tc : Thread Cert.KernelQkv.nD Cert.KernelQkv.τ).loc Cert.KernelQkv.main_arg1) = m ((c.tc : Thread Cert.KernelQkv.nD Cert.KernelQkv.τ).loc Cert.KernelQkv.main_arg1)
      ∧ r.2.mem ((c.tc : Thread Cert.KernelQkv.nD Cert.KernelQkv.τ).loc Cert.KernelQkv.main_arg2) = m ((c.tc : Thread Cert.KernelQkv.nD Cert.KernelQkv.τ).loc Cert.KernelQkv.main_arg2)
      ∧ r.2.mem ((c.tc : Thread Cert.KernelQkv.nD Cert.KernelQkv.τ).loc Cert.KernelQkv.main_arg3) = m ((c.tc : Thread Cert.KernelQkv.nD Cert.KernelQkv.τ).loc Cert.KernelQkv.main_arg3)
      ∧ r.2.mem ((c.tc : Thread Cert.KernelQkv.nD Cert.KernelQkv.τ).loc Cert.KernelQkv.main_arg4) = m ((c.tc : Thread Cert.KernelQkv.nD Cert.KernelQkv.τ).loc Cert.KernelQkv.main_arg4)
      ∧ r.2.mem ((c.tc : Thread Cert.KernelQkv.nD Cert.KernelQkv.τ).loc Cert.KernelQkv.main_arg5) = m ((c.tc : Thread Cert.KernelQkv.nD Cert.KernelQkv.τ).loc Cert.KernelQkv.main_arg5)
      ∧ r.2.mem ((c.tc : Thread Cert.KernelQkv.nD Cert.KernelQkv.τ).loc Cert.KernelQkv.main_arg6) = m ((c.tc : Thread Cert.KernelQkv.nD Cert.KernelQkv.τ).loc Cert.KernelQkv.main_arg6)
      ∧ r.2.mem ((c.tc : Thread Cert.KernelQkv.nD Cert.KernelQkv.τ).loc Cert.KernelQkv.main_arg7) = m ((c.tc : Thread Cert.KernelQkv.nD Cert.KernelQkv.τ).loc Cert.KernelQkv.main_arg7)
      ∧ r.2.mem ((c.tc : Thread Cert.KernelQkv.nD Cert.KernelQkv.τ).loc Cert.KernelQkv.main_arg8) = m ((c.tc : Thread Cert.KernelQkv.nD Cert.KernelQkv.τ).loc Cert.KernelQkv.main_arg8)
      ∧ r.2.mem ((c.tc : Thread Cert.KernelQkv.nD Cert.KernelQkv.τ).loc Cert.KernelQkv.main_arg9) = m ((c.tc : Thread Cert.KernelQkv.nD Cert.KernelQkv.τ).loc Cert.KernelQkv.main_arg9)
      ∧ r.2.mem ((c.tc : Thread Cert.KernelQkv.nD Cert.KernelQkv.τ).loc Cert.KernelQkv.main_arg10) = m ((c.tc : Thread Cert.KernelQkv.nD Cert.KernelQkv.τ).loc Cert.KernelQkv.main_arg10)
      ∧ r.2.mem ((c.tc : Thread Cert.KernelQkv.nD Cert.KernelQkv.τ).loc Cert.KernelQkv.main_arg11) = m ((c.tc : Thread Cert.KernelQkv.nD Cert.KernelQkv.τ).loc Cert.KernelQkv.main_arg11))
      ∧ r.2.sem = fun _ => 0)

def quiescent_KernelQkvIdeal [hKernelQkvIdeal : Cert.KernelQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg), Pre_KernelQkvIdeal m →
    θ_run (Cert.KernelQkvIdeal.defs (F := Ideal)) (onTc (τ := Cert.KernelQkvIdeal.τ) (Cert.KernelQkvIdeal.main (F := Ideal))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
      ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2)
      ∧ r.2.mem ((c.tc : Thread Cert.KernelQkvIdeal.nD Cert.KernelQkvIdeal.τ).loc Cert.KernelQkvIdeal.main_arg3) = m ((c.tc : Thread Cert.KernelQkvIdeal.nD Cert.KernelQkvIdeal.τ).loc Cert.KernelQkvIdeal.main_arg3)
      ∧ r.2.mem ((c.tc : Thread Cert.KernelQkvIdeal.nD Cert.KernelQkvIdeal.τ).loc Cert.KernelQkvIdeal.main_arg4) = m ((c.tc : Thread Cert.KernelQkvIdeal.nD Cert.KernelQkvIdeal.τ).loc Cert.KernelQkvIdeal.main_arg4)
      ∧ r.2.mem ((c.tc : Thread Cert.KernelQkvIdeal.nD Cert.KernelQkvIdeal.τ).loc Cert.KernelQkvIdeal.main_arg5) = m ((c.tc : Thread Cert.KernelQkvIdeal.nD Cert.KernelQkvIdeal.τ).loc Cert.KernelQkvIdeal.main_arg5)
      ∧ r.2.mem ((c.tc : Thread Cert.KernelQkvIdeal.nD Cert.KernelQkvIdeal.τ).loc Cert.KernelQkvIdeal.main_arg6) = m ((c.tc : Thread Cert.KernelQkvIdeal.nD Cert.KernelQkvIdeal.τ).loc Cert.KernelQkvIdeal.main_arg6)
      ∧ r.2.mem ((c.tc : Thread Cert.KernelQkvIdeal.nD Cert.KernelQkvIdeal.τ).loc Cert.KernelQkvIdeal.main_arg7) = m ((c.tc : Thread Cert.KernelQkvIdeal.nD Cert.KernelQkvIdeal.τ).loc Cert.KernelQkvIdeal.main_arg7)
      ∧ r.2.mem ((c.tc : Thread Cert.KernelQkvIdeal.nD Cert.KernelQkvIdeal.τ).loc Cert.KernelQkvIdeal.main_arg8) = m ((c.tc : Thread Cert.KernelQkvIdeal.nD Cert.KernelQkvIdeal.τ).loc Cert.KernelQkvIdeal.main_arg8)
      ∧ r.2.mem ((c.tc : Thread Cert.KernelQkvIdeal.nD Cert.KernelQkvIdeal.τ).loc Cert.KernelQkvIdeal.main_arg9) = m ((c.tc : Thread Cert.KernelQkvIdeal.nD Cert.KernelQkvIdeal.τ).loc Cert.KernelQkvIdeal.main_arg9)
      ∧ r.2.mem ((c.tc : Thread Cert.KernelQkvIdeal.nD Cert.KernelQkvIdeal.τ).loc Cert.KernelQkvIdeal.main_arg10) = m ((c.tc : Thread Cert.KernelQkvIdeal.nD Cert.KernelQkvIdeal.τ).loc Cert.KernelQkvIdeal.main_arg10)
      ∧ r.2.mem ((c.tc : Thread Cert.KernelQkvIdeal.nD Cert.KernelQkvIdeal.τ).loc Cert.KernelQkvIdeal.main_arg11) = m ((c.tc : Thread Cert.KernelQkvIdeal.nD Cert.KernelQkvIdeal.τ).loc Cert.KernelQkvIdeal.main_arg11))
      ∧ r.2.sem = fun _ => 0)

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)
      ∧ m' ((c.tc : Thread Cert.ReferenceMergeIdeal.nD Cert.ReferenceMergeIdeal.τ).loc Cert.ReferenceMergeIdeal.main_arg7) = m ((c.tc : Thread Cert.KernelMergeIdeal.nD Cert.KernelMergeIdeal.τ).loc Cert.KernelMergeIdeal.main_arg7)) →
    ∃ (v0 : (c : Dev Cert.KernelMergeIdeal.nD) → Buf (Elt Ideal) ((c.tc : Thread Cert.KernelMergeIdeal.nD Cert.KernelMergeIdeal.τ).loc Cert.KernelMergeIdeal.main_v2_0)) (v1 : (c : Dev Cert.KernelMergeIdeal.nD) → Buf (Elt Ideal) ((c.tc : Thread Cert.KernelMergeIdeal.nD Cert.KernelMergeIdeal.τ).loc Cert.KernelMergeIdeal.main_v2_2)) (v2 : (c : Dev Cert.KernelMergeIdeal.nD) → Buf (Elt Ideal) ((c.tc : Thread Cert.KernelMergeIdeal.nD Cert.KernelMergeIdeal.τ).loc Cert.KernelMergeIdeal.main_v3_0)) (v3 : (c : Dev Cert.KernelMergeIdeal.nD) → Buf (Elt Ideal) ((c.tc : Thread Cert.KernelMergeIdeal.nD Cert.KernelMergeIdeal.τ).loc Cert.KernelMergeIdeal.main_v3_1)) (v4 : (c : Dev Cert.KernelMergeIdeal.nD) → Buf (Elt Ideal) ((c.tc : Thread Cert.KernelMergeIdeal.nD Cert.KernelMergeIdeal.τ).loc Cert.KernelMergeIdeal.main_v3_2)) (v5 : (c : Dev Cert.KernelMergeIdeal.nD) → Buf (Elt Ideal) ((c.tc : Thread Cert.KernelMergeIdeal.nD Cert.KernelMergeIdeal.τ).loc Cert.KernelMergeIdeal.main_v3_3)) (v6 : (c : Dev Cert.KernelMergeIdeal.nD) → Buf (Elt Ideal) ((c.tc : Thread Cert.KernelMergeIdeal.nD Cert.KernelMergeIdeal.τ).loc Cert.KernelMergeIdeal.main_v3_4)) (v7 : (c : Dev Cert.KernelMergeIdeal.nD) → Buf (Elt Ideal) ((c.tc : Thread Cert.KernelMergeIdeal.nD Cert.KernelMergeIdeal.τ).loc Cert.KernelMergeIdeal.main_v3_5)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v2_0) = v0 c
          ∧ r.2.mem ((c.tc : Thread Cert.KernelMergeIdeal.nD Cert.KernelMergeIdeal.τ).loc Cert.KernelMergeIdeal.main_v2_2) = v1 c
          ∧ r.2.mem ((c.tc : Thread Cert.KernelMergeIdeal.nD Cert.KernelMergeIdeal.τ).loc Cert.KernelMergeIdeal.main_v3_0) = v2 c
          ∧ r.2.mem ((c.tc : Thread Cert.KernelMergeIdeal.nD Cert.KernelMergeIdeal.τ).loc Cert.KernelMergeIdeal.main_v3_1) = v3 c
          ∧ r.2.mem ((c.tc : Thread Cert.KernelMergeIdeal.nD Cert.KernelMergeIdeal.τ).loc Cert.KernelMergeIdeal.main_v3_2) = v4 c
          ∧ r.2.mem ((c.tc : Thread Cert.KernelMergeIdeal.nD Cert.KernelMergeIdeal.τ).loc Cert.KernelMergeIdeal.main_v3_3) = v5 c
          ∧ r.2.mem ((c.tc : Thread Cert.KernelMergeIdeal.nD Cert.KernelMergeIdeal.τ).loc Cert.KernelMergeIdeal.main_v3_4) = v6 c
          ∧ r.2.mem ((c.tc : Thread Cert.KernelMergeIdeal.nD Cert.KernelMergeIdeal.τ).loc Cert.KernelMergeIdeal.main_v3_5) = v7 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
          ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v23) = v0 c
          ∧ r.2.mem ((c.tc : Thread Cert.ReferenceMergeIdeal.nD Cert.ReferenceMergeIdeal.τ).loc Cert.ReferenceMergeIdeal.main_v36) = v1 c
          ∧ r.2.mem ((c.tc : Thread Cert.ReferenceMergeIdeal.nD Cert.ReferenceMergeIdeal.τ).loc Cert.ReferenceMergeIdeal.main_v37) = v2 c
          ∧ r.2.mem ((c.tc : Thread Cert.ReferenceMergeIdeal.nD Cert.ReferenceMergeIdeal.τ).loc Cert.ReferenceMergeIdeal.main_v38) = v3 c
          ∧ r.2.mem ((c.tc : Thread Cert.ReferenceMergeIdeal.nD Cert.ReferenceMergeIdeal.τ).loc Cert.ReferenceMergeIdeal.main_v39) = v4 c
          ∧ r.2.mem ((c.tc : Thread Cert.ReferenceMergeIdeal.nD Cert.ReferenceMergeIdeal.τ).loc Cert.ReferenceMergeIdeal.main_v40) = v5 c
          ∧ r.2.mem ((c.tc : Thread Cert.ReferenceMergeIdeal.nD Cert.ReferenceMergeIdeal.τ).loc Cert.ReferenceMergeIdeal.main_v41) = v6 c
          ∧ r.2.mem ((c.tc : Thread Cert.ReferenceMergeIdeal.nD Cert.ReferenceMergeIdeal.τ).loc Cert.ReferenceMergeIdeal.main_v43) = v7 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6)
          ∧ r.2.mem ((c.tc : Thread Cert.ReferenceMergeIdeal.nD Cert.ReferenceMergeIdeal.τ).loc Cert.ReferenceMergeIdeal.main_arg7) = m' ((c.tc : Thread Cert.ReferenceMergeIdeal.nD Cert.ReferenceMergeIdeal.τ).loc Cert.ReferenceMergeIdeal.main_arg7))

def preserves_KernelAttn_KernelAttnIdeal : Prop :=
  True

def algebraic_KernelAttnIdeal_ReferenceAttnIdeal_pre_finite_attn [hKernelAttnIdeal : Cert.KernelAttnIdeal.Facts] [hReferenceAttnIdeal : Cert.ReferenceAttnIdeal.Facts] [hPre_finite_attn : Cert.Pre_finite_attn.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg)
    (m' : (ℓ : Loc Cert.ReferenceAttnIdeal.nD Cert.ReferenceAttnIdeal.τ Cert.ReferenceAttnIdeal.sig) → Buf (Elt Ideal) ℓ) (g' : Dev Cert.ReferenceAttnIdeal.nD → PrngReg), Pre_KernelAttnIdeal_finite_attn m →
    (∀ c : Dev Cert.KernelAttnIdeal.nD,
      m' ((c.tc : Thread Cert.ReferenceAttnIdeal.nD Cert.ReferenceAttnIdeal.τ).loc Cert.ReferenceAttnIdeal.main_arg0) = m ((c.tc : Thread Cert.KernelAttnIdeal.nD Cert.KernelAttnIdeal.τ).loc Cert.KernelAttnIdeal.main_arg0)
      ∧ m' ((c.tc : Thread Cert.ReferenceAttnIdeal.nD Cert.ReferenceAttnIdeal.τ).loc Cert.ReferenceAttnIdeal.main_arg1) = m ((c.tc : Thread Cert.KernelAttnIdeal.nD Cert.KernelAttnIdeal.τ).loc Cert.KernelAttnIdeal.main_arg1)
      ∧ m' ((c.tc : Thread Cert.ReferenceAttnIdeal.nD Cert.ReferenceAttnIdeal.τ).loc Cert.ReferenceAttnIdeal.main_arg2) = m ((c.tc : Thread Cert.KernelAttnIdeal.nD Cert.KernelAttnIdeal.τ).loc Cert.KernelAttnIdeal.main_arg2)
      ∧ m' ((c.tc : Thread Cert.ReferenceAttnIdeal.nD Cert.ReferenceAttnIdeal.τ).loc Cert.ReferenceAttnIdeal.main_arg3) = m ((c.tc : Thread Cert.KernelAttnIdeal.nD Cert.KernelAttnIdeal.τ).loc Cert.KernelAttnIdeal.main_arg3)) →
    ∃ (v0 : (c : Dev Cert.KernelAttnIdeal.nD) → Buf (Elt Ideal) ((c.tc : Thread Cert.KernelAttnIdeal.nD Cert.KernelAttnIdeal.τ).loc Cert.KernelAttnIdeal.main_v64)) (v1 : (c : Dev Cert.KernelAttnIdeal.nD) → Buf (Elt Ideal) ((c.tc : Thread Cert.KernelAttnIdeal.nD Cert.KernelAttnIdeal.τ).loc Cert.KernelAttnIdeal.main_v66)) (v2 : (c : Dev Cert.KernelAttnIdeal.nD) → Buf (Elt Ideal) ((c.tc : Thread Cert.KernelAttnIdeal.nD Cert.KernelAttnIdeal.τ).loc Cert.KernelAttnIdeal.main_v67)),
      θ_run (Cert.KernelAttnIdeal.defs (F := Ideal)) (onTc (τ := Cert.KernelAttnIdeal.τ) (Cert.KernelAttnIdeal.main (F := Ideal))) ⟨m, fun _ => 0, g⟩ (fun r => ∀ c : Dev Cert.KernelAttnIdeal.nD,
          r.2.mem ((c.tc : Thread Cert.KernelAttnIdeal.nD Cert.KernelAttnIdeal.τ).loc Cert.KernelAttnIdeal.main_v64) = v0 c
          ∧ r.2.mem ((c.tc : Thread Cert.KernelAttnIdeal.nD Cert.KernelAttnIdeal.τ).loc Cert.KernelAttnIdeal.main_v66) = v1 c
          ∧ r.2.mem ((c.tc : Thread Cert.KernelAttnIdeal.nD Cert.KernelAttnIdeal.τ).loc Cert.KernelAttnIdeal.main_v67) = v2 c
          ∧ r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
          ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
          ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
          ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3))
      ∧ θ_run (Cert.ReferenceAttnIdeal.defs (F := Ideal)) (onTc (τ := Cert.ReferenceAttnIdeal.τ) (Cert.ReferenceAttnIdeal.main (F := Ideal))) ⟨m', fun _ => 0, g'⟩ (fun r => ∀ c : Dev Cert.ReferenceAttnIdeal.nD,
          r.2.mem ((c.tc : Thread Cert.ReferenceAttnIdeal.nD Cert.ReferenceAttnIdeal.τ).loc Cert.ReferenceAttnIdeal.main_v62) = v0 c
          ∧ r.2.mem ((c.tc : Thread Cert.ReferenceAttnIdeal.nD Cert.ReferenceAttnIdeal.τ).loc Cert.ReferenceAttnIdeal.main_v60) = v1 c
          ∧ r.2.mem ((c.tc : Thread Cert.ReferenceAttnIdeal.nD Cert.ReferenceAttnIdeal.τ).loc Cert.ReferenceAttnIdeal.main_v43) = v2 c
          ∧ r.2.mem ((c.tc : Thread Cert.ReferenceAttnIdeal.nD Cert.ReferenceAttnIdeal.τ).loc Cert.ReferenceAttnIdeal.main_arg0) = m' ((c.tc : Thread Cert.ReferenceAttnIdeal.nD Cert.ReferenceAttnIdeal.τ).loc Cert.ReferenceAttnIdeal.main_arg0)
          ∧ r.2.mem ((c.tc : Thread Cert.ReferenceAttnIdeal.nD Cert.ReferenceAttnIdeal.τ).loc Cert.ReferenceAttnIdeal.main_arg1) = m' ((c.tc : Thread Cert.ReferenceAttnIdeal.nD Cert.ReferenceAttnIdeal.τ).loc Cert.ReferenceAttnIdeal.main_arg1)
          ∧ r.2.mem ((c.tc : Thread Cert.ReferenceAttnIdeal.nD Cert.ReferenceAttnIdeal.τ).loc Cert.ReferenceAttnIdeal.main_arg2) = m' ((c.tc : Thread Cert.ReferenceAttnIdeal.nD Cert.ReferenceAttnIdeal.τ).loc Cert.ReferenceAttnIdeal.main_arg2)
          ∧ r.2.mem ((c.tc : Thread Cert.ReferenceAttnIdeal.nD Cert.ReferenceAttnIdeal.τ).loc Cert.ReferenceAttnIdeal.main_arg3) = m' ((c.tc : Thread Cert.ReferenceAttnIdeal.nD Cert.ReferenceAttnIdeal.τ).loc Cert.ReferenceAttnIdeal.main_arg3))

def preserves_KernelGlu_KernelGluIdeal : Prop :=
  IdealRules.named_const.Statement Cert.KernelGluIdeal.κ "cubic" .f32 0x3D372713#32 ((8943 / 200000 : ℝ) : EReal)
  ∧ IdealRules.named_const.Statement Cert.KernelGluIdeal.κ "slope" .f32 0x3E095D4F#32 ((26829 / 200000 : ℝ) : EReal)

def algebraic_KernelGluIdeal_ReferenceGluIdeal_pre_finite_glu [hKernelGluIdeal : Cert.KernelGluIdeal.Facts] [hReferenceGluIdeal : Cert.ReferenceGluIdeal.Facts] [hPre_finite_glu : Cert.Pre_finite_glu.Facts] : Prop :=
  ∀ (m : (ℓ : Loc Cert.KernelGluIdeal.nD Cert.KernelGluIdeal.τ Cert.KernelGluIdeal.sig) → Buf (Elt Ideal) ℓ) (g : Dev Cert.KernelGluIdeal.nD → PrngReg)
    (m' : (ℓ : Loc Cert.ReferenceGluIdeal.nD Cert.ReferenceGluIdeal.τ Cert.ReferenceGluIdeal.sig) → Buf (Elt Ideal) ℓ) (g' : Dev Cert.ReferenceGluIdeal.nD → PrngReg), Pre_KernelGluIdeal_finite_glu m →
    (∀ c : Dev Cert.KernelGluIdeal.nD,
      m' ((c.tc : Thread Cert.ReferenceGluIdeal.nD Cert.ReferenceGluIdeal.τ).loc Cert.ReferenceGluIdeal.main_arg0) = m ((c.tc : Thread Cert.KernelGluIdeal.nD Cert.KernelGluIdeal.τ).loc Cert.KernelGluIdeal.main_arg0)
      ∧ m' ((c.tc : Thread Cert.ReferenceGluIdeal.nD Cert.ReferenceGluIdeal.τ).loc Cert.ReferenceGluIdeal.main_arg1) = m ((c.tc : Thread Cert.KernelGluIdeal.nD Cert.KernelGluIdeal.τ).loc Cert.KernelGluIdeal.main_arg1)
      ∧ m' ((c.tc : Thread Cert.ReferenceGluIdeal.nD Cert.ReferenceGluIdeal.τ).loc Cert.ReferenceGluIdeal.main_arg2) = m ((c.tc : Thread Cert.KernelGluIdeal.nD Cert.KernelGluIdeal.τ).loc Cert.KernelGluIdeal.main_arg2)
      ∧ m' ((c.tc : Thread Cert.ReferenceGluIdeal.nD Cert.ReferenceGluIdeal.τ).loc Cert.ReferenceGluIdeal.main_arg3) = m ((c.tc : Thread Cert.KernelGluIdeal.nD Cert.KernelGluIdeal.τ).loc Cert.KernelGluIdeal.main_arg3)
      ∧ m' ((c.tc : Thread Cert.ReferenceGluIdeal.nD Cert.ReferenceGluIdeal.τ).loc Cert.ReferenceGluIdeal.main_arg4) = m ((c.tc : Thread Cert.KernelGluIdeal.nD Cert.KernelGluIdeal.τ).loc Cert.KernelGluIdeal.main_arg4)) →
    ∃ (v0 : (c : Dev Cert.KernelGluIdeal.nD) → Buf (Elt Ideal) ((c.tc : Thread Cert.KernelGluIdeal.nD Cert.KernelGluIdeal.τ).loc Cert.KernelGluIdeal.main_v5_0)) (v1 : (c : Dev Cert.KernelGluIdeal.nD) → Buf (Elt Ideal) ((c.tc : Thread Cert.KernelGluIdeal.nD Cert.KernelGluIdeal.τ).loc Cert.KernelGluIdeal.main_v5_2)) (v2 : (c : Dev Cert.KernelGluIdeal.nD) → Buf (Elt Ideal) ((c.tc : Thread Cert.KernelGluIdeal.nD Cert.KernelGluIdeal.τ).loc Cert.KernelGluIdeal.main_v5_1)) (v3 : (c : Dev Cert.KernelGluIdeal.nD) → Buf (Elt Ideal) ((c.tc : Thread Cert.KernelGluIdeal.nD Cert.KernelGluIdeal.τ).loc Cert.KernelGluIdeal.main_v5_3)),
      θ_run (Cert.KernelGluIdeal.defs (F := Ideal)) (onTc (τ := Cert.KernelGluIdeal.τ) (Cert.KernelGluIdeal.main (F := Ideal))) ⟨m, fun _ => 0, g⟩ (fun r => ∀ c : Dev Cert.KernelGluIdeal.nD,
          r.2.mem ((c.tc : Thread Cert.KernelGluIdeal.nD Cert.KernelGluIdeal.τ).loc Cert.KernelGluIdeal.main_v5_0) = v0 c
          ∧ r.2.mem ((c.tc : Thread Cert.KernelGluIdeal.nD Cert.KernelGluIdeal.τ).loc Cert.KernelGluIdeal.main_v5_2) = v1 c
          ∧ r.2.mem ((c.tc : Thread Cert.KernelGluIdeal.nD Cert.KernelGluIdeal.τ).loc Cert.KernelGluIdeal.main_v5_1) = v2 c
          ∧ r.2.mem ((c.tc : Thread Cert.KernelGluIdeal.nD Cert.KernelGluIdeal.τ).loc Cert.KernelGluIdeal.main_v5_3) = v3 c
          ∧ r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
          ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1)
          ∧ r.2.mem ((c.tc : Thread Cert.KernelGluIdeal.nD Cert.KernelGluIdeal.τ).loc Cert.KernelGluIdeal.main_arg2) = m ((c.tc : Thread Cert.KernelGluIdeal.nD Cert.KernelGluIdeal.τ).loc Cert.KernelGluIdeal.main_arg2)
          ∧ r.2.mem ((c.tc : Thread Cert.KernelGluIdeal.nD Cert.KernelGluIdeal.τ).loc Cert.KernelGluIdeal.main_arg3) = m ((c.tc : Thread Cert.KernelGluIdeal.nD Cert.KernelGluIdeal.τ).loc Cert.KernelGluIdeal.main_arg3)
          ∧ r.2.mem ((c.tc : Thread Cert.KernelGluIdeal.nD Cert.KernelGluIdeal.τ).loc Cert.KernelGluIdeal.main_arg4) = m ((c.tc : Thread Cert.KernelGluIdeal.nD Cert.KernelGluIdeal.τ).loc Cert.KernelGluIdeal.main_arg4))
      ∧ θ_run (Cert.ReferenceGluIdeal.defs (F := Ideal)) (onTc (τ := Cert.ReferenceGluIdeal.τ) (Cert.ReferenceGluIdeal.main (F := Ideal))) ⟨m', fun _ => 0, g'⟩ (fun r => ∀ c : Dev Cert.ReferenceGluIdeal.nD,
          r.2.mem ((c.tc : Thread Cert.ReferenceGluIdeal.nD Cert.ReferenceGluIdeal.τ).loc Cert.ReferenceGluIdeal.main_v59) = v0 c
          ∧ r.2.mem ((c.tc : Thread Cert.ReferenceGluIdeal.nD Cert.ReferenceGluIdeal.τ).loc Cert.ReferenceGluIdeal.main_v45) = v1 c
          ∧ r.2.mem ((c.tc : Thread Cert.ReferenceGluIdeal.nD Cert.ReferenceGluIdeal.τ).loc Cert.ReferenceGluIdeal.main_v43) = v2 c
          ∧ r.2.mem ((c.tc : Thread Cert.ReferenceGluIdeal.nD Cert.ReferenceGluIdeal.τ).loc Cert.ReferenceGluIdeal.main_v37) = v3 c
          ∧ r.2.mem ((c.tc : Thread Cert.ReferenceGluIdeal.nD Cert.ReferenceGluIdeal.τ).loc Cert.ReferenceGluIdeal.main_arg0) = m' ((c.tc : Thread Cert.ReferenceGluIdeal.nD Cert.ReferenceGluIdeal.τ).loc Cert.ReferenceGluIdeal.main_arg0)
          ∧ r.2.mem ((c.tc : Thread Cert.ReferenceGluIdeal.nD Cert.ReferenceGluIdeal.τ).loc Cert.ReferenceGluIdeal.main_arg1) = m' ((c.tc : Thread Cert.ReferenceGluIdeal.nD Cert.ReferenceGluIdeal.τ).loc Cert.ReferenceGluIdeal.main_arg1)
          ∧ r.2.mem ((c.tc : Thread Cert.ReferenceGluIdeal.nD Cert.ReferenceGluIdeal.τ).loc Cert.ReferenceGluIdeal.main_arg2) = m' ((c.tc : Thread Cert.ReferenceGluIdeal.nD Cert.ReferenceGluIdeal.τ).loc Cert.ReferenceGluIdeal.main_arg2)
          ∧ r.2.mem ((c.tc : Thread Cert.ReferenceGluIdeal.nD Cert.ReferenceGluIdeal.τ).loc Cert.ReferenceGluIdeal.main_arg3) = m' ((c.tc : Thread Cert.ReferenceGluIdeal.nD Cert.ReferenceGluIdeal.τ).loc Cert.ReferenceGluIdeal.main_arg3)
          ∧ r.2.mem ((c.tc : Thread Cert.ReferenceGluIdeal.nD Cert.ReferenceGluIdeal.τ).loc Cert.ReferenceGluIdeal.main_arg4) = m' ((c.tc : Thread Cert.ReferenceGluIdeal.nD Cert.ReferenceGluIdeal.τ).loc Cert.ReferenceGluIdeal.main_arg4))

def preserves_KernelMlp_KernelMlpIdeal : Prop :=
  True

def algebraic_KernelMlpIdeal_ReferenceMlpIdeal_pre_finite_mlp [hKernelMlpIdeal : Cert.KernelMlpIdeal.Facts] [hReferenceMlpIdeal : Cert.ReferenceMlpIdeal.Facts] [hPre_finite_mlp : Cert.Pre_finite_mlp.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg)
    (m' : (ℓ : Loc Cert.ReferenceMlpIdeal.nD Cert.ReferenceMlpIdeal.τ Cert.ReferenceMlpIdeal.sig) → Buf (Elt Ideal) ℓ) (g' : Dev Cert.ReferenceMlpIdeal.nD → PrngReg), Pre_KernelMlpIdeal_finite_mlp m →
    (∀ c : Dev Cert.KernelMlpIdeal.nD,
      m' ((c.tc : Thread Cert.ReferenceMlpIdeal.nD Cert.ReferenceMlpIdeal.τ).loc Cert.ReferenceMlpIdeal.main_arg0) = m ((c.tc : Thread Cert.KernelMlpIdeal.nD Cert.KernelMlpIdeal.τ).loc Cert.KernelMlpIdeal.main_arg0)
      ∧ m' ((c.tc : Thread Cert.ReferenceMlpIdeal.nD Cert.ReferenceMlpIdeal.τ).loc Cert.ReferenceMlpIdeal.main_arg1) = m ((c.tc : Thread Cert.KernelMlpIdeal.nD Cert.KernelMlpIdeal.τ).loc Cert.KernelMlpIdeal.main_arg1)
      ∧ m' ((c.tc : Thread Cert.ReferenceMlpIdeal.nD Cert.ReferenceMlpIdeal.τ).loc Cert.ReferenceMlpIdeal.main_arg2) = m ((c.tc : Thread Cert.KernelMlpIdeal.nD Cert.KernelMlpIdeal.τ).loc Cert.KernelMlpIdeal.main_arg2)
      ∧ m' ((c.tc : Thread Cert.ReferenceMlpIdeal.nD Cert.ReferenceMlpIdeal.τ).loc Cert.ReferenceMlpIdeal.main_arg3) = m ((c.tc : Thread Cert.KernelMlpIdeal.nD Cert.KernelMlpIdeal.τ).loc Cert.KernelMlpIdeal.main_arg3)
      ∧ m' ((c.tc : Thread Cert.ReferenceMlpIdeal.nD Cert.ReferenceMlpIdeal.τ).loc Cert.ReferenceMlpIdeal.main_arg4) = m ((c.tc : Thread Cert.KernelMlpIdeal.nD Cert.KernelMlpIdeal.τ).loc Cert.KernelMlpIdeal.main_arg4)) →
    ∃ (v0 : (c : Dev Cert.KernelMlpIdeal.nD) → Buf (Elt Ideal) ((c.tc : Thread Cert.KernelMlpIdeal.nD Cert.KernelMlpIdeal.τ).loc Cert.KernelMlpIdeal.main_v5_3)) (v1 : (c : Dev Cert.KernelMlpIdeal.nD) → Buf (Elt Ideal) ((c.tc : Thread Cert.KernelMlpIdeal.nD Cert.KernelMlpIdeal.τ).loc Cert.KernelMlpIdeal.main_v6_1)) (v2 : (c : Dev Cert.KernelMlpIdeal.nD) → Buf (Elt Ideal) ((c.tc : Thread Cert.KernelMlpIdeal.nD Cert.KernelMlpIdeal.τ).loc Cert.KernelMlpIdeal.main_v6_4)) (v3 : (c : Dev Cert.KernelMlpIdeal.nD) → Buf (Elt Ideal) ((c.tc : Thread Cert.KernelMlpIdeal.nD Cert.KernelMlpIdeal.τ).loc Cert.KernelMlpIdeal.main_v6_0)) (v4 : (c : Dev Cert.KernelMlpIdeal.nD) → Buf (Elt Ideal) ((c.tc : Thread Cert.KernelMlpIdeal.nD Cert.KernelMlpIdeal.τ).loc Cert.KernelMlpIdeal.main_v6_2)) (v5 : (c : Dev Cert.KernelMlpIdeal.nD) → Buf (Elt Ideal) ((c.tc : Thread Cert.KernelMlpIdeal.nD Cert.KernelMlpIdeal.τ).loc Cert.KernelMlpIdeal.main_v6_3)) (v6 : (c : Dev Cert.KernelMlpIdeal.nD) → Buf (Elt Ideal) ((c.tc : Thread Cert.KernelMlpIdeal.nD Cert.KernelMlpIdeal.τ).loc Cert.KernelMlpIdeal.main_v5_2)),
      θ_run (Cert.KernelMlpIdeal.defs (F := Ideal)) (onTc (τ := Cert.KernelMlpIdeal.τ) (Cert.KernelMlpIdeal.main (F := Ideal))) ⟨m, fun _ => 0, g⟩ (fun r => ∀ c : Dev Cert.KernelMlpIdeal.nD,
          r.2.mem ((c.tc : Thread Cert.KernelMlpIdeal.nD Cert.KernelMlpIdeal.τ).loc Cert.KernelMlpIdeal.main_v5_3) = v0 c
          ∧ r.2.mem ((c.tc : Thread Cert.KernelMlpIdeal.nD Cert.KernelMlpIdeal.τ).loc Cert.KernelMlpIdeal.main_v6_1) = v1 c
          ∧ r.2.mem ((c.tc : Thread Cert.KernelMlpIdeal.nD Cert.KernelMlpIdeal.τ).loc Cert.KernelMlpIdeal.main_v6_4) = v2 c
          ∧ r.2.mem ((c.tc : Thread Cert.KernelMlpIdeal.nD Cert.KernelMlpIdeal.τ).loc Cert.KernelMlpIdeal.main_v6_0) = v3 c
          ∧ r.2.mem ((c.tc : Thread Cert.KernelMlpIdeal.nD Cert.KernelMlpIdeal.τ).loc Cert.KernelMlpIdeal.main_v6_2) = v4 c
          ∧ r.2.mem ((c.tc : Thread Cert.KernelMlpIdeal.nD Cert.KernelMlpIdeal.τ).loc Cert.KernelMlpIdeal.main_v6_3) = v5 c
          ∧ r.2.mem ((c.tc : Thread Cert.KernelMlpIdeal.nD Cert.KernelMlpIdeal.τ).loc Cert.KernelMlpIdeal.main_v5_2) = v6 c
          ∧ r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
          ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
          ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
          ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3)
          ∧ r.2.mem ((c.tc : Thread Cert.KernelMlpIdeal.nD Cert.KernelMlpIdeal.τ).loc Cert.KernelMlpIdeal.main_arg4) = m ((c.tc : Thread Cert.KernelMlpIdeal.nD Cert.KernelMlpIdeal.τ).loc Cert.KernelMlpIdeal.main_arg4))
      ∧ θ_run (Cert.ReferenceMlpIdeal.defs (F := Ideal)) (onTc (τ := Cert.ReferenceMlpIdeal.τ) (Cert.ReferenceMlpIdeal.main (F := Ideal))) ⟨m', fun _ => 0, g'⟩ (fun r => ∀ c : Dev Cert.ReferenceMlpIdeal.nD,
          r.2.mem ((c.tc : Thread Cert.ReferenceMlpIdeal.nD Cert.ReferenceMlpIdeal.τ).loc Cert.ReferenceMlpIdeal.main_v64) = v0 c
          ∧ r.2.mem ((c.tc : Thread Cert.ReferenceMlpIdeal.nD Cert.ReferenceMlpIdeal.τ).loc Cert.ReferenceMlpIdeal.main_v65) = v1 c
          ∧ r.2.mem ((c.tc : Thread Cert.ReferenceMlpIdeal.nD Cert.ReferenceMlpIdeal.τ).loc Cert.ReferenceMlpIdeal.main_v47) = v2 c
          ∧ r.2.mem ((c.tc : Thread Cert.ReferenceMlpIdeal.nD Cert.ReferenceMlpIdeal.τ).loc Cert.ReferenceMlpIdeal.main_v66) = v3 c
          ∧ r.2.mem ((c.tc : Thread Cert.ReferenceMlpIdeal.nD Cert.ReferenceMlpIdeal.τ).loc Cert.ReferenceMlpIdeal.main_v67) = v4 c
          ∧ r.2.mem ((c.tc : Thread Cert.ReferenceMlpIdeal.nD Cert.ReferenceMlpIdeal.τ).loc Cert.ReferenceMlpIdeal.main_v69) = v5 c
          ∧ r.2.mem ((c.tc : Thread Cert.ReferenceMlpIdeal.nD Cert.ReferenceMlpIdeal.τ).loc Cert.ReferenceMlpIdeal.main_v71) = v6 c
          ∧ r.2.mem ((c.tc : Thread Cert.ReferenceMlpIdeal.nD Cert.ReferenceMlpIdeal.τ).loc Cert.ReferenceMlpIdeal.main_arg0) = m' ((c.tc : Thread Cert.ReferenceMlpIdeal.nD Cert.ReferenceMlpIdeal.τ).loc Cert.ReferenceMlpIdeal.main_arg0)
          ∧ r.2.mem ((c.tc : Thread Cert.ReferenceMlpIdeal.nD Cert.ReferenceMlpIdeal.τ).loc Cert.ReferenceMlpIdeal.main_arg1) = m' ((c.tc : Thread Cert.ReferenceMlpIdeal.nD Cert.ReferenceMlpIdeal.τ).loc Cert.ReferenceMlpIdeal.main_arg1)
          ∧ r.2.mem ((c.tc : Thread Cert.ReferenceMlpIdeal.nD Cert.ReferenceMlpIdeal.τ).loc Cert.ReferenceMlpIdeal.main_arg2) = m' ((c.tc : Thread Cert.ReferenceMlpIdeal.nD Cert.ReferenceMlpIdeal.τ).loc Cert.ReferenceMlpIdeal.main_arg2)
          ∧ r.2.mem ((c.tc : Thread Cert.ReferenceMlpIdeal.nD Cert.ReferenceMlpIdeal.τ).loc Cert.ReferenceMlpIdeal.main_arg3) = m' ((c.tc : Thread Cert.ReferenceMlpIdeal.nD Cert.ReferenceMlpIdeal.τ).loc Cert.ReferenceMlpIdeal.main_arg3)
          ∧ r.2.mem ((c.tc : Thread Cert.ReferenceMlpIdeal.nD Cert.ReferenceMlpIdeal.τ).loc Cert.ReferenceMlpIdeal.main_arg4) = m' ((c.tc : Thread Cert.ReferenceMlpIdeal.nD Cert.ReferenceMlpIdeal.τ).loc Cert.ReferenceMlpIdeal.main_arg4))

def preserves_KernelInproj_KernelInprojIdeal : Prop :=
  True

def preserves_KernelPrep_KernelPrepIdeal : Prop :=
  True

def preserves_KernelQkv_KernelQkvIdeal : Prop :=
  True

def Claim : Prop :=
  ∃ (hKernelMerge : Cert.KernelMerge.Facts) (hKernelMergeIdeal : Cert.KernelMergeIdeal.Facts) (hReferenceMergeIdeal : Cert.ReferenceMergeIdeal.Facts) (hKernelAttn : Cert.KernelAttn.Facts) (hKernelAttnIdeal : Cert.KernelAttnIdeal.Facts) (hReferenceAttnIdeal : Cert.ReferenceAttnIdeal.Facts) (hKernelGlu : Cert.KernelGlu.Facts) (hKernelGluIdeal : Cert.KernelGluIdeal.Facts) (hReferenceGluIdeal : Cert.ReferenceGluIdeal.Facts) (hKernelMlp : Cert.KernelMlp.Facts) (hKernelMlpIdeal : Cert.KernelMlpIdeal.Facts) (hReferenceMlpIdeal : Cert.ReferenceMlpIdeal.Facts) (hKernelInproj : Cert.KernelInproj.Facts) (hKernelInprojIdeal : Cert.KernelInprojIdeal.Facts) (hKernelPrep : Cert.KernelPrep.Facts) (hKernelPrepIdeal : Cert.KernelPrepIdeal.Facts) (hKernelQkv : Cert.KernelQkv.Facts) (hKernelQkvIdeal : Cert.KernelQkvIdeal.Facts) (hPre_finite_attn : Cert.Pre_finite_attn.Facts) (hPre_finite_glu : Cert.Pre_finite_glu.Facts) (hPre_finite_mlp : Cert.Pre_finite_mlp.Facts),
    quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelAttn (hKernelAttn := hKernelAttn)
    ∧ quiescent_KernelAttnIdeal (hKernelAttnIdeal := hKernelAttnIdeal)
    ∧ quiescent_KernelAttnIdeal_pre_finite_attn (hKernelAttnIdeal := hKernelAttnIdeal) (hPre_finite_attn := hPre_finite_attn)
    ∧ quiescent_ReferenceAttnIdeal (hReferenceAttnIdeal := hReferenceAttnIdeal)
    ∧ quiescent_ReferenceAttnIdeal_pre_finite_attn (hReferenceAttnIdeal := hReferenceAttnIdeal) (hPre_finite_attn := hPre_finite_attn)
    ∧ quiescent_KernelGlu (hKernelGlu := hKernelGlu)
    ∧ quiescent_KernelGluIdeal (hKernelGluIdeal := hKernelGluIdeal)
    ∧ quiescent_KernelGluIdeal_pre_finite_glu (hKernelGluIdeal := hKernelGluIdeal) (hPre_finite_glu := hPre_finite_glu)
    ∧ quiescent_ReferenceGluIdeal (hReferenceGluIdeal := hReferenceGluIdeal)
    ∧ quiescent_ReferenceGluIdeal_pre_finite_glu (hReferenceGluIdeal := hReferenceGluIdeal) (hPre_finite_glu := hPre_finite_glu)
    ∧ quiescent_KernelMlp (hKernelMlp := hKernelMlp)
    ∧ quiescent_KernelMlpIdeal (hKernelMlpIdeal := hKernelMlpIdeal)
    ∧ quiescent_KernelMlpIdeal_pre_finite_mlp (hKernelMlpIdeal := hKernelMlpIdeal) (hPre_finite_mlp := hPre_finite_mlp)
    ∧ quiescent_ReferenceMlpIdeal (hReferenceMlpIdeal := hReferenceMlpIdeal)
    ∧ quiescent_ReferenceMlpIdeal_pre_finite_mlp (hReferenceMlpIdeal := hReferenceMlpIdeal) (hPre_finite_mlp := hPre_finite_mlp)
    ∧ quiescent_KernelInproj (hKernelInproj := hKernelInproj)
    ∧ quiescent_KernelInprojIdeal (hKernelInprojIdeal := hKernelInprojIdeal)
    ∧ quiescent_KernelPrep (hKernelPrep := hKernelPrep)
    ∧ quiescent_KernelPrepIdeal (hKernelPrepIdeal := hKernelPrepIdeal)
    ∧ quiescent_KernelQkv (hKernelQkv := hKernelQkv)
    ∧ quiescent_KernelQkvIdeal (hKernelQkvIdeal := hKernelQkvIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelAttn_KernelAttnIdeal
    ∧ algebraic_KernelAttnIdeal_ReferenceAttnIdeal_pre_finite_attn (hKernelAttnIdeal := hKernelAttnIdeal) (hReferenceAttnIdeal := hReferenceAttnIdeal) (hPre_finite_attn := hPre_finite_attn)
    ∧ preserves_KernelGlu_KernelGluIdeal
    ∧ algebraic_KernelGluIdeal_ReferenceGluIdeal_pre_finite_glu (hKernelGluIdeal := hKernelGluIdeal) (hReferenceGluIdeal := hReferenceGluIdeal) (hPre_finite_glu := hPre_finite_glu)
    ∧ preserves_KernelMlp_KernelMlpIdeal
    ∧ algebraic_KernelMlpIdeal_ReferenceMlpIdeal_pre_finite_mlp (hKernelMlpIdeal := hKernelMlpIdeal) (hReferenceMlpIdeal := hReferenceMlpIdeal) (hPre_finite_mlp := hPre_finite_mlp)
    ∧ preserves_KernelInproj_KernelInprojIdeal
    ∧ preserves_KernelPrep_KernelPrepIdeal
    ∧ preserves_KernelQkv_KernelQkvIdeal
-- ==== Pre_finite_attn.lean ====
abbrev S4096x8x192 : Shape := ⟨3, ![4096, 8, 192]⟩
abbrev S4096x8x128 : Shape := ⟨3, ![4096, 8, 128]⟩
abbrev S_ : Shape := ⟨0, ![]⟩

class Facts : Prop where
  bcast_S_S4096x8x192 : S_.BroadcastsInDim S4096x8x192 (![] : Fin 0 → Fin S4096x8x192.rank)
  reducesTo_S4096x8x192_S_d0_1_2 : S4096x8x192.ReducesTo [0, 1, 2] S_
  h_S_ : 0 < S_.numel
  bcast_S_S4096x8x128 : S_.BroadcastsInDim S4096x8x128 (![] : Fin 0 → Fin S4096x8x128.rank)
  reducesTo_S4096x8x128_S_d0_1_2 : S4096x8x128.ReducesTo [0, 1, 2] S_

variable [Facts]

def fn_part1 {F : FTy → Type} [FloatOps F] (main_v13 : IVec S_ 1) (main_v16 : IVec S4096x8x128 1) : IVec S_ 1 :=
  let main_c_5 : IVec S_ 1 := constantI S_ 1 1#1
  let main_v17 : IVec S_ 1 := (fun x v => Host.reduce IntOp.andi x v reducesTo_S4096x8x128_S_d0_1_2 h_S_) main_v16 main_c_5
  let main_v18 : IVec S_ 1 := andi main_v13 main_v17
  main_v18

def fn {F : FTy → Type} [FloatOps F] (main_arg0 : FVec F S4096x8x192 .f32) (main_arg1 : FVec F S4096x8x192 .f32) (main_arg2 : FVec F S4096x8x128 .f32) (main_arg3 : FVec F S4096x8x128 .f32) : IVec S_ 1 :=
  let main_v0 : FVec F S4096x8x192 .f32 := Host.absf main_arg0
  let main_cst : FVec F S_ .f32 := constant S_ .f32 0x7F800000#32
  let main_v1 : FVec F S4096x8x192 .f32 := broadcastInDim S4096x8x192 ![] bcast_S_S4096x8x192 main_cst
  let main_v2 : IVec S4096x8x192 1 := cmpf .olt main_v0 main_v1
  let main_c : IVec S_ 1 := constantI S_ 1 1#1
  let main_v3 : IVec S_ 1 := (fun x v => Host.reduce IntOp.andi x v reducesTo_S4096x8x192_S_d0_1_2 h_S_) main_v2 main_c
  let main_v4 : FVec F S4096x8x192 .f32 := Host.absf main_arg1
  let main_cst_0 : FVec F S_ .f32 := constant S_ .f32 0x7F800000#32
  let main_v5 : FVec F S4096x8x192 .f32 := broadcastInDim S4096x8x192 ![] bcast_S_S4096x8x192 main_cst_0
  let main_v6 : IVec S4096x8x192 1 := cmpf .olt main_v4 main_v5
  let main_c_1 : IVec S_ 1 := constantI S_ 1 1#1
  let main_v7 : IVec S_ 1 := (fun x v => Host.reduce IntOp.andi x v reducesTo_S4096x8x192_S_d0_1_2 h_S_) main_v6 main_c_1
  let main_v8 : IVec S_ 1 := andi main_v3 main_v7
  let main_v9 : FVec F S4096x8x128 .f32 := Host.absf main_arg2
  let main_cst_2 : FVec F S_ .f32 := constant S_ .f32 0x7F800000#32
  let main_v10 : FVec F S4096x8x128 .f32 := broadcastInDim S4096x8x128 ![] bcast_S_S4096x8x128 main_cst_2
  let main_v11 : IVec S4096x8x128 1 := cmpf .olt main_v9 main_v10
  let main_c_3 : IVec S_ 1 := constantI S_ 1 1#1
  let main_v12 : IVec S_ 1 := (fun x v => Host.reduce IntOp.andi x v reducesTo_S4096x8x128_S_d0_1_2 h_S_) main_v11 main_c_3
  let main_v13 : IVec S_ 1 := andi main_v8 main_v12
  let main_v14 : FVec F S4096x8x128 .f32 := Host.absf main_arg3
  let main_cst_4 : FVec F S_ .f32 := constant S_ .f32 0x7F800000#32
  let main_v15 : FVec F S4096x8x128 .f32 := broadcastInDim S4096x8x128 ![] bcast_S_S4096x8x128 main_cst_4
  let main_v16 : IVec S4096x8x128 1 := cmpf .olt main_v14 main_v15
  fn_part1 (F := F) main_v13 main_v16
-- ==== Pre_finite_glu.lean ====
abbrev S4096x1024 : Shape := ⟨2, ![4096, 1024]⟩
abbrev S4096x512 : Shape := ⟨2, ![4096, 512]⟩
abbrev S512x512 : Shape := ⟨2, ![512, 512]⟩
abbrev S1x512 : Shape := ⟨2, ![1, 512]⟩
abbrev S512x1024 : Shape := ⟨2, ![512, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S512x512 : S_.BroadcastsInDim S512x512 (![] : Fin 0 → Fin S512x512.rank)
  reducesTo_S512x512_S_d0_1 : S512x512.ReducesTo [0, 1] S_
  bcast_S_S1x512 : S_.BroadcastsInDim S1x512 (![] : Fin 0 → Fin S1x512.rank)
  reducesTo_S1x512_S_d0_1 : S1x512.ReducesTo [0, 1] S_
  bcast_S_S512x1024 : S_.BroadcastsInDim S512x1024 (![] : Fin 0 → Fin S512x1024.rank)
  reducesTo_S512x1024_S_d0_1 : S512x1024.ReducesTo [0, 1] S_

variable [Facts]

def fn_part1 {F : FTy → Type} [FloatOps F] (main_arg4 : FVec F S512x1024 .f32) (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  let main_v19 : FVec F S512x1024 .f32 := Host.absf main_arg4
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  main_v23

def fn {F : FTy → Type} [FloatOps F] (main_arg0 : FVec F S4096x1024 .f32) (main_arg1 : FVec F S4096x512 .f32) (main_arg2 : FVec F S512x512 .f32) (main_arg3 : FVec F S1x512 .f32) (main_arg4 : FVec F S512x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S1x512 .f32 := Host.absf main_arg3
  let main_cst_4 : FVec F S_ .f32 := constant S_ .f32 0x7F800000#32
  let main_v15 : FVec F S1x512 .f32 := broadcastInDim S1x512 ![] bcast_S_S1x512 main_cst_4
  let main_v16 : IVec S1x512 1 := cmpf .olt main_v14 main_v15
  fn_part1 (F := F) main_arg4 main_v13 main_v16
-- ==== Pre_finite_mlp.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x4096 : S_.BroadcastsInDim S1024x4096 (![] : Fin 0 → Fin S1024x4096.rank)
  reducesTo_S1024x4096_S_d0_1 : S1024x4096.ReducesTo [0, 1] S_

variable [Facts]

def fn_part1 {F : FTy → Type} [FloatOps F] (main_arg4 : FVec F S4096x1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x1024 .f32) (main_arg1 : FVec F S4096x1024 .f32) (main_arg2 : FVec F S1x1024 .f32) (main_arg3 : FVec F S1024x4096 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_v13 main_v16
-- ==== KernelMerge.lean ====
abbrev S4096x1024 : Shape := ⟨2, ![4096, 1024]⟩
abbrev S1024x1024 : Shape := ⟨2, ![1024, 1024]⟩
abbrev S1024x4096 : Shape := ⟨2, ![1024, 4096]⟩
abbrev S512x1024 : Shape := ⟨2, ![512, 1024]⟩
abbrev S1024x512 : Shape := ⟨2, ![1024, 512]⟩
abbrev S8x1x4096 : Shape := ⟨3, ![8, 1, 4096]⟩
abbrev S8x1x512 : Shape := ⟨3, ![8, 1, 512]⟩
abbrev S8x128 : Shape := ⟨2, ![8, 128]⟩
abbrev S512x128 : Shape := ⟨2, ![512, 128]⟩
abbrev S8x512 : Shape := ⟨2, ![8, 512]⟩
abbrev S1x512 : Shape := ⟨2, ![1, 512]⟩
abbrev S1x1x512 : Shape := ⟨3, ![1, 1, 512]⟩

abbrev nBuf : Space → Nat
  | .hbm => 19
  | .vmem => 44
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S4096x1024, .f32⟩
  | .hbm, ⟨8, _⟩ => ⟨S1024x1024, .bf16⟩
  | .hbm, ⟨9, _⟩ => ⟨S1024x1024, .bf16⟩
  | .hbm, ⟨10, _⟩ => ⟨S4096x1024, .f32⟩
  | .hbm, ⟨11, _⟩ => ⟨S4096x1024, .f32⟩
  | .hbm, ⟨12, _⟩ => ⟨S1024x4096, .bf16⟩
  | .hbm, ⟨13, _⟩ => ⟨S4096x1024, .bf16⟩
  | .hbm, ⟨14, _⟩ => ⟨S4096x1024, .bf16⟩
  | .hbm, ⟨15, _⟩ => ⟨S4096x1024, .bf16⟩
  | .hbm, ⟨16, _⟩ => ⟨S4096x1024, .bf16⟩
  | .hbm, ⟨17, _⟩ => ⟨S4096x1024, .bf16⟩
  | .hbm, ⟨18, _⟩ => ⟨S8x1x4096, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1024x512, .bf16⟩
  | .local _ .vmem, ⟨17, _⟩ => ⟨S1024x512, .bf16⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | .local _ .vmem, ⟨30, _⟩ => ⟨S1024x1024, .bf16⟩
  | .local _ .vmem, ⟨31, _⟩ => ⟨S1024x1024, .bf16⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | .local _ .vmem, ⟨35, _⟩ => ⟨S512x1024, .bf16⟩
  | .local _ .vmem, ⟨36, _⟩ => ⟨S512x1024, .bf16⟩
  | .local _ .vmem, ⟨37, _⟩ => ⟨S512x1024, .bf16⟩
  | .local _ .vmem, ⟨38, _⟩ => ⟨S512x1024, .bf16⟩
  | .local _ .vmem, ⟨39, _⟩ => ⟨S512x1024, .bf16⟩
  | .local _ .vmem, ⟨40, _⟩ => ⟨S512x1024, .bf16⟩
  | .local _ .vmem, ⟨41, _⟩ => ⟨S512x1024, .bf16⟩
  | .local _ .vmem, ⟨42, _⟩ => ⟨S8x1x512, .f32⟩
  | .local _ .vmem, ⟨43, _⟩ => ⟨S8x1x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev main_v3_4 : Ref sig .tc := ⟨.hbm, 17, rfl⟩
abbrev main_v3_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg7_0 : Ref sig .tc := ⟨.vmem, 31, rfl⟩
abbrev cc1_stg8_0 : Ref sig .tc := ⟨.vmem, 32, rfl⟩
abbrev cc1_stg8_1 : Ref sig .tc := ⟨.vmem, 33, rfl⟩
abbrev cc1_stg9_0 : Ref sig .tc := ⟨.vmem, 34, rfl⟩
abbrev cc1_stg9_1 : Ref sig .tc := ⟨.vmem, 35, rfl⟩
abbrev cc1_stg10_0 : Ref sig .tc := ⟨.vmem, 36, rfl⟩
abbrev cc1_stg10_1 : Ref sig .tc := ⟨.vmem, 37, rfl⟩
abbrev cc1_stg11_0 : Ref sig .tc := ⟨.vmem, 38, rfl⟩
abbrev cc1_stg11_1 : Ref sig .tc := ⟨.vmem, 39, rfl⟩
abbrev cc1_stg12_0 : Ref sig .tc := ⟨.vmem, 40, rfl⟩
abbrev cc1_stg12_1 : Ref sig .tc := ⟨.vmem, 41, rfl⟩
abbrev cc1_stg13_0 : Ref sig .tc := ⟨.vmem, 42, rfl⟩
abbrev cc1_stg13_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem7_0 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc1_sem12_1 : DmaSem sig := 41
abbrev cc1_sem13_0 : DmaSem sig := 42
abbrev cc1_sem13_1 : DmaSem sig := 43

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1024x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S8x1x512 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== ReferenceMergeIdeal.lean ====
abbrev S4096x1024 : Shape := ⟨2, ![4096, 1024]⟩
abbrev S1024x1024 : Shape := ⟨2, ![1024, 1024]⟩
abbrev S_ : Shape := ⟨0, ![]⟩
abbrev S4096x8x128 : Shape := ⟨3, ![4096, 8, 128]⟩
abbrev S4096x8 : Shape := ⟨2, ![4096, 8]⟩
abbrev S1024x4096 : Shape := ⟨2, ![1024, 4096]⟩
abbrev S8x4096 : Shape := ⟨2, ![8, 4096]⟩
abbrev S8x1x4096 : Shape := ⟨3, ![8, 1, 4096]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x8x128, .f32⟩
  | .hbm, ⟨48, _⟩ => ⟨S_, .f32⟩
  | .hbm, ⟨49, _⟩ => ⟨S4096x8, .f32⟩
  | .hbm, ⟨50, _⟩ => ⟨S1024x4096, .f32⟩
  | .hbm, ⟨51, _⟩ => ⟨S1024x4096, .bf16⟩
  | .hbm, ⟨52, _⟩ => ⟨S4096x1024, .bf16⟩
  | .hbm, ⟨53, _⟩ => ⟨S4096x1024, .bf16⟩
  | .hbm, ⟨54, _⟩ => ⟨S4096x1024, .bf16⟩
  | .hbm, ⟨55, _⟩ => ⟨S4096x1024, .bf16⟩
  | .hbm, ⟨56, _⟩ => ⟨S4096x1024, .bf16⟩
  | .hbm, ⟨57, _⟩ => ⟨S8x4096, .f32⟩
  | .hbm, ⟨58, _⟩ => ⟨S8x1x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== KernelAttn.lean ====
abbrev S4096x8x192 : Shape := ⟨3, ![4096, 8, 192]⟩
abbrev S4096x8x128 : Shape := ⟨3, ![4096, 8, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x1x4096 : Shape := ⟨3, ![8, 1, 4096]⟩
abbrev S8x128x4096 : Shape := ⟨3, ![8, 128, 4096]⟩
abbrev S4096x8 : Shape := ⟨2, ![4096, 8]⟩
abbrev S4096x8x256 : Shape := ⟨3, ![4096, 8, 256]⟩
abbrev S8x4096x256 : Shape := ⟨3, ![8, 4096, 256]⟩
abbrev S8x4096x128 : Shape := ⟨3, ![8, 4096, 128]⟩
abbrev S8x256x4096 : Shape := ⟨3, ![8, 256, 4096]⟩
abbrev S4096x1024 : Shape := ⟨2, ![4096, 1024]⟩
abbrev S2x4096x256 : Shape := ⟨3, ![2, 4096, 256]⟩
abbrev S2x512x256 : Shape := ⟨3, ![2, 512, 256]⟩
abbrev S2x256x512 : Shape := ⟨3, ![2, 256, 512]⟩
abbrev S2x512x128 : Shape := ⟨3, ![2, 512, 128]⟩
abbrev S2x1x4096 : Shape := ⟨3, ![2, 1, 4096]⟩
abbrev S4096x256 : Shape := ⟨2, ![4096, 256]⟩
abbrev S2x256x4096 : Shape := ⟨3, ![2, 256, 4096]⟩
abbrev S512x256 : Shape := ⟨2, ![512, 256]⟩
abbrev S512x128 : Shape := ⟨2, ![512, 128]⟩
abbrev S1x512x256 : Shape := ⟨3, ![1, 512, 256]⟩
abbrev S512x512 : Shape := ⟨2, ![512, 512]⟩
abbrev S1x1x512 : Shape := ⟨3, ![1, 1, 512]⟩
abbrev S1x512 : Shape := ⟨2, ![1, 512]⟩
abbrev S1x512x128 : Shape := ⟨3, ![1, 512, 128]⟩
abbrev S1x256x512 : Shape := ⟨3, ![1, 256, 512]⟩
abbrev S256x512 : Shape := ⟨2, ![256, 512]⟩
abbrev S8x4096x192 : Shape := ⟨3, ![8, 4096, 192]⟩

abbrev nBuf : Space → Nat
  | .hbm => 96
  | .vmem => 21
  | .smem => 0
  | _ => 0

abbrev bufTy : (tb : Table) → Fin (tcTables nBuf tb) → BufTy
  | .hbm, ⟨0, _⟩ => ⟨S4096x8x192, .f32⟩
  | .hbm, ⟨1, _⟩ => ⟨S4096x8x192, .f32⟩
  | .hbm, ⟨2, _⟩ => ⟨S4096x8x128, .f32⟩
  | .hbm, ⟨3, _⟩ => ⟨S4096x8x128, .f32⟩
  | .hbm, ⟨4, _⟩ => ⟨S8x4096x4096, .f32⟩
  | .hbm, ⟨5, _⟩ => ⟨S_, .f32⟩
  | .hbm, ⟨6, _⟩ => ⟨S8x4096x4096, .f32⟩
  | .hbm, ⟨7, _⟩ => ⟨S8x4096x4096, .f32⟩
  | .hbm, ⟨8, _⟩ => ⟨S4096, .i32⟩
  | .hbm, ⟨9, _⟩ => ⟨S1x4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S8x4096x4096, .i1⟩
  | .hbm, ⟨17, _⟩ => ⟨S8x4096x4096, .f32⟩
  | .hbm, ⟨18, _⟩ => ⟨S8x4096x4096, .f32⟩
  | .hbm, ⟨19, _⟩ => ⟨S_, .f32⟩
  | .hbm, ⟨20, _⟩ => ⟨S8x4096, .f32⟩
  | .hbm, ⟨21, _⟩ => ⟨S8x4096x1, .f32⟩
  | .hbm, ⟨22, _⟩ => ⟨S8x4096x4096, .f32⟩
  | .hbm, ⟨23, _⟩ => ⟨S8x4096x4096, .f32⟩
  | .hbm, ⟨24, _⟩ => ⟨S8x4096x4096, .f32⟩
  | .hbm, ⟨25, _⟩ => ⟨S_, .f32⟩
  | .hbm, ⟨26, _⟩ => ⟨S8x4096, .f32⟩
  | .hbm, ⟨27, _⟩ => ⟨S8x4096x1, .f32⟩
  | .hbm, ⟨28, _⟩ => ⟨S8x4096x1, .f32⟩
  | .hbm, ⟨29, _⟩ => ⟨S8x4096x1, .f32⟩
  | .hbm, ⟨30, _⟩ => ⟨S8x1x4096, .f32⟩
  | .hbm, ⟨31, _⟩ => ⟨S8x4096x4096, .f32⟩
  | .hbm, ⟨32, _⟩ => ⟨S_, .f32⟩
  | .hbm, ⟨33, _⟩ => ⟨S8x4096x4096, .f32⟩
  | .hbm, ⟨34, _⟩ => ⟨S8x4096x4096, .f32⟩
  | .hbm, ⟨35, _⟩ => ⟨S4096, .i32⟩
  | .hbm, ⟨36, _⟩ => ⟨S1x4096, .i32⟩
  | .hbm, ⟨37, _⟩ => ⟨S4096x1, .i32⟩
  | .hbm, ⟨38, _⟩ => ⟨S4096x4096, .i32⟩
  | .hbm, ⟨39, _⟩ => ⟨S4096x4096, .i32⟩
  | .hbm, ⟨40, _⟩ => ⟨S4096x4096, .i1⟩
  | .hbm, ⟨41, _⟩ => ⟨S_, .f32⟩
  | .hbm, ⟨42, _⟩ => ⟨S_, .f32⟩
  | .hbm, ⟨43, _⟩ => ⟨S8x4096x4096, .i1⟩
  | .hbm, ⟨44, _⟩ => ⟨S8x4096x4096, .f32⟩
  | .hbm, ⟨45, _⟩ => ⟨S8x4096x4096, .f32⟩
  | .hbm, ⟨46, _⟩ => ⟨S_, .f32⟩
  | .hbm, ⟨47, _⟩ => ⟨S8x4096, .f32⟩
  | .hbm, ⟨48, _⟩ => ⟨S_, .f32⟩
  | .hbm, ⟨49, _⟩ => ⟨S8x4096, .f32⟩
  | .hbm, ⟨50, _⟩ => ⟨S8x4096, .f32⟩
  | .hbm, ⟨51, _⟩ => ⟨S8x4096x1, .f32⟩
  | .hbm, ⟨52, _⟩ => ⟨S8x4096x4096, .f32⟩
  | .hbm, ⟨53, _⟩ => ⟨S8x4096x4096, .f32⟩
  | .hbm, ⟨54, _⟩ => ⟨S8x4096x4096, .f32⟩
  | .hbm, ⟨55, _⟩ => ⟨S_, .f32⟩
  | .hbm, ⟨56, _⟩ => ⟨S8x4096, .f32⟩
  | .hbm, ⟨57, _⟩ => ⟨S8x4096x1, .f32⟩
  | .hbm, ⟨58, _⟩ => ⟨S8x4096x4096, .f32⟩
  | .hbm, ⟨59, _⟩ => ⟨S8x4096x4096, .f32⟩
  | .hbm, ⟨60, _⟩ => ⟨S8x128x4096, .f32⟩
  | .hbm, ⟨61, _⟩ => ⟨S4096x8x128, .f32⟩
  | .hbm, ⟨62, _⟩ => ⟨S4096x8x128, .f32⟩
  | .hbm, ⟨63, _⟩ => ⟨S_, .f32⟩
  | .hbm, ⟨64, _⟩ => ⟨S4096x8, .f32⟩
  | .hbm, ⟨65, _⟩ => ⟨S8x4096, .f32⟩
  | .hbm, ⟨66, _⟩ => ⟨S8x1x4096, .f32⟩
  | .hbm, ⟨67, _⟩ => ⟨S_, .f32⟩
  | .hbm, ⟨68, _⟩ => ⟨S4096x8x192, .f32⟩
  | .hbm, ⟨69, _⟩ => ⟨S4096x8x192, .f32⟩
  | .hbm, ⟨70, _⟩ => ⟨S_, .i32⟩
  | .hbm, ⟨71, _⟩ => ⟨S_, .f32⟩
  | .hbm, ⟨72, _⟩ => ⟨S4096x8x256, .f32⟩
  | .hbm, ⟨73, _⟩ => ⟨S8x4096x256, .f32⟩
  | .hbm, ⟨74, _⟩ => ⟨S8x4096x256, .bf16⟩
  | .hbm, ⟨75, _⟩ => ⟨S_, .i32⟩
  | .hbm, ⟨76, _⟩ => ⟨S_, .f32⟩
  | .hbm, ⟨77, _⟩ => ⟨S4096x8x256, .f32⟩
  | .hbm, ⟨78, _⟩ => ⟨S8x4096x256, .f32⟩
  | .hbm, ⟨79, _⟩ => ⟨S8x4096x256, .bf16⟩
  | .hbm, ⟨80, _⟩ => ⟨S8x4096x128, .f32⟩
  | .hbm, ⟨81, _⟩ => ⟨S8x4096x128, .bf16⟩
  | .hbm, ⟨82, _⟩ => ⟨S8x256x4096, .bf16⟩
  | .hbm, ⟨83, _⟩ => ⟨S4096x1024, .f32⟩
  | .hbm, ⟨84, _⟩ => ⟨S4096x1024, .bf16⟩
  | .hbm, ⟨85, _⟩ => ⟨S8x4096x256, .f32⟩
  | .hbm, ⟨86, _⟩ => ⟨S8x4096x256, .f32⟩
  | .hbm, ⟨87, _⟩ => ⟨S8x4096x128, .f32⟩
  | .hbm, ⟨88, _⟩ => ⟨S8x4096x192, .f32⟩
  | .hbm, ⟨89, _⟩ => ⟨S_, .f32⟩
  | .hbm, ⟨90, _⟩ => ⟨S8x4096x192, .f32⟩
  | .hbm, ⟨91, _⟩ => ⟨S8x4096x192, .f32⟩
  | .hbm, ⟨92, _⟩ => ⟨S4096x8x192, .f32⟩
  | .hbm, ⟨93, _⟩ => ⟨S8x4096x192, .f32⟩
  | .hbm, ⟨94, _⟩ => ⟨S4096x8x192, .f32⟩
  | .hbm, ⟨95, _⟩ => ⟨S4096x8x128, .f32⟩
  | .local _ .vmem, ⟨0, _⟩ => ⟨S2x4096x256, .bf16⟩
  | .local _ .vmem, ⟨1, _⟩ => ⟨S2x4096x256, .bf16⟩
  | .local _ .vmem, ⟨2, _⟩ => ⟨S2x512x256, .bf16⟩
  | .local _ .vmem, ⟨3, _⟩ => ⟨S2x512x256, .bf16⟩
  | .local _ .vmem, ⟨4, _⟩ => ⟨S2x256x512, .bf16⟩
  | .local _ .vmem, ⟨5, _⟩ => ⟨S2x256x512, .bf16⟩
  | .local _ .vmem, ⟨6, _⟩ => ⟨S2x512x128, .bf16⟩
  | .local _ .vmem, ⟨7, _⟩ => ⟨S2x512x128, .bf16⟩
  | .local _ .vmem, ⟨8, _⟩ => ⟨S2x1x4096, .f32⟩
  | .local _ .vmem, ⟨9, _⟩ => ⟨S2x1x4096, .f32⟩
  | .local _ .vmem, ⟨10, _⟩ => ⟨S2x1x4096, .f32⟩
  | .local _ .vmem, ⟨11, _⟩ => ⟨S2x1x4096, .f32⟩
  | .local _ .vmem, ⟨12, _⟩ => ⟨S4096x256, .bf16⟩
  | .local _ .vmem, ⟨13, _⟩ => ⟨S4096x256, .bf16⟩
  | .local _ .vmem, ⟨14, _⟩ => ⟨S2x4096x256, .f32⟩
  | .local _ .vmem, ⟨15, _⟩ => ⟨S2x4096x256, .f32⟩
  | .local _ .vmem, ⟨16, _⟩ => ⟨S2x512x256, .f32⟩
  | .local _ .vmem, ⟨17, _⟩ => ⟨S2x512x256, .f32⟩
  | .local _ .vmem, ⟨18, _⟩ => ⟨S2x512x128, .f32⟩
  | .local _ .vmem, ⟨19, _⟩ => ⟨S2x512x128, .f32⟩
  | .local _ .vmem, ⟨20, _⟩ => ⟨S2x256x4096, .f32⟩
  | _, _ => ⟨S4096x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_c : Ref sig .tc := ⟨.hbm, 70, rfl⟩
abbrev main_call2_v0 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_call3_v0 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60_0 : Ref sig .tc := ⟨.hbm, 85, rfl⟩
abbrev main_v60_1 : Ref sig .tc := ⟨.hbm, 86, rfl⟩
abbrev main_v60_2 : Ref sig .tc := ⟨.hbm, 87, rfl⟩
abbrev main_v61 : Ref sig .tc := ⟨.hbm, 88, rfl⟩
abbrev main_cst_11 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v5 : BitVec 32 := Scalar.muli arg1 c512_i32
  v5
def k0_off1 (i : grid0.Coords) : Fin 3 → Nat :=
  let c0 : Index := 0#32
  let arg1 : BitVec 32 := BitVec.ofNat 32 (i 1).val
  let c512_i32 : BitVec 32 := 512#32
  let v5 : BitVec 32 := Scalar.muli arg1 c512_i32
  let v6 : BitVec 32 := v5
  let v7 : Index := Scalar.indexCast v6
  let c0_2 : Index := 0#32
  ![0, v7.toNat, 0]
def k0_off2 (i : grid0.Coords) : Fin 3 → Nat :=
  let c1 : Index := 1#32
  let arg1 : BitVec 32 := BitVec.ofNat 32 (i 1).val
  let c512_i32 : BitVec 32 := 512#32
  let v5 : BitVec 32 := Scalar.muli arg1 c512_i32
  let v6 : BitVec 32 := v5
  let v10 : Index := Scalar.indexCast v6
  let c0_3 : Index := 0#32
  ![1, v10.toNat, 0]
def k0_off3 (i : grid0.Coords) : Fin 3 → Nat :=
  let c0_13 : Index := 0#32
  let c0_14 : Index := 0#32
  let arg1 : BitVec 32 := BitVec.ofNat 32 (i 1).val
  let c512_i32 : BitVec 32 := 512#32
  let v5 : BitVec 32 := Scalar.muli arg1 c512_i32
  let v6 : BitVec 32 := v5
  let v24 : Index := Scalar.indexCast v6
  ![0, 0, v24.toNat]
def k0_off4 (i : grid0.Coords) : Fin 2 → Nat :=
  let arg1 : BitVec 32 := BitVec.ofNat 32 (i 1).val
  let c512_i32 : BitVec 32 := 512#32
  let v5 : BitVec 32 := Scalar.muli arg1 c512_i32
  let v6 : BitVec 32 := v5
  let v30 : Index := Scalar.indexCast v6
  let c0_15 : Index := 0#32
  ![v30.toNat, 0]
def k0_off5 (i : grid0.Coords) : Fin 3 → Nat :=
  let c0_24 : Index := 0#32
  let c0_25 : Index := 0#32
  let arg1 : BitVec 32 := BitVec.ofNat 32 (i 1).val
  let c512_i32 : BitVec 32 := 512#32
  let v5 : BitVec 32 := Scalar.muli arg1 c512_i32
  let v6 : BitVec 32 := v5
  let v48 : Index := Scalar.indexCast v6
  ![0, 0, v48.toNat]
def k0_off6 (i : grid0.Coords) : Fin 3 → Nat :=
  let c1_33 : Index := 1#32
  let c0_34 : Index := 0#32
  let arg1 : BitVec 32 := BitVec.ofNat 32 (i 1).val
  let c512_i32 : BitVec 32 := 512#32
  let v5 : BitVec 32 := Scalar.muli arg1 c512_i32
  let v6 : BitVec 32 := v5
  let v64 : Index := Scalar.indexCast v6
  ![1, 0, v64.toNat]
def k0_off7 (i : grid0.Coords) : Fin 2 → Nat :=
  let arg1 : BitVec 32 := BitVec.ofNat 32 (i 1).val
  let c512_i32 : BitVec 32 := 512#32
  let v5 : BitVec 32 := Scalar.muli arg1 c512_i32
  let v6 : BitVec 32 := v5
  let v70 : Index := Scalar.indexCast v6
  let c128 : Index := 128#32
  ![v70.toNat, 128]
def k0_off8 (i : grid0.Coords) : Fin 3 → Nat :=
  let c1_43 : Index := 1#32
  let c0_44 : Index := 0#32
  let arg1 : BitVec 32 := BitVec.ofNat 32 (i 1).val
  let c512_i32 : BitVec 32 := 512#32
  let v5 : BitVec 32 := Scalar.muli arg1 c512_i32
  let v6 : BitVec 32 := v5
  let v88 : Index := Scalar.indexCast v6
  ![1, 0, v88.toNat]
@[reducible] def k0_t1_loop (i : grid0.Coords) : Scf.Loop 32 :=
  let arg1 : BitVec 32 := BitVec.ofNat 32 (i 1).val
  let c1_i32 : BitVec 32 := 1#32
  let v99 : BitVec 32 := Scalar.addi arg1 c1_i32
  let c8_i32 : BitVec 32 := 8#32
  let v100 : BitVec 32 := Scalar.subi c8_i32 v99
  let c1_i32_51 : BitVec 32 := 1#32
  let v102 : BitVec 32 := Scalar.divsi v100 c1_i32_51
  let v103 : BitVec 32 := Scalar.muli v102 c1_i32_51
  let v104 : BitVec 32 := Scalar.addi v99 v103
  let c1_i32_52 : BitVec 32 := 1#32
  ⟨v99, v104, c1_i32_52⟩
def k0_mult2 (i : grid0.Coords) (k0_t1 : Fin (k0_t1_loop i).trips) : BitVec 32 :=
  let arg1 : BitVec 32 := BitVec.ofNat 32 (i 1).val
  let c1_i32 : BitVec 32 := 1#32
  let v99 : BitVec 32 := Scalar.addi arg1 c1_i32
  let c1_i32_52 : BitVec 32 := 1#32
  let arg13 : BitVec 32 := Scf.iv v99 c1_i32_52 k0_t1
  let c512_i32_67 : BitVec 32 := 512#32
  let v122 : BitVec 32 := Scalar.muli arg13 c512_i32_67
  v122
def k0_off9 (i : grid0.Coords) (k0_t1 : Fin (k0_t1_loop i).trips) : Fin 3 → Nat :=
  let c0_68 : Index := 0#32
  let arg1 : BitVec 32 := BitVec.ofNat 32 (i 1).val
  let c1_i32 : BitVec 32 := 1#32
  let v99 : BitVec 32 := Scalar.addi arg1 c1_i32
  let c1_i32_52 : BitVec 32 := 1#32
  let arg13 : BitVec 32 := Scf.iv v99 c1_i32_52 k0_t1
  let c512_i32_67 : BitVec 32 := 512#32
  let v122 : BitVec 32 := Scalar.muli arg13 c512_i32_67
  let v123 : BitVec 32 := v122
  let v124 : Index := Scalar.indexCast v123
  let c0_69 : Index := 0#32
  ![0, v124.toNat, 0]
def k0_off10 (i : grid0.Coords) (k0_t1 : Fin (k0_t1_loop i).trips) : Fin 3 → Nat :=
  let c1_70 : Index := 1#32
  let arg1 : BitVec 32 := BitVec.ofNat 32 (i 1).val
  let c1_i32 : BitVec 32 := 1#32
  let v99 : BitVec 32 := Scalar.addi arg1 c1_i32
  let c1_i32_52 : BitVec 32 := 1#32
  let arg13 : BitVec 32 := Scf.iv v99 c1_i32_52 k0_t1
  let c512_i32_67 : BitVec 32 := 512#32
  let v122 : BitVec 32 := Scalar.muli arg13 c512_i32_67
  let v123 : BitVec 32 := v122
  let v127 : Index := Scalar.indexCast v123
  let c0_71 : Index := 0#32
  ![1, v127.toNat, 0]
def k0_off11 (i : grid0.Coords) (k0_t1 : Fin (k0_t1_loop i).trips) : Fin 3 → Nat :=
  let c0_80 : Index := 0#32
  let c0_81 : Index := 0#32
  let arg1 : BitVec 32 := BitVec.ofNat 32 (i 1).val
  let c1_i32 : BitVec 32 := 1#32
  let v99 : BitVec 32 := Scalar.addi arg1 c1_i32
  let c1_i32_52 : BitVec 32 := 1#32
  let arg13 : BitVec 32 := Scf.iv v99 c1_i32_52 k0_t1
  let c512_i32_67 : BitVec 32 := 512#32
  let v122 : BitVec 32 := Scalar.muli arg13 c512_i32_67
  let v123 : BitVec 32 := v122
  let v136 : Index := Scalar.indexCast v123
  ![0, 0, v136.toNat]
def k0_off12 (i : grid0.Coords) (k0_t1 : Fin (k0_t1_loop i).trips) : Fin 2 → Nat :=
  let arg1 : BitVec 32 := BitVec.ofNat 32 (i 1).val
  let c1_i32 : BitVec 32 := 1#32
  let v99 : BitVec 32 := Scalar.addi arg1 c1_i32
  let c1_i32_52 : BitVec 32 := 1#32
  let arg13 : BitVec 32 := Scf.iv v99 c1_i32_52 k0_t1
  let c512_i32_67 : BitVec 32 := 512#32
  let v122 : BitVec 32 := Scalar.muli arg13 c512_i32_67
  let v123 : BitVec 32 := v122
  let v142 : Index := Scalar.indexCast v123
  let c0_82 : Index := 0#32
  ![v142.toNat, 0]
def k0_off13 (i : grid0.Coords) (k0_t1 : Fin (k0_t1_loop i).trips) : Fin 3 → Nat :=
  let c0_91 : Index := 0#32
  let c0_92 : Index := 0#32
  let arg1 : BitVec 32 := BitVec.ofNat 32 (i 1).val
  let c1_i32 : BitVec 32 := 1#32
  let v99 : BitVec 32 := Scalar.addi arg1 c1_i32
  let c1_i32_52 : BitVec 32 := 1#32
  let arg13 : BitVec 32 := Scf.iv v99 c1_i32_52 k0_t1
  let c512_i32_67 : BitVec 32 := 512#32
  let v122 : BitVec 32 := Scalar.muli arg13 c512_i32_67
  let v123 : BitVec 32 := v122
  let v160 : Index := Scalar.indexCast v123
  ![0, 0, v160.toNat]
def k0_off14 (i : grid0.Coords) (k0_t1 : Fin (k0_t1_loop i).trips) : Fin 3 → Nat :=
  let c1_99 : Index := 1#32
  let c0_100 : Index := 0#32
  let arg1 : BitVec 32 := BitVec.ofNat 32 (i 1).val
  let c1_i32 : BitVec 32 := 1#32
  let v99 : BitVec 32 := Scalar.addi arg1 c1_i32
  let c1_i32_52 : BitVec 32 := 1#32
  let arg13 : BitVec 32 := Scf.iv v99 c1_i32_52 k0_t1
  let c512_i32_67 : BitVec 32 := 512#32
  let v122 : BitVec 32 := Scalar.muli arg13 c512_i32_67
  let v123 : BitVec 32 := v122
  let v171 : Index := Scalar.indexCast v123
  ![1, 0, v171.toNat]
def k0_off15 (i : grid0.Coords) (k0_t1 : Fin (k0_t1_loop i).trips) : Fin 2 → Nat :=
  let arg1 : BitVec 32 := BitVec.ofNat 32 (i 1).val
  let c1_i32 : BitVec 32 := 1#32
  let v99 : BitVec 32 := Scalar.addi arg1 c1_i32
  let c1_i32_52 : BitVec 32 := 1#32
  let arg13 : BitVec 32 := Scf.iv v99 c1_i32_52 k0_t1
  let c512_i32_67 : BitVec 32 := 512#32
  let v122 : BitVec 32 := Scalar.muli arg13 c512_i32_67
  let v123 : BitVec 32 := v122
  let v177 : Index := Scalar.indexCast v123
  let c128_101 : Index := 128#32
  ![v177.toNat, 128]
def k0_off16 (i : grid0.Coords) (k0_t1 : Fin (k0_t1_loop i).trips) : Fin 3 → Nat :=
  let c1_110 : Index := 1#32
  let c0_111 : Index := 0#32
  let arg1 : BitVec 32 := BitVec.ofNat 32 (i 1).val
  let c1_i32 : BitVec 32 := 1#32
  let v99 : BitVec 32 := Scalar.addi arg1 c1_i32
  let c1_i32_52 : BitVec 32 := 1#32
  let arg13 : BitVec 32 := Scf.iv v99 c1_i32_52 k0_t1
  let c512_i32_67 : BitVec 32 := 512#32
  let v122 : BitVec 32 := Scalar.muli arg13 c512_i32_67
  let v123 : BitVec 32 := v122
  let v195 : Index := Scalar.indexCast v123
  ![1, 0, v195.toNat]
@[reducible] def k0_t2_loop (i : grid0.Coords) : Scf.Loop 32 :=
  let arg1 : BitVec 32 := BitVec.ofNat 32 (i 1).val
  let c1_i32 : BitVec 32 := 1#32
  let v99 : BitVec 32 := Scalar.addi arg1 c1_i32
  let c8_i32 : BitVec 32 := 8#32
  let v100 : BitVec 32 := Scalar.subi c8_i32 v99
  let c1_i32_51 : BitVec 32 := 1#32
  let v102 : BitVec 32 := Scalar.divsi v100 c1_i32_51
  let v103 : BitVec 32 := Scalar.muli v102 c1_i32_51
  let v104 : BitVec 32 := Scalar.addi v99 v103
  let v101 : BitVec 32 := Scalar.addi v99 v100
  let c1_i32_53 : BitVec 32 := 1#32
  ⟨v104, v101, c1_i32_53⟩
def k0_mult3 (i : grid0.Coords) (k0_t2 : Fin (k0_t2_loop i).trips) : BitVec 32 :=
  let arg1 : BitVec 32 := BitVec.ofNat 32 (i 1).val
  let c1_i32 : BitVec 32 := 1#32
  let v99 : BitVec 32 := Scalar.addi arg1 c1_i32
  let c8_i32 : BitVec 32 := 8#32
  let v100 : BitVec 32 := Scalar.subi c8_i32 v99
  let c1_i32_51 : BitVec 32 := 1#32
  let v102 : BitVec 32 := Scalar.divsi v100 c1_i32_51
  let v103 : BitVec 32 := Scalar.muli v102 c1_i32_51
  let v104 : BitVec 32 := Scalar.addi v99 v103
  let c1_i32_53 : BitVec 32 := 1#32
  let arg13 : BitVec 32 := Scf.iv v104 c1_i32_53 k0_t2
  let c512_i32_67 : BitVec 32 := 512#32
  let v122 : BitVec 32 := Scalar.muli arg13 c512_i32_67
  v122
def k0_off17 (i : grid0.Coords) (k0_t2 : Fin (k0_t2_loop i).trips) : Fin 3 → Nat :=
  let c0_68 : Index := 0#32
  let arg1 : BitVec 32 := BitVec.ofNat 32 (i 1).val
  let c1_i32 : BitVec 32 := 1#32
  let v99 : BitVec 32 := Scalar.addi arg1 c1_i32
  let c8_i32 : BitVec 32 := 8#32
  let v100 : BitVec 32 := Scalar.subi c8_i32 v99
  let c1_i32_51 : BitVec 32 := 1#32
  let v102 : BitVec 32 := Scalar.divsi v100 c1_i32_51
  let v103 : BitVec 32 := Scalar.muli v102 c1_i32_51
  let v104 : BitVec 32 := Scalar.addi v99 v103
  let c1_i32_53 : BitVec 32 := 1#32
  let arg13 : BitVec 32 := Scf.iv v104 c1_i32_53 k0_t2
  let c512_i32_67 : BitVec 32 := 512#32
  let v122 : BitVec 32 := Scalar.muli arg13 c512_i32_67
  let v123 : BitVec 32 := v122
  let v124 : Index := Scalar.indexCast v123
  let c0_69 : Index := 0#32
  ![0, v124.toNat, 0]
def k0_off18 (i : grid0.Coords) (k0_t2 : Fin (k0_t2_loop i).trips) : Fin 3 → Nat :=
  let c1_70 : Index := 1#32
  let arg1 : BitVec 32 := BitVec.ofNat 32 (i 1).val
  let c1_i32 : BitVec 32 := 1#32
  let v99 : BitVec 32 := Scalar.addi arg1 c1_i32
  let c8_i32 : BitVec 32 := 8#32
  let v100 : BitVec 32 := Scalar.subi c8_i32 v99
  let c1_i32_51 : BitVec 32 := 1#32
  let v102 : BitVec 32 := Scalar.divsi v100 c1_i32_51
  let v103 : BitVec 32 := Scalar.muli v102 c1_i32_51
  let v104 : BitVec 32 := Scalar.addi v99 v103
  let c1_i32_53 : BitVec 32 := 1#32
  let arg13 : BitVec 32 := Scf.iv v104 c1_i32_53 k0_t2
  let c512_i32_67 : BitVec 32 := 512#32
  let v122 : BitVec 32 := Scalar.muli arg13 c512_i32_67
  let v123 : BitVec 32 := v122
  let v127 : Index := Scalar.indexCast v123
  let c0_71 : Index := 0#32
  ![1, v127.toNat, 0]
def k0_off19 (i : grid0.Coords) (k0_t2 : Fin (k0_t2_loop i).trips) : Fin 3 → Nat :=
  let c0_80 : Index := 0#32
  let c0_81 : Index := 0#32
  let arg1 : BitVec 32 := BitVec.ofNat 32 (i 1).val
  let c1_i32 : BitVec 32 := 1#32
  let v99 : BitVec 32 := Scalar.addi arg1 c1_i32
  let c8_i32 : BitVec 32 := 8#32
  let v100 : BitVec 32 := Scalar.subi c8_i32 v99
  let c1_i32_51 : BitVec 32 := 1#32
  let v102 : BitVec 32 := Scalar.divsi v100 c1_i32_51
  let v103 : BitVec 32 := Scalar.muli v102 c1_i32_51
  let v104 : BitVec 32 := Scalar.addi v99 v103
  let c1_i32_53 : BitVec 32 := 1#32
  let arg13 : BitVec 32 := Scf.iv v104 c1_i32_53 k0_t2
  let c512_i32_67 : BitVec 32 := 512#32
  let v122 : BitVec 32 := Scalar.muli arg13 c512_i32_67
  let v123 : BitVec 32 := v122
  let v136 : Index := Scalar.indexCast v123
  ![0, 0, v136.toNat]
def k0_off20 (i : grid0.Coords) (k0_t2 : Fin (k0_t2_loop i).trips) : Fin 2 → Nat :=
  let arg1 : BitVec 32 := BitVec.ofNat 32 (i 1).val
  let c1_i32 : BitVec 32 := 1#32
  let v99 : BitVec 32 := Scalar.addi arg1 c1_i32
  let c8_i32 : BitVec 32 := 8#32
  let v100 : BitVec 32 := Scalar.subi c8_i32 v99
  let c1_i32_51 : BitVec 32 := 1#32
  let v102 : BitVec 32 := Scalar.divsi v100 c1_i32_51
  let v103 : BitVec 32 := Scalar.muli v102 c1_i32_51
  let v104 : BitVec 32 := Scalar.addi v99 v103
  let c1_i32_53 : BitVec 32 := 1#32
  let arg13 : BitVec 32 := Scf.iv v104 c1_i32_53 k0_t2
  let c512_i32_67 : BitVec 32 := 512#32
  let v122 : BitVec 32 := Scalar.muli arg13 c512_i32_67
  let v123 : BitVec 32 := v122
  let v142 : Index := Scalar.indexCast v123
  let c0_82 : Index := 0#32
  ![v142.toNat, 0]
def k0_off21 (i : grid0.Coords) (k0_t2 : Fin (k0_t2_loop i).trips) : Fin 3 → Nat :=
  let c0_91 : Index := 0#32
  let c0_92 : Index := 0#32
  let arg1 : BitVec 32 := BitVec.ofNat 32 (i 1).val
  let c1_i32 : BitVec 32 := 1#32
  let v99 : BitVec 32 := Scalar.addi arg1 c1_i32
  let c8_i32 : BitVec 32 := 8#32
  let v100 : BitVec 32 := Scalar.subi c8_i32 v99
  let c1_i32_51 : BitVec 32 := 1#32
  let v102 : BitVec 32 := Scalar.divsi v100 c1_i32_51
  let v103 : BitVec 32 := Scalar.muli v102 c1_i32_51
  let v104 : BitVec 32 := Scalar.addi v99 v103
  let c1_i32_53 : BitVec 32 := 1#32
  let arg13 : BitVec 32 := Scf.iv v104 c1_i32_53 k0_t2
  let c512_i32_67 : BitVec 32 := 512#32
  let v122 : BitVec 32 := Scalar.muli arg13 c512_i32_67
  let v123 : BitVec 32 := v122
  let v160 : Index := Scalar.indexCast v123
  ![0, 0, v160.toNat]
def k0_off22 (i : grid0.Coords) (k0_t2 : Fin (k0_t2_loop i).trips) : Fin 3 → Nat :=
  let c1_99 : Index := 1#32
  let c0_100 : Index := 0#32
  let arg1 : BitVec 32 := BitVec.ofNat 32 (i 1).val
  let c1_i32 : BitVec 32 := 1#32
  let v99 : BitVec 32 := Scalar.addi arg1 c1_i32
  let c8_i32 : BitVec 32 := 8#32
  let v100 : BitVec 32 := Scalar.subi c8_i32 v99
  let c1_i32_51 : BitVec 32 := 1#32
  let v102 : BitVec 32 := Scalar.divsi v100 c1_i32_51
  let v103 : BitVec 32 := Scalar.muli v102 c1_i32_51
  let v104 : BitVec 32 := Scalar.addi v99 v103
  let c1_i32_53 : BitVec 32 := 1#32
  let arg13 : BitVec 32 := Scf.iv v104 c1_i32_53 k0_t2
  let c512_i32_67 : BitVec 32 := 512#32
  let v122 : BitVec 32 := Scalar.muli arg13 c512_i32_67
  let v123 : BitVec 32 := v122
  let v171 : Index := Scalar.indexCast v123
  ![1, 0, v171.toNat]
def k0_off23 (i : grid0.Coords) (k0_t2 : Fin (k0_t2_loop i).trips) : Fin 2 → Nat :=
  let arg1 : BitVec 32 := BitVec.ofNat 32 (i 1).val
  let c1_i32 : BitVec 32 := 1#32
  let v99 : BitVec 32 := Scalar.addi arg1 c1_i32
  let c8_i32 : BitVec 32 := 8#32
  let v100 : BitVec 32 := Scalar.subi c8_i32 v99
  let c1_i32_51 : BitVec 32 := 1#32
  let v102 : BitVec 32 := Scalar.divsi v100 c1_i32_51
  let v103 : BitVec 32 := Scalar.muli v102 c1_i32_51
  let v104 : BitVec 32 := Scalar.addi v99 v103
  let c1_i32_53 : BitVec 32 := 1#32
  let arg13 : BitVec 32 := Scf.iv v104 c1_i32_53 k0_t2
  let c512_i32_67 : BitVec 32 := 512#32
  let v122 : BitVec 32 := Scalar.muli arg13 c512_i32_67
  let v123 : BitVec 32 := v122
  let v177 : Index := Scalar.indexCast v123
  let c128_101 : Index := 128#32
  ![v177.toNat, 128]
def k0_off24 (i : grid0.Coords) (k0_t2 : Fin (k0_t2_loop i).trips) : Fin 3 → Nat :=
  let c1_110 : Index := 1#32
  let c0_111 : Index := 0#32
  let arg1 : BitVec 32 := BitVec.ofNat 32 (i 1).val
  let c1_i32 : BitVec 32 := 1#32
  let v99 : BitVec 32 := Scalar.addi arg1 c1_i32
  let c8_i32 : BitVec 32 := 8#32
  let v100 : BitVec 32 := Scalar.subi c8_i32 v99
  let c1_i32_51 : BitVec 32 := 1#32
  let v102 : BitVec 32 := Scalar.divsi v100 c1_i32_51
  let v103 : BitVec 32 := Scalar.muli v102 c1_i32_51
  let v104 : BitVec 32 := Scalar.addi v99 v103
  let c1_i32_53 : BitVec 32 := 1#32
  let arg13 : BitVec 32 := Scf.iv v104 c1_i32_53 k0_t2
  let c512_i32_67 : BitVec 32 := 512#32
  let v122 : BitVec 32 := Scalar.muli arg13 c512_i32_67
  let v123 : BitVec 32 := v122
  let v195 : Index := Scalar.indexCast v123
  ![1, 0, v195.toNat]
def k0_cond2 (i : grid0.Coords) : BitVec 1 :=
  let arg1 : BitVec 32 := BitVec.ofNat 32 (i 1).val
  let c7_i32 : BitVec 32 := 7#32
  let v119 : BitVec 1 := Scalar.cmpi .eq arg1 c7_i32
  let v120 : BitVec 32 := Scalar.extui v119
  let c0_i32_66 : BitVec 32 := 0#32
  let v121 : BitVec 1 := Scalar.cmpi .ne v120 c0_i32_66
  v121

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x4096x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceAttnIdeal.lean ====
abbrev S4096x8x192 : Shape := ⟨3, ![4096, 8, 192]⟩
abbrev S4096x8x128 : Shape := ⟨3, ![4096, 8, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S8x4096x192 : Shape := ⟨3, ![8, 4096, 192]⟩

abbrev nBuf : Space → Nat
  | .hbm => 89
  | .vmem => 0
  | .smem => 0
  | _ => 0

abbrev bufTy : (tb : Table) → Fin (tcTables nBuf tb) → BufTy
  | .hbm, ⟨0, _⟩ => ⟨S4096x8x192, .f32⟩
  | .hbm, ⟨1, _⟩ => ⟨S4096x8x192, .f32⟩
  | .hbm, ⟨2, _⟩ => ⟨S4096x8x128, .f32⟩
  | .hbm, ⟨3, _⟩ => ⟨S4096x8x128, .f32⟩
  | .hbm, ⟨4, _⟩ => ⟨S8x4096x4096, .f32⟩
  | .hbm, ⟨5, _⟩ => ⟨S_, .f32⟩
  | .hbm, ⟨6, _⟩ => ⟨S8x4096x4096, .f32⟩
  | .hbm, ⟨7, _⟩ => ⟨S8x4096x4096, .f32⟩
  | .hbm, ⟨8, _⟩ => ⟨S4096, .i32⟩
  | .hbm, ⟨9, _⟩ => ⟨S1x4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S8x4096x4096, .i1⟩
  | .hbm, ⟨17, _⟩ => ⟨S8x4096x4096, .f32⟩
  | .hbm, ⟨18, _⟩ => ⟨S8x4096x4096, .f32⟩
  | .hbm, ⟨19, _⟩ => ⟨S_, .f32⟩
  | .hbm, ⟨20, _⟩ => ⟨S8x4096x4096, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S8x4096x4096, .f32⟩
  | .hbm, ⟨25, _⟩ => ⟨S8x4096x4096, .i1⟩
  | .hbm, ⟨26, _⟩ => ⟨S8x4096x4096, .f32⟩
  | .hbm, ⟨27, _⟩ => ⟨S_, .f32⟩
  | .hbm, ⟨28, _⟩ => ⟨S8x4096, .f32⟩
  | .hbm, ⟨29, _⟩ => ⟨S_, .f32⟩
  | .hbm, ⟨30, _⟩ => ⟨S8x4096, .f32⟩
  | .hbm, ⟨31, _⟩ => ⟨S8x4096, .f32⟩
  | .hbm, ⟨32, _⟩ => ⟨S_, .f32⟩
  | .hbm, ⟨33, _⟩ => ⟨S8x4096, .f32⟩
  | .hbm, ⟨34, _⟩ => ⟨S8x4096, .i1⟩
  | .hbm, ⟨35, _⟩ => ⟨S_, .f32⟩
  | .hbm, ⟨36, _⟩ => ⟨S8x4096, .f32⟩
  | .hbm, ⟨37, _⟩ => ⟨S8x4096, .i1⟩
  | .hbm, ⟨38, _⟩ => ⟨S_, .f32⟩
  | .hbm, ⟨39, _⟩ => ⟨S8x4096, .f32⟩
  | .hbm, ⟨40, _⟩ => ⟨S_, .f32⟩
  | .hbm, ⟨41, _⟩ => ⟨S8x4096, .f32⟩
  | .hbm, ⟨42, _⟩ => ⟨S_, .f32⟩
  | .hbm, ⟨43, _⟩ => ⟨S8x4096, .f32⟩
  | .hbm, ⟨44, _⟩ => ⟨S8x4096, .f32⟩
  | .hbm, ⟨45, _⟩ => ⟨S8x4096, .f32⟩
  | .hbm, ⟨46, _⟩ => ⟨S8x4096x1, .f32⟩
  | .hbm, ⟨47, _⟩ => ⟨S8x4096x4096, .f32⟩
  | .hbm, ⟨48, _⟩ => ⟨S8x4096x4096, .f32⟩
  | .hbm, ⟨49, _⟩ => ⟨S8x4096x4096, .f32⟩
  | .hbm, ⟨50, _⟩ => ⟨S_, .f32⟩
  | .hbm, ⟨51, _⟩ => ⟨S8x4096, .f32⟩
  | .hbm, ⟨52, _⟩ => ⟨S8x4096x1, .f32⟩
  | .hbm, ⟨53, _⟩ => ⟨S8x4096x4096, .f32⟩
  | .hbm, ⟨54, _⟩ => ⟨S8x4096x4096, .f32⟩
  | .hbm, ⟨55, _⟩ => ⟨S8x4096x1, .f32⟩
  | .hbm, ⟨56, _⟩ => ⟨S_, .f32⟩
  | .hbm, ⟨57, _⟩ => ⟨S8x4096x1, .f32⟩
  | .hbm, ⟨58, _⟩ => ⟨S8x4096x1, .f32⟩
  | .hbm, ⟨59, _⟩ => ⟨S8x128x4096, .f32⟩
  | .hbm, ⟨60, _⟩ => ⟨S4096x8x128, .f32⟩
  | .hbm, ⟨61, _⟩ => ⟨S8x128x4096, .f32⟩
  | .hbm, ⟨62, _⟩ => ⟨S8x4096x4096, .f32⟩
  | .hbm, ⟨63, _⟩ => ⟨S8x128x4096, .f32⟩
  | .hbm, ⟨64, _⟩ => ⟨S4096x8x128, .f32⟩
  | .hbm, ⟨65, _⟩ => ⟨S8x4096x4096, .f32⟩
  | .hbm, ⟨66, _⟩ => ⟨S8x4096x4096, .f32⟩
  | .hbm, ⟨67, _⟩ => ⟨S8x4096x4096, .f32⟩
  | .hbm, ⟨68, _⟩ => ⟨S_, .f32⟩
  | .hbm, ⟨69, _⟩ => ⟨S8x4096, .f32⟩
  | .hbm, ⟨70, _⟩ => ⟨S8x4096x1, .f32⟩
  | .hbm, ⟨71, _⟩ => ⟨S8x4096x1, .f32⟩
  | .hbm, ⟨72, _⟩ => ⟨S8x4096x4096, .f32⟩
  | .hbm, ⟨73, _⟩ => ⟨S8x4096x4096, .f32⟩
  | .hbm, ⟨74, _⟩ => ⟨S_, .f32⟩
  | .hbm, ⟨75, _⟩ => ⟨S8x4096, .f32⟩
  | .hbm, ⟨76, _⟩ => ⟨S8x4096x4096, .f32⟩
  | .hbm, ⟨77, _⟩ => ⟨S8x4096x4096, .f32⟩
  | .hbm, ⟨78, _⟩ => ⟨S8x4096x4096, .f32⟩
  | .hbm, ⟨79, _⟩ => ⟨S_, .f32⟩
  | .hbm, ⟨80, _⟩ => ⟨S8x4096x4096, .f32⟩
  | .hbm, ⟨81, _⟩ => ⟨S8x4096x4096, .f32⟩
  | .hbm, ⟨82, _⟩ => ⟨S_, .f32⟩
  | .hbm, ⟨83, _⟩ => ⟨S8x4096x4096, .f32⟩
  | .hbm, ⟨84, _⟩ => ⟨S8x4096x4096, .f32⟩
  | .hbm, ⟨85, _⟩ => ⟨S8x4096x192, .f32⟩
  | .hbm, ⟨86, _⟩ => ⟨S4096x8x192, .f32⟩
  | .hbm, ⟨87, _⟩ => ⟨S8x4096x192, .f32⟩
  | .hbm, ⟨88, _⟩ => ⟨S4096x8x192, .f32⟩
  | _, _ => ⟨S4096x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call1_cst : Ref sig .tc := ⟨.hbm, 79, rfl⟩
abbrev main_call1_v0 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩

abbrev nD : Nat := 1
abbrev τ : Topo := Topo.v7x

variable {F : FTy → Type} [FloatOps F]
-- ==== KernelGlu.lean ====
abbrev S4096x1024 : Shape := ⟨2, ![4096, 1024]⟩
abbrev S4096x512 : Shape := ⟨2, ![4096, 512]⟩
abbrev S512x512 : Shape := ⟨2, ![512, 512]⟩
abbrev S1x512 : Shape := ⟨2, ![1, 512]⟩
abbrev S512x1024 : Shape := ⟨2, ![512, 1024]⟩
abbrev S512x8x128 : Shape := ⟨3, ![512, 8, 128]⟩
abbrev S8x512x128 : Shape := ⟨3, ![8, 512, 128]⟩
abbrev S256x1024 : Shape := ⟨2, ![256, 1024]⟩
abbrev S256x512 : Shape := ⟨2, ![256, 512]⟩
abbrev S256x128 : Shape := ⟨2, ![256, 128]⟩
abbrev S1x512x128 : Shape := ⟨3, ![1, 512, 128]⟩
abbrev S512x128 : Shape := ⟨2, ![512, 128]⟩
abbrev S512 : Shape := ⟨1, ![512]⟩

abbrev nBuf : Space → Nat
  | .hbm => 14
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S512x512, .f32⟩
  | .hbm, ⟨3, _⟩ => ⟨S1x512, .f32⟩
  | .hbm, ⟨4, _⟩ => ⟨S512x1024, .f32⟩
  | .hbm, ⟨5, _⟩ => ⟨S512x1024, .bf16⟩
  | .hbm, ⟨6, _⟩ => ⟨S512x8x128, .bf16⟩
  | .hbm, ⟨7, _⟩ => ⟨S8x512x128, .bf16⟩
  | .hbm, ⟨8, _⟩ => ⟨S4096x1024, .bf16⟩
  | .hbm, ⟨9, _⟩ => ⟨S512x512, .bf16⟩
  | .hbm, ⟨10, _⟩ => ⟨S4096x512, .f32⟩
  | .hbm, ⟨11, _⟩ => ⟨S1x512, .f32⟩
  | .hbm, ⟨12, _⟩ => ⟨S512x512, .f32⟩
  | .hbm, ⟨13, _⟩ => ⟨S512x1024, .f32⟩
  | .local _ .vmem, ⟨0, _⟩ => ⟨S256x1024, .bf16⟩
  | .local _ .vmem, ⟨1, _⟩ => ⟨S256x1024, .bf16⟩
  | .local _ .vmem, ⟨2, _⟩ => ⟨S256x512, .f32⟩
  | .local _ .vmem, ⟨3, _⟩ => ⟨S256x512, .f32⟩
  | .local _ .vmem, ⟨4, _⟩ => ⟨S512x512, .bf16⟩
  | .local _ .vmem, ⟨5, _⟩ => ⟨S1x512, .f32⟩
  | .local _ .vmem, ⟨6, _⟩ => ⟨S8x512x128, .bf16⟩
  | .local _ .vmem, ⟨7, _⟩ => ⟨S256x512, .f32⟩
  | .local _ .vmem, ⟨8, _⟩ => ⟨S256x512, .f32⟩
  | .local _ .vmem, ⟨9, _⟩ => ⟨S1x512, .f32⟩
  | .local _ .vmem, ⟨10, _⟩ => ⟨S512x512, .f32⟩
  | .local _ .vmem, ⟨11, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x512x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelGluIdeal.lean ====
variable {F : FTy → Type} [FloatOps F] [Named F]
def κ : String → Option EReal := fun
  | "cubic" => some ((8943 / 200000 : ℝ) : EReal)
  | "slope" => some ((26829 / 200000 : ℝ) : EReal)
  | _ => none
-- ==== ReferenceGluIdeal.lean ====
abbrev S4096x1024 : Shape := ⟨2, ![4096, 1024]⟩
abbrev S4096x512 : Shape := ⟨2, ![4096, 512]⟩
abbrev S512x512 : Shape := ⟨2, ![512, 512]⟩
abbrev S1x512 : Shape := ⟨2, ![1, 512]⟩
abbrev S512x1024 : Shape := ⟨2, ![512, 1024]⟩
abbrev S_ : Shape := ⟨0, ![]⟩
abbrev S1024x512 : Shape := ⟨2, ![1024, 512]⟩
abbrev S512 : Shape := ⟨1, ![512]⟩

abbrev nBuf : Space → Nat
  | .hbm => 79
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S512x512, .f32⟩
  | .hbm, ⟨3, _⟩ => ⟨S1x512, .f32⟩
  | .hbm, ⟨4, _⟩ => ⟨S512x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S_, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S_, .f32⟩
  | .hbm, ⟨22, _⟩ => ⟨S4096x512, .f32⟩
  | .hbm, ⟨23, _⟩ => ⟨S4096x512, .f32⟩
  | .hbm, ⟨24, _⟩ => ⟨S_, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S_, .f32⟩
  | .hbm, ⟨29, _⟩ => ⟨S4096x512, .f32⟩
  | .hbm, ⟨30, _⟩ => ⟨S4096x512, .f32⟩
  | .hbm, ⟨31, _⟩ => ⟨S_, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S_, .f32⟩
  | .hbm, ⟨41, _⟩ => ⟨S4096x512, .f32⟩
  | .hbm, ⟨42, _⟩ => ⟨S4096x512, .f32⟩
  | .hbm, ⟨43, _⟩ => ⟨S_, .f32⟩
  | .hbm, ⟨44, _⟩ => ⟨S4096x512, .f32⟩
  | .hbm, ⟨45, _⟩ => ⟨S4096x512, .f32⟩
  | .hbm, ⟨46, _⟩ => ⟨S_, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S4096x1024, .f32⟩
  | .hbm, ⟨52, _⟩ => ⟨S1024x512, .f32⟩
  | .hbm, ⟨53, _⟩ => ⟨S512x1024, .f32⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S4096x512, .f32⟩
  | .hbm, ⟨58, _⟩ => ⟨S_, .f32⟩
  | .hbm, ⟨59, _⟩ => ⟨S512, .f32⟩
  | .hbm, ⟨60, _⟩ => ⟨S1x512, .f32⟩
  | .hbm, ⟨61, _⟩ => ⟨S512x512, .f32⟩
  | .hbm, ⟨62, _⟩ => ⟨S512x512, .f32⟩
  | .hbm, ⟨63, _⟩ => ⟨S4096x512, .f32⟩
  | .hbm, ⟨64, _⟩ => ⟨S4096x512, .f32⟩
  | .hbm, ⟨65, _⟩ => ⟨S4096x512, .f32⟩
  | .hbm, ⟨66, _⟩ => ⟨S4096x512, .f32⟩
  | .hbm, ⟨67, _⟩ => ⟨S_, .f32⟩
  | .hbm, ⟨68, _⟩ => ⟨S4096x512, .f32⟩
  | .hbm, ⟨69, _⟩ => ⟨S4096x512, .f32⟩
  | .hbm, ⟨70, _⟩ => ⟨S4096x512, .f32⟩
  | .hbm, ⟨71, _⟩ => ⟨S_, .f32⟩
  | .hbm, ⟨72, _⟩ => ⟨S4096x512, .f32⟩
  | .hbm, ⟨73, _⟩ => ⟨S4096x512, .f32⟩
  | .hbm, ⟨74, _⟩ => ⟨S4096x512, .f32⟩
  | .hbm, ⟨75, _⟩ => ⟨S4096x512, .f32⟩
  | .hbm, ⟨76, _⟩ => ⟨S4096x512, .f32⟩
  | .hbm, ⟨77, _⟩ => ⟨S4096x512, .f32⟩
  | .hbm, ⟨78, _⟩ => ⟨S4096x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_10 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_11 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_12 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩

abbrev nD : Nat := 1
abbrev τ : Topo := Topo.v7x

variable {F : FTy → Type} [FloatOps F]
-- ==== KernelMlp.lean ====
abbrev S4096x1024 : Shape := ⟨2, ![4096, 1024]⟩
abbrev S1x1024 : Shape := ⟨2, ![1, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S8x512x1024 : Shape := ⟨3, ![8, 512, 1024]⟩
abbrev S8x128 : Shape := ⟨2, ![8, 128]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩
abbrev S1x1024x512 : Shape := ⟨3, ![1, 1024, 512]⟩
abbrev S512x512 : Shape := ⟨2, ![512, 512]⟩
abbrev S1x512x1024 : Shape := ⟨3, ![1, 512, 1024]⟩
abbrev S1 : Shape := ⟨1, ![1]⟩
abbrev S1x1x1 : Shape := ⟨3, ![1, 1, 1]⟩
abbrev S4096x4096 : Shape := ⟨2, ![4096, 4096]⟩
abbrev S512x4096 : Shape := ⟨2, ![512, 4096]⟩
abbrev S4096x512 : Shape := ⟨2, ![4096, 512]⟩
abbrev S1024 : Shape := ⟨1, ![1024]⟩

abbrev nBuf : Space → Nat
  | .hbm => 19
  | .vmem => 32
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S1024x4096, .bf16⟩
  | .hbm, ⟨6, _⟩ => ⟨S1024x8x512, .bf16⟩
  | .hbm, ⟨7, _⟩ => ⟨S8x1024x512, .bf16⟩
  | .hbm, ⟨8, _⟩ => ⟨S4096x1024, .bf16⟩
  | .hbm, ⟨9, _⟩ => ⟨S8x512x1024, .bf16⟩
  | .hbm, ⟨10, _⟩ => ⟨S4096x1024, .bf16⟩
  | .hbm, ⟨11, _⟩ => ⟨S4096x1024, .f32⟩
  | .hbm, ⟨12, _⟩ => ⟨S1024x4096, .bf16⟩
  | .hbm, ⟨13, _⟩ => ⟨S8x128, .f32⟩
  | .hbm, ⟨14, _⟩ => ⟨S4096x4096, .bf16⟩
  | .hbm, ⟨15, _⟩ => ⟨S4096x1024, .f32⟩
  | .hbm, ⟨16, _⟩ => ⟨S4096x1024, .bf16⟩
  | .hbm, ⟨17, _⟩ => ⟨S4096x4096, .bf16⟩
  | .hbm, ⟨18, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S8x1024x512, .bf16⟩
  | .local _ .vmem, ⟨6, _⟩ => ⟨S8x512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S1024x512, .bf16⟩
  | .local _ .vmem, ⟨12, _⟩ => ⟨S1024x512, .bf16⟩
  | .local _ .vmem, ⟨13, _⟩ => ⟨S8x128, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | .local _ .vmem, ⟨21, _⟩ => ⟨S8x1024x512, .bf16⟩
  | .local _ .vmem, ⟨22, _⟩ => ⟨S8x512x1024, .bf16⟩
  | .local _ .vmem, ⟨23, _⟩ => ⟨S512x4096, .bf16⟩
  | .local _ .vmem, ⟨24, _⟩ => ⟨S512x4096, .bf16⟩
  | .local _ .vmem, ⟨25, _⟩ => ⟨S512x1024, .f32⟩
  | .local _ .vmem, ⟨26, _⟩ => ⟨S512x1024, .f32⟩
  | .local _ .vmem, ⟨27, _⟩ => ⟨S512x1024, .bf16⟩
  | .local _ .vmem, ⟨28, _⟩ => ⟨S512x1024, .bf16⟩
  | .local _ .vmem, ⟨29, _⟩ => ⟨S4096x512, .bf16⟩
  | .local _ .vmem, ⟨30, _⟩ => ⟨S4096x512, .bf16⟩
  | .local _ .vmem, ⟨31, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg7_1 : Ref sig .tc := ⟨.vmem, 26, rfl⟩
abbrev cc1_stg8_0 : Ref sig .tc := ⟨.vmem, 27, rfl⟩
abbrev cc1_stg8_1 : Ref sig .tc := ⟨.vmem, 28, rfl⟩
abbrev cc1_stg9_0 : Ref sig .tc := ⟨.vmem, 29, rfl⟩
abbrev cc1_stg9_1 : Ref sig .tc := ⟨.vmem, 30, rfl⟩
abbrev cc1_stg10_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem6_1 : DmaSem sig := 24
abbrev cc1_sem7_0 : DmaSem sig := 25
abbrev cc1_sem7_1 : DmaSem sig := 26
abbrev cc1_sem8_0 : DmaSem sig := 27
abbrev cc1_sem8_1 : DmaSem sig := 28
abbrev cc1_sem9_0 : DmaSem sig := 29
abbrev cc1_sem9_1 : DmaSem sig := 30
abbrev cc1_sem10_0 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x1024x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x512x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x4096 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S4096x512 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]
-- ==== ReferenceMlpIdeal.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024 : Shape := ⟨1, ![1024]⟩
abbrev S8x128 : Shape := ⟨2, ![8, 128]⟩

abbrev nBuf : Space → Nat
  | .hbm => 99
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .i1⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S4096, .f32⟩
  | .hbm, ⟨57, _⟩ => ⟨S_, .f32⟩
  | .hbm, ⟨58, _⟩ => ⟨S4096, .f32⟩
  | .hbm, ⟨59, _⟩ => ⟨S4096, .f32⟩
  | .hbm, ⟨60, _⟩ => ⟨S4096x1024, .f32⟩
  | .hbm, ⟨61, _⟩ => ⟨S4096x1024, .f32⟩
  | .hbm, ⟨62, _⟩ => ⟨S4096x4096, .f32⟩
  | .hbm, ⟨63, _⟩ => ⟨S4096x4096, .f32⟩
  | .hbm, ⟨64, _⟩ => ⟨S_, .f32⟩
  | .hbm, ⟨65, _⟩ => ⟨S4096x4096, .f32⟩
  | .hbm, ⟨66, _⟩ => ⟨S4096x4096, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S4096, .f32⟩
  | .hbm, ⟨77, _⟩ => ⟨S4096x1, .f32⟩
  | .hbm, ⟨78, _⟩ => ⟨S4096x1024, .f32⟩
  | .hbm, ⟨79, _⟩ => ⟨S4096x1024, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S_, .f32⟩
  | .hbm, ⟨85, _⟩ => ⟨S4096, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S8x128, .f32⟩
  | .hbm, ⟨92, _⟩ => ⟨S4096x1024, .f32⟩
  | .hbm, ⟨93, _⟩ => ⟨S4096x4096, .bf16⟩
  | .hbm, ⟨94, _⟩ => ⟨S4096x1024, .bf16⟩
  | .hbm, ⟨95, _⟩ => ⟨S4096x4096, .f32⟩
  | .hbm, ⟨96, _⟩ => ⟨S4096x4096, .bf16⟩
  | .hbm, ⟨97, _⟩ => ⟨S1024x4096, .f32⟩
  | .hbm, ⟨98, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_cst_9 : Ref sig .tc := ⟨.hbm, 49, rfl⟩
abbrev main_v32 : Ref sig .tc := ⟨.hbm, 50, rfl⟩
abbrev main_cst_10 : Ref sig .tc := ⟨.hbm, 51, rfl⟩
abbrev main_v33 : Ref sig .tc := ⟨.hbm, 52, rfl⟩
abbrev main_cst_11 : Ref sig .tc := ⟨.hbm, 53, rfl⟩
abbrev main_cst_12 : Ref sig .tc := ⟨.hbm, 54, rfl⟩
abbrev main_v34 : Ref sig .tc := ⟨.hbm, 55, rfl⟩
abbrev main_v35 : Ref sig .tc := ⟨.hbm, 56, rfl⟩
abbrev main_cst_13 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_14 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_15 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_16 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_17 : Ref sig .tc := ⟨.hbm, 81, rfl⟩
abbrev main_v56 : Ref sig .tc := ⟨.hbm, 82, rfl⟩
abbrev main_v57 : Ref sig .tc := ⟨.hbm, 83, rfl⟩
abbrev main_cst_18 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩

abbrev nD : Nat := 1
abbrev τ : Topo := Topo.v7x

variable {F : FTy → Type} [FloatOps F]
-- ==== KernelInproj.lean ====
abbrev S4096x512 : Shape := ⟨2, ![4096, 512]⟩
abbrev S4096x384 : Shape := ⟨2, ![4096, 384]⟩
abbrev S4096x1024 : Shape := ⟨2, ![4096, 1024]⟩
abbrev S1x1024 : Shape := ⟨2, ![1, 1024]⟩
abbrev S1024x3264 : Shape := ⟨2, ![1024, 3264]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩
abbrev S1024x1216 : Shape := ⟨2, ![1024, 1216]⟩
abbrev S1024x64 : Shape := ⟨2, ![1024, 64]⟩
abbrev S1024x2048 : Shape := ⟨2, ![1024, 2048]⟩
abbrev S1024x3328 : Shape := ⟨2, ![1024, 3328]⟩
abbrev S512x512 : Shape := ⟨2, ![512, 512]⟩
abbrev S512x384 : Shape := ⟨2, ![512, 384]⟩
abbrev S512x1024 : Shape := ⟨2, ![512, 1024]⟩
abbrev S1024x512 : Shape := ⟨2, ![1024, 512]⟩
abbrev S1024x384 : Shape := ⟨2, ![1024, 384]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 40
  | .vmem => 22
  | .smem => 0
  | _ => 0

abbrev bufTy : (tb : Table) → Fin (tcTables nBuf tb) → BufTy
  | .hbm, ⟨0, _⟩ => ⟨S4096x512, .f32⟩
  | .hbm, ⟨1, _⟩ => ⟨S4096x384, .f32⟩
  | .hbm, ⟨2, _⟩ => ⟨S4096x384, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1024x3264, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x4096, .f32⟩
  | .hbm, ⟨25, _⟩ => ⟨S1024x4096, .bf16⟩
  | .hbm, ⟨26, _⟩ => ⟨S4096x512, .bf16⟩
  | .hbm, ⟨27, _⟩ => ⟨S4096x384, .bf16⟩
  | .hbm, ⟨28, _⟩ => ⟨S4096x384, .bf16⟩
  | .hbm, ⟨29, _⟩ => ⟨S4096x1024, .bf16⟩
  | .hbm, ⟨30, _⟩ => ⟨S4096x1024, .bf16⟩
  | .hbm, ⟨31, _⟩ => ⟨S1024x3264, .bf16⟩
  | .hbm, ⟨32, _⟩ => ⟨S1024x1216, .bf16⟩
  | .hbm, ⟨33, _⟩ => ⟨S_, .bf16⟩
  | .hbm, ⟨34, _⟩ => ⟨S1024x64, .bf16⟩
  | .hbm, ⟨35, _⟩ => ⟨S1024x2048, .bf16⟩
  | .hbm, ⟨36, _⟩ => ⟨S1024x3328, .bf16⟩
  | .hbm, ⟨37, _⟩ => ⟨S4096x1024, .f32⟩
  | .hbm, ⟨38, _⟩ => ⟨S1x1024, .f32⟩
  | .hbm, ⟨39, _⟩ => ⟨S1024x3328, .f32⟩
  | .local _ .vmem, ⟨0, _⟩ => ⟨S512x512, .bf16⟩
  | .local _ .vmem, ⟨1, _⟩ => ⟨S512x512, .bf16⟩
  | .local _ .vmem, ⟨2, _⟩ => ⟨S512x384, .bf16⟩
  | .local _ .vmem, ⟨3, _⟩ => ⟨S512x384, .bf16⟩
  | .local _ .vmem, ⟨4, _⟩ => ⟨S512x384, .bf16⟩
  | .local _ .vmem, ⟨5, _⟩ => ⟨S512x384, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1024x512, .bf16⟩
  | .local _ .vmem, ⟨15, _⟩ => ⟨S1024x512, .bf16⟩
  | .local _ .vmem, ⟨16, _⟩ => ⟨S1x1024, .f32⟩
  | .local _ .vmem, ⟨17, _⟩ => ⟨S1024x3328, .bf16⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | .local _ .vmem, ⟨21, _⟩ => ⟨S1024x3328, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24_0 : Ref sig .tc := ⟨.hbm, 37, rfl⟩
abbrev main_v24_1 : Ref sig .tc := ⟨.hbm, 38, rfl⟩
abbrev main_v24_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x3328 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelPrep.lean ====
abbrev S1x2048 : Shape := ⟨2, ![1, 2048]⟩
abbrev S512x64 : Shape := ⟨2, ![512, 64]⟩
abbrev S2x2048 : Shape := ⟨2, ![2, 2048]⟩
abbrev S512x4096 : Shape := ⟨2, ![512, 4096]⟩
abbrev S32x1 : Shape := ⟨2, ![32, 1]⟩
abbrev S64x2048 : Shape := ⟨2, ![64, 2048]⟩
abbrev S512x2048 : Shape := ⟨2, ![512, 2048]⟩
abbrev S2048 : Shape := ⟨1, ![2048]⟩
abbrev S32x2048 : Shape := ⟨2, ![32, 2048]⟩
abbrev S32 : Shape := ⟨1, ![32]⟩

abbrev nBuf : Space → Nat
  | .hbm => 15
  | .vmem => 15
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S512x64, .f32⟩
  | .hbm, ⟨4, _⟩ => ⟨S512x64, .f32⟩
  | .hbm, ⟨5, _⟩ => ⟨S2x2048, .f32⟩
  | .hbm, ⟨6, _⟩ => ⟨S512x4096, .f32⟩
  | .hbm, ⟨7, _⟩ => ⟨S512x4096, .f32⟩
  | .hbm, ⟨8, _⟩ => ⟨S1x2048, .f32⟩
  | .hbm, ⟨9, _⟩ => ⟨S1x2048, .f32⟩
  | .hbm, ⟨10, _⟩ => ⟨S32x1, .f32⟩
  | .hbm, ⟨11, _⟩ => ⟨S512x64, .f32⟩
  | .hbm, ⟨12, _⟩ => ⟨S512x64, .f32⟩
  | .hbm, ⟨13, _⟩ => ⟨S512x64, .f32⟩
  | .hbm, ⟨14, _⟩ => ⟨S512x64, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S512x64, .f32⟩
  | .local _ .vmem, ⟨4, _⟩ => ⟨S512x64, .f32⟩
  | .local _ .vmem, ⟨5, _⟩ => ⟨S2x2048, .f32⟩
  | .local _ .vmem, ⟨6, _⟩ => ⟨S512x4096, .f32⟩
  | .local _ .vmem, ⟨7, _⟩ => ⟨S512x4096, .f32⟩
  | .local _ .vmem, ⟨8, _⟩ => ⟨S1x2048, .f32⟩
  | .local _ .vmem, ⟨9, _⟩ => ⟨S1x2048, .f32⟩
  | .local _ .vmem, ⟨10, _⟩ => ⟨S32x1, .f32⟩
  | .local _ .vmem, ⟨11, _⟩ => ⟨S512x64, .f32⟩
  | .local _ .vmem, ⟨12, _⟩ => ⟨S512x64, .f32⟩
  | .local _ .vmem, ⟨13, _⟩ => ⟨S512x64, .f32⟩
  | .local _ .vmem, ⟨14, _⟩ => ⟨S512x64, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S512x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S512x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S512x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S512x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== KernelQkv.lean ====
abbrev S4096x384 : Shape := ⟨2, ![4096, 384]⟩
abbrev S8x4096x256 : Shape := ⟨3, ![8, 4096, 256]⟩
abbrev S8x4096x128 : Shape := ⟨3, ![8, 4096, 128]⟩
abbrev S1x384 : Shape := ⟨2, ![1, 384]⟩
abbrev S1x256 : Shape := ⟨2, ![1, 256]⟩
abbrev S384x2048 : Shape := ⟨2, ![384, 2048]⟩
abbrev S256x2048 : Shape := ⟨2, ![256, 2048]⟩
abbrev S4096x1 : Shape := ⟨2, ![4096, 1]⟩
abbrev S128 : Shape := ⟨1, ![128]⟩
abbrev S1x128 : Shape := ⟨2, ![1, 128]⟩
abbrev S4096x128 : Shape := ⟨2, ![4096, 128]⟩
abbrev S1024x1 : Shape := ⟨2, ![1024, 1]⟩
abbrev S1024x128 : Shape := ⟨2, ![1024, 128]⟩
abbrev S256x384 : Shape := ⟨2, ![256, 384]⟩
abbrev S256x128 : Shape := ⟨2, ![256, 128]⟩
abbrev S8x256x256 : Shape := ⟨3, ![8, 256, 256]⟩
abbrev S8x256x128 : Shape := ⟨3, ![8, 256, 128]⟩
abbrev S256 : Shape := ⟨1, ![256]⟩
abbrev S256x1 : Shape := ⟨2, ![256, 1]⟩
abbrev S256x256 : Shape := ⟨2, ![256, 256]⟩
abbrev S1x256x256 : Shape := ⟨3, ![1, 256, 256]⟩
abbrev S1x256x128 : Shape := ⟨3, ![1, 256, 128]⟩
abbrev S384 : Shape := ⟨1, ![384]⟩

abbrev nBuf : Space → Nat
  | .hbm => 26
  | .vmem => 39
  | .smem => 0
  | _ => 0

abbrev bufTy : (tb : Table) → Fin (tcTables nBuf tb) → BufTy
  | .hbm, ⟨0, _⟩ => ⟨S4096x384, .f32⟩
  | .hbm, ⟨1, _⟩ => ⟨S4096x384, .f32⟩
  | .hbm, ⟨2, _⟩ => ⟨S8x4096x256, .f32⟩
  | .hbm, ⟨3, _⟩ => ⟨S8x4096x256, .f32⟩
  | .hbm, ⟨4, _⟩ => ⟨S8x4096x128, .f32⟩
  | .hbm, ⟨5, _⟩ => ⟨S1x384, .f32⟩
  | .hbm, ⟨6, _⟩ => ⟨S1x256, .f32⟩
  | .hbm, ⟨7, _⟩ => ⟨S384x2048, .f32⟩
  | .hbm, ⟨8, _⟩ => ⟨S256x2048, .f32⟩
  | .hbm, ⟨9, _⟩ => ⟨S1x256, .f32⟩
  | .hbm, ⟨10, _⟩ => ⟨S1x256, .f32⟩
  | .hbm, ⟨11, _⟩ => ⟨S4096x1, .i32⟩
  | .hbm, ⟨12, _⟩ => ⟨S128, .f32⟩
  | .hbm, ⟨13, _⟩ => ⟨S1x128, .f32⟩
  | .hbm, ⟨14, _⟩ => ⟨S4096x128, .f32⟩
  | .hbm, ⟨15, _⟩ => ⟨S4096x128, .f32⟩
  | .hbm, ⟨16, _⟩ => ⟨S384x2048, .bf16⟩
  | .hbm, ⟨17, _⟩ => ⟨S256x2048, .bf16⟩
  | .hbm, ⟨18, _⟩ => ⟨S4096x384, .bf16⟩
  | .hbm, ⟨19, _⟩ => ⟨S4096x384, .bf16⟩
  | .hbm, ⟨20, _⟩ => ⟨S1x384, .f32⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S384x2048, .f32⟩
  | .hbm, ⟨25, _⟩ => ⟨S256x2048, .f32⟩
  | .local _ .vmem, ⟨0, _⟩ => ⟨S1024x1, .i32⟩
  | .local _ .vmem, ⟨1, _⟩ => ⟨S1024x1, .i32⟩
  | .local _ .vmem, ⟨2, _⟩ => ⟨S1x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S8x256x256, .f32⟩
  | .local _ .vmem, ⟨16, _⟩ => ⟨S8x256x256, .f32⟩
  | .local _ .vmem, ⟨17, _⟩ => ⟨S8x256x256, .f32⟩
  | .local _ .vmem, ⟨18, _⟩ => ⟨S8x256x256, .f32⟩
  | .local _ .vmem, ⟨19, _⟩ => ⟨S8x256x128, .f32⟩
  | .local _ .vmem, ⟨20, _⟩ => ⟨S8x256x128, .f32⟩
  | .local _ .vmem, ⟨21, _⟩ => ⟨S1x384, .f32⟩
  | .local _ .vmem, ⟨22, _⟩ => ⟨S1x256, .f32⟩
  | .local _ .vmem, ⟨23, _⟩ => ⟨S384x2048, .bf16⟩
  | .local _ .vmem, ⟨24, _⟩ => ⟨S256x2048, .bf16⟩
  | .local _ .vmem, ⟨25, _⟩ => ⟨S1x256, .f32⟩
  | .local _ .vmem, ⟨26, _⟩ => ⟨S1x256, .f32⟩
  | .local _ .vmem, ⟨27, _⟩ => ⟨S256x384, .bf16⟩
  | .local _ .vmem, ⟨28, _⟩ => ⟨S256x384, .bf16⟩
  | .local _ .vmem, ⟨29, _⟩ => ⟨S256x384, .bf16⟩
  | .local _ .vmem, ⟨30, _⟩ => ⟨S256x384, .bf16⟩
  | .local _ .vmem, ⟨31, _⟩ => ⟨S1x384, .f32⟩
  | .local _ .vmem, ⟨32, _⟩ => ⟨S1x256, .f32⟩
  | .local _ .vmem, ⟨33, _⟩ => ⟨S1x256, .f32⟩
  | .local _ .vmem, ⟨34, _⟩ => ⟨S1x256, .f32⟩
  | .local _ .vmem, ⟨35, _⟩ => ⟨S384x2048, .f32⟩
  | .local _ .vmem, ⟨36, _⟩ => ⟨S256x2048, .f32⟩
  | .local _ .vmem, ⟨37, _⟩ => ⟨S256x2048, .bf16⟩
  | .local _ .vmem, ⟨38, _⟩ => ⟨S256x2048, .bf16⟩
  | _, _ => ⟨S4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1_0 : Ref sig .tc := ⟨.hbm, 14, rfl⟩
abbrev main_v1_1 : Ref sig .tc := ⟨.hbm, 15, rfl⟩
abbrev main_v2 : Ref sig .tc := ⟨.hbm, 16, rfl⟩
abbrev main_v3 : Ref sig .tc := ⟨.hbm, 17, rfl⟩
abbrev main_v4_0 : Ref sig .tc := ⟨.hbm, 18, rfl⟩
abbrev main_v4_1 : Ref sig .tc := ⟨.hbm, 19, rfl⟩
abbrev main_v4_2 : Ref sig .tc := ⟨.hbm, 20, rfl⟩
abbrev main_v4_3 : Ref sig .tc := ⟨.hbm, 21, rfl⟩
abbrev main_v4_4 : Ref sig .tc := ⟨.hbm, 22, rfl⟩
abbrev main_v4_5 : Ref sig .tc := ⟨.hbm, 23, rfl⟩
abbrev main_v4_6 : Ref sig .tc := ⟨.hbm, 24, rfl⟩
abbrev main_v4_7 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg11_0 : Ref sig .tc := ⟨.vmem, 25, rfl⟩
abbrev cc1_stg12_0 : Ref sig .tc := ⟨.vmem, 26, rfl⟩
abbrev cc1_stg13_0 : Ref sig .tc := ⟨.vmem, 27, rfl⟩
abbrev cc1_stg13_1 : Ref sig .tc := ⟨.vmem, 28, rfl⟩
abbrev cc1_stg14_0 : Ref sig .tc := ⟨.vmem, 29, rfl⟩
abbrev cc1_stg14_1 : Ref sig .tc := ⟨.vmem, 30, rfl⟩
abbrev cc1_stg15_0 : Ref sig .tc := ⟨.vmem, 31, rfl⟩
abbrev cc1_stg16_0 : Ref sig .tc := ⟨.vmem, 32, rfl⟩
abbrev cc1_stg17_0 : Ref sig .tc := ⟨.vmem, 33, rfl⟩
abbrev cc1_stg18_0 : Ref sig .tc := ⟨.vmem, 34, rfl⟩
abbrev cc1_stg19_0 : Ref sig .tc := ⟨.vmem, 35, rfl⟩
abbrev cc1_stg20_0 : Ref sig .tc := ⟨.vmem, 36, rfl⟩
abbrev cc1_scratch0 : Ref sig .tc := ⟨.vmem, 37, rfl⟩
abbrev cc1_scratch1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem11_0 : DmaSem sig := 25
abbrev cc1_sem12_0 : DmaSem sig := 26
abbrev cc1_sem13_0 : DmaSem sig := 27
abbrev cc1_sem13_1 : DmaSem sig := 28
abbrev cc1_sem14_0 : DmaSem sig := 29
abbrev cc1_sem14_1 : DmaSem sig := 30
abbrev cc1_sem15_0 : DmaSem sig := 31
abbrev cc1_sem16_0 : DmaSem sig := 32
abbrev cc1_sem17_0 : DmaSem sig := 33
abbrev cc1_sem18_0 : DmaSem sig := 34
abbrev cc1_sem19_0 : DmaSem sig := 35
abbrev cc1_sem20_0 : DmaSem sig := 36

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8x256x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8x256x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S8x256x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x384 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S384x2048 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S256x2048 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S256x384 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S256x384 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 1 → Memref sig .tc .vmem S1x384 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x256 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x256 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S1x256 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S384x2048 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S256x2048 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]
-- ==== Proof.MergeValue.lean ====
/- What the merge and its backward pass compute, region by region, as the reference's own terms over the arrays each
   region reads. -/
module

public import proofs.«01_k».proof.Proof.Gen.KernelMergeIdeal.Frame
public import proofs.«01_k».proof.Proof.Gen.ReferenceMergeIdeal
public import Idealize.ShloMosaic.Lib.Pipeline.ValueKit
public import Idealize.ShloMosaic.Lib.Pointwise

@[expose] public section

set_option maxRecDepth 16384

noncomputable section

namespace Cert.KernelMergeIdeal.Value

open Idealize.ShloMosaic Idealize.ShloMosaic.TcCoe Idealize.SL.Sem
open Idealize.ShloMosaic.Pipeline (Dat)
open Cert.KernelMergeIdeal Cert.KernelMergeIdeal.Gen

/-- An activation array. -/
local notation "A" => FVec Ideal Cert.ReferenceMergeIdeal.S4096x1024 FTy.f32
/-- A weight array. -/
local notation "B" => FVec Ideal Cert.ReferenceMergeIdeal.S1024x1024 FTy.f32

/-- The constant one at every index. -/
abbrev one : A := broadcastInDim Cert.ReferenceMergeIdeal.S4096x1024 ![] Cert.ReferenceMergeIdeal.Gen.bcast_S_S4096x1024 (constant Cert.ReferenceMergeIdeal.S_ .f32 0x3F800000#32)
/-- The logistic function, as the reference computes it. -/
abbrev sgm (g : A) : A := Host.divf one (addf one (Host.exp (Host.negf g)))
/-- `x @ w`. -/
abbrev mm (x : A) (w : B) : A := Host.dotGeneral Cert.ReferenceMergeIdeal.dot_S4096x1024_S1024x1024_S4096x1024_1_0_0_1_n_n none x w
/-- `x @ wᵀ`. -/
abbrev mmT (x : A) (w : B) : A := Host.dotGeneral Cert.ReferenceMergeIdeal.dot_S4096x1024_S1024x1024_S4096x1024_1_1_0_0_n_n none x w

variable (V : (c : Dev nD) → (b : Ref sig .tc) → Buf (Elt Ideal) ((c : Thread nD τ).loc b))

/-- The block of every window of the forward region at a point. -/
theorem idx0 : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![t.val, 0] ∧ win0_8.index t = ![t.val, 0] ∧ win0_9.index t = ![0, t.val] :=
  (by decide +kernel : ∀ t : Fin grid0.N, _)

/-- The block of every window of the backward region at a point. -/
theorem idx1 : ∀ t : Fin cfg1.N, win1_0.index t = ![t.val, 0] ∧ win1_1.index t = ![t.val, 0] ∧ win1_2.index t = ![t.val, 0]
    ∧ win1_3.index t = ![t.val, 0] ∧ win1_4.index t = ![t.val, 0] ∧ win1_5.index t = ![t.val, 0] ∧ win1_6.index t = ![0, 0]
    ∧ win1_7.index t = ![0, 0]
    ∧ win1_8.index t = ![t.val, 0] ∧ win1_9.index t = ![t.val, 0] ∧ win1_10.index t = ![t.val, 0] ∧ win1_11.index t = ![t.val, 0]
    ∧ win1_12.index t = ![t.val, 0] ∧ win1_13.index t = ![0, 0, t.val] :=
  (by decide +kernel : ∀ t : Fin grid1.N, _)

/-- The attention's output projection: the forward region's second result. -/
theorem final0_8 (c : Dev nD) : (dat0 V c).arrAt 8 cfg0.N = mm (V c main_arg0) (V c main_v0) := by
  refine (dat0 V c).arrAt_eq_of_covers 8 _ (by decide +kernel) fun t _ y => ?_
  blk_simp
  rw [after0_8]; frame_out
  pointwise [k0_pay2, mm]
  blk_point [iblk0, idx0 t]

/-- `h`: the forward region's first result. -/
theorem final0_7 (c : Dev nD) : (dat0 V c).arrAt 7 cfg0.N
    = addf (V c main_arg4 : A) (mm (addf (mulf (sgm (V c main_arg1)) (V c main_arg3 : A))
      (mulf (sgm (V c main_arg2)) (mm (V c main_arg0) (V c main_v0)))) (V c main_v1)) := by
  refine (dat0 V c).arrAt_eq_of_covers 7 _ (by decide +kernel) fun t _ y => ?_
  blk_simp
  rw [after0_7]; frame_out
  pointwise [k0_pay1, k0_pay5, k0_pay3, k0_pay2, mm, sgm, one]
  simp only [zero_sub]
  blk_point [iblk0, idx0 t]

/-- `mixedᵀ`: the forward region's third result. -/
theorem final0_9 (c : Dev nD) : (dat0 V c).arrAt 9 cfg0.N
    = truncf .bf16 (transpose Cert.ReferenceMergeIdeal.S1024x4096 [1, 0] (addf (mulf (sgm (V c main_arg1)) (V c main_arg3 : A))
      (mulf (sgm (V c main_arg2)) (mm (V c main_arg0) (V c main_v0))))
      Cert.ReferenceMergeIdeal.Gen.transposes_S4096x1024_S1024x4096_1_0) Cert.ReferenceMergeIdeal.Gen.bitsLt_bf16_f32 := by
  refine (dat0 V c).arrAt_eq_of_covers 9 _ (by decide +kernel) fun t _ y => ?_
  blk_simp
  rw [after0_9]; frame_out
  pointwise [k0_pay4, k0_pay3, k0_pay2, mm, sgm, one]
  simp only [zero_sub]
  blk_point [iblk0, idx0 t]

/-- The gradient of the recurrence's gate. -/
theorem final1_8 (c : Dev nD) : (dat1 V c).arrAt 8 cfg1.N
    = truncf .bf16 (mulf (mulf (mmT (V c main_arg7) (V c main_v1)) (V c main_arg3 : A))
      (mulf (sgm (V c main_arg1)) (subf one (sgm (V c main_arg1))))) Cert.ReferenceMergeIdeal.Gen.bitsLt_bf16_f32 := by
  refine (dat1 V c).arrAt_eq_of_covers 8 _ (by decide +kernel) fun t _ y => ?_
  blk_simp
  rw [after1_8]; frame_out
  pointwise [k1_pay5, k1_pay2, k1_pay3, mmT, sgm, one]
  simp only [zero_sub, mul_assoc]
  blk_point [iblk1, idx1 t]

/-- The gradient of the attention's gate. -/
theorem final1_9 (c : Dev nD) : (dat1 V c).arrAt 9 cfg1.N
    = truncf .bf16 (mulf (mulf (mmT (V c main_arg7) (V c main_v1)) (V c main_v2_1 : A))
      (mulf (sgm (V c main_arg2)) (subf one (sgm (V c main_arg2))))) Cert.ReferenceMergeIdeal.Gen.bitsLt_bf16_f32 := by
  refine (dat1 V c).arrAt_eq_of_covers 9 _ (by decide +kernel) fun t _ y => ?_
  blk_simp
  rw [after1_9]; frame_out
  pointwise [k1_pay24, k1_pay25, k1_pay8, k1_pay7, k1_pay6, k1_pay2, k1_pay4, mmT, sgm, one]
  simp only [zero_sub, mul_assoc]
  blk_point [iblk1, idx1 t]

/-- The cotangent of the recurrence's output. -/
theorem final1_10 (c : Dev nD) : (dat1 V c).arrAt 10 cfg1.N
    = truncf .bf16 (mulf (sgm (V c main_arg1)) (mmT (V c main_arg7) (V c main_v1))) Cert.ReferenceMergeIdeal.Gen.bitsLt_bf16_f32 := by
  refine (dat1 V c).arrAt_eq_of_covers 10 _ (by decide +kernel) fun t _ y => ?_
  blk_simp
  rw [after1_10]; frame_out
  pointwise [k1_pay24, k1_pay25, k1_pay9, k1_pay2, k1_pay3, mmT, sgm, one]
  simp only [zero_sub]
  blk_point [iblk1, idx1 t]

/-- The cotangent of the attention's projected output. -/
theorem final1_11 (c : Dev nD) : (dat1 V c).arrAt 11 cfg1.N
    = truncf .bf16 (mulf (sgm (V c main_arg2)) (mmT (V c main_arg7) (V c main_v1))) Cert.ReferenceMergeIdeal.Gen.bitsLt_bf16_f32 := by
  refine (dat1 V c).arrAt_eq_of_covers 11 _ (by decide +kernel) fun t _ y => ?_
  blk_simp
  rw [after1_11]; frame_out
  pointwise [k1_pay24, k1_pay25, k1_pay10, k1_pay2, k1_pay4, mmT, sgm, one]
  simp only [zero_sub]
  blk_point [iblk1, idx1 t]

/-- The cotangent of the attention's output. -/
theorem final1_12 (c : Dev nD) : (dat1 V c).arrAt 12 cfg1.N
    = truncf .bf16 (mmT (mulf (sgm (V c main_arg2)) (mmT (V c main_arg7) (V c main_v1))) (V c main_v0))
      Cert.ReferenceMergeIdeal.Gen.bitsLt_bf16_f32 := by
  refine (dat1 V c).arrAt_eq_of_covers 12 _ (by decide +kernel) fun t _ y => ?_
  blk_simp
  rw [after1_12]; frame_out
  pointwise [k1_pay24, k1_pay25, k1_pay12, k1_pay11, k1_pay10, k1_pay2, k1_pay4, mmT, sgm, one]
  simp only [zero_sub]
  blk_point [iblk1, idx1 t]

end Cert.KernelMergeIdeal.Value

end
-- ==== Proof.MergeRows.lean ====
/- The row sums of `do · o` that the backward pass of the merge leaves. -/
module

public import proofs.«01_k».proof.Proof.MergeValue
public import Idealize.ShloMosaic.Lib.Pipeline.ValueKit
public import Idealize.ShloMosaic.Lib.Pointwise

@[expose] public section

set_option maxRecDepth 16384

noncomputable section

namespace Cert.KernelMergeIdeal.Value

open Idealize.ShloMosaic Idealize.ShloMosaic.TcCoe Idealize.SL.Sem
open Idealize.ShloMosaic.Pipeline (Dat)
open Cert.KernelMergeIdeal Cert.KernelMergeIdeal.Gen

/-- An activation array. -/
local notation "A" => FVec Ideal Cert.ReferenceMergeIdeal.S4096x1024 FTy.f32
/-- A weight array. -/
local notation "B" => FVec Ideal Cert.ReferenceMergeIdeal.S1024x1024 FTy.f32

variable (V : (c : Dev nD) → (b : Ref sig .tc) → Buf (Elt Ideal) ((c : Thread nD τ).loc b))

/-- The reference's rows of `do · o`, from the attention's cotangent and output. -/
abbrev rows (d a : A) : FVec Ideal Cert.ReferenceMergeIdeal.S8x1x4096 .f32 :=
  broadcastInDim Cert.ReferenceMergeIdeal.S8x1x4096 ![0, 2] Cert.ReferenceMergeIdeal.Gen.bcast_S8x4096_S8x1x4096_0_2
    (transpose Cert.ReferenceMergeIdeal.S8x4096 [1, 0] (Host.reduceAdd (shapeCast _ (mulf d a)
      Cert.ReferenceMergeIdeal.Gen.shapeCasts_S4096x1024_S4096x8x128) (constant Cert.ReferenceMergeIdeal.S_ .f32 0x00000000#32)
      Cert.ReferenceMergeIdeal.Gen.reducesTo_S4096x8x128_S4096x8_d2 Cert.ReferenceMergeIdeal.Gen.h_S_)
      Cert.ReferenceMergeIdeal.Gen.transposes_S4096x8_S8x4096_1_0)

/-- The products `do · o` of a block, at coordinates. -/
theorem prod_at (c : Dev nD) (t : Fin cfg1.N) (i : S512x1024.Idx) (j : Cert.ReferenceMergeIdeal.S4096x1024.Idx)
    (h0 : (j 0 : ℕ) = t.val * 512 + i 0) (h1 : (j 1 : ℕ) = i 1) :
    k1_pay26 (F := Ideal) (iblk1 V c 0 t) (iblk1 V c 1 t) (iblk1 V c 2 t) (iblk1 V c 3 t) (iblk1 V c 4 t) (iblk1 V c 5 t) (iblk1 V c 6 t) (iblk1 V c 7 t) i
    = mulf (mmT (mulf (sgm (V c main_arg2)) (mmT (V c main_arg7) (V c main_v1))) (V c main_v0)) (V c main_arg0 : A) j := by
  unfold k1_pay26
  frame_out
  pointwise [k1_pay24, k1_pay25, k1_pay13, k1_pay12, k1_pay11, k1_pay10, k1_pay2, k1_pay4, mmT, sgm, one]
  simp only [zero_sub]
  blk_point [iblk1, idx1 t]

set_option maxHeartbeats 2000000 in
/-- The sum of `do · o` over every head's columns. -/
theorem final1_13 (c : Dev nD) : (dat1 V c).arrAt 13 cfg1.N
    = rows (mmT (mulf (sgm (V c main_arg2)) (mmT (V c main_arg7) (V c main_v1))) (V c main_v0)) (V c main_arg0) := by
  refine (dat1 V c).arrAt_eq_of_covers 13 _ (by decide +kernel) fun t _ y => ?_
  blk_simp
  rw [after1_13]
  have hp := prod_at V c t
  revert hp
  generalize mmT (mulf (sgm (V c main_arg2)) (mmT (V c main_arg7) (V c main_v1))) (V c main_v0) = D
  unfold out1_13
  generalize hT : k1_pay26 (F := Ideal) (iblk1 V c 0 t) (iblk1 V c 1 t) (iblk1 V c 2 t) (iblk1 V c 3 t) (iblk1 V c 4 t) (iblk1 V c 5 t) (iblk1 V c 6 t) (iblk1 V c 7 t) = T
  have hT' : k1_pay13 (k1_pay24 (iblk1 V c 0 t) (iblk1 V c 1 t) (iblk1 V c 2 t) (iblk1 V c 3 t) (iblk1 V c 4 t) (iblk1 V c 5 t) (iblk1 V c 6 t) (iblk1 V c 7 t)) (k1_pay25 (iblk1 V c 0 t) (iblk1 V c 1 t) (iblk1 V c 2 t) (iblk1 V c 3 t) (iblk1 V c 4 t) (iblk1 V c 5 t) (iblk1 V c 6 t) (iblk1 V c 7 t)) (View.ld (iblk1 V c 7 t) r1_1) (View.ld (iblk1 V c 5 t) r1_0) = T := hT
  intro hp
  canon_tiles x h
  all_goals
    pointwise [rows, k1_pay1, k1_pay15, k1_pay16, k1_pay17, k1_pay18, k1_pay19, k1_pay20, k1_pay21, k1_pay22, k1_pay23, k1_pay27, k1_pay14]
    try simp only [hT', one_mul]
    refine Fin.sum_fin_congr fun k => ?_
    first
      | refine hp _ (ix2 _ _) ?_ ?_
      | refine (congrFun hT' _).trans (hp _ (ix2 _ _) ?_ ?_)
    all_goals (blk_simp [idx1 t] <;> first | omega | (dsimp only; omega))

end Cert.KernelMergeIdeal.Value

end
-- ==== Proof.MergeRun.lean ====
/- The run of the merge and its backward pass: what every buffer of the device holds at the end. -/
module

public import proofs.«01_k».proof.Proof.Gen.KernelMergeIdeal.Frame

@[expose] public section

set_option maxRecDepth 16384

noncomputable section

namespace Cert.KernelMergeIdeal.Value

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelMergeIdeal Cert.KernelMergeIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the program ends with every unscoped buffer at the contents of the last
    boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

/-- The run read at the results: each is what its region's write-backs leave; the arguments end as launched. -/
theorem run_main : θ_run defs (onTc (τ := τ) (main (F := F))) ⟨m, fun _ => 0, ρ⟩ (fun r => ∀ c : Dev nD,
      r.2.mem ((c.tc : Thread nD τ).loc main_v2_0) = (dat0 (V1 m ρ) c).arrAt 7 cfg0.N
      ∧ r.2.mem ((c.tc : Thread nD τ).loc main_v2_2) = (dat0 (V1 m ρ) c).arrAt 9 cfg0.N
      ∧ r.2.mem ((c.tc : Thread nD τ).loc main_v3_0) = (dat1 (V2 m ρ) c).arrAt 8 cfg1.N
      ∧ r.2.mem ((c.tc : Thread nD τ).loc main_v3_1) = (dat1 (V2 m ρ) c).arrAt 9 cfg1.N
      ∧ r.2.mem ((c.tc : Thread nD τ).loc main_v3_2) = (dat1 (V2 m ρ) c).arrAt 10 cfg1.N
      ∧ r.2.mem ((c.tc : Thread nD τ).loc main_v3_3) = (dat1 (V2 m ρ) c).arrAt 11 cfg1.N
      ∧ r.2.mem ((c.tc : Thread nD τ).loc main_v3_4) = (dat1 (V2 m ρ) c).arrAt 12 cfg1.N
      ∧ r.2.mem ((c.tc : Thread nD τ).loc main_v3_5) = (dat1 (V2 m ρ) c).arrAt 13 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_v2_0 (by decide))).trans ((W3_of m ρ c main_v2_0 (by decide +kernel)).trans (W2_arr m ρ c 7)),
     (h c _ (mem_uc main_v2_2 (by decide))).trans ((W3_of m ρ c main_v2_2 (by decide +kernel)).trans (W2_arr m ρ c 9)),
     (h c _ (mem_uc main_v3_0 (by decide))).trans (W3_arr m ρ c 8),
     (h c _ (mem_uc main_v3_1 (by decide))).trans (W3_arr m ρ c 9),
     (h c _ (mem_uc main_v3_2 (by decide))).trans (W3_arr m ρ c 10),
     (h c _ (mem_uc main_v3_3 (by decide))).trans (W3_arr m ρ c 11),
     (h c _ (mem_uc main_v3_4 (by decide))).trans (W3_arr m ρ c 12),
     (h c _ (mem_uc main_v3_5 (by decide))).trans (W3_arr m ρ c 13),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c)⟩) (run_all m ρ)

end Cert.KernelMergeIdeal.Value

end
-- ==== Proof.MergeResults.lean ====
/- The results of the merge and its backward pass as the reference's terms over the program's arguments. -/
module

public import proofs.«01_k».proof.Proof.MergeRows
public import proofs.«01_k».proof.Proof.MergeRun
public import proofs.«01_k».proof.Proof.Gen.ReferenceMergeIdeal.Run
public import proofs.«01_k».proof.Defs
public import Idealize.ShloMosaic.Lib.Claim

@[expose] public section

set_option maxRecDepth 16384

noncomputable section

namespace Cert.KernelMergeIdeal.Value

open Idealize.ShloMosaic Idealize.ShloMosaic.TcCoe Idealize.SL.Sem
open Idealize.ShloMosaic.Pipeline (Dat)
open Cert.KernelMergeIdeal Cert.KernelMergeIdeal.Gen

variable (m : (ℓ : Loc nD τ sig) → Buf (Elt Ideal) ℓ) (ρ : Dev nD → PrngReg) (c : Dev nD)

/-- The forward region reads the arguments as launched. -/
theorem V1_arg (a : Ref sig .tc) (h : a ∈ argRefs) : V1 m ρ c a = m ((c : Thread nD τ).loc a) := W1_args m ρ c a h
/-- The backward region reads the arguments as launched. -/
theorem V2_arg (a : Ref sig .tc) (h : a ∈ argRefs) : V2 m ρ c a = m ((c : Thread nD τ).loc a) := W2_args m ρ c a h
/-- The first weight as the regions read it. -/
theorem V1_v0 : V1 m ρ c main_v0 = m ((c : Thread nD τ).loc main_arg5) := by
  show StableHlo.after hostOps0 (W0 m ρ c) (Proc.devRef .tc main_v0) = _
  after_results_simp <;> rfl
/-- The second weight as the regions read it. -/
theorem V1_v1 : V1 m ρ c main_v1 = m ((c : Thread nD τ).loc main_arg6) := by
  show StableHlo.after hostOps0 (W0 m ρ c) (Proc.devRef .tc main_v1) = _
  after_results_simp <;> rfl
theorem V2_v0 : V2 m ρ c main_v0 = m ((c : Thread nD τ).loc main_arg5) :=
  (W2_of m ρ c main_v0 (by decide +kernel)).trans (V1_v0 m ρ c)
theorem V2_v1 : V2 m ρ c main_v1 = m ((c : Thread nD τ).loc main_arg6) :=
  (W2_of m ρ c main_v1 (by decide +kernel)).trans (V1_v1 m ρ c)
/-- The projected attention output the backward region reads is the one the forward region wrote. -/
theorem V2_y : V2 m ρ c main_v2_1 = mm (m ((c : Thread nD τ).loc main_arg0)) (m ((c : Thread nD τ).loc main_arg5)) := by
  refine (W2_arr m ρ c 8).trans ((final0_8 (V1 m ρ) c).trans ?_)
  rw [V1_v0, V1_arg m ρ c main_arg0 (by decide)]

/-- The arguments as region 0 reads them. -/
theorem V1_args : V1 m ρ c main_arg0 = m ((c : Thread nD τ).loc main_arg0) ∧
    V1 m ρ c main_arg1 = m ((c : Thread nD τ).loc main_arg1) ∧
    V1 m ρ c main_arg2 = m ((c : Thread nD τ).loc main_arg2) ∧
    V1 m ρ c main_arg3 = m ((c : Thread nD τ).loc main_arg3) ∧
    V1 m ρ c main_arg4 = m ((c : Thread nD τ).loc main_arg4) :=
  ⟨V1_arg m ρ c _ (by decide +kernel),
    V1_arg m ρ c _ (by decide +kernel),
    V1_arg m ρ c _ (by decide +kernel),
    V1_arg m ρ c _ (by decide +kernel),
    V1_arg m ρ c _ (by decide +kernel)⟩
/-- The arguments as region 1 reads them. -/
theorem V2_args : V2 m ρ c main_arg0 = m ((c : Thread nD τ).loc main_arg0) ∧
    V2 m ρ c main_arg1 = m ((c : Thread nD τ).loc main_arg1) ∧
    V2 m ρ c main_arg2 = m ((c : Thread nD τ).loc main_arg2) ∧
    V2 m ρ c main_arg3 = m ((c : Thread nD τ).loc main_arg3) ∧
    V2 m ρ c main_arg7 = m ((c : Thread nD τ).loc main_arg7) :=
  ⟨V2_arg m ρ c _ (by decide +kernel),
    V2_arg m ρ c _ (by decide +kernel),
    V2_arg m ρ c _ (by decide +kernel),
    V2_arg m ρ c _ (by decide +kernel),
    V2_arg m ρ c _ (by decide +kernel)⟩

set_option maxHeartbeats 4000000 in
/-- The kernel's results are the reference's. -/
theorem algebraic : Cert.algebraic_KernelMergeIdeal_ReferenceMergeIdeal (hKernelMergeIdeal := Cert.KernelMergeIdeal.Gen.facts)
    (hReferenceMergeIdeal := Cert.ReferenceMergeIdeal.Gen.facts) := by
  pair_intro
  · run_from run_main m g
  · hlo_run
    all_goals first
      | rw [final0_7]
      | rw [final0_9]
      | rw [final1_8]
      | rw [final1_9]
      | rw [final1_10]
      | rw [final1_11]
      | rw [final1_12]
      | rw [final1_13]
    all_goals
      change Dev nD at c
      obtain ⟨a0, a1, a2, a3, a4⟩ := V1_args m g c
      obtain ⟨b0, b1, b2, b3, b7⟩ := V2_args m g c
      try rw [V1_v0]
      try rw [V1_v1]
      try rw [V2_v0]
      try rw [V2_v1]
      try rw [V2_y]
      try rw [a0]
      try rw [a1]
      try rw [a2]
      try rw [a3]
      try rw [a4]
      try rw [b0]
      try rw [b1]
      try rw [b2]
      try rw [b3]
      try rw [b7]
      try rfl

end Cert.KernelMergeIdeal.Value

end
-- ==== Proof.AttnRun.lean ====
/- The attention backward kernel's body, run once at a symbolic grid point. -/
module

public import proofs.«01_k».proof.Proof.Gen.KernelAttnIdeal.Skeleton
public import proofs.«01_k».proof.Proof.Gen.KernelAttnIdeal.Launch
public import proofs.«01_k».proof.Proof.Gen.KernelAttnIdeal.Points
public import proofs.«01_k».proof.Proof.Gen.KernelAttnIdeal.Frame
public import proofs.«01_k».proof.Proof.Gen.KernelAttnIdeal.Loops

@[expose] public section

set_option maxRecDepth 16384

noncomputable section

namespace Cert.KernelAttnIdeal.Body

open Cert.KernelAttnIdeal Cert.KernelAttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first branch: the key block is the first. -/
abbrev condFirst (i : grid0.Coords) : BitVec 1 :=
  Scalar.cmpi .ne (Scalar.extui (Scalar.cmpi .eq (BitVec.ofNat 32 (i 1).val) 0#32)) 0#32

section
variable (c : Dev nD) (i : grid0.Coords)
  (arg2 : Memref sig .tc .vmem S2x4096x256 .bf16) (harg2 : arg2.IsWhole)
  (arg3 : Memref sig .tc .vmem S2x512x256 .bf16) (harg3 : arg3.IsWhole)
  (arg4 : Memref sig .tc .vmem S2x256x512 .bf16) (harg4 : arg4.IsWhole)
  (arg5 : Memref sig .tc .vmem S2x512x128 .bf16) (harg5 : arg5.IsWhole)
  (arg6 : Memref sig .tc .vmem S2x1x4096 .f32) (harg6 : arg6.IsWhole)
  (arg7 : Memref sig .tc .vmem S2x1x4096 .f32) (harg7 : arg7.IsWhole)
  (arg8 : Memref sig .tc .vmem S4096x256 .bf16) (harg8 : arg8.IsWhole)
  (arg9 : Memref sig .tc .vmem S2x4096x256 .f32) (harg9 : arg9.IsWhole)
  (arg10 : Memref sig .tc .vmem S2x512x256 .f32) (harg10 : arg10.IsWhole)
  (arg11 : Memref sig .tc .vmem S2x512x128 .f32) (harg11 : arg11.IsWhole)
  (arg12 : Memref sig .tc .vmem S2x256x4096 .f32) (harg12 : arg12.IsWhole)
  (x2 : Vec F S2x4096x256 .bf16) (x3 : Vec F S2x512x256 .bf16) (x4 : Vec F S2x256x512 .bf16)
  (x5 : Vec F S2x512x128 .bf16) (x6 : Vec F S2x1x4096 .f32) (x7 : Vec F S2x1x4096 .f32) (x8 : Vec F S4096x256 .bf16)

/-- The seven staged inputs at their contents. -/
abbrev ins : sProp 𝕄 :=
  iprop(owns (c : Thread nD τ) arg2 fullShare x2 ∗ owns (c : Thread nD τ) arg3 fullShare x3
    ∗ owns (c : Thread nD τ) arg4 fullShare x4 ∗ owns (c : Thread nD τ) arg5 fullShare x5
    ∗ owns (c : Thread nD τ) arg6 fullShare x6 ∗ owns (c : Thread nD τ) arg7 fullShare x7
    ∗ owns (c : Thread nD τ) arg8 fullShare x8)

/-- A buffer at given contents. -/
abbrev at_ {s : Shape} {e : EltTy} (M : Memref sig .tc .vmem s e) (f : BufTy.Contents (Elt F) M.view.ty) : sProp 𝕄 :=
  M.view.loc (c : Thread nD τ) ↦[M.view.set]{fullShare} f

set_option maxHeartbeats 4000000 in
/-- The body at a head pair's first key block, the scratch at `f12`: the pieces left in the key and value gradients'
    blocks and the contents left in the scratch. -/
def runFirst (h1 : condFirst i = 1#1) (h2 : ¬ k0_cond2 i = 1#1) (f12 : BufTy.Contents (Elt F) arg12.view.ty) :
    { L : List (View.Piece (Elt F) S2x512x256 .f32) × List (View.Piece (Elt F) S2x512x128 .f32) × BufTy.Contents (Elt F) arg12.view.ty //
      ∀ (W : Waits sig Unit) (K : PUnit → sProp 𝕄),
        iprop(ins c arg2 arg3 arg4 arg5 arg6 arg7 arg8 x2 x3 x4 x5 x6 x7 x8
            ∗ (∃ d, owns (c : Thread nD τ) arg10 fullShare d) ∗ (∃ d, owns (c : Thread nD τ) arg11 fullShare d)
            ∗ at_ c arg12 f12 ∗ owes (c : Thread nD τ) 0 W
            ∗ (iprop(ins c arg2 arg3 arg4 arg5 arg6 arg7 arg8 x2 x3 x4 x5 x6 x7 x8
                ∗ (∃ f, at_ c arg10 (arg10.view.writes (Elt F) f L.1)) ∗ (∃ f, at_ c arg11 (arg11.view.writes (Elt F) f L.2.1))
                ∗ at_ c arg12 L.2.2 ∗ owes (c : Thread nD τ) 0 W) -∗ K ⟨⟩))
          ⊢ wp frame (wpE (defs₀ (F := F)) Variants.none c none) Set.univ
              (cc0_attn_bwd i arg2 harg2 arg3 harg3 arg4 harg4 arg5 harg5 arg6 harg6 arg7 harg7 arg8 harg8 arg9 harg9 arg10 harg10 arg11 harg11 arg12 harg12) K } := by
  refine ⟨⟨?_, ?_, ?_⟩, fun W K => ?run⟩
  case run =>
    simp only [cc0_attn_bwd_eq_skeleton]; unfold cc0_attn_bwd_skel
    simp only [k0_part5_eq_skeleton, k0_part6_eq_skeleton, k0_part7_eq_skeleton, k0_part8_eq_skeleton, k0_part9_eq_skeleton, k0_part10_eq_skeleton]
    unfold ins owns
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d10, %f10, -, H10⟩, ⟨%d11, %f11, -, H11⟩, H12, HW, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8
    sl_exec (disch := first | sl_exact h1 | sl_exact h2)
    sl_step
    iapply Hk
    isplitl [H2 H3 H4 H5 H6 H7 H8]
    · isplitl [H2]; · iexists _; isplitr; · ipureintro; exact harg2.read_unread _
                      iexact H2
      isplitl [H3]; · iexists _; isplitr; · ipureintro; exact harg3.read_unread _
                      iexact H3
      isplitl [H4]; · iexists _; isplitr; · ipureintro; exact harg4.read_unread _
                      iexact H4
      isplitl [H5]; · iexists _; isplitr; · ipureintro; exact harg5.read_unread _
                      iexact H5
      isplitl [H6]; · iexists _; isplitr; · ipureintro; exact harg6.read_unread _
                      iexact H6
      isplitl [H7]; · iexists _; isplitr; · ipureintro; exact harg7.read_unread _
                      iexact H7
      iexists _; isplitr; · ipureintro; exact harg8.read_unread _
      iexact H8
    isplitl [H10]; · iexists _; iexact H10
    isplitl [H11]; · iexists _; iexact H11
    isplitl [H12]; · iexact H12
    iexact HW

set_option maxHeartbeats 4000000 in
/-- The body between a head pair's first and last key block, the scratch at `f12`. -/
def runMid (h1 : ¬ condFirst i = 1#1) (h2 : ¬ k0_cond2 i = 1#1) (f12 : BufTy.Contents (Elt F) arg12.view.ty) :
    { L : List (View.Piece (Elt F) S2x512x256 .f32) × List (View.Piece (Elt F) S2x512x128 .f32) × BufTy.Contents (Elt F) arg12.view.ty //
      ∀ (W : Waits sig Unit) (K : PUnit → sProp 𝕄),
        iprop(ins c arg2 arg3 arg4 arg5 arg6 arg7 arg8 x2 x3 x4 x5 x6 x7 x8
            ∗ (∃ d, owns (c : Thread nD τ) arg10 fullShare d) ∗ (∃ d, owns (c : Thread nD τ) arg11 fullShare d)
            ∗ at_ c arg12 f12 ∗ owes (c : Thread nD τ) 0 W
            ∗ (iprop(ins c arg2 arg3 arg4 arg5 arg6 arg7 arg8 x2 x3 x4 x5 x6 x7 x8
                ∗ (∃ f, at_ c arg10 (arg10.view.writes (Elt F) f L.1)) ∗ (∃ f, at_ c arg11 (arg11.view.writes (Elt F) f L.2.1))
                ∗ at_ c arg12 L.2.2 ∗ owes (c : Thread nD τ) 0 W) -∗ K ⟨⟩))
          ⊢ wp frame (wpE (defs₀ (F := F)) Variants.none c none) Set.univ
              (cc0_attn_bwd i arg2 harg2 arg3 harg3 arg4 harg4 arg5 harg5 arg6 harg6 arg7 harg7 arg8 harg8 arg9 harg9 arg10 harg10 arg11 harg11 arg12 harg12) K } := by
  refine ⟨⟨?_, ?_, ?_⟩, fun W K => ?run⟩
  case run =>
    simp only [cc0_attn_bwd_eq_skeleton]; unfold cc0_attn_bwd_skel
    simp only [k0_part5_eq_skeleton, k0_part6_eq_skeleton, k0_part7_eq_skeleton, k0_part8_eq_skeleton, k0_part9_eq_skeleton, k0_part10_eq_skeleton]
    unfold ins owns
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d10, %f10, -, H10⟩, ⟨%d11, %f11, -, H11⟩, H12, HW, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8
    sl_exec (disch := first | sl_exact h1 | sl_exact h2)
    sl_step
    iapply Hk
    isplitl [H2 H3 H4 H5 H6 H7 H8]
    · isplitl [H2]; · iexists _; isplitr; · ipureintro; exact harg2.read_unread _
                      iexact H2
      isplitl [H3]; · iexists _; isplitr; · ipureintro; exact harg3.read_unread _
                      iexact H3
      isplitl [H4]; · iexists _; isplitr; · ipureintro; exact harg4.read_unread _
                      iexact H4
      isplitl [H5]; · iexists _; isplitr; · ipureintro; exact harg5.read_unread _
                      iexact H5
      isplitl [H6]; · iexists _; isplitr; · ipureintro; exact harg6.read_unread _
                      iexact H6
      isplitl [H7]; · iexists _; isplitr; · ipureintro; exact harg7.read_unread _
                      iexact H7
      iexists _; isplitr; · ipureintro; exact harg8.read_unread _
      iexact H8
    isplitl [H10]; · iexists _; iexact H10
    isplitl [H11]; · iexists _; iexact H11
    isplitl [H12]; · iexact H12
    iexact HW

set_option maxHeartbeats 4000000 in
/-- The body at a head pair's last key block, the scratch at `f12`: also the pieces left in the query gradients' block. -/
def runLast (h1 : ¬ condFirst i = 1#1) (h2 : k0_cond2 i = 1#1) (f12 : BufTy.Contents (Elt F) arg12.view.ty) :
    { L : List (View.Piece (Elt F) S2x512x256 .f32) × List (View.Piece (Elt F) S2x512x128 .f32) × BufTy.Contents (Elt F) arg12.view.ty × List (View.Piece (Elt F) S2x4096x256 .f32) //
      ∀ (W : Waits sig Unit) (K : PUnit → sProp 𝕄),
        iprop(ins c arg2 arg3 arg4 arg5 arg6 arg7 arg8 x2 x3 x4 x5 x6 x7 x8
            ∗ (∃ d, owns (c : Thread nD τ) arg9 fullShare d)
            ∗ (∃ d, owns (c : Thread nD τ) arg10 fullShare d) ∗ (∃ d, owns (c : Thread nD τ) arg11 fullShare d)
            ∗ at_ c arg12 f12 ∗ owes (c : Thread nD τ) 0 W
            ∗ (iprop(ins c arg2 arg3 arg4 arg5 arg6 arg7 arg8 x2 x3 x4 x5 x6 x7 x8
                ∗ (∃ f, at_ c arg9 (arg9.view.writes (Elt F) f L.2.2.2))
                ∗ (∃ f, at_ c arg10 (arg10.view.writes (Elt F) f L.1)) ∗ (∃ f, at_ c arg11 (arg11.view.writes (Elt F) f L.2.1))
                ∗ at_ c arg12 L.2.2.1 ∗ owes (c : Thread nD τ) 0 W) -∗ K ⟨⟩))
          ⊢ wp frame (wpE (defs₀ (F := F)) Variants.none c none) Set.univ
              (cc0_attn_bwd i arg2 harg2 arg3 harg3 arg4 harg4 arg5 harg5 arg6 harg6 arg7 harg7 arg8 harg8 arg9 harg9 arg10 harg10 arg11 harg11 arg12 harg12) K } := by
  refine ⟨⟨?_, ?_, ?_, ?_⟩, fun W K => ?run⟩
  case run =>
    simp only [cc0_attn_bwd_eq_skeleton]; unfold cc0_attn_bwd_skel
    simp only [k0_part5_eq_skeleton, k0_part6_eq_skeleton, k0_part7_eq_skeleton, k0_part8_eq_skeleton, k0_part9_eq_skeleton, k0_part10_eq_skeleton]
    unfold ins owns
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d9, %f9, -, H9⟩, ⟨%d10, %f10, -, H10⟩, ⟨%d11, %f11, -, H11⟩, H12, HW, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8
    sl_exec (disch := first | sl_exact h1 | sl_exact h2)
    sl_step
    iapply Hk
    isplitl [H2 H3 H4 H5 H6 H7 H8]
    · isplitl [H2]; · iexists _; isplitr; · ipureintro; exact harg2.read_unread _
                      iexact H2
      isplitl [H3]; · iexists _; isplitr; · ipureintro; exact harg3.read_unread _
                      iexact H3
      isplitl [H4]; · iexists _; isplitr; · ipureintro; exact harg4.read_unread _
                      iexact H4
      isplitl [H5]; · iexists _; isplitr; · ipureintro; exact harg5.read_unread _
                      iexact H5
      isplitl [H6]; · iexists _; isplitr; · ipureintro; exact harg6.read_unread _
                      iexact H6
      isplitl [H7]; · iexists _; isplitr; · ipureintro; exact harg7.read_unread _
                      iexact H7
      iexists _; isplitr; · ipureintro; exact harg8.read_unread _
      iexact H8
    isplitl [H9]; · iexists _; iexact H9
    isplitl [H10]; · iexists _; iexact H10
    isplitl [H11]; · iexists _; iexact H11
    isplitl [H12]; · iexact H12
    iexact HW

end
end Cert.KernelAttnIdeal.Body
-- ==== Proof.AttnFrame.lean ====
/- The attention backward call's frame: what its buffers hold after each grid point, the body at a generic point, and the
   launch. Written over any values `F`, so that it serves the machine program and the ideal one alike. -/
module

public import proofs.«01_k».proof.Proof.AttnRun
public import Idealize.ShloMosaic.Lib.Claim

@[expose] public section

set_option maxRecDepth 16384

noncomputable section

namespace Cert.KernelAttnIdeal.Body

open Cert.KernelAttnIdeal Cert.KernelAttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions in closed form -/

/-- The first branch is taken at the points 0 modulo 8, -/
theorem first_iff : ∀ t : Fin cfg0.N, condFirst (grid0.coords t) = 1#1 ↔ t.val % 8 = 0 :=
  (by decide +kernel : ∀ t : Fin grid0.N, _)
/-- the last at the points 7 modulo 8. -/
theorem last_iff : ∀ t : Fin cfg0.N, k0_cond2 (grid0.coords t) = 1#1 ↔ t.val % 8 = 7 :=
  (by decide +kernel : ∀ t : Fin grid0.N, _)
/-- The query gradients' window is idle elsewhere. -/
theorem idle7_iff : ∀ t : Fin cfg0.N, cfg0.idle 7 (cfg0.grid.coords t) = true ↔ ¬ t.val % 8 = 7 :=
  (by decide +kernel : ∀ t : Fin grid0.N, _)

/-! ## What each point leaves -/

/-- The scratch that carries the query gradients' sums between points. -/
abbrev sc : Memref sig .tc .vmem S2x256x4096 .f32 := Memref.whole cc0_scratch0

/-- What a point's stores leave: the pieces of the key and value gradients' blocks, the scratch's contents, the pieces of
    the query gradients' block. -/
abbrev Left := List (View.Piece (Elt F) S2x512x256 .f32) × List (View.Piece (Elt F) S2x512x128 .f32) × BufTy.Contents (Elt F) sc.view.ty × List (View.Piece (Elt F) S2x4096x256 .f32)

/-- A head pair's first point, -/
def leftFirst (c : Dev nD) (t : Fin cfg0.N) (h0 : t.val % 8 = 0) (h7 : ¬ t.val % 8 = 7) (f : BufTy.Contents (Elt F) sc.view.ty) :=
  runFirst c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (st0_6 t) (hstage0_6 ((cfg0.slots t 6).cast nbuf0_6)) (st0_7 t) (hstage0_7 ((cfg0.slots t 7).cast nbuf0_7))
    (st0_8 t) (hstage0_8 ((cfg0.slots t 8).cast nbuf0_8)) (st0_9 t) (hstage0_9 ((cfg0.slots t 9).cast nbuf0_9)) sc (Memref.isWhole_whole _)
    (iblk m c 0 t) (iblk m c 1 t) (iblk m c 2 t) (iblk m c 3 t) (iblk m c 4 t) (iblk m c 5 t) (iblk m c 6 t)
    ((first_iff t).mpr h0) (fun h => h7 ((last_iff t).mp h)) f

/-- a point between, -/
def leftMid (c : Dev nD) (t : Fin cfg0.N) (h0 : ¬ t.val % 8 = 0) (h7 : ¬ t.val % 8 = 7) (f : BufTy.Contents (Elt F) sc.view.ty) :=
  runMid c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (st0_6 t) (hstage0_6 ((cfg0.slots t 6).cast nbuf0_6)) (st0_7 t) (hstage0_7 ((cfg0.slots t 7).cast nbuf0_7))
    (st0_8 t) (hstage0_8 ((cfg0.slots t 8).cast nbuf0_8)) (st0_9 t) (hstage0_9 ((cfg0.slots t 9).cast nbuf0_9)) sc (Memref.isWhole_whole _)
    (iblk m c 0 t) (iblk m c 1 t) (iblk m c 2 t) (iblk m c 3 t) (iblk m c 4 t) (iblk m c 5 t) (iblk m c 6 t)
    (fun h => h0 ((first_iff t).mp h)) (fun h => h7 ((last_iff t).mp h)) f

/-- and its last. -/
def leftLast (c : Dev nD) (t : Fin cfg0.N) (h0 : ¬ t.val % 8 = 0) (h7 : t.val % 8 = 7) (f : BufTy.Contents (Elt F) sc.view.ty) :=
  runLast c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (st0_6 t) (hstage0_6 ((cfg0.slots t 6).cast nbuf0_6)) (st0_7 t) (hstage0_7 ((cfg0.slots t 7).cast nbuf0_7))
    (st0_8 t) (hstage0_8 ((cfg0.slots t 8).cast nbuf0_8)) (st0_9 t) (hstage0_9 ((cfg0.slots t 9).cast nbuf0_9)) sc (Memref.isWhole_whole _)
    (iblk m c 0 t) (iblk m c 1 t) (iblk m c 2 t) (iblk m c 3 t) (iblk m c 4 t) (iblk m c 5 t) (iblk m c 6 t)
    (fun h => h0 ((first_iff t).mp h)) ((last_iff t).mpr h7) f

/-- What point `t` leaves of a scratch at `f`. -/
def left (c : Dev nD) (t : Fin cfg0.N) (f : BufTy.Contents (Elt F) sc.view.ty) : Left (F := F) :=
  if h0 : t.val % 8 = 0 then
    let L := (leftFirst m c t h0 (by omega) f).1
    (L.1, L.2.1, L.2.2, [])
  else if h7 : t.val % 8 = 7 then (leftLast m c t h0 h7 f).1
  else
    let L := (leftMid m c t h0 h7 f).1
    (L.1, L.2.1, L.2.2, [])

theorem left_first (c : Dev nD) (t : Fin cfg0.N) (h0 : t.val % 8 = 0) (h7) (f) :
    left m c t f = ((leftFirst m c t h0 h7 f).1.1, (leftFirst m c t h0 h7 f).1.2.1, (leftFirst m c t h0 h7 f).1.2.2, []) := by
  unfold left; rw [dif_pos h0]
theorem left_last (c : Dev nD) (t : Fin cfg0.N) (h0 : ¬ t.val % 8 = 0) (h7 : t.val % 8 = 7) (f) :
    left m c t f = (leftLast m c t h0 h7 f).1 := by
  unfold left; rw [dif_neg h0, dif_pos h7]
theorem left_mid (c : Dev nD) (t : Fin cfg0.N) (h0 : ¬ t.val % 8 = 0) (h7 : ¬ t.val % 8 = 7) (f) :
    left m c t f = ((leftMid m c t h0 h7 f).1.1, (leftMid m c t h0 h7 f).1.2.1, (leftMid m c t h0 h7 f).1.2.2, []) := by
  unfold left; rw [dif_neg h0, dif_neg h7]

/-- A head pair's first point leaves the same of any scratch: it clears it first. -/
theorem leftFirst_any (c : Dev nD) (t : Fin cfg0.N) (h0 : t.val % 8 = 0) (h7) (f g) :
    (leftFirst m c t h0 h7 f).1 = (leftFirst m c t h0 h7 g).1 := by
  unfold leftFirst runFirst; rfl

theorem left_any (c : Dev nD) (t : Fin cfg0.N) (h0 : t.val % 8 = 0) (f g) : left m c t f = left m c t g := by
  rw [left_first m c t h0 (by omega), left_first m c t h0 (by omega), leftFirst_any m c t h0 _ f g]

/-- The scratch before point `n`. -/
def scr (c : Dev nD) : ℕ → BufTy.Contents (Elt F) sc.view.ty
  | 0 => sc.view.junk
  | n + 1 => if h : n < cfg0.N then (left m c ⟨n, h⟩ (scr c n)).2.2.1 else scr c n

theorem scr_succ (c : Dev nD) (t : Fin cfg0.N) : scr m c (t.val + 1) = (left m c t (scr m c t.val)).2.2.1 := by
  rw [scr, dif_pos t.isLt]

/-! ## The pipeline's proof data -/

/-- The invariant before point `n`: the scratch, at anything before the first point. -/
def Phi (c : Dev nD) : ℕ → sProp 𝕄
  | 0 => Pipeline.ΦA spec0 c
  | n + 1 => iprop(at_ c sc (scr m c (n + 1)) ∗ ∃ r, prngReg c r)

theorem PhiA_eq (c : Dev nD) : (Pipeline.ΦA spec0 c : sProp 𝕄) = iprop((∃ f, at_ c sc f) ∗ ∃ r, prngReg c r) := by
  unfold Pipeline.ΦA at_; rw [scopedRest0_eq]; simp only [sc, Memref.view_whole, View.set_whole]

/-- The proof data: the arrays as the region finds them; after a point each input at its block and each output at what
    the point's stores make of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (st0_7 t).view.read (Elt F) ((st0_7 t).view.writes (Elt F) (st0_7 t).view.junk (left m c t (scr m c t.val)).2.2.2)
    | ⟨8, _⟩ => (st0_8 t).view.read (Elt F) ((st0_8 t).view.writes (Elt F) (st0_8 t).view.junk (left m c t (scr m c t.val)).1)
    | ⟨9, _⟩ => (st0_9 t).view.read (Elt F) ((st0_9 t).view.writes (Elt F) (st0_9 t).view.junk (left m c t (scr m c t.val)).2.1)
  Φ t := Phi m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t
    = (st0_7 t).view.read (Elt F) ((st0_7 t).view.writes (Elt F) (st0_7 t).view.junk (left m c t (scr m c t.val)).2.2.2) := by dsimp only [dats]
theorem after8 (c : Dev nD) (t : Fin cfg0.N) : (dats m 0 c).after 8 t
    = (st0_8 t).view.read (Elt F) ((st0_8 t).view.writes (Elt F) (st0_8 t).view.junk (left m c t (scr m c t.val)).1) := by dsimp only [dats]
theorem after9 (c : Dev nD) (t : Fin cfg0.N) : (dats m 0 c).after 9 t
    = (st0_9 t).view.read (Elt F) ((st0_9 t).view.writes (Elt F) (st0_9 t).view.junk (left m c t (scr m c t.val)).2.1) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-! ## The stores tile each output's block -/

theorem cover8 (c : Dev nD) (t : Fin cfg0.N) (f) (y : S2x512x256.Idx) : ∃ p ∈ (left m c t f).1, y ∈ p.1.set := by
  by_cases h0 : t.val % 8 = 0
  · rw [left_first m c t h0 (by omega)]
    exact View.cover_of_tiledBy (leftFirst m c t h0 (by omega) f).1.1 ![1, 512, 256] (by sl_kernel_rfl) y
  by_cases h7 : t.val % 8 = 7
  · rw [left_last m c t h0 h7]
    exact View.cover_of_tiledBy (leftLast m c t h0 h7 f).1.1 ![1, 512, 256] (by sl_kernel_rfl) y
  · rw [left_mid m c t h0 h7]
    exact View.cover_of_tiledBy (leftMid m c t h0 h7 f).1.1 ![1, 512, 256] (by sl_kernel_rfl) y

theorem cover9 (c : Dev nD) (t : Fin cfg0.N) (f) (y : S2x512x128.Idx) : ∃ p ∈ (left m c t f).2.1, y ∈ p.1.set := by
  by_cases h0 : t.val % 8 = 0
  · rw [left_first m c t h0 (by omega)]
    exact View.cover_of_tiledBy (leftFirst m c t h0 (by omega) f).1.2.1 ![1, 512, 128] (by sl_kernel_rfl) y
  by_cases h7 : t.val % 8 = 7
  · rw [left_last m c t h0 h7]
    exact View.cover_of_tiledBy (leftLast m c t h0 h7 f).1.2.1 ![1, 512, 128] (by sl_kernel_rfl) y
  · rw [left_mid m c t h0 h7]
    exact View.cover_of_tiledBy (leftMid m c t h0 h7 f).1.2.1 ![1, 512, 128] (by sl_kernel_rfl) y

theorem cover7 (c : Dev nD) (t : Fin cfg0.N) (h7 : t.val % 8 = 7) (f) (y : S2x4096x256.Idx) : ∃ p ∈ (left m c t f).2.2.2, y ∈ p.1.set := by
  rw [left_last m c t (by omega) h7]
  exact View.cover_of_tiledBy (leftLast m c t (by omega) h7 f).1.2.2.2 ![1, 512, 256] (by sl_kernel_rfl) y

/-! ## The body at a generic point -/

/-- The seven inputs staged at point `t`, at their blocks. -/
abbrev insAt (c : Dev nD) (t : Fin cfg0.N) : sProp 𝕄 :=
  ins c (st0_0 t) (st0_1 t) (st0_2 t) (st0_3 t) (st0_4 t) (st0_5 t) (st0_6 t)
    (iblk m c 0 t) (iblk m c 1 t) (iblk m c 2 t) (iblk m c 3 t) (iblk m c 4 t) (iblk m c 5 t) (iblk m c 6 t)

/-- A point before a head pair's last leaves the query gradients' block alone. -/
theorem point_inner (c : Dev nD) (t : Fin cfg0.N) (h7 : ¬ t.val % 8 = 7) (f) (W : Waits sig Unit) (K : PUnit → sProp 𝕄) :
    iprop(insAt m c t ∗ (∃ d, owns (c : Thread nD τ) (st0_8 t) fullShare d) ∗ (∃ d, owns (c : Thread nD τ) (st0_9 t) fullShare d)
        ∗ at_ c sc f ∗ owes (c : Thread nD τ) 0 W
        ∗ (iprop(insAt m c t
            ∗ (∃ g, at_ c (st0_8 t) ((st0_8 t).view.writes (Elt F) g (left m c t f).1))
            ∗ (∃ g, at_ c (st0_9 t) ((st0_9 t).view.writes (Elt F) g (left m c t f).2.1))
            ∗ at_ c sc (left m c t f).2.2.1 ∗ owes (c : Thread nD τ) 0 W) -∗ K ⟨⟩))
      ⊢ wp frame (wpE (defs₀ (F := F)) Variants.none c none) Set.univ (bodyAt0 t) K := by
  by_cases h0 : t.val % 8 = 0
  · rw [left_first m c t h0 h7]; exact (leftFirst m c t h0 h7 f).2 W K
  · rw [left_mid m c t h0 h7]; exact (leftMid m c t h0 h7 f).2 W K

/-- A head pair's last point writes it. -/
theorem point_last (c : Dev nD) (t : Fin cfg0.N) (h7 : t.val % 8 = 7) (f) (W : Waits sig Unit) (K : PUnit → sProp 𝕄) :
    iprop(insAt m c t ∗ (∃ d, owns (c : Thread nD τ) (st0_7 t) fullShare d)
        ∗ (∃ d, owns (c : Thread nD τ) (st0_8 t) fullShare d) ∗ (∃ d, owns (c : Thread nD τ) (st0_9 t) fullShare d)
        ∗ at_ c sc f ∗ owes (c : Thread nD τ) 0 W
        ∗ (iprop(insAt m c t
            ∗ (∃ g, at_ c (st0_7 t) ((st0_7 t).view.writes (Elt F) g (left m c t f).2.2.2))
            ∗ (∃ g, at_ c (st0_8 t) ((st0_8 t).view.writes (Elt F) g (left m c t f).1))
            ∗ (∃ g, at_ c (st0_9 t) ((st0_9 t).view.writes (Elt F) g (left m c t f).2.1))
            ∗ at_ c sc (left m c t f).2.2.1 ∗ owes (c : Thread nD τ) 0 W) -∗ K ⟨⟩))
      ⊢ wp frame (wpE (defs₀ (F := F)) Variants.none c none) Set.univ (bodyAt0 t) K := by
  rw [left_last m c t (by omega) h7]; exact (leftLast m c t (by omega) h7 f).2 W K

/-- The invariant before any point hands the body a scratch of which the point leaves what the proof data say. -/
theorem Phi_open (c : Dev nD) (t : Fin cfg0.N) :
    Phi m c t.val ⊢ iprop(∃ f, ⌜left m c t f = left m c t (scr m c t.val)⌝ ∗ at_ c sc f ∗ ∃ r, prngReg c r) := by
  rcases hn : t.val with _ | n
  · rw [Phi, PhiA_eq]
    iintro ⟨⟨%f, HS⟩, Hg⟩
    iexists f
    isplitr; · ipureintro; exact left_any m c t (by rw [hn]) _ _
    isplitl [HS]; · iexact HS
    iexact Hg
  · rw [Phi]
    iintro ⟨HS, Hg⟩
    iexists _
    isplitr; · ipureintro; rfl
    isplitl [HS]; · iexact HS
    iexact Hg

/-- What the body is called with at point `t`, -/
def bodyPre (c : Dev nD) (t : Fin cfg0.N) : sProp 𝕄 :=
  iprop(Phi m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns, the query gradients' block at `X7`. -/
def bodyPost (c : Dev nD) (t : Fin cfg0.N) (X7 : sProp 𝕄) : sProp 𝕄 :=
  iprop(Phi m c (t.val + 1) ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ X7
    ∗ owns (c : Thread nD τ) (st0_8 t) fullShare ((dats m 0 c).after 8 t)
    ∗ owns (c : Thread nD τ) (st0_9 t) fullShare ((dats m 0 c).after 9 t))

set_option maxHeartbeats 4000000 in
theorem body_inner (c : Dev nD) (t : Fin cfg0.N) (h7 : ¬ t.val % 8 = 7) :
    bodyPre m c t ⊢ wp frame (wpE (defs₀ (F := F)) Variants.none c none) Set.univ (bodyAt0 t) (fun _ =>
      bodyPost m c t iprop(∃ d, owns (c : Thread nD τ) (st0_7 t) fullShare ((dats m 0 c).before 7 t d))) := by
  unfold bodyPre bodyPost
  simp only [before0, before1, before2, before3, before4, before5, before6]
  rw [Phi, scr_succ, after0, after1, after2, after3, after4, after5, after6, after8, after9]
  unfold Dat.owesAt Pipeline.owesWithin
  rw [show (dats m 0 c).owed t.castSucc = 0 from rfl, show (dats m 0 c).owed t.succ = 0 from rfl]
  iintro ⟨H, ⟨%W, -, HW⟩, ⟨%d0, H0⟩, ⟨%d1, H1⟩, ⟨%d2, H2⟩, ⟨%d3, H3⟩, ⟨%d4, H4⟩, ⟨%d5, H5⟩, ⟨%d6, H6⟩, H7, ⟨%d8, H8⟩, ⟨%d9, H9⟩⟩
  ihave H' := (Phi_open m c t) $$ H
  icases H' with ⟨%f, %hf, HS, Hg⟩
  iapply (point_inner m c t h7 f W _)
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H8]; · iexists _; iexact H8
  isplitl [H9]; · iexists _; iexact H9
  isplitl [HS]; · iexact HS
  isplitl [HW]; · iexact HW
  rw [hf]
  iintro ⟨⟨H0, H1, H2, H3, H4, H5, H6⟩, ⟨%g8, H8⟩, ⟨%g9, H9⟩, HS, HW⟩
  isplitl [HS Hg]
  · isplitl [HS]; · iexact HS
    iexact Hg
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover8 m c t _)
  unfold owns; iexists _; isplitr
  swap; · iexact H9
  ipureintro; exact View.read_writes_of_cover _ _ _ _ _ (cover9 m c t _)

set_option maxHeartbeats 4000000 in
theorem body_last (c : Dev nD) (t : Fin cfg0.N) (h7 : t.val % 8 = 7) :
    bodyPre m c t ⊢ wp frame (wpE (defs₀ (F := F)) Variants.none c none) Set.univ (bodyAt0 t) (fun _ =>
      bodyPost m c t (owns (c : Thread nD τ) (st0_7 t) fullShare ((dats m 0 c).after 7 t))) := by
  unfold bodyPre bodyPost
  simp only [before0, before1, before2, before3, before4, before5, before6]
  rw [Phi, scr_succ, after0, after1, after2, after3, after4, after5, after6, after7, after8, after9]
  unfold Dat.owesAt Pipeline.owesWithin
  rw [show (dats m 0 c).owed t.castSucc = 0 from rfl, show (dats m 0 c).owed t.succ = 0 from rfl]
  iintro ⟨H, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave H' := (Phi_open m c t) $$ H
  icases H' with ⟨%f, %hf, HS, Hg⟩
  iapply (point_last m c t h7 f W _)
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexists _; iexact H7
  isplitl [H8]; · iexists _; iexact H8
  isplitl [H9]; · iexists _; iexact H9
  isplitl [HS]; · iexact HS
  isplitl [HW]; · iexact HW
  rw [hf]
  iintro ⟨⟨H0, H1, H2, H3, H4, H5, H6⟩, ⟨%g7, H7⟩, ⟨%g8, H8⟩, ⟨%g9, H9⟩, HS, HW⟩
  isplitl [HS Hg]
  · isplitl [HS]; · iexact HS
    iexact Hg
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cover7 m c t h7 _)
  isplitl [H8]
  · unfold owns; iexists _; isplitr
    swap; · iexact H8
    ipureintro; exact View.read_writes_of_cover _ _ _ _ _ (cover8 m c t _)
  unfold owns; iexists _; isplitr
  swap; · iexact H9
  ipureintro; exact View.read_writes_of_cover _ _ _ _ _ (cover9 m c t _)

/-! ## The launch -/

theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  by_cases h7 : t.val % 8 = 7
  · have hi : cfg0.idle 7 (cfg0.grid.coords t) = false := by
      rw [← Bool.not_eq_true]; exact fun h => (idle7_iff t).mp h h7
    refine triple_restated (body_last m c t h7) rfl .rfl fun _ => ?_
    rw [hi]
    exact .rfl
  · have hi : cfg0.idle 7 (cfg0.grid.coords t) = true := (idle7_iff t).mpr h7
    have hf : (cfg0.win 7).flush t = false := by
      rw [← Bool.not_eq_true]; exact fun h => h7 ((flush0_7 t).mp h)
    refine triple_restated (body_inner m c t h7) rfl .rfl fun _ => ?_
    rw [hi, hf]
    exact .rfl

theorem hout (c : Dev nD) : (dats m 0 c).Φ (Fin.last cfg0.N) ⊢ Pipeline.ΦA spec0 c := by
  rw [show (dats m 0 c).Φ (Fin.last cfg0.N) = Phi m c 32 from rfl, PhiA_eq, Phi]
  iintro ⟨HS, Hg⟩
  isplitl [HS]; · iexists _; iexact HS
  iexact Hg

set_option backward.isDefEq.respectTransparency.types false in
/-- Every fair execution terminates without fault, with each result of the region at its contents, every other buffer as
    the host lines leave it, and every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ Variants.none m ρ main
    (fun c => (body_obligation m c).loose) (fun c => (dats m 0 c).share_full fun _ => rfl) (fun _ _ => rfl)
    (V0 m) [hostOps1] sfx_sub sfx_fresh sfx_keeps (hmain m Variants.none) (A_eq m) (fun c => .rfl) (hout m)
    (Q' := _) (hQ' := fun _ h => h)

/-- The frame claim at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelAttnIdeal.Body
-- ==== Proof.AttnResults.lean ====
/- The attention backward pair's frames. -/
module

public import proofs.«01_k».proof.Defs
public import proofs.«01_k».proof.Proof.AttnFrame
public import proofs.«01_k».proof.Proof.Gen.KernelAttn
public import proofs.«01_k».proof.Proof.Gen.ReferenceAttnIdeal.Run

@[expose] public section

set_option maxRecDepth 16384

namespace Cert.Proof

open Idealize.ShloMosaic Idealize.ShloMosaic.TcCoe Idealize.ShloMosaic.Tactic

theorem frame_kernel_attn_ideal : Cert.quiescent_KernelAttnIdeal (hKernelAttnIdeal := Cert.KernelAttnIdeal.Gen.facts) :=
  fun m ρ _ => Cert.KernelAttnIdeal.Body.frame m ρ

/-- The machine program has the ideal one's text, so its frame is the ideal one's at the machine's values. -/
theorem frame_kernel_attn : Cert.quiescent_KernelAttn (hKernelAttn := Cert.KernelAttn.Gen.facts) := by
  intro m ρ _
  refine Eq.mpr ?_ (Cert.KernelAttnIdeal.Body.frame (F := Bits) m ρ)
  sl_kernel_rfl

set_option maxHeartbeats 4000000 in
theorem frame_reference_attn : Cert.quiescent_ReferenceAttnIdeal (hReferenceAttnIdeal := Cert.ReferenceAttnIdeal.Gen.facts) := by
  intro m g _
  refine θ_run_mono (Cert.ReferenceAttnIdeal.Value.run m g) fun r hr => ⟨fun c => ?_, ?_⟩
  · have hc := hr c
    and_intros
    all_goals run_conjunct
  · exact sem_eq_zero_of_no_sems (by decide) r.2

end Cert.Proof
-- ==== Proof.Reals.lean ====
/- Real numbers among the extended reals: what keeps them, and how a precondition says that an argument is one. -/
module

public import Idealize.ShloMosaic.PureOps.Ideal
public import Idealize.ShloMosaic.Lib.Pointwise

@[expose] public section

noncomputable section

namespace Cert.Reals

open Idealize.ShloMosaic

/-- An extended real that is a real number. -/
abbrev IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sum {n : ℕ} {f : Fin n → EReal} (h : ∀ i, IsReal (f i)) : IsReal (∑ i, f i) :=
  Finset.sum_induction f IsReal (fun _ _ => IsReal.add) ⟨0, EReal.coe_zero.symm⟩ fun i _ => h i
theorem IsReal.one : IsReal 1 := ⟨1, EReal.coe_one.symm⟩
theorem IsReal.tanh {x : EReal} (h : IsReal x) : IsReal (Ideal.tanh x) := by
  obtain ⟨a, rfl⟩ := h; exact ⟨_, Ideal.tanh_coe a⟩
/-- The logistic function of a real number. -/
theorem IsReal.gate {x : EReal} (h : IsReal x) : IsReal (Ideal.div 1 (1 + Ideal.exp (-x))) := by
  obtain ⟨a, rfl⟩ := h
  rw [← EReal.coe_neg, Ideal.exp_coe, ← EReal.coe_one, ← EReal.coe_add, Ideal.div_coe (by positivity), ← EReal.coe_mul]
  exact ⟨_, rfl⟩

/-- An extended real whose absolute value is below infinity is a real number. -/
theorem real_of_cmp (x : EReal) (h : Ideal.cmp .olt (max x (-x)) (Ideal.ofBits FTy.f32 0x7F800000#32) = 1#1) : x = ((x.toReal : ℝ) : EReal) := by
  have ht : Ideal.ofBits FTy.f32 0x7F800000#32 = ⊤ := by simp [Ideal.ofBits, Ideal.ieee]
  rw [ht] at h
  have h' : max x (-x) < ⊤ := by
    by_contra hn
    simp [Ideal.cmp, hn] at h
  refine (EReal.coe_toReal (fun e => ?_) (fun e => ?_)).symm
  · subst e; simp at h'
  · subst e; simp at h'

end Cert.Reals

end
-- ==== Proof.AttnCore.lean ====
/- The attention backward kernel's body as one function of its staged blocks and its scratch: the tile on the diagonal,
   then the loop over the query tiles after it. -/
module

public import proofs.«01_k».proof.Proof.AttnFrame
public import Idealize.ShloMosaic.Lib.Pipeline.ValueKit
public import Idealize.ShloMosaic.Lib.WritesUnit

@[expose] public section

set_option maxRecDepth 16384

noncomputable section

namespace Cert.KernelAttnIdeal.Body

open Idealize.ShloMosaic Idealize.ShloMosaic.TcCoe Idealize.ShloMosaic.Tactic Idealize.SL.Sem
open Cert.KernelAttnIdeal Cert.KernelAttnIdeal.Gen

variable {F : FTy → Type} [FloatOps F]

section
variable (c : Dev nD) (i : grid0.Coords)
  (arg2 : Memref sig .tc .vmem S2x4096x256 .bf16) (harg2 : arg2.IsWhole)
  (arg3 : Memref sig .tc .vmem S2x512x256 .bf16) (harg3 : arg3.IsWhole)
  (arg4 : Memref sig .tc .vmem S2x256x512 .bf16) (harg4 : arg4.IsWhole)
  (arg5 : Memref sig .tc .vmem S2x512x128 .bf16) (harg5 : arg5.IsWhole)
  (arg6 : Memref sig .tc .vmem S2x1x4096 .f32) (harg6 : arg6.IsWhole)
  (arg7 : Memref sig .tc .vmem S2x1x4096 .f32) (harg7 : arg7.IsWhole)
  (arg8 : Memref sig .tc .vmem S4096x256 .bf16) (harg8 : arg8.IsWhole)
  (arg9 : Memref sig .tc .vmem S2x4096x256 .f32) (harg9 : arg9.IsWhole)
  (arg10 : Memref sig .tc .vmem S2x512x256 .f32) (harg10 : arg10.IsWhole)
  (arg11 : Memref sig .tc .vmem S2x512x128 .f32) (harg11 : arg11.IsWhole)
  (arg12 : Memref sig .tc .vmem S2x256x4096 .f32) (harg12 : arg12.IsWhole)
  (x2 : Vec F S2x4096x256 .bf16) (x3 : Vec F S2x512x256 .bf16) (x4 : Vec F S2x256x512 .bf16)
  (x5 : Vec F S2x512x128 .bf16) (x6 : Vec F S2x1x4096 .f32) (x7 : Vec F S2x1x4096 .f32) (x8 : Vec F S4096x256 .bf16)

/-! ## What the diagonal tile loads, per head of the pair -/

abbrev q0 : Vec F S1x512x256 .bf16 := View.readAt (Elt F) arg2.view (Rect.unit (s := S2x4096x256) (k0_off1 i) S1x512x256.size (k0_off1_inb i)).toLoadRect (harg2.unread x2)
abbrev q1 : Vec F S1x512x256 .bf16 := View.readAt (Elt F) arg2.view (Rect.unit (s := S2x4096x256) (k0_off2 i) S1x512x256.size (k0_off2_inb i)).toLoadRect (harg2.unread x2)
abbrev ka0 : Vec F S1x512x256 .bf16 := View.readAt (Elt F) arg3.view (Rect.unit (s := S2x512x256) ![0, 0, 0] S1x512x256.size inb_S2x512x256_S1x512x256_0_0_0).toLoadRect (harg3.unread x3)
abbrev ka1 : Vec F S1x512x256 .bf16 := View.readAt (Elt F) arg3.view (Rect.unit (s := S2x512x256) ![1, 0, 0] S1x512x256.size inb_S2x512x256_S1x512x256_1_0_0).toLoadRect (harg3.unread x3)
abbrev kt0 : Vec F S1x256x512 .bf16 := View.readAt (Elt F) arg4.view (Rect.unit (s := S2x256x512) ![0, 0, 0] S1x256x512.size inb_S2x256x512_S1x256x512_0_0_0).toLoadRect (harg4.unread x4)
abbrev kt1 : Vec F S1x256x512 .bf16 := View.readAt (Elt F) arg4.view (Rect.unit (s := S2x256x512) ![1, 0, 0] S1x256x512.size inb_S2x256x512_S1x256x512_1_0_0).toLoadRect (harg4.unread x4)
abbrev v0 : Vec F S1x512x128 .bf16 := View.readAt (Elt F) arg5.view (Rect.unit (s := S2x512x128) ![0, 0, 0] S1x512x128.size inb_S2x512x128_S1x512x128_0_0_0).toLoadRect (harg5.unread x5)
abbrev v1 : Vec F S1x512x128 .bf16 := View.readAt (Elt F) arg5.view (Rect.unit (s := S2x512x128) ![1, 0, 0] S1x512x128.size inb_S2x512x128_S1x512x128_1_0_0).toLoadRect (harg5.unread x5)
abbrev l0 : Vec F S1x1x512 .f32 := View.readAt (Elt F) arg6.view (Rect.unit (s := S2x1x4096) (k0_off3 i) S1x1x512.size (k0_off3_inb i)).toLoadRect (harg6.unread x6)
abbrev l1 : Vec F S1x1x512 .f32 := View.readAt (Elt F) arg6.view (Rect.unit (s := S2x1x4096) (k0_off6 i) S1x1x512.size (k0_off6_inb i)).toLoadRect (harg6.unread x6)
abbrev d0 : Vec F S1x1x512 .f32 := View.readAt (Elt F) arg7.view (Rect.unit (s := S2x1x4096) (k0_off3 i) S1x1x512.size (k0_off3_inb i)).toLoadRect (harg7.unread x7)
abbrev d1 : Vec F S1x1x512 .f32 := View.readAt (Elt F) arg7.view (Rect.unit (s := S2x1x4096) (k0_off6 i) S1x1x512.size (k0_off6_inb i)).toLoadRect (harg7.unread x7)
abbrev o0 : Vec F S512x128 .bf16 := View.readAt (Elt F) arg8.view (Rect.unit (s := S4096x256) (k0_off4 i) S512x128.size (k0_off4_inb i)).toLoadRect (harg8.unread x8)
abbrev o1 : Vec F S512x128 .bf16 := View.readAt (Elt F) arg8.view (Rect.unit (s := S4096x256) (k0_off7 i) S512x128.size (k0_off7_inb i)).toLoadRect (harg8.unread x8)

/-! ## What the diagonal tile computes -/

/-- The weights of the pair's first head, transposed and masked; -/
abbrev p0 : FVec F S512x512 .f32 := k0_pay56 (q0 i arg2 harg2 x2) (ka0 arg3 harg3 x3) (l0 i arg6 harg6 x6)
/-- and of its second. -/
abbrev p1 : FVec F S512x512 .f32 := k0_pay63 (k0_pay55 (q1 i arg2 harg2 x2) (ka1 arg3 harg3 x3)) (l1 i arg6 harg6 x6)

abbrev dv0 : FVec F S512x128 .f32 :=
  k0_pay59 k0_pay52 (k0_pay58 (q0 i arg2 harg2 x2) (ka0 arg3 harg3 x3) (l0 i arg6 harg6 x6) (o0 i arg8 harg8 x8))
abbrev dk0 : FVec F S512x256 .f32 :=
  k0_pay61 k0_pay51 (k0_pay53 (q0 i arg2 harg2 x2)) (p0 i arg2 harg2 arg3 harg3 arg6 harg6 x2 x3 x6) (k0_pay57 (o0 i arg8 harg8 x8)) (v0 arg5 harg5 x5) (d0 i arg7 harg7 x7)
abbrev dv1 : FVec F S512x128 .f32 :=
  k0_pay66 k0_pay52 (k0_pay64 (o1 i arg8 harg8 x8)) (k0_pay65 (k0_pay55 (q1 i arg2 harg2 x2) (ka1 arg3 harg3 x3)) (l1 i arg6 harg6 x6)) (constant S512x128 .f32 0#32)
abbrev dk1 : FVec F S512x256 .f32 :=
  k0_pay68 k0_pay51 (k0_pay54 (q1 i arg2 harg2 x2)) (p1 i arg2 harg2 arg3 harg3 arg6 harg6 x2 x3 x6) (k0_pay64 (o1 i arg8 harg8 x8)) (v1 arg5 harg5 x5) (d1 i arg7 harg7 x7)

/-- The diagonal tile's two updates of the scratch, the first head's first. -/
abbrev diagPiece0 (f : BufTy.Contents (Elt F) arg12.view.ty) : View.Piece (Elt F) S2x256x4096 .f32 :=
  ⟨Rect.unit (s := S2x256x4096) (k0_off5 i) S1x256x512.size (k0_off5_inb i), k0_pay62 (p0 i arg2 harg2 arg3 harg3 arg6 harg6 x2 x3 x6) (k0_pay57 (o0 i arg8 harg8 x8)) (v0 arg5 harg5 x5) (d0 i arg7 harg7 x7)
      (View.readAt (Elt F) arg12.view (Rect.unit (s := S2x256x4096) (k0_off5 i) S1x256x512.size (k0_off5_inb i)).toLoadRect f) (kt0 arg4 harg4 x4)⟩
abbrev diagPiece1 (f : BufTy.Contents (Elt F) arg12.view.ty) : View.Piece (Elt F) S2x256x4096 .f32 :=
  ⟨Rect.unit (s := S2x256x4096) (k0_off8 i) S1x256x512.size (k0_off8_inb i), k0_pay69 (p1 i arg2 harg2 arg3 harg3 arg6 harg6 x2 x3 x6) (k0_pay64 (o1 i arg8 harg8 x8)) (v1 arg5 harg5 x5) (d1 i arg7 harg7 x7)
      (View.readAt (Elt F) arg12.view (Rect.unit (s := S2x256x4096) (k0_off8 i) S1x256x512.size (k0_off8_inb i)).toLoadRect f) (kt1 arg4 harg4 x4)⟩

/-- The scratch after the diagonal tile, found at `f`. -/
def diag (f : BufTy.Contents (Elt F) arg12.view.ty) : BufTy.Contents (Elt F) arg12.view.ty :=
  arg12.view.writes (Elt F) f
    [diagPiece1 i arg2 harg2 arg3 harg3 arg4 harg4 arg5 harg5 arg6 harg6 arg7 harg7 arg8 harg8 arg12 x2 x3 x4 x5 x6 x7 x8 f,
     diagPiece0 i arg2 harg2 arg3 harg3 arg4 harg4 arg5 harg5 arg6 harg6 arg7 harg7 arg8 harg8 arg12 x2 x3 x4 x5 x6 x7 x8 f]

/-- The loop's state before trip `n`: the four accumulators and the pieces written into the scratch. -/
def loopAt (f : BufTy.Contents (Elt F) arg12.view.ty) (n : ℕ) :=
  st_k0_t1 Variants.none c none i arg2 harg2 arg3 harg3 arg4 harg4 arg5 harg5 arg6 harg6 arg7 harg7 arg8 harg8 arg9 harg9 arg10 harg10 arg11 harg11 arg12 harg12 (BitVec.ofNat 32 (i 1).val) k0_pay51 k0_pay52 (Scalar.muli (BitVec.ofNat 32 (i 1).val) 512#32) (k0_pay54 (q1 i arg2 harg2 x2)) (dv0 i arg2 harg2 arg3 harg3 arg6 harg6 arg8 harg8 x2 x3 x6 x8) (dk0 i arg2 harg2 arg3 harg3 arg5 harg5 arg6 harg6 arg7 harg7 arg8 harg8 x2 x3 x5 x6 x7 x8) (p1 i arg2 harg2 arg3 harg3 arg6 harg6 x2 x3 x6) (k0_pay64 (o1 i arg8 harg8 x8)) (k0_pay65 (k0_pay55 (q1 i arg2 harg2 x2) (ka1 arg3 harg3 x3)) (l1 i arg6 harg6 x6)) (constant S512x128 .f32 0#32) (Scalar.addi (BitVec.ofNat 32 (i 1).val) 1#32) (harg2.unread x2) (harg3.unread x3) (harg4.unread x4) (harg5.unread x5) (harg6.unread x6) (harg7.unread x7) (harg8.unread x8)
    (diag i arg2 harg2 arg3 harg3 arg4 harg4 arg5 harg5 arg6 harg6 arg7 harg7 arg8 harg8 arg12 x2 x3 x4 x5 x6 x7 x8 f)
    (dk0 i arg2 harg2 arg3 harg3 arg5 harg5 arg6 harg6 arg7 harg7 arg8 harg8 x2 x3 x5 x6 x7 x8,
      dv0 i arg2 harg2 arg3 harg3 arg6 harg6 arg8 harg8 x2 x3 x6 x8,
      dk1 i arg2 harg2 arg3 harg3 arg5 harg5 arg6 harg6 arg7 harg7 arg8 harg8 x2 x3 x5 x6 x7 x8,
      dv1 i arg2 harg2 arg3 harg3 arg6 harg6 arg8 harg8 x2 x3 x6 x8) n

/-- What one grid point leaves, the scratch found at `f`: the key gradients' block, the value gradients' block, the
    scratch. -/
def core (f : BufTy.Contents (Elt F) arg12.view.ty) :
    List (View.Piece (Elt F) S2x512x256 .f32) × List (View.Piece (Elt F) S2x512x128 .f32) × BufTy.Contents (Elt F) arg12.view.ty :=
  let s := loopAt c i arg2 harg2 arg3 harg3 arg4 harg4 arg5 harg5 arg6 harg6 arg7 harg7 arg8 harg8 arg9 harg9 arg10 harg10 arg11 harg11 arg12 harg12 x2 x3 x4 x5 x6 x7 x8 f (k0_t1_loop i).trips
  ([⟨Rect.unit (s := S2x512x256) ![1, 0, 0] ![1, 512, 256] inb_S2x512x256_S1x512x256_1_0_0, k0_pay2 s.1.2.2.1⟩,
      ⟨Rect.unit (s := S2x512x256) ![0, 0, 0] ![1, 512, 256] inb_S2x512x256_S1x512x256_0_0_0, k0_pay72 s.1.1⟩],
    [⟨Rect.unit (s := S2x512x128) ![1, 0, 0] ![1, 512, 128] inb_S2x512x128_S1x512x128_1_0_0, k0_pay3 s.1.2.2.2⟩,
      ⟨Rect.unit (s := S2x512x128) ![0, 0, 0] ![1, 512, 128] inb_S2x512x128_S1x512x128_0_0_0, k0_pay1 s.1.2.1⟩],
    arg12.view.writes (Elt F) (diag i arg2 harg2 arg3 harg3 arg4 harg4 arg5 harg5 arg6 harg6 arg7 harg7 arg8 harg8 arg12 x2 x3 x4 x5 x6 x7 x8 f) s.2)

/-- The loop's remainder has no trip. -/
theorem no_remainder : ∀ i : grid0.Coords, (k0_t2_loop i).trips = 0 := by decide +kernel

set_option maxHeartbeats 4000000 in
theorem runMid_eq (h1 : ¬ condFirst i = 1#1) (h2 : ¬ k0_cond2 i = 1#1) (f : BufTy.Contents (Elt F) arg12.view.ty) :
    (runMid c i arg2 harg2 arg3 harg3 arg4 harg4 arg5 harg5 arg6 harg6 arg7 harg7 arg8 harg8 arg9 harg9 arg10 harg10 arg11 harg11 arg12 harg12 x2 x3 x4 x5 x6 x7 x8 h1 h2 f).1 = core c i arg2 harg2 arg3 harg3 arg4 harg4 arg5 harg5 arg6 harg6 arg7 harg7 arg8 harg8 arg9 harg9 arg10 harg10 arg11 harg11 arg12 harg12 x2 x3 x4 x5 x6 x7 x8 f := by
  have h0 : Scf.trips (k0_t2_loop i).lb (k0_t2_loop i).ub (k0_t2_loop i).st = 0 := no_remainder i
  unfold runMid
  simp only [runMid.sl.r_8, runMid.sl.v99, runMid.sl.r_3, runMid.sl.r_4, runMid.sl.r_7, runMid.sl.v100, runMid.sl.cst_35, runMid.sl.r_5, runMid.sl.r_1, runMid.sl.v1, runMid.sl.v103, runMid.sl.v89, runMid.sl.v2, runMid.sl.r_6, runMid.sl.v0, runMid.sl.v5, runMid.sl.r, runMid.sl.r_12, runMid.sl.r_9, runMid.sl.v104, runMid.sl.r_10, runMid.sl.r_13, runMid.sl.r_14, runMid.sl.r_2, runMid.sl.v102, runMid.sl.r_11, h0, st_k0_t2.eq_1, List.nil_append, View.writes_append, core, loopAt, diag]

/-- A load of the second head's tile does not see a store into the first's. -/
theorem load_second (f : BufTy.Contents (Elt F) arg12.view.ty) (w : FVec F S1x256x512 .f32) :
    View.readAt (Elt F) arg12.view (Rect.unit (s := S2x256x4096) (k0_off8 i) S1x256x512.size (k0_off8_inb i)).toLoadRect
        (arg12.view.writes (Elt F) f [⟨Rect.unit (s := S2x256x4096) (k0_off5 i) S1x256x512.size (k0_off5_inb i), w⟩])
      = View.readAt (Elt F) arg12.view (Rect.unit (s := S2x256x4096) (k0_off8 i) S1x256x512.size (k0_off8_inb i)).toLoadRect f := by
  funext y
  refine View.read_writes_cons_unit_of_not_mem arg12.view f (k0_off5_inb i) w [] _ (k0_off5_eq i) 0 (Or.inr ?_)
  have e : ((Rect.unit (s := S2x256x4096) (k0_off8 i) S1x256x512.size (k0_off8_inb i)).idx y 0 : ℕ) = k0_off8 i 0 + (y 0).val :=
    Rect.idx_unit_val _ _ _ y 0
  have h8 : k0_off8 i 0 = 1 := congrFun (k0_off8_eq i) 0
  exact le_of_le_of_eq ((Nat.le_of_eq h8.symm).trans (Nat.le_add_right _ _)) e.symm

/-- The diagonal tile's second update as the run finds it, after the first. -/
theorem diag_eq (f : BufTy.Contents (Elt F) arg12.view.ty) :
    diag i arg2 harg2 arg3 harg3 arg4 harg4 arg5 harg5 arg6 harg6 arg7 harg7 arg8 harg8 arg12 x2 x3 x4 x5 x6 x7 x8 f = arg12.view.writes (Elt F) f
      [diagPiece1 i arg2 harg2 arg3 harg3 arg4 harg4 arg5 harg5 arg6 harg6 arg7 harg7 arg8 harg8 arg12 x2 x3 x4 x5 x6 x7 x8 (arg12.view.writes (Elt F) f [diagPiece0 i arg2 harg2 arg3 harg3 arg4 harg4 arg5 harg5 arg6 harg6 arg7 harg7 arg8 harg8 arg12 x2 x3 x4 x5 x6 x7 x8 f]), diagPiece0 i arg2 harg2 arg3 harg3 arg4 harg4 arg5 harg5 arg6 harg6 arg7 harg7 arg8 harg8 arg12 x2 x3 x4 x5 x6 x7 x8 f] := by
  unfold diag diagPiece1
  rw [load_second]

/-- The zeroed scratch a head pair starts from. -/
abbrev zeroed : BufTy.Contents (Elt F) arg12.view.ty :=
  arg12.view.writes (Elt F) arg12.view.junk [⟨Rect.unit (s := S2x256x4096) ![0, 0, 0] S2x256x4096.size inb_S2x256x4096_S2x256x4096_0_0_0, k0_pay50⟩]

set_option maxHeartbeats 4000000 in
theorem runFirst_eq (h1 : condFirst i = 1#1) (h2 : ¬ k0_cond2 i = 1#1) (f : BufTy.Contents (Elt F) arg12.view.ty) :
    (runFirst c i arg2 harg2 arg3 harg3 arg4 harg4 arg5 harg5 arg6 harg6 arg7 harg7 arg8 harg8 arg9 harg9 arg10 harg10 arg11 harg11 arg12 harg12 x2 x3 x4 x5 x6 x7 x8 h1 h2 f).1 = core c i arg2 harg2 arg3 harg3 arg4 harg4 arg5 harg5 arg6 harg6 arg7 harg7 arg8 harg8 arg9 harg9 arg10 harg10 arg11 harg11 arg12 harg12 x2 x3 x4 x5 x6 x7 x8 (zeroed arg12) := by
  have h0 : Scf.trips (k0_t2_loop i).lb (k0_t2_loop i).ub (k0_t2_loop i).st = 0 := no_remainder i
  unfold runFirst
  simp only [runFirst.sl.r_9, runFirst.sl.v1, runFirst.sl.r_10, runFirst.sl.v103, runFirst.sl.v100, runFirst.sl.v5, runFirst.sl.r_8, runFirst.sl.v99, runFirst.sl.r_11, runFirst.sl.H12_1, runFirst.sl.v102, runFirst.sl.r_13, runFirst.sl.r_12, runFirst.sl.r_14, runFirst.sl.r_7, runFirst.sl.v2, runFirst.sl.v0, runFirst.sl.r, runFirst.sl.r_1, runFirst.sl.r_2, runFirst.sl.r_4, runFirst.sl.H12_2, runFirst.sl.r_6, runFirst.sl.cst_35, runFirst.sl.v104, runFirst.sl.r_3, runFirst.sl.r_5, h0, st_k0_t2.eq_1, List.nil_append, View.writes_append, core, loopAt, diag_eq, View.writes_cons, View.writes_nil]

/-- The copy of one tile of the scratch, transposed, into the query gradients' block. -/
abbrev dqPiece (f : BufTy.Contents (Elt F) arg12.view.ty) (g : ℕ) (b : ℕ)
    (h : ∀ a, ![g, b, 0] a + S1x512x256.size a ≤ S2x4096x256.size a) (h' : ∀ a, ![g, 0, b] a + S1x256x512.size a ≤ S2x256x4096.size a) :
    View.Piece (Elt F) S2x4096x256 .f32 :=
  ⟨Rect.unit (s := S2x4096x256) ![g, b, 0] S1x512x256.size h, k0_pay5 (View.readAt (Elt F) arg12.view (Rect.unit (s := S2x256x4096) ![g, 0, b] S1x256x512.size h').toLoadRect f)⟩

/-- The sixteen of them. -/
def dqPieces (f : BufTy.Contents (Elt F) arg12.view.ty) : List (View.Piece (Elt F) S2x4096x256 .f32) :=
  [dqPiece arg12 f 1 3584 inb_S2x4096x256_S1x512x256_1_3584_0 inb_S2x256x4096_S1x256x512_1_0_3584,
    dqPiece arg12 f 1 3072 inb_S2x4096x256_S1x512x256_1_3072_0 inb_S2x256x4096_S1x256x512_1_0_3072,
    dqPiece arg12 f 1 2560 inb_S2x4096x256_S1x512x256_1_2560_0 inb_S2x256x4096_S1x256x512_1_0_2560,
    dqPiece arg12 f 1 2048 inb_S2x4096x256_S1x512x256_1_2048_0 inb_S2x256x4096_S1x256x512_1_0_2048,
    dqPiece arg12 f 1 1536 inb_S2x4096x256_S1x512x256_1_1536_0 inb_S2x256x4096_S1x256x512_1_0_1536,
    dqPiece arg12 f 1 1024 inb_S2x4096x256_S1x512x256_1_1024_0 inb_S2x256x4096_S1x256x512_1_0_1024,
    dqPiece arg12 f 1 512 inb_S2x4096x256_S1x512x256_1_512_0 inb_S2x256x4096_S1x256x512_1_0_512,
    dqPiece arg12 f 1 0 inb_S2x4096x256_S1x512x256_1_0_0 inb_S2x256x4096_S1x256x512_1_0_0,
    dqPiece arg12 f 0 3584 inb_S2x4096x256_S1x512x256_0_3584_0 inb_S2x256x4096_S1x256x512_0_0_3584,
    dqPiece arg12 f 0 3072 inb_S2x4096x256_S1x512x256_0_3072_0 inb_S2x256x4096_S1x256x512_0_0_3072,
    dqPiece arg12 f 0 2560 inb_S2x4096x256_S1x512x256_0_2560_0 inb_S2x256x4096_S1x256x512_0_0_2560,
    dqPiece arg12 f 0 2048 inb_S2x4096x256_S1x512x256_0_2048_0 inb_S2x256x4096_S1x256x512_0_0_2048,
    dqPiece arg12 f 0 1536 inb_S2x4096x256_S1x512x256_0_1536_0 inb_S2x256x4096_S1x256x512_0_0_1536,
    dqPiece arg12 f 0 1024 inb_S2x4096x256_S1x512x256_0_1024_0 inb_S2x256x4096_S1x256x512_0_0_1024,
    dqPiece arg12 f 0 512 inb_S2x4096x256_S1x512x256_0_512_0 inb_S2x256x4096_S1x256x512_0_0_512,
    dqPiece arg12 f 0 0 inb_S2x4096x256_S1x512x256_0_0_0 inb_S2x256x4096_S1x256x512_0_0_0]

set_option maxHeartbeats 4000000 in
theorem runLast_eq (h1 : ¬ condFirst i = 1#1) (h2 : k0_cond2 i = 1#1) (f : BufTy.Contents (Elt F) arg12.view.ty) :
    (runLast c i arg2 harg2 arg3 harg3 arg4 harg4 arg5 harg5 arg6 harg6 arg7 harg7 arg8 harg8 arg9 harg9 arg10 harg10 arg11 harg11 arg12 harg12 x2 x3 x4 x5 x6 x7 x8 h1 h2 f).1
      = ((core c i arg2 harg2 arg3 harg3 arg4 harg4 arg5 harg5 arg6 harg6 arg7 harg7 arg8 harg8 arg9 harg9 arg10 harg10 arg11 harg11 arg12 harg12 x2 x3 x4 x5 x6 x7 x8 f).1, (core c i arg2 harg2 arg3 harg3 arg4 harg4 arg5 harg5 arg6 harg6 arg7 harg7 arg8 harg8 arg9 harg9 arg10 harg10 arg11 harg11 arg12 harg12 x2 x3 x4 x5 x6 x7 x8 f).2.1, (core c i arg2 harg2 arg3 harg3 arg4 harg4 arg5 harg5 arg6 harg6 arg7 harg7 arg8 harg8 arg9 harg9 arg10 harg10 arg11 harg11 arg12 harg12 x2 x3 x4 x5 x6 x7 x8 f).2.2, dqPieces arg12 (core c i arg2 harg2 arg3 harg3 arg4 harg4 arg5 harg5 arg6 harg6 arg7 harg7 arg8 harg8 arg9 harg9 arg10 harg10 arg11 harg11 arg12 harg12 x2 x3 x4 x5 x6 x7 x8 f).2.2) := by
  have h0 : Scf.trips (k0_t2_loop i).lb (k0_t2_loop i).ub (k0_t2_loop i).st = 0 := no_remainder i
  unfold runLast
  simp only [runLast.sl.r_12, runLast.sl.v158, runLast.sl.r, runLast.sl.v194, runLast.sl.v103, runLast.sl.v1, runLast.sl.r_15, runLast.sl.r_8, runLast.sl.v188, runLast.sl.v5, runLast.sl.v128, runLast.sl.r_13, runLast.sl.cst_35, runLast.sl.r_16, runLast.sl.r_6, runLast.sl.v152, runLast.sl.r_11, runLast.sl.v176, runLast.sl.v99, runLast.sl.r_7, runLast.sl.v140, runLast.sl.v182, runLast.sl.r_9, runLast.sl.v89, runLast.sl.v146, runLast.sl.r_10, runLast.sl.r_2, runLast.sl.v170, runLast.sl.v122, runLast.sl.v164, runLast.sl.v212, runLast.sl.r_3, runLast.sl.v102, runLast.sl.v134, runLast.sl.v2, runLast.sl.r_5, runLast.sl.v100, runLast.sl.r_14, runLast.sl.v200, runLast.sl.r_4, runLast.sl.v206, runLast.sl.v0, runLast.sl.v104, runLast.sl.r_1, h0, st_k0_t2.eq_1, List.nil_append, View.writes_append, core, loopAt, diag, dqPieces]
  rfl

end

end Cert.KernelAttnIdeal.Body
-- ==== Proof.AttnTrip.lean ====
/- One trip of the attention backward kernel's loop over the query tiles after the diagonal: the state after it as a
   function of the state before it. -/
module

public import proofs.«01_k».proof.Proof.AttnCore
public import Idealize.ShloMosaic.Lib.Pipeline.ValueKit
public import Idealize.ShloMosaic.Lib.WritesUnit

@[expose] public section

set_option maxRecDepth 16384

noncomputable section

namespace Cert.KernelAttnIdeal.Body

open Idealize.ShloMosaic Idealize.ShloMosaic.TcCoe Idealize.ShloMosaic.Tactic Idealize.SL.Sem
open Cert.KernelAttnIdeal Cert.KernelAttnIdeal.Gen

variable {F : FTy → Type} [FloatOps F]

section
variable (c : Dev nD) (i : grid0.Coords)
  (arg2 : Memref sig .tc .vmem S2x4096x256 .bf16) (harg2 : arg2.IsWhole)
  (arg3 : Memref sig .tc .vmem S2x512x256 .bf16) (harg3 : arg3.IsWhole)
  (arg4 : Memref sig .tc .vmem S2x256x512 .bf16) (harg4 : arg4.IsWhole)
  (arg5 : Memref sig .tc .vmem S2x512x128 .bf16) (harg5 : arg5.IsWhole)
  (arg6 : Memref sig .tc .vmem S2x1x4096 .f32) (harg6 : arg6.IsWhole)
  (arg7 : Memref sig .tc .vmem S2x1x4096 .f32) (harg7 : arg7.IsWhole)
  (arg8 : Memref sig .tc .vmem S4096x256 .bf16) (harg8 : arg8.IsWhole)
  (arg9 : Memref sig .tc .vmem S2x4096x256 .f32) (harg9 : arg9.IsWhole)
  (arg10 : Memref sig .tc .vmem S2x512x256 .f32) (harg10 : arg10.IsWhole)
  (arg11 : Memref sig .tc .vmem S2x512x128 .f32) (harg11 : arg11.IsWhole)
  (arg12 : Memref sig .tc .vmem S2x256x4096 .f32) (harg12 : arg12.IsWhole)
  (x2 : Vec F S2x4096x256 .bf16) (x3 : Vec F S2x512x256 .bf16) (x4 : Vec F S2x256x512 .bf16)
  (x5 : Vec F S2x512x128 .bf16) (x6 : Vec F S2x1x4096 .f32) (x7 : Vec F S2x1x4096 .f32) (x8 : Vec F S4096x256 .bf16)

/-! ## One trip of the loop -/

section
variable (k : Fin (k0_t1_loop i).trips)

abbrev tq0 : Vec F S1x512x256 .bf16 := View.readAt (Elt F) arg2.view (Rect.unit (s := S2x4096x256) (k0_off9 i k) S1x512x256.size (k0_off9_inb i k)).toLoadRect (harg2.unread x2)
abbrev tq1 : Vec F S1x512x256 .bf16 := View.readAt (Elt F) arg2.view (Rect.unit (s := S2x4096x256) (k0_off10 i k) S1x512x256.size (k0_off10_inb i k)).toLoadRect (harg2.unread x2)
abbrev tl0 : Vec F S1x1x512 .f32 := View.readAt (Elt F) arg6.view (Rect.unit (s := S2x1x4096) (k0_off11 i k) S1x1x512.size (k0_off11_inb i k)).toLoadRect (harg6.unread x6)
abbrev tl1 : Vec F S1x1x512 .f32 := View.readAt (Elt F) arg6.view (Rect.unit (s := S2x1x4096) (k0_off14 i k) S1x1x512.size (k0_off14_inb i k)).toLoadRect (harg6.unread x6)
abbrev td0 : Vec F S1x1x512 .f32 := View.readAt (Elt F) arg7.view (Rect.unit (s := S2x1x4096) (k0_off11 i k) S1x1x512.size (k0_off11_inb i k)).toLoadRect (harg7.unread x7)
abbrev td1 : Vec F S1x1x512 .f32 := View.readAt (Elt F) arg7.view (Rect.unit (s := S2x1x4096) (k0_off14 i k) S1x1x512.size (k0_off14_inb i k)).toLoadRect (harg7.unread x7)
abbrev to0 : Vec F S512x128 .bf16 := View.readAt (Elt F) arg8.view (Rect.unit (s := S4096x256) (k0_off12 i k) S512x128.size (k0_off12_inb i k)).toLoadRect (harg8.unread x8)
abbrev to1 : Vec F S512x128 .bf16 := View.readAt (Elt F) arg8.view (Rect.unit (s := S4096x256) (k0_off15 i k) S512x128.size (k0_off15_inb i k)).toLoadRect (harg8.unread x8)

/-- A query tile's gradient of the scores, transposed, for the pair's first head; -/
abbrev ds0 : FVec F S512x512 .bf16 :=
  k0_pay13 (tq0 i arg2 harg2 x2 k) (ka0 arg3 harg3 x3) (tl0 i arg6 harg6 x6 k) (to0 i arg8 harg8 x8 k) (v0 arg5 harg5 x5) (td0 i arg7 harg7 x7 k)
/-- and for its second. -/
abbrev ds1 : FVec F S512x512 .bf16 :=
  k0_pay19 (k0_pay9 (tq1 i arg2 harg2 x2 k) (ka1 arg3 harg3 x3)) (tl1 i arg6 harg6 x6 k) (to1 i arg8 harg8 x8 k) (v1 arg5 harg5 x5) (td1 i arg7 harg7 x7 k)

/-- A trip's two updates of the scratch, found at `f`. -/
abbrev piece0 (f : BufTy.Contents (Elt F) arg12.view.ty) : View.Piece (Elt F) S2x256x4096 .f32 :=
  ⟨Rect.unit (s := S2x256x4096) (k0_off13 i k) S1x256x512.size (k0_off13_inb i k), k0_pay15 (ds0 i arg2 harg2 arg3 harg3 arg5 harg5 arg6 harg6 arg7 harg7 arg8 harg8 x2 x3 x5 x6 x7 x8 k)
      (View.readAt (Elt F) arg12.view (Rect.unit (s := S2x256x4096) (k0_off13 i k) S1x256x512.size (k0_off13_inb i k)).toLoadRect f) (kt0 arg4 harg4 x4)⟩
abbrev piece1 (f : BufTy.Contents (Elt F) arg12.view.ty) : View.Piece (Elt F) S2x256x4096 .f32 :=
  ⟨Rect.unit (s := S2x256x4096) (k0_off16 i k) S1x256x512.size (k0_off16_inb i k), k0_pay70 (ds1 i arg2 harg2 arg3 harg3 arg5 harg5 arg6 harg6 arg7 harg7 arg8 harg8 x2 x3 x5 x6 x7 x8 k)
      (View.readAt (Elt F) arg12.view (Rect.unit (s := S2x256x4096) (k0_off16 i k) S1x256x512.size (k0_off16_inb i k)).toLoadRect f) (kt1 arg4 harg4 x4)⟩

/-- A trip's effect on the loop's state, the scratch at `G` before the loop. -/
def step (G : BufTy.Contents (Elt F) arg12.view.ty)
    (s : (FVec F S512x256 .f32 × FVec F S512x128 .f32 × FVec F S512x256 .f32 × FVec F S512x128 .f32) × List (View.Piece (Elt F) S2x256x4096 .f32)) :
    (FVec F S512x256 .f32 × FVec F S512x128 .f32 × FVec F S512x256 .f32 × FVec F S512x128 .f32) × List (View.Piece (Elt F) S2x256x4096 .f32) :=
  ((k0_pay14 s.1.1 (k0_pay7 (tq0 i arg2 harg2 x2 k)) (ds0 i arg2 harg2 arg3 harg3 arg5 harg5 arg6 harg6 arg7 harg7 arg8 harg8 x2 x3 x5 x6 x7 x8 k),
    k0_pay12 s.1.2.1 (tq0 i arg2 harg2 x2 k) (ka0 arg3 harg3 x3) (tl0 i arg6 harg6 x6 k) (to0 i arg8 harg8 x8 k),
    k0_pay20 s.1.2.2.1 (k0_pay8 (tq1 i arg2 harg2 x2 k)) (k0_pay9 (tq1 i arg2 harg2 x2 k) (ka1 arg3 harg3 x3)) (tl1 i arg6 harg6 x6 k) (to1 i arg8 harg8 x8 k) (v1 arg5 harg5 x5) (td1 i arg7 harg7 x7 k),
    k0_pay18 s.1.2.2.2 (k0_pay9 (tq1 i arg2 harg2 x2 k) (ka1 arg3 harg3 x3)) (tl1 i arg6 harg6 x6 k) (to1 i arg8 harg8 x8 k)),
   piece1 i arg2 harg2 arg3 harg3 arg4 harg4 arg5 harg5 arg6 harg6 arg7 harg7 arg8 harg8 arg12 x2 x3 x4 x5 x6 x7 x8 k (arg12.view.writes (Elt F) G s.2) :: piece0 i arg2 harg2 arg3 harg3 arg4 harg4 arg5 harg5 arg6 harg6 arg7 harg7 arg8 harg8 arg12 x2 x3 x4 x5 x6 x7 x8 k (arg12.view.writes (Elt F) G s.2) :: s.2)

set_option maxHeartbeats 1000000 in
theorem loopAt_succ (f : BufTy.Contents (Elt F) arg12.view.ty) :
    loopAt c i arg2 harg2 arg3 harg3 arg4 harg4 arg5 harg5 arg6 harg6 arg7 harg7 arg8 harg8 arg9 harg9 arg10 harg10 arg11 harg11 arg12 harg12 x2 x3 x4 x5 x6 x7 x8 f (k.val + 1)
      = step i arg2 harg2 arg3 harg3 arg4 harg4 arg5 harg5 arg6 harg6 arg7 harg7 arg8 harg8 arg12 x2 x3 x4 x5 x6 x7 x8 k (diag i arg2 harg2 arg3 harg3 arg4 harg4 arg5 harg5 arg6 harg6 arg7 harg7 arg8 harg8 arg12 x2 x3 x4 x5 x6 x7 x8 f) (loopAt c i arg2 harg2 arg3 harg3 arg4 harg4 arg5 harg5 arg6 harg6 arg7 harg7 arg8 harg8 arg9 harg9 arg10 harg10 arg11 harg11 arg12 harg12 x2 x3 x4 x5 x6 x7 x8 f k.val) := by
  refine (st_k0_t1_succ ..).trans ?_
  rw [show st_k0_t1 Variants.none c none i arg2 harg2 arg3 harg3 arg4 harg4 arg5 harg5 arg6 harg6 arg7 harg7 arg8 harg8 arg9 harg9 arg10 harg10 arg11 harg11 arg12 harg12 _ k0_pay51 k0_pay52 _ _ _ _ _ _ _ _ _ _ _ _ _ _ _ _ _ _ k.val = loopAt c i arg2 harg2 arg3 harg3 arg4 harg4 arg5 harg5 arg6 harg6 arg7 harg7 arg8 harg8 arg9 harg9 arg10 harg10 arg11 harg11 arg12 harg12 x2 x3 x4 x5 x6 x7 x8 f k.val from rfl]
  generalize loopAt c i arg2 harg2 arg3 harg3 arg4 harg4 arg5 harg5 arg6 harg6 arg7 harg7 arg8 harg8 arg9 harg9 arg10 harg10 arg11 harg11 arg12 harg12 x2 x3 x4 x5 x6 x7 x8 f k.val = s
  unfold step tripR_k0_t1 tripL_k0_t1 trip_k0_t1
  simp only [tripR_k0_t1, tripL_k0_t1, List.cons_append, List.nil_append, trip_k0_t1.sl.v122, trip_k0_t1.sl.r_5, trip_k0_t1.sl.r_2, trip_k0_t1.sl.r_7, trip_k0_t1.sl.r_8, trip_k0_t1.sl.r_3, trip_k0_t1.sl.arg13, trip_k0_t1.sl.r, trip_k0_t1.sl.r_4, trip_k0_t1.sl.v196, trip_k0_t1.sl.r_6, trip_k0_t1.sl.r_1]
end

end

end Cert.KernelAttnIdeal.Body
-- ==== Proof.AttnTile.lean ====
/- The attention backward kernel's body over the extended reals: what a grid point adds to the gradients, as sums of a
   weight and of the gradient of a score over the query rows. -/
module

public import proofs.«01_k».proof.Proof.AttnTrip
public import Idealize.ShloMosaic.Lib.Pointwise
public import Idealize.ShloMosaic.Lib.WholeRead
public import Idealize.ShloMosaic.Lib.Pipeline.ValueKit
public import Idealize.ShloMosaic.Lib.WritesUnit

@[expose] public section

set_option maxRecDepth 16384

noncomputable section

namespace Cert.KernelAttnIdeal.Body

open Idealize.ShloMosaic Idealize.ShloMosaic.TcCoe Idealize.ShloMosaic.Tactic Idealize.SL.Sem
open Cert.KernelAttnIdeal Cert.KernelAttnIdeal.Gen

/-! ## The payloads at an index -/

section
variable (q k : Vec Ideal S1x512x256 .bf16) (kt : Vec Ideal S1x256x512 .bf16) (v : Vec Ideal S1x512x128 .bf16)
  (l d : Vec Ideal S1x1x512 .f32) (o : Vec Ideal S512x128 .bf16) (z : FVec Ideal S512x128 .f32)
  (w : FVec Ideal S512x256 .f32) (y : Vec Ideal S1x256x512 .f32) (x : FVec Ideal S512x512 .bf16) (p : FVec Ideal S512x512 .f32)

/-- A comparison of two places of a tile chooses between a score and −∞. -/
theorem mask_eq (a b : Fin 512) (s : EReal) :
    Scalar.select (IntOp.cmpi .sle (BitVec.ofNat 32 a.val) (BitVec.ofNat 32 b.val)) s (Ideal.ofBits FTy.f32 4286578688#32)
      = if a.val ≤ b.val then s else ⊥ := by
  have hb : Ideal.ofBits FTy.f32 4286578688#32 = ⊥ := by simp [Ideal.ofBits, Ideal.ieee]
  rw [hb]
  by_cases h : a.val ≤ b.val
  · have e := (WordCmp.cmpi_sle_ofNat_eq_one_iff (w := 32) (a := a.val) (b := b.val) (by omega) (by omega)).2 h
    rw [e, if_pos h]; rfl
  · have e := (WordCmp.cmpi_sle_ofNat_eq_zero_iff (w := 32) (a := a.val) (b := b.val) (by omega) (by omega)).2 (by omega)
    rw [e, if_neg h]; rfl

theorem p0_at (a b : Fin 512) : (k0_pay56 q k l : FVec Ideal S512x512 .f32) (ix2 a b)
    = Ideal.exp ((if a.val ≤ b.val then ∑ e : Fin 256, k (ix3 0 a e) * q (ix3 0 b e) else ⊥) - l (ix3 0 0 b)) := by
  pointwise [k0_pay56, k0_pay53]; rw [mask_eq]

theorem p1_at (a b : Fin 512) : (k0_pay63 (k0_pay55 q k) l : FVec Ideal S512x512 .f32) (ix2 a b)
    = Ideal.exp ((if a.val ≤ b.val then ∑ e : Fin 256, k (ix3 0 a e) * q (ix3 0 b e) else ⊥) - l (ix3 0 0 b)) := by
  pointwise [k0_pay63, k0_pay55, k0_pay54]; rw [mask_eq]

theorem dv0_at (a : Fin 512) (e : Fin 128) : k0_pay59 k0_pay52 (k0_pay58 q k l o) (ix2 a e)
    = ∑ b : Fin 512, k0_pay56 q k l (ix2 a b) * o (ix2 b e) := by
  pointwise [k0_pay59, k0_pay52, k0_pay58, k0_pay56, k0_pay57]

theorem dv1_at (a : Fin 512) (e : Fin 128) :
    k0_pay66 k0_pay52 (k0_pay64 o) (k0_pay65 (k0_pay55 q k) l) (constant S512x128 .f32 0#32) (ix2 a e)
      = ∑ b : Fin 512, k0_pay63 (k0_pay55 q k) l (ix2 a b) * o (ix2 b e) := by
  pointwise [k0_pay66, k0_pay52, k0_pay64, k0_pay65, k0_pay63, k0_pay55, k0_pay54]

theorem dk0_at (a : Fin 512) (e : Fin 256) : k0_pay61 k0_pay51 (k0_pay53 q) p (k0_pay57 o) v d (ix2 a e)
    = ∑ b : Fin 512, p (ix2 a b) * ((∑ f : Fin 128, v (ix3 0 a f) * o (ix2 b f)) - d (ix3 0 0 b)) * q (ix3 0 b e) := by
  pointwise [k0_pay61, k0_pay51, k0_pay53, k0_pay57, k0_pay60]

theorem dk1_at (a : Fin 512) (e : Fin 256) : k0_pay68 k0_pay51 (k0_pay54 q) p (k0_pay64 o) v d (ix2 a e)
    = ∑ b : Fin 512, p (ix2 a b) * ((∑ f : Fin 128, v (ix3 0 a f) * o (ix2 b f)) - d (ix3 0 0 b)) * q (ix3 0 b e) := by
  pointwise [k0_pay68, k0_pay51, k0_pay54, k0_pay64, k0_pay67]

theorem diag0_at (g : Fin 1) (a : Fin 256) (b : Fin 512) : k0_pay62 p (k0_pay57 o) v d y kt (ix3 g a b)
    = y (ix3 0 a b) + ∑ n : Fin 512, kt (ix3 0 a n) * (p (ix2 n b) * ((∑ f : Fin 128, v (ix3 0 n f) * o (ix2 b f)) - d (ix3 0 0 b))) := by
  pointwise [k0_pay62, k0_pay57, k0_pay60]

theorem diag1_at (g : Fin 1) (a : Fin 256) (b : Fin 512) : k0_pay69 p (k0_pay64 o) v d y kt (ix3 g a b)
    = y (ix3 0 a b) + ∑ n : Fin 512, kt (ix3 0 a n) * (p (ix2 n b) * ((∑ f : Fin 128, v (ix3 0 n f) * o (ix2 b f)) - d (ix3 0 0 b))) := by
  pointwise [k0_pay69, k0_pay64, k0_pay67]

theorem ds0_at (a b : Fin 512) : k0_pay13 q k l o v d (ix2 a b)
    = Ideal.exp ((∑ e : Fin 256, k (ix3 0 a e) * q (ix3 0 b e)) - l (ix3 0 0 b)) * ((∑ f : Fin 128, v (ix3 0 a f) * o (ix2 b f)) - d (ix3 0 0 b)) := by
  pointwise [k0_pay13, k0_pay7, k0_pay10, k0_pay11]

theorem ds1_at (a b : Fin 512) : k0_pay19 (k0_pay9 q k) l o v d (ix2 a b)
    = Ideal.exp ((∑ e : Fin 256, k (ix3 0 a e) * q (ix3 0 b e)) - l (ix3 0 0 b)) * ((∑ f : Fin 128, v (ix3 0 a f) * o (ix2 b f)) - d (ix3 0 0 b)) := by
  pointwise [k0_pay19, k0_pay9, k0_pay8, k0_pay16, k0_pay17]

theorem tv0_at (a : Fin 512) (e : Fin 128) : k0_pay12 z q k l o (ix2 a e)
    = z (ix2 a e) + ∑ b : Fin 512, Ideal.exp ((∑ f : Fin 256, k (ix3 0 a f) * q (ix3 0 b f)) - l (ix3 0 0 b)) * o (ix2 b e) := by
  pointwise [k0_pay12, k0_pay7, k0_pay10, k0_pay11]

theorem tv1_at (a : Fin 512) (e : Fin 128) : k0_pay18 z (k0_pay9 q k) l o (ix2 a e)
    = z (ix2 a e) + ∑ b : Fin 512, Ideal.exp ((∑ f : Fin 256, k (ix3 0 a f) * q (ix3 0 b f)) - l (ix3 0 0 b)) * o (ix2 b e) := by
  pointwise [k0_pay18, k0_pay9, k0_pay8, k0_pay16, k0_pay17]

theorem tk0_at (a : Fin 512) (e : Fin 256) : k0_pay14 w (k0_pay7 q) x (ix2 a e) = w (ix2 a e) + ∑ b : Fin 512, x (ix2 a b) * q (ix3 0 b e) := by
  pointwise [k0_pay14, k0_pay7]

theorem tk1_at (a : Fin 512) (e : Fin 256) : k0_pay20 w (k0_pay8 q) (k0_pay9 q k) l o v d (ix2 a e)
    = w (ix2 a e) + ∑ b : Fin 512, k0_pay19 (k0_pay9 q k) l o v d (ix2 a b) * q (ix3 0 b e) := by
  pointwise [k0_pay20, k0_pay8, k0_pay9, k0_pay19]

theorem tq0_add (g : Fin 1) (a : Fin 256) (b : Fin 512) : k0_pay15 x y kt (ix3 g a b) = y (ix3 0 a b) + ∑ n : Fin 512, kt (ix3 0 a n) * x (ix2 n b) := by
  pointwise [k0_pay15]

theorem tq1_add (g : Fin 1) (a : Fin 256) (b : Fin 512) : k0_pay70 x y kt (ix3 g a b) = y (ix3 0 a b) + ∑ n : Fin 512, kt (ix3 0 a n) * x (ix2 n b) := by
  pointwise [k0_pay70]

theorem out_k0 (g : Fin 1) (a : Fin 512) (e : Fin 256) : k0_pay72 w (ix3 g a e) = w (ix2 a e) := by pointwise [k0_pay72]
theorem out_k1 (g : Fin 1) (a : Fin 512) (e : Fin 256) : k0_pay2 w (ix3 g a e) = w (ix2 a e) := by pointwise [k0_pay2]
theorem out_v0 (g : Fin 1) (a : Fin 512) (e : Fin 128) : k0_pay1 z (ix3 g a e) = z (ix2 a e) := by pointwise [k0_pay1]
theorem out_v1 (g : Fin 1) (a : Fin 512) (e : Fin 128) : k0_pay3 z (ix3 g a e) = z (ix2 a e) := by pointwise [k0_pay3]
theorem out_q (g : Fin 1) (b : Fin 512) (a : Fin 256) : k0_pay5 y (ix3 g b a) = y (ix3 0 a b) := by pointwise [k0_pay5]
end

/-! ## What a point adds -/

/-- The query row that place `b` of tile `n` holds, -/
def qrow (n : ℕ) (b : Fin 512) : Fin 4096 := ⟨(512 * n + b.val) % 4096, Nat.mod_lt _ (by norm_num)⟩
/-- and the column of the output's gradient for place `e` of head `g` of the pair. -/
def col (g : Fin 2) (e : Fin 128) : Fin 256 := ⟨128 * g.val + e.val, by omega⟩

theorem qrow_val {n : ℕ} (hn : n < 8) (b : Fin 512) : (qrow n b).val = 512 * n + b.val := Nat.mod_eq_of_lt (by omega)

section
variable (j : ℕ) (x2 : Vec Ideal S2x4096x256 .bf16) (x3 : Vec Ideal S2x512x256 .bf16) (x4 : Vec Ideal S2x256x512 .bf16)
  (x5 : Vec Ideal S2x512x128 .bf16) (x6 : Vec Ideal S2x1x4096 .f32) (x7 : Vec Ideal S2x1x4096 .f32) (x8 : Vec Ideal S4096x256 .bf16)

/-- The weight of key `a` of key tile `j` in query row `b`, zero where the row comes before the key; -/
def weight (g : Fin 2) (a : Fin 512) (b : Fin 4096) : EReal :=
  Ideal.exp ((if 512 * j + a.val ≤ b.val then ∑ e : Fin 256, x3 (ix3 g a e) * x2 (ix3 g b e) else ⊥) - x6 (ix3 g 0 b))

/-- the gradient of its score; -/
def slope (g : Fin 2) (a : Fin 512) (b : Fin 4096) : EReal :=
  weight j x2 x3 x6 g a b * ((∑ f : Fin 128, x5 (ix3 g a f) * x8 (ix2 b (col g f))) - x7 (ix3 g 0 b))

/-- what query tile `n` adds to the key's gradient, -/
def tileK (n : ℕ) (g : Fin 2) (a : Fin 512) (e : Fin 256) : EReal :=
  ∑ b : Fin 512, slope j x2 x3 x5 x6 x7 x8 g a (qrow n b) * x2 (ix3 g (qrow n b) e)

/-- to the value's gradient, -/
def tileV (n : ℕ) (g : Fin 2) (a : Fin 512) (e : Fin 128) : EReal :=
  ∑ b : Fin 512, weight j x2 x3 x6 g a (qrow n b) * x8 (ix2 (qrow n b) (col g e))

/-- and what the key tile adds to query row `b`'s gradient. -/
def gain (g : Fin 2) (e : Fin 256) (b : Fin 4096) : EReal :=
  ∑ a : Fin 512, x4 (ix3 g e a) * slope j x2 x3 x5 x6 x7 x8 g a b

theorem weight_before {g : Fin 2} {a : Fin 512} {b : Fin 4096} (h : b.val < 512 * j) : weight j x2 x3 x6 g a b = 0 := by
  unfold weight
  rw [if_neg (by omega), sub_eq_add_neg, EReal.bot_add]
  rfl

theorem slope_before {g : Fin 2} {a : Fin 512} {b : Fin 4096} (h : b.val < 512 * j) : slope j x2 x3 x5 x6 x7 x8 g a b = 0 := by
  unfold slope
  rw [weight_before j x2 x3 x6 h, zero_mul]

theorem gain_before {g : Fin 2} {e : Fin 256} {b : Fin 4096} (h : b.val < 512 * j) : gain j x2 x3 x4 x5 x6 x7 x8 g e b = 0 := by
  unfold gain
  exact Finset.sum_eq_zero fun a _ => by rw [slope_before j x2 x3 x5 x6 x7 x8 h, mul_zero]
end

/-! ## The loads -/

/-- A load from a whole buffer reads its contents where the rectangle lies. -/
theorem load_at {s : Shape} {e : EltTy} (M : Memref sig .tc .vmem s e) (h : M.IsWhole) (X : Vec Ideal s e)
    {off size : Fin s.rank → ℕ} {inb : ∀ a, off a + size a ≤ s.size a} (y : (Rect.unit (s := s) off size inb).toLoadRect.shape.Idx)
    (z : s.Idx) {off' : Fin s.rank → ℕ} (ho : off = off') (hz : ∀ a, (z a).val = off' a + (y a).val) :
    View.readAt (Elt Ideal) M.view (Rect.unit (s := s) off size inb).toLoadRect (h.unread X) y = X z := by
  subst ho
  rw [h.readAt_unread]
  congr 1
  funext a
  exact Fin.ext ((Rect.idx_unit_val off size inb y a).trans (hz a).symm)

/-- Two tiles side by side along the pair, both written over a scratch: each row's column in the tile gains. -/
theorem two_tiles (M : Memref sig .tc .vmem S2x256x4096 .f32) (G : BufTy.Contents (Elt Ideal) M.view.ty)
    (L : List (View.Piece (Elt Ideal) S2x256x4096 .f32)) {n : ℕ} (hn : n < 8) {off1 off0 : Fin 3 → ℕ}
    (h1 : off1 = ![1, 0, 512 * n]) (h0 : off0 = ![0, 0, 512 * n])
    (i1 : ∀ a, off1 a + S1x256x512.size a ≤ S2x256x4096.size a) (i0 : ∀ a, off0 a + S1x256x512.size a ≤ S2x256x4096.size a)
    (w1 w0 : Vec Ideal S1x256x512 .f32) (C : Fin 2 → Fin 256 → Fin 4096 → EReal)
    (e1 : ∀ (e : Fin 256) (b : Fin 512), w1 (ix3 0 e b) = M.view.read (Elt Ideal) (M.view.writes (Elt Ideal) G L) (ix3 1 e (qrow n b)) + C 1 e (qrow n b))
    (e0 : ∀ (e : Fin 256) (b : Fin 512), w0 (ix3 0 e b) = M.view.read (Elt Ideal) (M.view.writes (Elt Ideal) G L) (ix3 0 e (qrow n b)) + C 0 e (qrow n b))
    (g : Fin 2) (e : Fin 256) (b : Fin 4096) :
    M.view.read (Elt Ideal) (M.view.writes (Elt Ideal) G
        (⟨Rect.unit (s := S2x256x4096) off1 S1x256x512.size i1, w1⟩ :: ⟨Rect.unit (s := S2x256x4096) off0 S1x256x512.size i0, w0⟩ :: L)) (ix3 g e b)
      = M.view.read (Elt Ideal) (M.view.writes (Elt Ideal) G L) (ix3 g e b) + if 512 * n ≤ b.val ∧ b.val < 512 * (n + 1) then C g e b else 0 := by
  subst h1 h0
  by_cases hb : 512 * n ≤ b.val ∧ b.val < 512 * (n + 1)
  · rw [if_pos hb]
    have hq : qrow n ⟨b.val - 512 * n, by omega⟩ = b := Fin.ext (by rw [qrow_val hn]; show 512 * n + (b.val - 512 * n) = _; omega)
    have hy : ∀ (a : Fin 3), (ix3 (n0 := 2) (n1 := 256) (n2 := 4096) g e b a : ℕ) = (![g.val, 0, 512 * n] : Fin 3 → ℕ) a + (ix3 (n0 := 1) (n1 := 256) (n2 := 512) 0 e ⟨b.val - 512 * n, by omega⟩ a : ℕ) := by
      intro a
      match a with
      | 0 => rfl
      | 1 => exact (Nat.zero_add _).symm
      | 2 => show b.val = 512 * n + (b.val - 512 * n); omega
    match g with
    | 0 =>
      rw [View.read_writes_cons_unit_of_not_mem M.view G i1 w1 _ (ix3 0 e b) rfl 0 (Or.inl Nat.zero_lt_one),
        View.read_writes_cons_unit_of_mem M.view G i0 w0 _ (ix3 0 e b) (x := ix3 0 e ⟨b.val - 512 * n, by omega⟩) rfl hy, e0, hq]
    | 1 =>
      rw [View.read_writes_cons_unit_of_mem M.view G i1 w1 _ (ix3 1 e b) (x := ix3 0 e ⟨b.val - 512 * n, by omega⟩) rfl hy, e1, hq]
  · rw [if_neg hb, add_zero,
      View.read_writes_cons_unit_of_not_mem M.view G i1 w1 _ (ix3 g e b) rfl 2 (show b.val < 512 * n ∨ 512 * n + 512 ≤ b.val by omega),
      View.read_writes_cons_unit_of_not_mem M.view G i0 w0 _ (ix3 g e b) rfl 2 (show b.val < 512 * n ∨ 512 * n + 512 ≤ b.val by omega)]

section
variable (c : Dev nD) (i : grid0.Coords)
  (arg2 : Memref sig .tc .vmem S2x4096x256 .bf16) (harg2 : arg2.IsWhole)
  (arg3 : Memref sig .tc .vmem S2x512x256 .bf16) (harg3 : arg3.IsWhole)
  (arg4 : Memref sig .tc .vmem S2x256x512 .bf16) (harg4 : arg4.IsWhole)
  (arg5 : Memref sig .tc .vmem S2x512x128 .bf16) (harg5 : arg5.IsWhole)
  (arg6 : Memref sig .tc .vmem S2x1x4096 .f32) (harg6 : arg6.IsWhole)
  (arg7 : Memref sig .tc .vmem S2x1x4096 .f32) (harg7 : arg7.IsWhole)
  (arg8 : Memref sig .tc .vmem S4096x256 .bf16) (harg8 : arg8.IsWhole)
  (arg9 : Memref sig .tc .vmem S2x4096x256 .f32) (harg9 : arg9.IsWhole)
  (arg10 : Memref sig .tc .vmem S2x512x256 .f32) (harg10 : arg10.IsWhole)
  (arg11 : Memref sig .tc .vmem S2x512x128 .f32) (harg11 : arg11.IsWhole)
  (arg12 : Memref sig .tc .vmem S2x256x4096 .f32) (harg12 : arg12.IsWhole)
  (x2 : Vec Ideal S2x4096x256 .bf16) (x3 : Vec Ideal S2x512x256 .bf16) (x4 : Vec Ideal S2x256x512 .bf16)
  (x5 : Vec Ideal S2x512x128 .bf16) (x6 : Vec Ideal S2x1x4096 .f32) (x7 : Vec Ideal S2x1x4096 .f32) (x8 : Vec Ideal S4096x256 .bf16)

/-- The loop takes the query tiles after the diagonal's. -/
theorem trips_eq : ∀ i : grid0.Coords, (k0_t1_loop i).trips = 7 - (i 1).val := by decide +kernel

theorem tile_lt (i : grid0.Coords) : (i 1).val < 8 := (i 1).isLt
theorem trip_tile_lt (i : grid0.Coords) (k : Fin (k0_t1_loop i).trips) : (i 1).val + 1 + k.val < 8 := by
  have h := lt_of_lt_of_eq k.isLt (trips_eq i)
  omega

variable (k : Fin (k0_t1_loop i).trips)

theorem q0_ld (z : Fin 1) (b : Fin 512) (e : Fin 256) : q0 i arg2 harg2 x2 (ix3 z b e) = x2 (ix3 0 (qrow (i 1).val b) e) := by
  refine load_at _ _ _ _ _ (k0_off1_eq i) fun n => ?_
  exact match n with | 0 => by show 0 = 0 + z.val; omega | 1 => by show (qrow _ b).val = 512 * (i 1).val + b.val; rw [qrow_val (tile_lt i)] | 2 => (Nat.zero_add _).symm
theorem q1_ld (z : Fin 1) (b : Fin 512) (e : Fin 256) : q1 i arg2 harg2 x2 (ix3 z b e) = x2 (ix3 1 (qrow (i 1).val b) e) := by
  refine load_at _ _ _ _ _ (k0_off2_eq i) fun n => ?_
  exact match n with | 0 => by show 1 = 1 + z.val; omega | 1 => by show (qrow _ b).val = 512 * (i 1).val + b.val; rw [qrow_val (tile_lt i)] | 2 => (Nat.zero_add _).symm
theorem ka0_ld (z : Fin 1) (a : Fin 512) (e : Fin 256) : ka0 arg3 harg3 x3 (ix3 z a e) = x3 (ix3 0 a e) := load_at _ _ _ _ _ rfl fun n => match n with | 0 => by show 0 = 0 + z.val; omega | 1 => (Nat.zero_add _).symm | 2 => (Nat.zero_add _).symm
theorem ka1_ld (z : Fin 1) (a : Fin 512) (e : Fin 256) : ka1 arg3 harg3 x3 (ix3 z a e) = x3 (ix3 1 a e) := load_at _ _ _ _ _ rfl fun n => match n with | 0 => by show 1 = 1 + z.val; omega | 1 => (Nat.zero_add _).symm | 2 => (Nat.zero_add _).symm
theorem kt0_ld (z : Fin 1) (e : Fin 256) (a : Fin 512) : kt0 arg4 harg4 x4 (ix3 z e a) = x4 (ix3 0 e a) := load_at _ _ _ _ _ rfl fun n => match n with | 0 => by show 0 = 0 + z.val; omega | 1 => (Nat.zero_add _).symm | 2 => (Nat.zero_add _).symm
theorem kt1_ld (z : Fin 1) (e : Fin 256) (a : Fin 512) : kt1 arg4 harg4 x4 (ix3 z e a) = x4 (ix3 1 e a) := load_at _ _ _ _ _ rfl fun n => match n with | 0 => by show 1 = 1 + z.val; omega | 1 => (Nat.zero_add _).symm | 2 => (Nat.zero_add _).symm
theorem v0_ld (z : Fin 1) (a : Fin 512) (e : Fin 128) : v0 arg5 harg5 x5 (ix3 z a e) = x5 (ix3 0 a e) := load_at _ _ _ _ _ rfl fun n => match n with | 0 => by show 0 = 0 + z.val; omega | 1 => (Nat.zero_add _).symm | 2 => (Nat.zero_add _).symm
theorem v1_ld (z : Fin 1) (a : Fin 512) (e : Fin 128) : v1 arg5 harg5 x5 (ix3 z a e) = x5 (ix3 1 a e) := load_at _ _ _ _ _ rfl fun n => match n with | 0 => by show 1 = 1 + z.val; omega | 1 => (Nat.zero_add _).symm | 2 => (Nat.zero_add _).symm
theorem l0_ld (z y : Fin 1) (b : Fin 512) : l0 i arg6 harg6 x6 (ix3 z y b) = x6 (ix3 0 0 (qrow (i 1).val b)) := by
  refine load_at _ _ _ _ _ (k0_off3_eq i) fun n => ?_
  exact match n with | 0 => by show 0 = 0 + z.val; omega | 1 => by show 0 = 0 + y.val; omega | 2 => by show (qrow _ b).val = 512 * (i 1).val + b.val; rw [qrow_val (tile_lt i)]
theorem l1_ld (z y : Fin 1) (b : Fin 512) : l1 i arg6 harg6 x6 (ix3 z y b) = x6 (ix3 1 0 (qrow (i 1).val b)) := by
  refine load_at _ _ _ _ _ (k0_off6_eq i) fun n => ?_
  exact match n with | 0 => by show 1 = 1 + z.val; omega | 1 => by show 0 = 0 + y.val; omega | 2 => by show (qrow _ b).val = 512 * (i 1).val + b.val; rw [qrow_val (tile_lt i)]
theorem d0_ld (z y : Fin 1) (b : Fin 512) : d0 i arg7 harg7 x7 (ix3 z y b) = x7 (ix3 0 0 (qrow (i 1).val b)) := by
  refine load_at _ _ _ _ _ (k0_off3_eq i) fun n => ?_
  exact match n with | 0 => by show 0 = 0 + z.val; omega | 1 => by show 0 = 0 + y.val; omega | 2 => by show (qrow _ b).val = 512 * (i 1).val + b.val; rw [qrow_val (tile_lt i)]
theorem d1_ld (z y : Fin 1) (b : Fin 512) : d1 i arg7 harg7 x7 (ix3 z y b) = x7 (ix3 1 0 (qrow (i 1).val b)) := by
  refine load_at _ _ _ _ _ (k0_off6_eq i) fun n => ?_
  exact match n with | 0 => by show 1 = 1 + z.val; omega | 1 => by show 0 = 0 + y.val; omega | 2 => by show (qrow _ b).val = 512 * (i 1).val + b.val; rw [qrow_val (tile_lt i)]
theorem o0_ld (b : Fin 512) (e : Fin 128) : o0 i arg8 harg8 x8 (ix2 b e) = x8 (ix2 (qrow (i 1).val b) (col 0 e)) := by
  refine load_at _ _ _ _ _ (k0_off4_eq i) fun n => ?_
  exact match n with | 0 => by show (qrow _ b).val = 512 * (i 1).val + b.val; rw [qrow_val (tile_lt i)] | 1 => rfl
theorem o1_ld (b : Fin 512) (e : Fin 128) : o1 i arg8 harg8 x8 (ix2 b e) = x8 (ix2 (qrow (i 1).val b) (col 1 e)) := by
  refine load_at _ _ _ _ _ (k0_off7_eq i) fun n => ?_
  exact match n with | 0 => by show (qrow _ b).val = 512 * (i 1).val + b.val; rw [qrow_val (tile_lt i)] | 1 => rfl
theorem tq0_ld (z : Fin 1) (b : Fin 512) (e : Fin 256) : tq0 i arg2 harg2 x2 k (ix3 z b e) = x2 (ix3 0 (qrow ((i 1).val + 1 + k.val) b) e) := by
  refine load_at _ _ _ _ _ (k0_off9_eq i k) fun n => ?_
  exact match n with | 0 => by show 0 = 0 + z.val; omega | 1 => by show (qrow _ b).val = 512 * (i 1).val + 512 * k.val + 512 + b.val; rw [qrow_val (trip_tile_lt i k)]; omega | 2 => (Nat.zero_add _).symm
theorem tq1_ld (z : Fin 1) (b : Fin 512) (e : Fin 256) : tq1 i arg2 harg2 x2 k (ix3 z b e) = x2 (ix3 1 (qrow ((i 1).val + 1 + k.val) b) e) := by
  refine load_at _ _ _ _ _ (k0_off10_eq i k) fun n => ?_
  exact match n with | 0 => by show 1 = 1 + z.val; omega | 1 => by show (qrow _ b).val = 512 * (i 1).val + 512 * k.val + 512 + b.val; rw [qrow_val (trip_tile_lt i k)]; omega | 2 => (Nat.zero_add _).symm
theorem tl0_ld (z y : Fin 1) (b : Fin 512) : tl0 i arg6 harg6 x6 k (ix3 z y b) = x6 (ix3 0 0 (qrow ((i 1).val + 1 + k.val) b)) := by
  refine load_at _ _ _ _ _ (k0_off11_eq i k) fun n => ?_
  exact match n with | 0 => by show 0 = 0 + z.val; omega | 1 => by show 0 = 0 + y.val; omega | 2 => by show (qrow _ b).val = 512 * (i 1).val + 512 * k.val + 512 + b.val; rw [qrow_val (trip_tile_lt i k)]; omega
theorem tl1_ld (z y : Fin 1) (b : Fin 512) : tl1 i arg6 harg6 x6 k (ix3 z y b) = x6 (ix3 1 0 (qrow ((i 1).val + 1 + k.val) b)) := by
  refine load_at _ _ _ _ _ (k0_off14_eq i k) fun n => ?_
  exact match n with | 0 => by show 1 = 1 + z.val; omega | 1 => by show 0 = 0 + y.val; omega | 2 => by show (qrow _ b).val = 512 * (i 1).val + 512 * k.val + 512 + b.val; rw [qrow_val (trip_tile_lt i k)]; omega
theorem td0_ld (z y : Fin 1) (b : Fin 512) : td0 i arg7 harg7 x7 k (ix3 z y b) = x7 (ix3 0 0 (qrow ((i 1).val + 1 + k.val) b)) := by
  refine load_at _ _ _ _ _ (k0_off11_eq i k) fun n => ?_
  exact match n with | 0 => by show 0 = 0 + z.val; omega | 1 => by show 0 = 0 + y.val; omega | 2 => by show (qrow _ b).val = 512 * (i 1).val + 512 * k.val + 512 + b.val; rw [qrow_val (trip_tile_lt i k)]; omega
theorem td1_ld (z y : Fin 1) (b : Fin 512) : td1 i arg7 harg7 x7 k (ix3 z y b) = x7 (ix3 1 0 (qrow ((i 1).val + 1 + k.val) b)) := by
  refine load_at _ _ _ _ _ (k0_off14_eq i k) fun n => ?_
  exact match n with | 0 => by show 1 = 1 + z.val; omega | 1 => by show 0 = 0 + y.val; omega | 2 => by show (qrow _ b).val = 512 * (i 1).val + 512 * k.val + 512 + b.val; rw [qrow_val (trip_tile_lt i k)]; omega
theorem to0_ld (b : Fin 512) (e : Fin 128) : to0 i arg8 harg8 x8 k (ix2 b e) = x8 (ix2 (qrow ((i 1).val + 1 + k.val) b) (col 0 e)) := by
  refine load_at _ _ _ _ _ (k0_off12_eq i k) fun n => ?_
  exact match n with | 0 => by show (qrow _ b).val = 512 * (i 1).val + 512 * k.val + 512 + b.val; rw [qrow_val (trip_tile_lt i k)]; omega | 1 => rfl
theorem to1_ld (b : Fin 512) (e : Fin 128) : to1 i arg8 harg8 x8 k (ix2 b e) = x8 (ix2 (qrow ((i 1).val + 1 + k.val) b) (col 1 e)) := by
  refine load_at _ _ _ _ _ (k0_off15_eq i k) fun n => ?_
  exact match n with | 0 => by show (qrow _ b).val = 512 * (i 1).val + 512 * k.val + 512 + b.val; rw [qrow_val (trip_tile_lt i k)]; omega | 1 => rfl
end

end Cert.KernelAttnIdeal.Body
-- ==== Proof.AttnPoint.lean ====
/- One grid point of the attention backward kernel over the extended reals: the blocks of the key and value gradients it
   computes and what it adds to the scratch. -/
module

public import proofs.«01_k».proof.Proof.AttnTile
public import Idealize.ShloMosaic.Lib.Pointwise
public import Idealize.ShloMosaic.Lib.WholeRead
public import Idealize.ShloMosaic.Lib.Pipeline.ValueKit
public import Idealize.ShloMosaic.Lib.WritesUnit

@[expose] public section

set_option maxRecDepth 16384

noncomputable section

namespace Cert.KernelAttnIdeal.Body

open Idealize.ShloMosaic Idealize.ShloMosaic.TcCoe Idealize.ShloMosaic.Tactic Idealize.SL.Sem
open Cert.KernelAttnIdeal Cert.KernelAttnIdeal.Gen

section
variable (c : Dev nD) (i : grid0.Coords)
  (arg2 : Memref sig .tc .vmem S2x4096x256 .bf16) (harg2 : arg2.IsWhole)
  (arg3 : Memref sig .tc .vmem S2x512x256 .bf16) (harg3 : arg3.IsWhole)
  (arg4 : Memref sig .tc .vmem S2x256x512 .bf16) (harg4 : arg4.IsWhole)
  (arg5 : Memref sig .tc .vmem S2x512x128 .bf16) (harg5 : arg5.IsWhole)
  (arg6 : Memref sig .tc .vmem S2x1x4096 .f32) (harg6 : arg6.IsWhole)
  (arg7 : Memref sig .tc .vmem S2x1x4096 .f32) (harg7 : arg7.IsWhole)
  (arg8 : Memref sig .tc .vmem S4096x256 .bf16) (harg8 : arg8.IsWhole)
  (arg9 : Memref sig .tc .vmem S2x4096x256 .f32) (harg9 : arg9.IsWhole)
  (arg10 : Memref sig .tc .vmem S2x512x256 .f32) (harg10 : arg10.IsWhole)
  (arg11 : Memref sig .tc .vmem S2x512x128 .f32) (harg11 : arg11.IsWhole)
  (arg12 : Memref sig .tc .vmem S2x256x4096 .f32) (harg12 : arg12.IsWhole)
  (x2 : Vec Ideal S2x4096x256 .bf16) (x3 : Vec Ideal S2x512x256 .bf16) (x4 : Vec Ideal S2x256x512 .bf16)
  (x5 : Vec Ideal S2x512x128 .bf16) (x6 : Vec Ideal S2x1x4096 .f32) (x7 : Vec Ideal S2x1x4096 .f32) (x8 : Vec Ideal S4096x256 .bf16)

/-! ## The tile on the diagonal -/

theorem p0_sem (a b : Fin 512) :
    (k0_pay56 (q0 i arg2 harg2 x2) (ka0 arg3 harg3 x3) (l0 i arg6 harg6 x6) : FVec Ideal S512x512 .f32) (ix2 a b)
      = weight (i 1).val x2 x3 x6 0 a (qrow (i 1).val b) := by
  rw [p0_at]
  simp only [q0_ld, ka0_ld, l0_ld]
  unfold weight
  simp only [qrow_val (tile_lt i), Nat.add_le_add_iff_left]

theorem dk0_sem (a : Fin 512) (e : Fin 256) : dk0 i arg2 harg2 arg3 harg3 arg5 harg5 arg6 harg6 arg7 harg7 arg8 harg8 x2 x3 x5 x6 x7 x8 (ix2 a e) = tileK (i 1).val x2 x3 x5 x6 x7 x8 (i 1).val 0 a e := by
  unfold dk0
  rw [dk0_at]
  simp only [p0_sem, v0_ld, o0_ld, d0_ld, q0_ld]
  rfl

theorem dv0_sem (a : Fin 512) (e : Fin 128) : dv0 i arg2 harg2 arg3 harg3 arg6 harg6 arg8 harg8 x2 x3 x6 x8 (ix2 a e) = tileV (i 1).val x2 x3 x6 x8 (i 1).val 0 a e := by
  unfold dv0
  rw [dv0_at]
  simp only [p0_sem, o0_ld]
  rfl

theorem p1_sem (a b : Fin 512) :
    (k0_pay63 (k0_pay55 (q1 i arg2 harg2 x2) (ka1 arg3 harg3 x3)) (l1 i arg6 harg6 x6) : FVec Ideal S512x512 .f32) (ix2 a b)
      = weight (i 1).val x2 x3 x6 1 a (qrow (i 1).val b) := by
  rw [p1_at]
  simp only [q1_ld, ka1_ld, l1_ld]
  unfold weight
  simp only [qrow_val (tile_lt i), Nat.add_le_add_iff_left]

theorem dk1_sem (a : Fin 512) (e : Fin 256) : dk1 i arg2 harg2 arg3 harg3 arg5 harg5 arg6 harg6 arg7 harg7 arg8 harg8 x2 x3 x5 x6 x7 x8 (ix2 a e) = tileK (i 1).val x2 x3 x5 x6 x7 x8 (i 1).val 1 a e := by
  unfold dk1
  rw [dk1_at]
  simp only [p1_sem, v1_ld, o1_ld, d1_ld, q1_ld]
  rfl

theorem dv1_sem (a : Fin 512) (e : Fin 128) : dv1 i arg2 harg2 arg3 harg3 arg6 harg6 arg8 harg8 x2 x3 x6 x8 (ix2 a e) = tileV (i 1).val x2 x3 x6 x8 (i 1).val 1 a e := by
  unfold dv1
  rw [dv1_at]
  simp only [p1_sem, o1_ld]
  rfl

/-- A load from the scratch reads its contents where the rectangle lies. -/
theorem scr_ld (f : BufTy.Contents (Elt Ideal) arg12.view.ty) {off size : Fin 3 → ℕ} {inb : ∀ a, off a + size a ≤ S2x256x4096.size a}
    (y : (Rect.unit (s := S2x256x4096) off size inb).toLoadRect.shape.Idx) (z : S2x256x4096.Idx) {off' : Fin 3 → ℕ} (ho : off = off')
    (hz : ∀ a, (z a).val = off' a + (y a).val) :
    View.readAt (Elt Ideal) arg12.view (Rect.unit (s := S2x256x4096) off size inb).toLoadRect f y = arg12.view.read (Elt Ideal) f z := by
  subst ho
  refine congrArg (arg12.view.read (Elt Ideal) f) ?_
  funext a
  exact Fin.ext ((Rect.idx_unit_val off size inb y a).trans (hz a).symm)

/-- The scratch after the diagonal tile. -/
theorem diag_sem (f : BufTy.Contents (Elt Ideal) arg12.view.ty) (g : Fin 2) (e : Fin 256) (b : Fin 4096) :
    arg12.view.read (Elt Ideal) (diag i arg2 harg2 arg3 harg3 arg4 harg4 arg5 harg5 arg6 harg6 arg7 harg7 arg8 harg8 arg12 x2 x3 x4 x5 x6 x7 x8 f) (ix3 g e b)
      = arg12.view.read (Elt Ideal) f (ix3 g e b)
        + if 512 * (i 1).val ≤ b.val ∧ b.val < 512 * ((i 1).val + 1) then gain (i 1).val x2 x3 x4 x5 x6 x7 x8 g e b else 0 := by
  unfold diag
  refine two_tiles arg12 f [] (tile_lt i) (k0_off8_eq i) (k0_off5_eq i) _ _ _ _ (gain (i 1).val x2 x3 x4 x5 x6 x7 x8) ?_ ?_ g e b
  · intro e b
    rw [diag1_at, scr_ld arg12 f (off := k0_off8 i) (inb := k0_off8_inb i) (ix3 0 e b) (ix3 1 e (qrow (i 1).val b)) (k0_off8_eq i) (fun n => match n with
      | 0 => rfl | 1 => (Nat.zero_add _).symm | 2 => qrow_val (tile_lt i) b)]
    simp only [p1_sem, v1_ld, o1_ld, d1_ld, kt1_ld]
    rfl
  · intro e b
    rw [diag0_at, scr_ld arg12 f (off := k0_off5 i) (inb := k0_off5_inb i) (ix3 0 e b) (ix3 0 e (qrow (i 1).val b)) (k0_off5_eq i) (fun n => match n with
      | 0 => rfl | 1 => (Nat.zero_add _).symm | 2 => qrow_val (tile_lt i) b)]
    simp only [p0_sem, v0_ld, o0_ld, d0_ld, kt0_ld]
    rfl

/-! ## One trip of the loop -/

section
variable (k : Fin (k0_t1_loop i).trips)

/-- Every key of the diagonal's tile comes before every row of a later tile. -/
theorem later (a b : Fin 512) : 512 * (i 1).val + a.val ≤ (qrow ((i 1).val + 1 + k.val) b).val := by
  rw [qrow_val (trip_tile_lt i k)]; omega

theorem ds0_sem (a b : Fin 512) :
    k0_pay13 (tq0 i arg2 harg2 x2 k) (ka0 arg3 harg3 x3) (tl0 i arg6 harg6 x6 k) (to0 i arg8 harg8 x8 k) (v0 arg5 harg5 x5) (td0 i arg7 harg7 x7 k) (ix2 a b)
      = slope (i 1).val x2 x3 x5 x6 x7 x8 0 a (qrow ((i 1).val + 1 + k.val) b) := by
  rw [ds0_at]
  simp only [tq0_ld, ka0_ld, tl0_ld, v0_ld, to0_ld, td0_ld]
  unfold slope weight
  rw [if_pos (later i k a b)]

theorem tv0_sem (z : FVec Ideal S512x128 .f32) (a : Fin 512) (e : Fin 128) :
    k0_pay12 z (tq0 i arg2 harg2 x2 k) (ka0 arg3 harg3 x3) (tl0 i arg6 harg6 x6 k) (to0 i arg8 harg8 x8 k) (ix2 a e)
      = z (ix2 a e) + tileV (i 1).val x2 x3 x6 x8 ((i 1).val + 1 + k.val) 0 a e := by
  rw [tv0_at]
  simp only [tq0_ld, ka0_ld, tl0_ld, to0_ld]
  refine congrArg _ (Finset.sum_congr rfl fun b _ => ?_)
  unfold weight
  rw [if_pos (later i k a b)]

theorem tk0_sem (w : FVec Ideal S512x256 .f32) (a : Fin 512) (e : Fin 256) :
    k0_pay14 w (k0_pay7 (tq0 i arg2 harg2 x2 k)) (ds0 i arg2 harg2 arg3 harg3 arg5 harg5 arg6 harg6 arg7 harg7 arg8 harg8 x2 x3 x5 x6 x7 x8 k) (ix2 a e)
      = w (ix2 a e) + tileK (i 1).val x2 x3 x5 x6 x7 x8 ((i 1).val + 1 + k.val) 0 a e := by
  rw [tk0_at]
  simp only [ds0_sem, tq0_ld]
  rfl

theorem ds1_sem (a b : Fin 512) :
    k0_pay19 (k0_pay9 (tq1 i arg2 harg2 x2 k) (ka1 arg3 harg3 x3)) (tl1 i arg6 harg6 x6 k) (to1 i arg8 harg8 x8 k) (v1 arg5 harg5 x5) (td1 i arg7 harg7 x7 k) (ix2 a b)
      = slope (i 1).val x2 x3 x5 x6 x7 x8 1 a (qrow ((i 1).val + 1 + k.val) b) := by
  rw [ds1_at]
  simp only [tq1_ld, ka1_ld, tl1_ld, v1_ld, to1_ld, td1_ld]
  unfold slope weight
  rw [if_pos (later i k a b)]

theorem tv1_sem (z : FVec Ideal S512x128 .f32) (a : Fin 512) (e : Fin 128) :
    k0_pay18 z (k0_pay9 (tq1 i arg2 harg2 x2 k) (ka1 arg3 harg3 x3)) (tl1 i arg6 harg6 x6 k) (to1 i arg8 harg8 x8 k) (ix2 a e)
      = z (ix2 a e) + tileV (i 1).val x2 x3 x6 x8 ((i 1).val + 1 + k.val) 1 a e := by
  rw [tv1_at]
  simp only [tq1_ld, ka1_ld, tl1_ld, to1_ld]
  refine congrArg _ (Finset.sum_congr rfl fun b _ => ?_)
  unfold weight
  rw [if_pos (later i k a b)]

theorem tk1_sem (w : FVec Ideal S512x256 .f32) (a : Fin 512) (e : Fin 256) :
    k0_pay20 w (k0_pay8 (tq1 i arg2 harg2 x2 k)) (k0_pay9 (tq1 i arg2 harg2 x2 k) (ka1 arg3 harg3 x3)) (tl1 i arg6 harg6 x6 k) (to1 i arg8 harg8 x8 k) (v1 arg5 harg5 x5) (td1 i arg7 harg7 x7 k) (ix2 a e)
      = w (ix2 a e) + tileK (i 1).val x2 x3 x5 x6 x7 x8 ((i 1).val + 1 + k.val) 1 a e := by
  rw [tk1_at]
  simp only [ds1_sem, tq1_ld]
  rfl

/-- The scratch after a trip. -/
theorem trip_sem (G : BufTy.Contents (Elt Ideal) arg12.view.ty) (L : List (View.Piece (Elt Ideal) S2x256x4096 .f32))
    (g : Fin 2) (e : Fin 256) (b : Fin 4096) :
    arg12.view.read (Elt Ideal) (arg12.view.writes (Elt Ideal) G
        (piece1 i arg2 harg2 arg3 harg3 arg4 harg4 arg5 harg5 arg6 harg6 arg7 harg7 arg8 harg8 arg12 x2 x3 x4 x5 x6 x7 x8 k (arg12.view.writes (Elt Ideal) G L) :: piece0 i arg2 harg2 arg3 harg3 arg4 harg4 arg5 harg5 arg6 harg6 arg7 harg7 arg8 harg8 arg12 x2 x3 x4 x5 x6 x7 x8 k (arg12.view.writes (Elt Ideal) G L) :: L)) (ix3 g e b)
      = arg12.view.read (Elt Ideal) (arg12.view.writes (Elt Ideal) G L) (ix3 g e b)
        + if 512 * ((i 1).val + 1 + k.val) ≤ b.val ∧ b.val < 512 * ((i 1).val + 1 + k.val + 1) then gain (i 1).val x2 x3 x4 x5 x6 x7 x8 g e b else 0 := by
  have ho : ∀ c, (![c, 0, 512 * (i 1).val + 512 * k.val + 512] : Fin 3 → ℕ) = ![c, 0, 512 * ((i 1).val + 1 + k.val)] := fun c => by
    rw [show 512 * (i 1).val + 512 * k.val + 512 = 512 * ((i 1).val + 1 + k.val) by omega]
  refine two_tiles arg12 G L (trip_tile_lt i k) ((k0_off16_eq i k).trans (ho 1)) ((k0_off13_eq i k).trans (ho 0)) _ _ _ _ (gain (i 1).val x2 x3 x4 x5 x6 x7 x8) ?_ ?_ g e b
  · intro e b
    rw [tq1_add, scr_ld arg12 _ (off := k0_off16 i k) (inb := k0_off16_inb i k) (ix3 0 e b) (ix3 1 e (qrow ((i 1).val + 1 + k.val) b)) ((k0_off16_eq i k).trans (ho 1)) (fun n => match n with
      | 0 => rfl | 1 => (Nat.zero_add _).symm | 2 => qrow_val (trip_tile_lt i k) b)]
    simp only [ds1_sem, kt1_ld]
    rfl
  · intro e b
    rw [tq0_add, scr_ld arg12 _ (off := k0_off13 i k) (inb := k0_off13_inb i k) (ix3 0 e b) (ix3 0 e (qrow ((i 1).val + 1 + k.val) b)) ((k0_off13_eq i k).trans (ho 0)) (fun n => match n with
      | 0 => rfl | 1 => (Nat.zero_add _).symm | 2 => qrow_val (trip_tile_lt i k) b)]
    simp only [ds0_sem, kt0_ld]
    rfl
end

/-! ## The loop -/

set_option maxHeartbeats 2000000 in
/-- The four gradients' accumulators before trip `n`: what the diagonal's tile and the tiles of the trips before add. -/
theorem loop_sem (f : BufTy.Contents (Elt Ideal) arg12.view.ty) (n : ℕ) (hn : n ≤ (k0_t1_loop i).trips) :
    (∀ (a : Fin 512) (e : Fin 256), (loopAt c i arg2 harg2 arg3 harg3 arg4 harg4 arg5 harg5 arg6 harg6 arg7 harg7 arg8 harg8 arg9 harg9 arg10 harg10 arg11 harg11 arg12 harg12 x2 x3 x4 x5 x6 x7 x8 f n).1.1 (ix2 a e) = ∑ m ∈ Finset.range (n + 1), tileK (i 1).val x2 x3 x5 x6 x7 x8 ((i 1).val + m) 0 a e)
    ∧ (∀ (a : Fin 512) (e : Fin 128), (loopAt c i arg2 harg2 arg3 harg3 arg4 harg4 arg5 harg5 arg6 harg6 arg7 harg7 arg8 harg8 arg9 harg9 arg10 harg10 arg11 harg11 arg12 harg12 x2 x3 x4 x5 x6 x7 x8 f n).1.2.1 (ix2 a e) = ∑ m ∈ Finset.range (n + 1), tileV (i 1).val x2 x3 x6 x8 ((i 1).val + m) 0 a e)
    ∧ (∀ (a : Fin 512) (e : Fin 256), (loopAt c i arg2 harg2 arg3 harg3 arg4 harg4 arg5 harg5 arg6 harg6 arg7 harg7 arg8 harg8 arg9 harg9 arg10 harg10 arg11 harg11 arg12 harg12 x2 x3 x4 x5 x6 x7 x8 f n).1.2.2.1 (ix2 a e) = ∑ m ∈ Finset.range (n + 1), tileK (i 1).val x2 x3 x5 x6 x7 x8 ((i 1).val + m) 1 a e)
    ∧ (∀ (a : Fin 512) (e : Fin 128), (loopAt c i arg2 harg2 arg3 harg3 arg4 harg4 arg5 harg5 arg6 harg6 arg7 harg7 arg8 harg8 arg9 harg9 arg10 harg10 arg11 harg11 arg12 harg12 x2 x3 x4 x5 x6 x7 x8 f n).1.2.2.2 (ix2 a e) = ∑ m ∈ Finset.range (n + 1), tileV (i 1).val x2 x3 x6 x8 ((i 1).val + m) 1 a e)
    ∧ (∀ (g : Fin 2) (e : Fin 256) (b : Fin 4096),
        arg12.view.read (Elt Ideal) (arg12.view.writes (Elt Ideal) (diag i arg2 harg2 arg3 harg3 arg4 harg4 arg5 harg5 arg6 harg6 arg7 harg7 arg8 harg8 arg12 x2 x3 x4 x5 x6 x7 x8 f) (loopAt c i arg2 harg2 arg3 harg3 arg4 harg4 arg5 harg5 arg6 harg6 arg7 harg7 arg8 harg8 arg9 harg9 arg10 harg10 arg11 harg11 arg12 harg12 x2 x3 x4 x5 x6 x7 x8 f n).2) (ix3 g e b)
          = arg12.view.read (Elt Ideal) f (ix3 g e b)
            + if 512 * (i 1).val ≤ b.val ∧ b.val < 512 * ((i 1).val + n + 1) then gain (i 1).val x2 x3 x4 x5 x6 x7 x8 g e b else 0) := by
  induction n with
  | zero =>
    simp only [Finset.sum_range_one, Nat.zero_add, Nat.add_zero]
    refine ⟨fun a e => ?_, fun a e => ?_, fun a e => ?_, fun a e => ?_, fun g e b => ?_⟩
    · exact dk0_sem i arg2 harg2 arg3 harg3 arg5 harg5 arg6 harg6 arg7 harg7 arg8 harg8 x2 x3 x5 x6 x7 x8 a e
    · exact dv0_sem i arg2 harg2 arg3 harg3 arg6 harg6 arg8 harg8 x2 x3 x6 x8 a e
    · exact dk1_sem i arg2 harg2 arg3 harg3 arg5 harg5 arg6 harg6 arg7 harg7 arg8 harg8 x2 x3 x5 x6 x7 x8 a e
    · exact dv1_sem i arg2 harg2 arg3 harg3 arg6 harg6 arg8 harg8 x2 x3 x6 x8 a e
    · exact diag_sem i arg2 harg2 arg3 harg3 arg4 harg4 arg5 harg5 arg6 harg6 arg7 harg7 arg8 harg8 arg12 x2 x3 x4 x5 x6 x7 x8 f g e b
  | succ n ih =>
    obtain ⟨h1, h2, h3, h4, h5⟩ := ih (Nat.le_of_succ_le hn)
    rw [show n + 1 = (⟨n, hn⟩ : Fin (k0_t1_loop i).trips).val + 1 from rfl, loopAt_succ]
    unfold step
    have hm : ∀ T : ℕ → EReal, T ((i 1).val + 1 + n) = T ((i 1).val + (n + 1)) := fun T => congrArg T (by omega)
    refine ⟨fun a e => ?_, fun a e => ?_, fun a e => ?_, fun a e => ?_, fun g e b => ?_⟩
    · rw [Finset.sum_range_succ, ← h1, ← hm fun m => tileK (i 1).val x2 x3 x5 x6 x7 x8 m 0 a e]
      exact tk0_sem i arg2 harg2 arg3 harg3 arg5 harg5 arg6 harg6 arg7 harg7 arg8 harg8 x2 x3 x5 x6 x7 x8 ⟨n, hn⟩ _ a e
    · rw [Finset.sum_range_succ, ← h2, ← hm fun m => tileV (i 1).val x2 x3 x6 x8 m 0 a e]
      exact tv0_sem i arg2 harg2 arg3 harg3 arg6 harg6 arg8 harg8 x2 x3 x6 x8 ⟨n, hn⟩ _ a e
    · rw [Finset.sum_range_succ, ← h3, ← hm fun m => tileK (i 1).val x2 x3 x5 x6 x7 x8 m 1 a e]
      exact tk1_sem i arg2 harg2 arg3 harg3 arg5 harg5 arg6 harg6 arg7 harg7 arg8 harg8 x2 x3 x5 x6 x7 x8 ⟨n, hn⟩ _ a e
    · rw [Finset.sum_range_succ, ← h4, ← hm fun m => tileV (i 1).val x2 x3 x6 x8 m 1 a e]
      exact tv1_sem i arg2 harg2 arg3 harg3 arg6 harg6 arg8 harg8 x2 x3 x6 x8 ⟨n, hn⟩ _ a e
    · rw [trip_sem, h5, add_assoc]
      refine congrArg _ ?_
      show (if 512 * (i 1).val ≤ b.val ∧ b.val < 512 * ((i 1).val + n + 1) then _ else (0 : EReal))
        + (if 512 * ((i 1).val + 1 + n) ≤ b.val ∧ b.val < 512 * ((i 1).val + 1 + n + 1) then _ else (0 : EReal))
        = if 512 * (i 1).val ≤ b.val ∧ b.val < 512 * ((i 1).val + (n + 1) + 1) then _ else (0 : EReal)
      split_ifs <;> first | omega | simp
end

end Cert.KernelAttnIdeal.Body
-- ==== Proof.AttnBlocks.lean ====
/- The blocks that each grid point of the attention backward kernel writes, over the extended reals: sums over all query
   rows for the key and value gradients, sums over the key tiles before for the scratch and the query gradients. -/
module

public import proofs.«01_k».proof.Proof.AttnPoint
public import Idealize.ShloMosaic.Lib.Pointwise
public import Idealize.ShloMosaic.Lib.WholeRead
public import Idealize.ShloMosaic.Lib.Pipeline.ValueKit
public import Idealize.ShloMosaic.Lib.WritesUnit

@[expose] public section

set_option maxRecDepth 16384

noncomputable section

namespace Cert.KernelAttnIdeal.Body

open Idealize.ShloMosaic Idealize.ShloMosaic.TcCoe Idealize.ShloMosaic.Tactic Idealize.SL.Sem
open Cert.KernelAttnIdeal Cert.KernelAttnIdeal.Gen

/-! ## The tiles together are all rows -/

/-- A sum over the tiles from `j` on, of terms that vanish before tile `j`, is the sum over all rows. -/
theorem sum_tiles (j : ℕ) (hj : j < 8) (F : Fin 4096 → EReal) (h0 : ∀ b : Fin 4096, b.val < 512 * j → F b = 0) :
    ∑ m ∈ Finset.range (8 - j), ∑ b : Fin 512, F (qrow (j + m) b) = ∑ b : Fin 4096, F b := by
  have hall : ∑ b : Fin 4096, F b = ∑ n ∈ Finset.range 8, ∑ b : Fin 512, F (qrow n b) := by
    rw [Finset.sum_range, ← Fintype.sum_prod_type']
    refine (Fintype.sum_equiv (finProdFinEquiv (m := 8) (n := 512)) (fun p : Fin 8 × Fin 512 => F (qrow p.1.val p.2)) F ?_).symm
    intro p
    refine congrArg F (Fin.ext ?_)
    rw [qrow_val p.1.isLt]
    show 512 * p.1.val + p.2.val = p.2.val + 512 * p.1.val
    omega
  have hs : Finset.range 8 = Finset.range (j + (8 - j)) := by rw [Nat.add_sub_cancel' hj.le]
  rw [hall, hs, Finset.sum_range_add, Finset.sum_eq_zero (s := Finset.range j), zero_add]
  intro n hn
  have hn' := Finset.mem_range.1 hn
  exact Finset.sum_eq_zero fun b _ => h0 _ (by rw [qrow_val (by omega)]; omega)

/-! ## What a list of stores leaves -/

/-- Two stores, one for each head of the pair. -/
theorem two_heads {p q : ℕ} (M : Memref sig .tc .vmem ⟨3, ![2, p, q]⟩ .f32) (f : BufTy.Contents (Elt Ideal) M.view.ty)
    (i1 : ∀ a, (![1, 0, 0] : Fin 3 → ℕ) a + (![1, p, q] : Fin 3 → ℕ) a ≤ (![2, p, q] : Fin 3 → ℕ) a)
    (i0 : ∀ a, (![0, 0, 0] : Fin 3 → ℕ) a + (![1, p, q] : Fin 3 → ℕ) a ≤ (![2, p, q] : Fin 3 → ℕ) a)
    (w1 w0 : Vec Ideal ⟨3, ![1, p, q]⟩ .f32) (C : Fin 2 → Fin p → Fin q → EReal)
    (e1 : ∀ a e, w1 (ix3 0 a e) = C 1 a e) (e0 : ∀ a e, w0 (ix3 0 a e) = C 0 a e) (g : Fin 2) (a : Fin p) (e : Fin q) :
    M.view.read (Elt Ideal) (M.view.writes (Elt Ideal) f
        [⟨Rect.unit (s := ⟨3, ![2, p, q]⟩) ![1, 0, 0] ![1, p, q] i1, w1⟩, ⟨Rect.unit (s := ⟨3, ![2, p, q]⟩) ![0, 0, 0] ![1, p, q] i0, w0⟩]) (ix3 g a e)
      = C g a e := by
  match g with
  | 0 =>
    rw [View.read_writes_cons_unit_of_not_mem M.view f i1 w1 _ (ix3 0 a e) rfl 0 (Or.inl Nat.zero_lt_one),
      View.read_writes_cons_unit_of_mem M.view f i0 w0 _ (ix3 0 a e) (x := ix3 0 a e) rfl
        (fun n => match n with | 0 => rfl | 1 => (Nat.zero_add _).symm | 2 => (Nat.zero_add _).symm), e0]
  | 1 =>
    rw [View.read_writes_cons_unit_of_mem M.view f i1 w1 _ (ix3 1 a e) (x := ix3 0 a e) rfl
        (fun n => match n with | 0 => rfl | 1 => (Nat.zero_add _).symm | 2 => (Nat.zero_add _).symm), e1]

/-- A tile's copy reads the scratch with its two axes exchanged. -/
theorem dqPiece_sem (arg12 : Memref sig .tc .vmem S2x256x4096 .f32) (f : BufTy.Contents (Elt Ideal) arg12.view.ty) (g b : ℕ) (h h')
    (x : (dqPiece arg12 f g b h h').1.shape.Idx) :
    (dqPiece arg12 f g b h h').2 x
      = (fun y : S2x4096x256.Idx => arg12.view.read (Elt Ideal) f (ix3 (y 0) (y 2) (y 1))) ((dqPiece arg12 f g b h h').1.emb x) := by
  rw [show x = ix3 (n0 := 1) (n1 := 512) (n2 := 256) (x 0) (x 1) (x 2) from funext fun n => match n with | 0 => rfl | 1 => rfl | 2 => rfl]
  refine (out_q (View.readAt (Elt Ideal) arg12.view (Rect.unit (s := S2x256x4096) ![g, 0, b] S1x256x512.size h').toLoadRect f) (x 0) (x 1) (x 2)).trans ?_
  rw [scr_ld arg12 f (off := ![g, 0, b]) (size := S1x256x512.size) (inb := h') (ix3 0 (x 2) (x 1))
    (ix3 ⟨g, by have := h' 0; simpa using this⟩ (x 2) ⟨b + (x 1).val, by have h1 := h 1; have h2 : (x 1).val < 512 := (x 1).isLt; change b + 512 ≤ 4096 at h1; show b + (x 1).val < 4096; omega⟩) rfl
    (fun n => match n with | 0 => rfl | 1 => (Nat.zero_add _).symm | 2 => rfl)]
  refine congrArg (arg12.view.read (Elt Ideal) f) ?_
  have h0 : (x 0).val < 1 := (x 0).isLt
  funext n
  match n with
  | 0 => exact Fin.ext (by show g = g + 1 * (x 0).val; omega)
  | 1 => exact Fin.ext (by show (x 2).val = 0 + 1 * (x 2).val; omega)
  | 2 => exact Fin.ext (by show b + (x 1).val = b + 1 * (x 1).val; omega)

section
variable (c : Dev nD) (i : grid0.Coords)
  (arg2 : Memref sig .tc .vmem S2x4096x256 .bf16) (harg2 : arg2.IsWhole)
  (arg3 : Memref sig .tc .vmem S2x512x256 .bf16) (harg3 : arg3.IsWhole)
  (arg4 : Memref sig .tc .vmem S2x256x512 .bf16) (harg4 : arg4.IsWhole)
  (arg5 : Memref sig .tc .vmem S2x512x128 .bf16) (harg5 : arg5.IsWhole)
  (arg6 : Memref sig .tc .vmem S2x1x4096 .f32) (harg6 : arg6.IsWhole)
  (arg7 : Memref sig .tc .vmem S2x1x4096 .f32) (harg7 : arg7.IsWhole)
  (arg8 : Memref sig .tc .vmem S4096x256 .bf16) (harg8 : arg8.IsWhole)
  (arg9 : Memref sig .tc .vmem S2x4096x256 .f32) (harg9 : arg9.IsWhole)
  (arg10 : Memref sig .tc .vmem S2x512x256 .f32) (harg10 : arg10.IsWhole)
  (arg11 : Memref sig .tc .vmem S2x512x128 .f32) (harg11 : arg11.IsWhole)
  (arg12 : Memref sig .tc .vmem S2x256x4096 .f32) (harg12 : arg12.IsWhole)
  (x2 : Vec Ideal S2x4096x256 .bf16) (x3 : Vec Ideal S2x512x256 .bf16) (x4 : Vec Ideal S2x256x512 .bf16)
  (x5 : Vec Ideal S2x512x128 .bf16) (x6 : Vec Ideal S2x1x4096 .f32) (x7 : Vec Ideal S2x1x4096 .f32) (x8 : Vec Ideal S4096x256 .bf16)

/-! ## One point -/

theorem last_trip : (k0_t1_loop i).trips + 1 = 8 - (i 1).val := by
  have := trips_eq i; have := tile_lt i; omega

/-- The key gradients' block is a sum over all query rows; -/
theorem core_k (f : BufTy.Contents (Elt Ideal) arg12.view.ty) (M : Memref sig .tc .vmem S2x512x256 .f32) (h : BufTy.Contents (Elt Ideal) M.view.ty)
    (g : Fin 2) (a : Fin 512) (e : Fin 256) :
    M.view.read (Elt Ideal) (M.view.writes (Elt Ideal) h (core c i arg2 harg2 arg3 harg3 arg4 harg4 arg5 harg5 arg6 harg6 arg7 harg7 arg8 harg8 arg9 harg9 arg10 harg10 arg11 harg11 arg12 harg12 x2 x3 x4 x5 x6 x7 x8 f).1) (ix3 g a e)
      = ∑ b : Fin 4096, slope (i 1).val x2 x3 x5 x6 x7 x8 g a b * x2 (ix3 g b e) := by
  obtain ⟨h1, -, h3, -, -⟩ := loop_sem c i arg2 harg2 arg3 harg3 arg4 harg4 arg5 harg5 arg6 harg6 arg7 harg7 arg8 harg8 arg9 harg9 arg10 harg10 arg11 harg11 arg12 harg12 x2 x3 x4 x5 x6 x7 x8 f _ le_rfl
  unfold core
  refine two_heads M h _ _ _ _ (fun g a e => ∑ b : Fin 4096, slope (i 1).val x2 x3 x5 x6 x7 x8 g a b * x2 (ix3 g b e)) ?_ ?_ g a e
  · intro a e
    refine (out_k1 _ 0 a e).trans ((h3 a e).trans ?_)
    rw [last_trip]
    exact sum_tiles _ (tile_lt i) (fun b => slope (i 1).val x2 x3 x5 x6 x7 x8 1 a b * x2 (ix3 1 b e)) fun b hb => by rw [slope_before (i 1).val x2 x3 x5 x6 x7 x8 hb, zero_mul]
  · intro a e
    refine (out_k0 _ 0 a e).trans ((h1 a e).trans ?_)
    rw [last_trip]
    exact sum_tiles _ (tile_lt i) (fun b => slope (i 1).val x2 x3 x5 x6 x7 x8 0 a b * x2 (ix3 0 b e)) fun b hb => by rw [slope_before (i 1).val x2 x3 x5 x6 x7 x8 hb, zero_mul]

/-- so is the value gradients' block; -/
theorem core_v (f : BufTy.Contents (Elt Ideal) arg12.view.ty) (M : Memref sig .tc .vmem S2x512x128 .f32) (h : BufTy.Contents (Elt Ideal) M.view.ty)
    (g : Fin 2) (a : Fin 512) (e : Fin 128) :
    M.view.read (Elt Ideal) (M.view.writes (Elt Ideal) h (core c i arg2 harg2 arg3 harg3 arg4 harg4 arg5 harg5 arg6 harg6 arg7 harg7 arg8 harg8 arg9 harg9 arg10 harg10 arg11 harg11 arg12 harg12 x2 x3 x4 x5 x6 x7 x8 f).2.1) (ix3 g a e)
      = ∑ b : Fin 4096, weight (i 1).val x2 x3 x6 g a b * x8 (ix2 b (col g e)) := by
  obtain ⟨-, h2, -, h4, -⟩ := loop_sem c i arg2 harg2 arg3 harg3 arg4 harg4 arg5 harg5 arg6 harg6 arg7 harg7 arg8 harg8 arg9 harg9 arg10 harg10 arg11 harg11 arg12 harg12 x2 x3 x4 x5 x6 x7 x8 f _ le_rfl
  unfold core
  refine two_heads M h _ _ _ _ (fun g a e => ∑ b : Fin 4096, weight (i 1).val x2 x3 x6 g a b * x8 (ix2 b (col g e))) ?_ ?_ g a e
  · intro a e
    refine (out_v1 _ 0 a e).trans ((h4 a e).trans ?_)
    rw [last_trip]
    exact sum_tiles _ (tile_lt i) (fun b => weight (i 1).val x2 x3 x6 1 a b * x8 (ix2 b (col 1 e))) fun b hb => by rw [weight_before (i 1).val x2 x3 x6 hb, zero_mul]
  · intro a e
    refine (out_v0 _ 0 a e).trans ((h2 a e).trans ?_)
    rw [last_trip]
    exact sum_tiles _ (tile_lt i) (fun b => weight (i 1).val x2 x3 x6 0 a b * x8 (ix2 b (col 0 e))) fun b hb => by rw [weight_before (i 1).val x2 x3 x6 hb, zero_mul]

/-- and the scratch gains the key tile's part of each query row's gradient. -/
theorem core_q (f : BufTy.Contents (Elt Ideal) arg12.view.ty) (g : Fin 2) (e : Fin 256) (b : Fin 4096) :
    arg12.view.read (Elt Ideal) (core c i arg2 harg2 arg3 harg3 arg4 harg4 arg5 harg5 arg6 harg6 arg7 harg7 arg8 harg8 arg9 harg9 arg10 harg10 arg11 harg11 arg12 harg12 x2 x3 x4 x5 x6 x7 x8 f).2.2 (ix3 g e b) = arg12.view.read (Elt Ideal) f (ix3 g e b) + gain (i 1).val x2 x3 x4 x5 x6 x7 x8 g e b := by
  obtain ⟨-, -, -, -, h5⟩ := loop_sem c i arg2 harg2 arg3 harg3 arg4 harg4 arg5 harg5 arg6 harg6 arg7 harg7 arg8 harg8 arg9 harg9 arg10 harg10 arg11 harg11 arg12 harg12 x2 x3 x4 x5 x6 x7 x8 f _ le_rfl
  unfold core
  refine (h5 g e b).trans (congrArg _ ?_)
  have hl := last_trip i
  have hb := b.isLt
  have ht := tile_lt i
  by_cases h : 512 * (i 1).val ≤ b.val
  · rw [if_pos ⟨h, by omega⟩]
  · rw [if_neg (fun h' => h h'.1), gain_before (i 1).val x2 x3 x4 x5 x6 x7 x8 (by omega)]
end

/-! ## At the grid's points -/

variable (m : (ℓ : Loc nD τ sig) → Buf (Elt Ideal) ℓ)

/-- A point's body at the staged blocks. -/
abbrev coreAt (c : Dev nD) (t : Fin cfg0.N) (f : BufTy.Contents (Elt Ideal) sc.view.ty) :=
  core c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (st0_6 t) (hstage0_6 ((cfg0.slots t 6).cast nbuf0_6)) (st0_7 t) (hstage0_7 ((cfg0.slots t 7).cast nbuf0_7))
    (st0_8 t) (hstage0_8 ((cfg0.slots t 8).cast nbuf0_8)) (st0_9 t) (hstage0_9 ((cfg0.slots t 9).cast nbuf0_9)) sc (Memref.isWhole_whole _)
    (iblk m c 0 t) (iblk m c 1 t) (iblk m c 2 t) (iblk m c 3 t) (iblk m c 4 t) (iblk m c 5 t) (iblk m c 6 t) f

/-- The scratch that a point starts from: cleared at a head pair's first point. -/
def start (t : Fin cfg0.N) (f : BufTy.Contents (Elt Ideal) sc.view.ty) : BufTy.Contents (Elt Ideal) sc.view.ty :=
  if t.val % 8 = 0 then zeroed sc else f

set_option maxHeartbeats 1000000 in
theorem left_core (c : Dev nD) (t : Fin cfg0.N) (f : BufTy.Contents (Elt Ideal) sc.view.ty) :
    (left m c t f).1 = (coreAt m c t (start t f)).1 ∧ (left m c t f).2.1 = (coreAt m c t (start t f)).2.1
      ∧ (left m c t f).2.2.1 = (coreAt m c t (start t f)).2.2
      ∧ (t.val % 8 = 7 → (left m c t f).2.2.2 = dqPieces sc (coreAt m c t (start t f)).2.2) := by
  unfold start
  by_cases h0 : t.val % 8 = 0
  · have e : (leftFirst m c t h0 (by omega) f).1 = coreAt m c t (zeroed sc) := runFirst_eq ..
    rw [if_pos h0, left_first m c t h0 (by omega), e]
    exact ⟨rfl, rfl, rfl, fun h => absurd h (by omega)⟩
  rw [if_neg h0]
  by_cases h7 : t.val % 8 = 7
  · have e : (leftLast m c t h0 h7 f).1 = ((coreAt m c t f).1, (coreAt m c t f).2.1, (coreAt m c t f).2.2, dqPieces sc (coreAt m c t f).2.2) := runLast_eq ..
    rw [left_last m c t h0 h7, e]
    exact ⟨rfl, rfl, rfl, fun _ => rfl⟩
  · have e : (leftMid m c t h0 h7 f).1 = coreAt m c t f := runMid_eq ..
    rw [left_mid m c t h0 h7, e]
    exact ⟨rfl, rfl, rfl, fun h => absurd h h7⟩

end Cert.KernelAttnIdeal.Body
-- ==== Proof.AttnArrays.lean ====
/- The arrays that the attention backward kernel returns, over the extended reals, as functions of the arrays it reads. -/
module

public import proofs.«01_k».proof.Proof.AttnBlocks
public import Idealize.ShloMosaic.Lib.Pointwise
public import Idealize.ShloMosaic.Lib.WholeRead
public import Idealize.ShloMosaic.Lib.Pipeline.ValueKit
public import Idealize.ShloMosaic.Lib.WritesUnit

@[expose] public section

set_option maxRecDepth 16384

noncomputable section

namespace Cert.KernelAttnIdeal.Body

open Idealize.ShloMosaic Idealize.ShloMosaic.TcCoe Idealize.ShloMosaic.Tactic Idealize.SL.Sem
open Cert.KernelAttnIdeal Cert.KernelAttnIdeal.Gen

/-! ## The gradients over the whole arrays -/

/-- The column of the output's gradient for place `f` of head `h`. -/
def hcol (h : Fin 8) (f : Fin 128) : Fin 1024 := ⟨128 * h.val + f.val, by omega⟩

section
variable (Q K : Vec Ideal S8x4096x256 .bf16) (KT : Vec Ideal S8x256x4096 .bf16) (V : Vec Ideal S8x4096x128 .bf16)
  (L D : Vec Ideal S8x1x4096 .f32) (O : Vec Ideal S4096x1024 .bf16)

/-- The weight of key `a` in query row `b`; -/
def wt (h : Fin 8) (a b : Fin 4096) : EReal :=
  Ideal.exp ((if a.val ≤ b.val then ∑ e : Fin 256, K (ix3 h a e) * Q (ix3 h b e) else ⊥) - L (ix3 h 0 b))
/-- the gradient of its score. -/
def sl (h : Fin 8) (a b : Fin 4096) : EReal :=
  wt Q K L h a b * ((∑ f : Fin 128, V (ix3 h a f) * O (ix2 b (hcol h f))) - D (ix3 h 0 b))

/-- The query's gradient, -/
def gradQ : Vec Ideal S8x4096x256 .f32 := fun y => ∑ a : Fin 4096, KT (ix3 (y 0) (y 2) a) * sl Q K V L D O (y 0) a (y 1)
/-- the key's, -/
def gradK : Vec Ideal S8x4096x256 .f32 := fun y => ∑ b : Fin 4096, sl Q K V L D O (y 0) (y 1) b * Q (ix3 (y 0) b (y 2))
/-- the value's. -/
def gradV : Vec Ideal S8x4096x128 .f32 := fun y => ∑ b : Fin 4096, wt Q K L (y 0) (y 1) b * O (ix2 b (hcol (y 0) (y 2)))
end

/-! ## The blocks staged at a point -/

section
variable (m : (ℓ : Loc nD τ sig) → Buf (Elt Ideal) ℓ) (c : Dev nD)

/-- The block of every window at a point. -/
theorem idx : ∀ t : Fin cfg0.N, win0_0.index t = ![t.val / 8, 0, 0] ∧ win0_1.index t = ![t.val / 8, t.val % 8, 0]
    ∧ win0_2.index t = ![t.val / 8, 0, t.val % 8] ∧ win0_3.index t = ![t.val / 8, t.val % 8, 0]
    ∧ win0_4.index t = ![t.val / 8, 0, 0] ∧ win0_5.index t = ![t.val / 8, 0, 0] ∧ win0_6.index t = ![0, t.val / 8]
    ∧ win0_7.index t = ![t.val / 8, 0, 0] ∧ win0_8.index t = ![t.val / 8, t.val % 8, 0] ∧ win0_9.index t = ![t.val / 8, t.val % 8, 0] :=
  (by decide +kernel : ∀ t : Fin grid0.N, _)
theorem coord1 : ∀ t : Fin cfg0.N, (grid0.coords t 1).val = t.val % 8 := (by decide +kernel : ∀ t : Fin grid0.N, _)

/-- The head and the key row at a point. -/
def head (t : Fin cfg0.N) (g : Fin 2) : Fin 8 := ⟨2 * (t.val / 8) + g.val, by have := t.isLt; have : cfg0.N = 32 := rfl; omega⟩
def krow (t : Fin cfg0.N) (a : Fin 512) : Fin 4096 := ⟨512 * (t.val % 8) + a.val, by omega⟩

theorem rd0 (X : Vec Ideal S8x4096x256 .bf16) (t : Fin cfg0.N) (g : Fin 2) (b : Fin 4096) (e : Fin 256) :
    (((cfg0.win 0).blk t).view.read (Elt Ideal) X : Vec Ideal S2x4096x256 .bf16) (ix3 g b e) = X (ix3 (head t g) b e) := by
  unfold head; blk_point [idx t]
theorem blk0 (t : Fin cfg0.N) (g : Fin 2) (b : Fin 4096) (e : Fin 256) :
    (iblk m c 0 t : Vec Ideal S2x4096x256 .bf16) (ix3 g b e) = (V m c main_v51 : Vec Ideal S8x4096x256 .bf16) (ix3 (head t g) b e) := rd0 (V m c main_v51) t g b e
theorem rd1 (X : Vec Ideal S8x4096x256 .bf16) (t : Fin cfg0.N) (g : Fin 2) (a : Fin 512) (e : Fin 256) :
    (((cfg0.win 1).blk t).view.read (Elt Ideal) X : Vec Ideal S2x512x256 .bf16) (ix3 g a e) = X (ix3 (head t g) (krow t a) e) := by
  unfold head krow; blk_point [idx t]
theorem blk1 (t : Fin cfg0.N) (g : Fin 2) (a : Fin 512) (e : Fin 256) :
    (iblk m c 1 t : Vec Ideal S2x512x256 .bf16) (ix3 g a e) = (V m c main_v54 : Vec Ideal S8x4096x256 .bf16) (ix3 (head t g) (krow t a) e) := rd1 (V m c main_v54) t g a e
theorem rd2 (X : Vec Ideal S8x256x4096 .bf16) (t : Fin cfg0.N) (g : Fin 2) (e : Fin 256) (a : Fin 512) :
    (((cfg0.win 2).blk t).view.read (Elt Ideal) X : Vec Ideal S2x256x512 .bf16) (ix3 g e a) = X (ix3 (head t g) e (krow t a)) := by
  unfold head krow; blk_point [idx t]
theorem blk2 (t : Fin cfg0.N) (g : Fin 2) (e : Fin 256) (a : Fin 512) :
    (iblk m c 2 t : Vec Ideal S2x256x512 .bf16) (ix3 g e a) = (V m c main_v57 : Vec Ideal S8x256x4096 .bf16) (ix3 (head t g) e (krow t a)) := rd2 (V m c main_v57) t g e a
theorem rd3 (X : Vec Ideal S8x4096x128 .bf16) (t : Fin cfg0.N) (g : Fin 2) (a : Fin 512) (f : Fin 128) :
    (((cfg0.win 3).blk t).view.read (Elt Ideal) X : Vec Ideal S2x512x128 .bf16) (ix3 g a f) = X (ix3 (head t g) (krow t a) f) := by
  unfold head krow; blk_point [idx t]
theorem blk3 (t : Fin cfg0.N) (g : Fin 2) (a : Fin 512) (f : Fin 128) :
    (iblk m c 3 t : Vec Ideal S2x512x128 .bf16) (ix3 g a f) = (V m c main_v56 : Vec Ideal S8x4096x128 .bf16) (ix3 (head t g) (krow t a) f) := rd3 (V m c main_v56) t g a f
theorem rd4 (X : Vec Ideal S8x1x4096 .f32) (t : Fin cfg0.N) (g : Fin 2) (b : Fin 4096) :
    (((cfg0.win 4).blk t).view.read (Elt Ideal) X : Vec Ideal S2x1x4096 .f32) (ix3 g 0 b) = X (ix3 (head t g) 0 b) := by
  unfold head; blk_point [idx t]
theorem blk4 (t : Fin cfg0.N) (g : Fin 2) (b : Fin 4096) :
    (iblk m c 4 t : Vec Ideal S2x1x4096 .f32) (ix3 g 0 b) = (V m c main_v19 : Vec Ideal S8x1x4096 .f32) (ix3 (head t g) 0 b) := rd4 (V m c main_v19) t g b
theorem rd5 (X : Vec Ideal S8x1x4096 .f32) (t : Fin cfg0.N) (g : Fin 2) (b : Fin 4096) :
    (((cfg0.win 5).blk t).view.read (Elt Ideal) X : Vec Ideal S2x1x4096 .f32) (ix3 g 0 b) = X (ix3 (head t g) 0 b) := by
  unfold head; blk_point [idx t]
theorem blk5 (t : Fin cfg0.N) (g : Fin 2) (b : Fin 4096) :
    (iblk m c 5 t : Vec Ideal S2x1x4096 .f32) (ix3 g 0 b) = (V m c main_v46 : Vec Ideal S8x1x4096 .f32) (ix3 (head t g) 0 b) := rd5 (V m c main_v46) t g b
theorem rd6 (X : Vec Ideal S4096x1024 .bf16) (t : Fin cfg0.N) (g : Fin 2) (b : Fin 4096) (f : Fin 128) :
    (((cfg0.win 6).blk t).view.read (Elt Ideal) X : Vec Ideal S4096x256 .bf16) (ix2 b (col g f)) = X (ix2 b (hcol (head t g) f)) := by
  unfold head col hcol; blk_point [idx t]
theorem blk6 (t : Fin cfg0.N) (g : Fin 2) (b : Fin 4096) (f : Fin 128) :
    (iblk m c 6 t : Vec Ideal S4096x256 .bf16) (ix2 b (col g f)) = (V m c main_v59 : Vec Ideal S4096x1024 .bf16) (ix2 b (hcol (head t g) f)) := rd6 (V m c main_v59) t g b f

/-- The arrays the kernel reads. -/
abbrev aQ : Vec Ideal S8x4096x256 .bf16 := V m c main_v51
abbrev aK : Vec Ideal S8x4096x256 .bf16 := V m c main_v54
abbrev aT : Vec Ideal S8x256x4096 .bf16 := V m c main_v57
abbrev aV : Vec Ideal S8x4096x128 .bf16 := V m c main_v56
abbrev aL : Vec Ideal S8x1x4096 .f32 := V m c main_v19
abbrev aD : Vec Ideal S8x1x4096 .f32 := V m c main_v46
abbrev aO : Vec Ideal S4096x1024 .bf16 := V m c main_v59

/-- A point's weight is the array's; -/
theorem weight_blk (t : Fin cfg0.N) (g : Fin 2) (a : Fin 512) (b : Fin 4096) :
    weight (grid0.coords t 1).val (iblk m c 0 t) (iblk m c 1 t) (iblk m c 4 t) g a b = wt (aQ m c) (aK m c) (aL m c) (head t g) (krow t a) b := by
  unfold weight wt
  simp only [blk0, blk1, blk4, coord1]
  rfl

/-- so is the gradient of a score. -/
theorem slope_blk (t : Fin cfg0.N) (g : Fin 2) (a : Fin 512) (b : Fin 4096) :
    slope (grid0.coords t 1).val (iblk m c 0 t) (iblk m c 1 t) (iblk m c 3 t) (iblk m c 4 t) (iblk m c 5 t) (iblk m c 6 t) g a b
      = sl (aQ m c) (aK m c) (aV m c) (aL m c) (aD m c) (aO m c) (head t g) (krow t a) b := by
  unfold slope sl
  simp only [weight_blk, blk3, blk5, blk6]

/-! ## The scratch between points -/

/-- The cleared scratch is zero. -/
theorem zeroed_sem (y : S2x256x4096.Idx) : sc.view.read (Elt Ideal) (zeroed (F := Ideal) sc) y = 0 := by
  obtain ⟨g, e, b, rfl⟩ : ∃ (g : Fin 2) (e : Fin 256) (b : Fin 4096), y = ix3 g e b := ⟨y 0, y 1, y 2, eq_ix3 y⟩
  frame_out
  pointwise [k0_pay50]

theorem sum_tiles' (F : Fin 4096 → EReal) : ∑ j ∈ Finset.range 8, ∑ a : Fin 512, F (qrow j a) = ∑ a : Fin 4096, F a := by
  have h := sum_tiles 0 (by norm_num) F (fun b hb => absurd hb (by omega))
  simpa only [Nat.sub_zero, Nat.zero_add] using h

set_option maxHeartbeats 2000000 in
/-- What a point adds to the scratch. -/
theorem scr_step (g : Fin 2) (e : Fin 256) (b : Fin 4096) (n : ℕ) (hn : n < 8) (p : Fin 4) (hpt : 8 * p.val + n < cfg0.N) :
    sc.view.read (Elt Ideal) (scr m c (8 * p.val + n + 1)) (ix3 g e b)
      = sc.view.read (Elt Ideal) (start ⟨8 * p.val + n, hpt⟩ (scr m c (8 * p.val + n))) (ix3 g e b)
        + ∑ a : Fin 512, (aT m c) (ix3 ⟨2 * p.val + g.val, by omega⟩ e (qrow n a))
            * sl (aQ m c) (aK m c) (aV m c) (aL m c) (aD m c) (aO m c) ⟨2 * p.val + g.val, by omega⟩ (qrow n a) b := by
  have step := (scr_succ m c ⟨8 * p.val + n, hpt⟩).trans (left_core m c ⟨8 * p.val + n, hpt⟩ _).2.2.1
  refine (congrArg (fun f => sc.view.read (Elt Ideal) f (ix3 g e b)) step).trans ?_
  refine (core_q ..).trans (congrArg₂ (· + ·) rfl ?_)
  unfold gain
  refine Finset.sum_congr rfl fun a _ => ?_
  rw [slope_blk m c ⟨8 * p.val + n, hpt⟩ g a b, blk2 m c ⟨8 * p.val + n, hpt⟩ g e a]
  have hk : krow ⟨8 * p.val + n, hpt⟩ a = qrow n a := Fin.ext (by rw [qrow_val hn]; show 512 * ((8 * p.val + n) % 8) + a.val = _; omega)
  have hh : head ⟨8 * p.val + n, hpt⟩ g = ⟨2 * p.val + g.val, by omega⟩ := Fin.ext (by show 2 * ((8 * p.val + n) / 8) + g.val = 2 * p.val + g.val; omega)
  rw [hk, hh]

/-- Every row's gain from the key tiles before. -/
theorem scr_sem (g : Fin 2) (e : Fin 256) (b : Fin 4096) (p : Fin 4) (n : ℕ) (hn : n < 8) :
    sc.view.read (Elt Ideal) (scr m c (8 * p.val + n + 1)) (ix3 g e b)
      = ∑ j ∈ Finset.range (n + 1), ∑ a : Fin 512, (aT m c) (ix3 ⟨2 * p.val + g.val, by omega⟩ e (qrow j a))
          * sl (aQ m c) (aK m c) (aV m c) (aL m c) (aD m c) (aO m c) ⟨2 * p.val + g.val, by omega⟩ (qrow j a) b := by
  have hN : cfg0.N = 32 := rfl
  induction n with
  | zero =>
    rw [scr_step m c g e b 0 hn p (by omega), Finset.sum_range_succ, Finset.sum_range_zero]
    unfold start
    rw [if_pos (by show (8 * p.val + 0) % 8 = 0; omega), zeroed_sem]
  | succ n ih =>
    rw [scr_step m c g e b (n + 1) hn p (by omega), Finset.sum_range_succ _ (n + 1)]
    unfold start
    rw [if_neg (by show ¬ (8 * p.val + (n + 1)) % 8 = 0; omega)]
    exact congrArg (· + _) (ih (by omega))

/-! ## The results -/

/-- The block of query gradients holds the scratch, its rows and columns swapped. -/
theorem dqPieces_sem (arg12 : Memref sig .tc .vmem S2x256x4096 .f32) (f : BufTy.Contents (Elt Ideal) arg12.view.ty) :
    ∀ p ∈ dqPieces arg12 f, ∀ x : p.1.shape.Idx, p.2 x = (fun y : S2x4096x256.Idx => arg12.view.read (Elt Ideal) f (ix3 (y 0) (y 2) (y 1))) (p.1.emb x) := by
  intro p hp
  unfold dqPieces at hp
  iterate 16
    rcases List.mem_cons.mp hp with rfl | hp
    · exact dqPiece_sem arg12 f _ _ _ _
  exact absurd hp List.not_mem_nil

theorem after8_sem (t : Fin cfg0.N) (g : Fin 2) (a : Fin 512) (e : Fin 256) :
    ((dats m 0 c).after 8 t : Vec Ideal S2x512x256 .f32) (ix3 g a e) = gradK (aQ m c) (aK m c) (aV m c) (aL m c) (aD m c) (aO m c) (ix3 (head t g) (krow t a) e) := by
  rw [after8, (left_core m c t _).1]
  refine (core_k ..).trans ?_
  simp only [slope_blk, blk0]
  rfl

theorem after9_sem (t : Fin cfg0.N) (g : Fin 2) (a : Fin 512) (f : Fin 128) :
    ((dats m 0 c).after 9 t : Vec Ideal S2x512x128 .f32) (ix3 g a f) = gradV (aQ m c) (aK m c) (aL m c) (aO m c) (ix3 (head t g) (krow t a) f) := by
  rw [after9, (left_core m c t _).2.1]
  refine (core_v ..).trans ?_
  simp only [weight_blk, blk6]
  rfl

theorem after7_sem (t : Fin cfg0.N) (h7 : t.val % 8 = 7) (g : Fin 2) (b : Fin 4096) (e : Fin 256) :
    ((dats m 0 c).after 7 t : Vec Ideal S2x4096x256 .f32) (ix3 g b e) = gradQ (aQ m c) (aK m c) (aT m c) (aV m c) (aL m c) (aD m c) (aO m c) (ix3 (head t g) b e) := by
  have hc := cover7 m c t h7 (scr m c t.val) (ix3 g b e)
  have hs := (scr_succ m c t).trans (left_core m c t _).2.2.1
  rw [after7]
  rw [(left_core m c t _).2.2.2 h7] at hc ⊢
  rw [← hs] at hc ⊢
  rw [View.read_writes_apply_of_pieces (v := (st0_7 t).view) (f := (st0_7 t).view.junk)
    (fun y : S2x4096x256.Idx => sc.view.read (Elt Ideal) (scr m c (t.val + 1)) (ix3 (y 0) (y 2) (y 1))) _ ?_ _ hc]
  · have ht := t.isLt
    have hN : cfg0.N = 32 := rfl
    have h := scr_sem m c g e b ⟨t.val / 8, by omega⟩ 7 (by norm_num)
    have e1 : 8 * (⟨t.val / 8, by omega⟩ : Fin 4).val + 7 + 1 = t.val + 1 := by show 8 * (t.val / 8) + 7 + 1 = _; omega
    rw [e1] at h
    refine h.trans ?_
    exact sum_tiles' (fun a => (aT m c) (ix3 (head t g) e a) * sl (aQ m c) (aK m c) (aV m c) (aL m c) (aD m c) (aO m c) (head t g) a b)
  · exact dqPieces_sem sc (scr m c (t.val + 1))

/-- A result's block at a point. -/
theorem rd7 (X : Vec Ideal S8x4096x256 .f32) (t : Fin cfg0.N) (g : Fin 2) (b : Fin 4096) (e : Fin 256) :
    (((cfg0.win 7).blk t).view.read (Elt Ideal) X : Vec Ideal S2x4096x256 .f32) (ix3 g b e) = X (ix3 (head t g) b e) := by
  unfold head; blk_point [idx t]
theorem rd8 (X : Vec Ideal S8x4096x256 .f32) (t : Fin cfg0.N) (g : Fin 2) (a : Fin 512) (e : Fin 256) :
    (((cfg0.win 8).blk t).view.read (Elt Ideal) X : Vec Ideal S2x512x256 .f32) (ix3 g a e) = X (ix3 (head t g) (krow t a) e) := by
  unfold head krow; blk_point [idx t]
theorem rd9 (X : Vec Ideal S8x4096x128 .f32) (t : Fin cfg0.N) (g : Fin 2) (a : Fin 512) (f : Fin 128) :
    (((cfg0.win 9).blk t).view.read (Elt Ideal) X : Vec Ideal S2x512x128 .f32) (ix3 g a f) = X (ix3 (head t g) (krow t a) f) := by
  unfold head krow; blk_point [idx t]

/-- The query gradients' array, -/
theorem final_q : (dats m 0 c).arrAt 7 cfg0.N = gradQ (aQ m c) (aK m c) (aT m c) (aV m c) (aL m c) (aD m c) (aO m c) := by
  have h8 := after7_sem m c
  generalize gradQ (aQ m c) (aK m c) (aT m c) (aV m c) (aL m c) (aD m c) (aO m c) = X at h8 ⊢
  refine (dats m 0 c).arrAt_eq_of_covers 7 _ (by decide +kernel) fun t h y => ?_
  obtain ⟨g, b, e, rfl⟩ : ∃ (g : Fin 2) (b : Fin 4096) (e : Fin 256), y = ix3 g b e := ⟨y 0, y 1, y 2, eq_ix3 y⟩
  exact (h8 t ((flush0_7 t).mp h) g b e).trans (rd7 X t g b e).symm

/-- the key gradients' -/
theorem final_k : (dats m 0 c).arrAt 8 cfg0.N = gradK (aQ m c) (aK m c) (aV m c) (aL m c) (aD m c) (aO m c) := by
  have h8 := after8_sem m c
  generalize gradK (aQ m c) (aK m c) (aV m c) (aL m c) (aD m c) (aO m c) = X at h8 ⊢
  refine (dats m 0 c).arrAt_eq_of_covers 8 _ (by decide +kernel) fun t _ y => ?_
  obtain ⟨g, a, e, rfl⟩ : ∃ (g : Fin 2) (a : Fin 512) (e : Fin 256), y = ix3 g a e := ⟨y 0, y 1, y 2, eq_ix3 y⟩
  exact (h8 t g a e).trans (rd8 X t g a e).symm

/-- and the value gradients'. -/
theorem final_v : (dats m 0 c).arrAt 9 cfg0.N = gradV (aQ m c) (aK m c) (aL m c) (aO m c) := by
  have h8 := after9_sem m c
  generalize gradV (aQ m c) (aK m c) (aL m c) (aO m c) = X at h8 ⊢
  refine (dats m 0 c).arrAt_eq_of_covers 9 _ (by decide +kernel) fun t _ y => ?_
  obtain ⟨g, a, f, rfl⟩ : ∃ (g : Fin 2) (a : Fin 512) (f : Fin 128), y = ix3 g a f := ⟨y 0, y 1, y 2, eq_ix3 y⟩
  exact (h8 t g a f).trans (rd9 X t g a f).symm
end

end Cert.KernelAttnIdeal.Body
-- ==== Proof.AttnHost.lean ====
/- The arrays that the host lines of the attention backward program prepare, over the extended reals. -/
module

public import proofs.«01_k».proof.Proof.AttnArrays
public import Idealize.ShloMosaic.Lib.Pointwise
public import Idealize.ShloMosaic.Lib.WholeRead
public import Idealize.ShloMosaic.Lib.Pipeline.ValueKit
public import Idealize.ShloMosaic.Lib.WritesUnit

@[expose] public section

set_option maxRecDepth 16384

noncomputable section

namespace Cert.KernelAttnIdeal.Body

open Idealize.ShloMosaic Idealize.ShloMosaic.TcCoe Idealize.ShloMosaic.Tactic Idealize.SL.Sem
open Cert.KernelAttnIdeal Cert.KernelAttnIdeal.Gen

section
variable (q k : FVec Ideal S4096x8x192 .f32) (v o : FVec Ideal S4096x8x128 .f32)

/-- The masked scores, -/
def scoresT : FVec Ideal S8x4096x4096 .f32 :=
  select (broadcastInDim S8x4096x4096 ![1, 2] bcast_S4096x4096_S8x4096x4096_1_2 (cmpi .sle
      (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0)))))
    (mulf (Host.dotGeneral dot_S4096x8x192_S4096x8x192_S8x4096x4096_2_2_0_0_1_1 none q k) (broadcastInDim S8x4096x4096 ![] bcast_S_S8x4096x4096 (constant S_ .f32 0x3D93CD3A#32)))
    (broadcastInDim S8x4096x4096 ![] bcast_S_S8x4096x4096 (constant S_ .f32 0xFF800000#32))
variable (x : FVec Ideal S8x4096x4096 .f32)
/-- every row's largest, -/
def topT : FVec Ideal S8x4096 .f32 :=
  Host.reduce FloatOps.maximumf x (constant S_ .f32 0xFF800000#32) reducesTo_S8x4096x4096_S8x4096_d2 h_S_
/-- a row's values in every column, -/
def wide (x : FVec Ideal S8x4096 .f32) : FVec Ideal S8x4096x4096 .f32 :=
  broadcastInDim S8x4096x4096 ![0, 1, 2] bcast_S8x4096x1_S8x4096x4096_0_1_2 (broadcastInDim S8x4096x1 ![0, 1] bcast_S8x4096_S8x4096x1_0_1 x)
/-- the logarithms of the rows' sums, -/
def lseT : FVec Ideal S8x1x4096 .f32 :=
  transpose S8x1x4096 [0, 2, 1] (addf (broadcastInDim S8x4096x1 ![0, 1] bcast_S8x4096_S8x4096x1_0_1 (topT x))
    (Host.log (broadcastInDim S8x4096x1 ![0, 1] bcast_S8x4096_S8x4096x1_0_1 (Host.reduceAdd (Host.exp (subf x (wide (topT x)))) (constant S_ .f32 0x00000000#32) reducesTo_S8x4096x4096_S8x4096_d2 h_S_))))
    transposes_S8x4096x1_S8x1x4096_0_2_1
/-- the weights, -/
def expT : FVec Ideal S8x4096x4096 .f32 :=
  Host.exp (subf x (wide (maximumf (broadcastInDim S8x4096 ![] bcast_S_S8x4096 (constant S_ .f32 0xFF800000#32)) (topT x))))
/-- and the products of the output with its gradient. -/
def deltaT : FVec Ideal S8x1x4096 .f32 :=
  broadcastInDim S8x1x4096 ![0, 2] bcast_S8x4096_S8x1x4096_0_2 (transpose S8x4096 [1, 0] (Host.reduceAdd (mulf o
    (transpose S4096x8x128 [2, 0, 1] (Host.dotGeneral dot_S4096x8x128_S8x4096x4096_S8x128x4096_0_2_2_1_1_0 none v
      (Host.divf (expT x) (wide (Host.reduceAdd (expT x) (constant S_ .f32 0x00000000#32) reducesTo_S8x4096x4096_S8x4096_d2 h_S_))))
      transposes_S8x128x4096_S4096x8x128_2_0_1)) (constant S_ .f32 0x00000000#32) reducesTo_S4096x8x128_S4096x8_d2 h_S_) transposes_S4096x8_S8x4096_1_0)

/-! Each of them at an index. -/

theorem scoresT_sem (h : Fin 8) (b a : Fin 4096) : scoresT q k (ix3 h b a)
    = Scalar.select (IntOp.cmpi .sle (BitVec.ofNat 32 a.val) (BitVec.ofNat 32 b.val)) ((∑ x, q (ix3 b h x) * k (ix3 a h x)) * Ideal.ofBits FTy.f32 0x3D93CD3A#32) (Ideal.ofBits FTy.f32 0xFF800000#32) := by
  pointwise [scoresT]
theorem topT_sem (h : Fin 8) (b : Fin 4096) : topT x (ix2 h b) = Finset.fold max (Ideal.ofBits FTy.f32 0xFF800000#32) (fun a => x (ix3 h b a)) Finset.univ := by
  pointwise [topT]
theorem sub_sem (t : FVec Ideal S8x4096 .f32) (h : Fin 8) (b a : Fin 4096) : subf x (wide t) (ix3 h b a) = x (ix3 h b a) - t (ix2 h b) := by
  pointwise [wide]
theorem max_sem (t : FVec Ideal S8x4096 .f32) (h : Fin 8) (b : Fin 4096) :
    maximumf (broadcastInDim S8x4096 ![] bcast_S_S8x4096 (constant S_ .f32 0xFF800000#32)) t (ix2 h b) = max (Ideal.ofBits FTy.f32 0xFF800000#32) (t (ix2 h b)) := by
  pointwise []
theorem exp_sem (h : Fin 8) (b a : Fin 4096) : Host.exp x (ix3 h b a) = Ideal.exp (x (ix3 h b a)) := by
  pointwise []
theorem sum_sem (h : Fin 8) (b : Fin 4096) : Host.reduceAdd x (constant S_ .f32 0x00000000#32) reducesTo_S8x4096x4096_S8x4096_d2 h_S_ (ix2 h b) = ∑ a, x (ix3 h b a) := by
  pointwise []
theorem log_sem (t z : FVec Ideal S8x4096 .f32) (h : Fin 8) (b : Fin 4096) :
    transpose S8x1x4096 [0, 2, 1] (addf (broadcastInDim S8x4096x1 ![0, 1] bcast_S8x4096_S8x4096x1_0_1 t)
      (Host.log (broadcastInDim S8x4096x1 ![0, 1] bcast_S8x4096_S8x4096x1_0_1 z))) transposes_S8x4096x1_S8x1x4096_0_2_1 (ix3 h 0 b) = t (ix2 h b) + Ideal.log (z (ix2 h b)) := by
  pointwise []
theorem lseT_sem (h : Fin 8) (b : Fin 4096) : lseT x (ix3 h 0 b) = topT x (ix2 h b) + Ideal.log (∑ a, Ideal.exp (x (ix3 h b a) - topT x (ix2 h b))) := by
  unfold lseT
  rw [log_sem, sum_sem]
  simp only [exp_sem, sub_sem]
theorem expT_sem (h : Fin 8) (b a : Fin 4096) : expT x (ix3 h b a) = Ideal.exp (x (ix3 h b a) - max (Ideal.ofBits FTy.f32 0xFF800000#32) (topT x (ix2 h b))) := by
  unfold expT
  rw [exp_sem, sub_sem, max_sem]
theorem deltaT_sem (h : Fin 8) (b : Fin 4096) : deltaT v o x (ix3 h 0 b)
    = ∑ f, o (ix3 b h f) * ∑ a, v (ix3 a h f) * Ideal.div (expT x (ix3 h b a)) (∑ a, expT x (ix3 h b a)) := by
  unfold deltaT
  generalize expT x = y
  pointwise [wide]
end

section
variable (m : (ℓ : Loc nD τ sig) → Buf (Elt Ideal) ℓ) (c : Dev nD)

/-- The arguments as launched. -/
abbrev iq : FVec Ideal S4096x8x192 .f32 := m ((c : Thread nD τ).loc main_arg0)
abbrev ik : FVec Ideal S4096x8x192 .f32 := m ((c : Thread nD τ).loc main_arg1)
abbrev iv : FVec Ideal S4096x8x128 .f32 := m ((c : Thread nD τ).loc main_arg2)
abbrev io : FVec Ideal S4096x8x128 .f32 := m ((c : Thread nD τ).loc main_arg3)

/-! ## The arrays the kernel reads -/

set_option maxHeartbeats 4000000 in
theorem aL_eq : aL m c = lseT (scoresT (iq m c) (ik m c)) := by
  show StableHlo.after (List.flatten [hostOps0, hostOps0_1, hostOps0_2, hostOps0_3, hostOps0_4, hostOps0_5, hostOps0_6, hostOps0_7, hostOps0_8]) (fun b => m (c, b)) (Proc.devRef .tc main_v19) = _
  simp only [hostOps0, hostOps0_1, hostOps0_2, hostOps0_3, hostOps0_4, hostOps0_5, hostOps0_6, hostOps0_7, hostOps0_8, List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results_simp
  all_goals rfl
set_option maxHeartbeats 4000000 in
theorem aD_eq : aD m c = deltaT (iv m c) (io m c) (scoresT (iq m c) (ik m c)) := by
  show StableHlo.after (List.flatten [hostOps0, hostOps0_1, hostOps0_2, hostOps0_3, hostOps0_4, hostOps0_5, hostOps0_6, hostOps0_7, hostOps0_8]) (fun b => m (c, b)) (Proc.devRef .tc main_v46) = _
  simp only [hostOps0, hostOps0_1, hostOps0_2, hostOps0_3, hostOps0_4, hostOps0_5, hostOps0_6, hostOps0_7, hostOps0_8, List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results_simp
  all_goals rfl
set_option maxHeartbeats 4000000 in
theorem aQ_eq : aQ m c = truncf .bf16 (transpose S8x4096x256 [1, 0, 2] (pad S4096x8x256 ![0, 0, 0] ![0, 0, 64] ![0, 0, 0] (mulf (iq m c) (broadcastInDim S4096x8x192 ![] bcast_S_S4096x8x192 (constant S_ .f32 0x3D93CD3A#32))) (sitofp .f32 (constantI S_ 32 0#32)) pads_S4096x8x192_S4096x8x256_000_000_0640 h_S_) transposes_S4096x8x256_S8x4096x256_1_0_2) bitsLt_bf16_f32 := by
  show StableHlo.after (List.flatten [hostOps0, hostOps0_1, hostOps0_2, hostOps0_3, hostOps0_4, hostOps0_5, hostOps0_6, hostOps0_7, hostOps0_8]) (fun b => m (c, b)) (Proc.devRef .tc main_v51) = _
  simp only [hostOps0, hostOps0_1, hostOps0_2, hostOps0_3, hostOps0_4, hostOps0_5, hostOps0_6, hostOps0_7, hostOps0_8, List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results_simp
  all_goals rfl
set_option maxHeartbeats 4000000 in
theorem aK_eq : aK m c = truncf .bf16 (transpose S8x4096x256 [1, 0, 2] (pad S4096x8x256 ![0, 0, 0] ![0, 0, 64] ![0, 0, 0] (ik m c) (sitofp .f32 (constantI S_ 32 0#32)) pads_S4096x8x192_S4096x8x256_000_000_0640 h_S_) transposes_S4096x8x256_S8x4096x256_1_0_2) bitsLt_bf16_f32 := by
  show StableHlo.after (List.flatten [hostOps0, hostOps0_1, hostOps0_2, hostOps0_3, hostOps0_4, hostOps0_5, hostOps0_6, hostOps0_7, hostOps0_8]) (fun b => m (c, b)) (Proc.devRef .tc main_v54) = _
  simp only [hostOps0, hostOps0_1, hostOps0_2, hostOps0_3, hostOps0_4, hostOps0_5, hostOps0_6, hostOps0_7, hostOps0_8, List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results_simp
  all_goals rfl
set_option maxHeartbeats 4000000 in
theorem aV_eq : aV m c = truncf .bf16 (transpose S8x4096x128 [1, 0, 2] (iv m c) transposes_S4096x8x128_S8x4096x128_1_0_2) bitsLt_bf16_f32 := by
  show StableHlo.after (List.flatten [hostOps0, hostOps0_1, hostOps0_2, hostOps0_3, hostOps0_4, hostOps0_5, hostOps0_6, hostOps0_7, hostOps0_8]) (fun b => m (c, b)) (Proc.devRef .tc main_v56) = _
  simp only [hostOps0, hostOps0_1, hostOps0_2, hostOps0_3, hostOps0_4, hostOps0_5, hostOps0_6, hostOps0_7, hostOps0_8, List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results_simp
  all_goals rfl
set_option maxHeartbeats 4000000 in
theorem aT_eq : aT m c = transpose S8x256x4096 [0, 2, 1] (truncf .bf16 (transpose S8x4096x256 [1, 0, 2] (pad S4096x8x256 ![0, 0, 0] ![0, 0, 64] ![0, 0, 0] (ik m c) (sitofp .f32 (constantI S_ 32 0#32)) pads_S4096x8x192_S4096x8x256_000_000_0640 h_S_) transposes_S4096x8x256_S8x4096x256_1_0_2) bitsLt_bf16_f32) transposes_S8x4096x256_S8x256x4096_0_2_1 := by
  show StableHlo.after (List.flatten [hostOps0, hostOps0_1, hostOps0_2, hostOps0_3, hostOps0_4, hostOps0_5, hostOps0_6, hostOps0_7, hostOps0_8]) (fun b => m (c, b)) (Proc.devRef .tc main_v57) = _
  simp only [hostOps0, hostOps0_1, hostOps0_2, hostOps0_3, hostOps0_4, hostOps0_5, hostOps0_6, hostOps0_7, hostOps0_8, List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results_simp
  all_goals rfl
set_option maxHeartbeats 4000000 in
theorem aO_eq : aO m c = truncf .bf16 (shapeCast S4096x1024 (io m c) shapeCasts_S4096x8x128_S4096x1024) bitsLt_bf16_f32 := by
  show StableHlo.after (List.flatten [hostOps0, hostOps0_1, hostOps0_2, hostOps0_3, hostOps0_4, hostOps0_5, hostOps0_6, hostOps0_7, hostOps0_8]) (fun b => m (c, b)) (Proc.devRef .tc main_v59) = _
  simp only [hostOps0, hostOps0_1, hostOps0_2, hostOps0_3, hostOps0_4, hostOps0_5, hostOps0_6, hostOps0_7, hostOps0_8, List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results_simp
  all_goals rfl

/-! ## Their entries -/

theorem tQ (h : Fin 8) (b : Fin 4096) (e : Fin 256) : aQ m c (ix3 h b e) = if hd : e.val < 192 then iq m c (ix3 b h ⟨e.val, hd⟩) * Ideal.ofBits FTy.f32 0x3D93CD3A#32 else FloatOps.sitofp (F := Ideal) FTy.f32 0#32 := by
  rw [aQ_eq]; pointwise []
theorem tK (h : Fin 8) (b : Fin 4096) (e : Fin 256) : aK m c (ix3 h b e) = if hd : e.val < 192 then ik m c (ix3 b h ⟨e.val, hd⟩) else FloatOps.sitofp (F := Ideal) FTy.f32 0#32 := by
  rw [aK_eq]; pointwise []
theorem tT (h : Fin 8) (b : Fin 4096) (e : Fin 256) : aT m c (ix3 h e b) = if hd : e.val < 192 then ik m c (ix3 b h ⟨e.val, hd⟩) else FloatOps.sitofp (F := Ideal) FTy.f32 0#32 := by
  rw [aT_eq]; pointwise []
theorem tV (h : Fin 8) (b : Fin 4096) (f : Fin 128) : aV m c (ix3 h b f) = iv m c (ix3 b h f) := by
  rw [aV_eq]; pointwise []
theorem tO (h : Fin 8) (b : Fin 4096) (f : Fin 128) : aO m c (ix2 b (hcol h f)) = io m c (ix3 b h f) := by
  rw [aO_eq]; pointwise [hcol]
theorem tL (h : Fin 8) (b : Fin 4096) : aL m c (ix3 h 0 b) = lseT (scoresT (iq m c) (ik m c)) (ix3 h 0 b) := congrFun (aL_eq m c) _
theorem tD (h : Fin 8) (b : Fin 4096) : aD m c (ix3 h 0 b) = deltaT (iv m c) (io m c) (scoresT (iq m c) (ik m c)) (ix3 h 0 b) := congrFun (aD_eq m c) _
end

end Cert.KernelAttnIdeal.Body
-- ==== Proof.AttnMath.lean ====
/-
The real numbers behind the attention's gradient: rows of masked scores, their largest entry,
the exponentials, the weights, and what the weights and the cotangent make of a finite `q`, `k`,
`v` and `do`.
-/
module

public import Idealize.ShloMosaic.Lib.Pointwise
public import Idealize.ShloMosaic.Lib.Claim
public import Idealize.ShloMosaic.Lib.IdealHost
public import Idealize.ShloMosaic.Lib.WordCmp

@[expose] public section

noncomputable section

open Idealize.ShloMosaic Idealize.ShloMosaic.TcCoe

namespace Cert.Attn

/-- A finite sum of real numbers is the same over the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem ofBits_bot : Ideal.ofBits FTy.f32 0xFF800000#32 = ⊥ := by simp [Ideal.ofBits, Ideal.ieee]

/-- The factor of the scores, 192 to the power −1/2 as a float writes it. -/
def scale : ℝ := (Ideal.ofBits FTy.f32 0x3D93CD3A#32).toReal

theorem scale_eq : Ideal.ofBits FTy.f32 0x3D93CD3A#32 = (scale : EReal) := by
  refine (EReal.coe_toReal ?_ ?_).symm <;> simp [Ideal.ofBits, Ideal.ieee] <;> rw [← EReal.coe_mul]
  · exact EReal.coe_ne_top _
  · exact EReal.coe_ne_bot _

/-- The mask of the scores: column `a` is seen from row `b` where `a ≤ b`. -/
theorem causal (a b : Fin 4096) (x y : EReal) :
    Scalar.select (IntOp.cmpi .sle (BitVec.ofNat 32 a.val) (BitVec.ofNat 32 b.val)) x y = if a.val ≤ b.val then x else y := by
  by_cases h : a.val ≤ b.val
  · have e := (WordCmp.cmpi_sle_ofNat_eq_one_iff (w := 32) (a := a.val) (b := b.val) (by omega) (by omega)).2 h
    rw [e, if_pos h]; rfl
  · have e := (WordCmp.cmpi_sle_ofNat_eq_zero_iff (w := 32) (a := a.val) (b := b.val) (by omega) (by omega)).2 (by omega)
    rw [e, if_neg h]; rfl

variable (q k : Fin 4096 → Fin 8 → Fin 192 → ℝ) (v o : Fin 4096 → Fin 8 → Fin 128 → ℝ)

/-- The score of row `b` and column `a` of head `h`, nothing masked. -/
def score (h : Fin 8) (b a : Fin 4096) : ℝ := (∑ x, q b h x * k a h x) * scale

/-- The masked score. -/
def masked (h : Fin 8) (b a : Fin 4096) : EReal := if a.val ≤ b.val then (score q k h b a : EReal) else ⊥

/-- The largest masked score of a row. -/
def top (h : Fin 8) (b : Fin 4096) : EReal := Finset.fold max ⊥ (masked q k h b) Finset.univ

def topR (h : Fin 8) (b : Fin 4096) : ℝ := (top q k h b).toReal

/-- The largest masked score of a row is a real number: the row's own column is never masked. -/
theorem top_eq (h : Fin 8) (b : Fin 4096) : top q k h b = (topR q k h b : EReal) := by
  refine (EReal.coe_toReal (fun e => ?_) (fun e => ?_)).symm
  · have : ⊤ ≤ top q k h b := e.ge
    rw [top, Finset.le_fold_max] at this
    rcases this with h0 | ⟨a, _, h0⟩
    · exact absurd h0 (by simp)
    · unfold masked at h0; split at h0 <;> simp at h0
  · have : top q k h b ≤ ⊥ := e.le
    rw [top, Finset.fold_max_le] at this
    have h0 := this.2 b (Finset.mem_univ b)
    simp [masked] at h0

/-- The exponential of a masked score, counted from the row's largest. -/
def ex (h : Fin 8) (b a : Fin 4096) : ℝ := if a.val ≤ b.val then Real.exp (score q k h b a - topR q k h b) else 0

theorem exp_masked (h : Fin 8) (b a : Fin 4096) (t : ℝ) : Ideal.exp (masked q k h b a - (t : EReal))
    = ((if a.val ≤ b.val then Real.exp (score q k h b a - t) else 0 : ℝ) : EReal) := by
  unfold masked
  split
  · rw [← EReal.coe_sub, Ideal.exp_coe]
  · rw [EReal.bot_sub, Ideal.exp_bot]; rfl

theorem exp_eq (h : Fin 8) (b a : Fin 4096) : Ideal.exp (masked q k h b a - top q k h b) = (ex q k h b a : EReal) := by
  rw [top_eq, exp_masked]; rfl

/-- The sum of a row's exponentials. -/
def den (h : Fin 8) (b : Fin 4096) : ℝ := ∑ a, ex q k h b a

theorem ex_nonneg (h : Fin 8) (b a : Fin 4096) : 0 ≤ ex q k h b a := by
  unfold ex; split
  · exact (Real.exp_pos _).le
  · exact le_rfl

theorem den_pos (h : Fin 8) (b : Fin 4096) : 0 < den q k h b := by
  refine Finset.sum_pos' (fun a _ => ex_nonneg q k h b a) ⟨b, Finset.mem_univ b, ?_⟩
  simp [ex, Real.exp_pos]

theorem sum_exp (h : Fin 8) (b : Fin 4096) : (∑ a, (ex q k h b a : EReal)) = (den q k h b : EReal) := (coe_sum _ _).symm

/-- The weight of column `a` in row `b`. -/
def weight (h : Fin 8) (b a : Fin 4096) : ℝ := ex q k h b a / den q k h b

theorem div_den (h : Fin 8) (b : Fin 4096) (x : ℝ) : Ideal.div (x : EReal) (den q k h b : EReal) = ((x / den q k h b : ℝ) : EReal) := by
  rw [Ideal.div_coe (den_pos q k h b).ne', ← EReal.coe_mul, mul_one_div]

/-- The weight, as the exponential of a masked score less the logarithm of the row's sum. -/
theorem exp_lse (h : Fin 8) (b a : Fin 4096) :
    Ideal.exp (masked q k h b a - (top q k h b + Ideal.log (den q k h b : EReal))) = (weight q k h b a : EReal) := by
  rw [top_eq, Ideal.log_coe, if_neg (den_pos q k h b).not_ge, ← EReal.coe_add, exp_masked]
  congr 1
  unfold weight ex
  split
  · rw [← sub_sub, Real.exp_sub, Real.exp_log (den_pos q k h b)]
  · rw [zero_div]

/-- The cotangent of a weight. -/
def dot (h : Fin 8) (b a : Fin 4096) : ℝ := ∑ f, o b h f * v a h f

/-- The mean of a row's cotangents under its weights. -/
def mean (h : Fin 8) (b : Fin 4096) : ℝ := ∑ a, weight q k h b a * dot v o h b a

/-- The cotangent of a score. -/
def slope (h : Fin 8) (b a : Fin 4096) : ℝ := weight q k h b a * (dot v o h b a - mean q k v o h b)

/-- The mean, summed lane by lane. -/
theorem mean_eq (h : Fin 8) (b : Fin 4096) : mean q k v o h b = ∑ f, o b h f * ∑ a, v a h f * weight q k h b a := by
  unfold mean dot
  simp only [Finset.mul_sum]
  rw [Finset.sum_comm]
  exact Finset.sum_congr rfl fun f _ => Finset.sum_congr rfl fun a _ => by ring

/-- The cotangent of a score, as the derivative of a quotient gives it. -/
theorem quotient_slope (h : Fin 8) (b a : Fin 4096) :
    (dot v o h b a / den q k h b + -(∑ c, dot v o h b c * (1 / (den q k h b * den q k h b)) * ex q k h b c)) * ex q k h b a
      = slope q k v o h b a := by
  have hz := (den_pos q k h b).ne'
  have : (∑ c, dot v o h b c * (1 / (den q k h b * den q k h b)) * ex q k h b c) = mean q k v o h b / den q k h b := by
    unfold mean weight
    rw [Finset.sum_div]
    exact Finset.sum_congr rfl fun c _ => by field_simp
  rw [this]; unfold slope weight; field_simp; ring

/-- A masked column has no slope. -/
theorem slope_masked (h : Fin 8) (b a : Fin 4096) (hn : ¬ a.val ≤ b.val) : slope q k v o h b a = 0 := by
  simp [slope, weight, ex, hn]

/-- The gradient of the values. -/
def dv (a : Fin 4096) (h : Fin 8) (f : Fin 128) : ℝ := ∑ b, weight q k h b a * o b h f
/-- The gradient of the queries. -/
def dq (b : Fin 4096) (h : Fin 8) (x : Fin 192) : ℝ := ∑ a, slope q k v o h b a * scale * k a h x
/-- The gradient of the keys. -/
def dk (a : Fin 4096) (h : Fin 8) (x : Fin 192) : ℝ := ∑ b, slope q k v o h b a * scale * q b h x

/-- A sum over 256 lanes of which the last 64 hold zero. -/
theorem sum_pad (F : Fin 256 → EReal) (G : Fin 192 → EReal) (h0 : ∀ x : Fin 192, F ⟨x.val, by omega⟩ = G x)
    (h1 : ∀ e : Fin 256, ¬ e.val < 192 → F e = 0) : (∑ e, F e) = ∑ x, G x := by
  have e := Fin.sum_univ_add (a := 192) (b := 64) (f := F)
  refine e.trans ?_
  rw [Finset.sum_eq_zero (s := Finset.univ) (f := fun i : Fin 64 => F (Fin.natAdd 192 i))
    (fun i _ => h1 _ (by simp)), add_zero]
  exact Finset.sum_congr rfl fun x _ => h0 x

end Cert.Attn
-- ==== Proof.AttnReal.lean ====
/- The attention backward kernel's results at finite arguments, as real numbers. -/
module

public import proofs.«01_k».proof.Proof.AttnHost
public import proofs.«01_k».proof.Proof.AttnMath

@[expose] public section

set_option maxRecDepth 16384

noncomputable section

namespace Cert.KernelAttnIdeal.Body

open Idealize.ShloMosaic Idealize.ShloMosaic.TcCoe Idealize.SL.Sem
open Cert.KernelAttnIdeal Cert.KernelAttnIdeal.Gen Cert.Attn

/-- The arguments of the attention hold the real numbers `q`, `k`, `v`, `o`. -/
structure Holds (m : (ℓ : Loc nD τ sig) → Buf (Elt Ideal) ℓ) (c : Dev nD)
    (q k : Fin 4096 → Fin 8 → Fin 192 → ℝ) (v o : Fin 4096 → Fin 8 → Fin 128 → ℝ) : Prop where
  hq : ∀ b h x, iq m c (ix3 b h x) = (q b h x : EReal)
  hk : ∀ b h x, ik m c (ix3 b h x) = (k b h x : EReal)
  hv : ∀ b h x, iv m c (ix3 b h x) = (v b h x : EReal)
  ho : ∀ b h x, io m c (ix3 b h x) = (o b h x : EReal)

variable {m : (ℓ : Loc nD τ sig) → Buf (Elt Ideal) ℓ} {c : Dev nD}
  {q k : Fin 4096 → Fin 8 → Fin 192 → ℝ} {v o : Fin 4096 → Fin 8 → Fin 128 → ℝ} (H : Holds m c q k v o)
include H

theorem score_at (h : Fin 8) (b a : Fin 4096) : scoresT (iq m c) (ik m c) (ix3 h b a) = masked q k h b a := by
  rw [scoresT_sem, causal]
  unfold masked score
  simp only [H.hq, H.hk, scale_eq, ofBits_bot, ← EReal.coe_mul, ← coe_sum]

theorem top_at (h : Fin 8) (b : Fin 4096) : topT (scoresT (iq m c) (ik m c)) (ix2 h b) = top q k h b := by
  rw [topT_sem]; simp only [score_at H, ofBits_bot]; rfl

theorem exp_at (h : Fin 8) (b a : Fin 4096) : expT (scoresT (iq m c) (ik m c)) (ix3 h b a) = (ex q k h b a : EReal) := by
  rw [expT_sem, top_at H, score_at H, ofBits_bot, max_eq_right bot_le, exp_eq]

/-- The saved logarithms, -/
theorem lse_at (h : Fin 8) (b : Fin 4096) : aL m c (ix3 h 0 b) = top q k h b + Ideal.log (den q k h b : EReal) := by
  rw [tL, lseT_sem]
  simp only [top_at H, score_at H, exp_eq, sum_exp]

/-- and the saved means. -/
theorem mean_at (h : Fin 8) (b : Fin 4096) : aD m c (ix3 h 0 b) = (mean q k v o h b : EReal) := by
  rw [tD, deltaT_sem, mean_eq]
  simp only [exp_at H, sum_exp]
  simp only [div_den, H.hv, H.ho, ← EReal.coe_mul, ← coe_sum]
  rfl

omit H in
theorem zero_pad : FloatOps.sitofp (F := Ideal) FTy.f32 (0#32 : BitVec 32) = (0 : EReal) := by
  show ((((0#32 : BitVec 32).toInt : ℤ) : ℝ) : EReal) = 0
  simp

theorem lanes_at (h : Fin 8) (a b : Fin 4096) : (∑ e : Fin 256, aK m c (ix3 h a e) * aQ m c (ix3 h b e)) = (score q k h b a : EReal) := by
  refine (sum_pad _ (fun x => ((k a h x * (q b h x * scale) : ℝ) : EReal)) (fun x => ?_) (fun e he => ?_)).trans ?_
  · rw [tK, tQ, dif_pos x.isLt, dif_pos x.isLt, H.hq, H.hk, scale_eq, EReal.coe_mul, EReal.coe_mul]
  · rw [tK, dif_neg he, zero_pad, zero_mul]
  · rw [← coe_sum]
    congr 1
    unfold score
    rw [Finset.sum_mul]
    exact Finset.sum_congr rfl fun x _ => by ring

/-- The kernel's weights, -/
theorem wt_at (h : Fin 8) (a b : Fin 4096) : wt (aQ m c) (aK m c) (aL m c) h a b = (Attn.weight q k h b a : EReal) := by
  unfold wt
  rw [lanes_at H, lse_at H, ← exp_lse]
  rfl

theorem dot_at (h : Fin 8) (a b : Fin 4096) : (∑ f : Fin 128, aV m c (ix3 h a f) * aO m c (ix2 b (hcol h f))) = (dot v o h b a : EReal) := by
  unfold dot
  rw [coe_sum]
  refine Finset.sum_congr rfl fun f _ => ?_
  rw [tV, tO, H.hv, H.ho, ← EReal.coe_mul, mul_comm]

/-- and its cotangents of the scores. -/
theorem sl_at (h : Fin 8) (a b : Fin 4096) :
    sl (aQ m c) (aK m c) (aV m c) (aL m c) (aD m c) (aO m c) h a b = (Attn.slope q k v o h b a : EReal) := by
  refine Eq.trans (b := (Attn.weight q k h b a : EReal) * ((dot v o h b a : EReal) - (mean q k v o h b : EReal))) ?_ ?_
  · exact congrArg₂ (· * ·) (wt_at H h a b) (congrArg₂ (· - ·) (dot_at H h a b) (mean_at H h b))
  · rw [← EReal.coe_sub, ← EReal.coe_mul]; rfl

/-- The gradient of the queries before its factor, -/
theorem gradQ_at (b : Fin 4096) (h : Fin 8) (x : Fin 192) :
    gradQ (aQ m c) (aK m c) (aT m c) (aV m c) (aL m c) (aD m c) (aO m c) (ix3 h b ⟨x.val, by omega⟩) * Ideal.ofBits FTy.f32 0x3D93CD3A#32
      = (dq q k v o b h x : EReal) := by
  have e : gradQ (aQ m c) (aK m c) (aT m c) (aV m c) (aL m c) (aD m c) (aO m c) (ix3 h b ⟨x.val, by omega⟩)
      = ((∑ a, k a h x * Attn.slope q k v o h b a : ℝ) : EReal) := by
    rw [coe_sum]
    refine Finset.sum_congr rfl fun a _ => ?_
    show aT m c (ix3 h ⟨x.val, _⟩ a) * sl (aQ m c) (aK m c) (aV m c) (aL m c) (aD m c) (aO m c) h a b = _
    rw [tT, sl_at H, dif_pos x.isLt, H.hk, EReal.coe_mul]
  rw [e, scale_eq, ← EReal.coe_mul]
  congr 1
  unfold dq
  rw [Finset.sum_mul]
  exact Finset.sum_congr rfl fun a _ => by ring

/-- that of the keys, -/
theorem gradK_at (a : Fin 4096) (h : Fin 8) (x : Fin 192) :
    gradK (aQ m c) (aK m c) (aV m c) (aL m c) (aD m c) (aO m c) (ix3 h a ⟨x.val, by omega⟩) = (dk q k v o a h x : EReal) := by
  unfold dk
  rw [coe_sum]
  refine Finset.sum_congr rfl fun b _ => ?_
  show sl (aQ m c) (aK m c) (aV m c) (aL m c) (aD m c) (aO m c) h a b * aQ m c (ix3 h b ⟨x.val, _⟩) = _
  rw [tQ, sl_at H, dif_pos x.isLt, H.hq, scale_eq, ← EReal.coe_mul, ← EReal.coe_mul]
  congr 1
  ring

/-- and that of the values. -/
theorem gradV_at (a : Fin 4096) (h : Fin 8) (f : Fin 128) :
    gradV (aQ m c) (aK m c) (aL m c) (aO m c) (ix3 h a f) = (dv q k o a h f : EReal) := by
  unfold dv
  rw [coe_sum]
  refine Finset.sum_congr rfl fun b _ => ?_
  show wt (aQ m c) (aK m c) (aL m c) h a b * aO m c (ix2 b (hcol h f)) = _
  rw [tO, wt_at H, H.ho, ← EReal.coe_mul]

end Cert.KernelAttnIdeal.Body
-- ==== Proof.AttnReference.lean ====
/- The attention reference's results at finite arguments, as real numbers. -/
module

public import proofs.«01_k».proof.Proof.Gen.ReferenceAttnIdeal.Run
public import proofs.«01_k».proof.Proof.AttnReal

@[expose] public section

set_option maxRecDepth 16384

noncomputable section

namespace Cert.ReferenceAttnIdeal.Value

open Idealize.ShloMosaic Idealize.ShloMosaic.TcCoe Idealize.SL.Sem
open Cert.ReferenceAttnIdeal Cert.ReferenceAttnIdeal.Gen Cert.Attn

/-! ## The program's operations at an index -/

section
variable (Q K : FVec Ideal S4096x8x192 .f32) (V O : FVec Ideal S4096x8x128 .f32) (E G : FVec Ideal S8x4096x4096 .f32) (Z R : FVec Ideal S8x4096 .f32)

/-- The mask, -/
def maskT : IVec S8x4096x4096 1 :=
  broadcastInDim S8x4096x4096 ![1, 2] bcast_S4096x4096_S8x4096x4096_1_2 (cmpi .sle
    (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0))))
/-- the masked scores, -/
def scoresT : FVec Ideal S8x4096x4096 .f32 :=
  select maskT (mulf (Host.dotGeneral dot_S4096x8x192_S4096x8x192_S8x4096x4096_2_2_0_0_1_1 none Q K) (broadcastInDim S8x4096x4096 ![] bcast_S_S8x4096x4096 (constant S_ .f32 0x3D93CD3A#32)))
    (broadcastInDim S8x4096x4096 ![] bcast_S_S8x4096x4096 (id (constant S_ .f32 0xFF800000#32)))
/-- every row's largest, -/
def topT : FVec Ideal S8x4096 .f32 :=
  maximumf (broadcastInDim S8x4096 ![] bcast_S_S8x4096 (constant S_ .f32 0xFF800000#32)) (Host.reduce FloatOps.maximumf E (constant S_ .f32 0xFF800000#32) reducesTo_S8x4096x4096_S8x4096_d2 h_S_)
/-- the sums of the rows, -/
def sumT : FVec Ideal S8x4096 .f32 := Host.reduceAdd E (constant S_ .f32 0x00000000#32) reducesTo_S8x4096x4096_S8x4096_d2 h_S_
/-- one value of a row, in every column, -/
def colT : FVec Ideal S8x4096x4096 .f32 :=
  broadcastInDim S8x4096x4096 ![0, 1, 2] bcast_S8x4096x1_S8x4096x4096_0_1_2 (broadcastInDim S8x4096x1 ![0, 1] bcast_S8x4096_S8x4096x1_0_1 Z)
/-- the exponentials, counted from the row's largest, -/
def expT : FVec Ideal S8x4096x4096 .f32 := Host.exp (subf E (colT (topT E)))
/-- the reciprocals of the squares, -/
def recT : FVec Ideal S8x4096x4096 .f32 :=
  broadcastInDim S8x4096x4096 ![0, 1, 2] bcast_S8x4096x1_S8x4096x4096_0_1_2 (Host.divf (broadcastInDim S8x4096x1 ![] bcast_S_S8x4096x1 (constant S_ .f32 0x3F800000#32))
    (mulf (broadcastInDim S8x4096x1 ![0, 1] bcast_S8x4096_S8x4096x1_0_1 Z) (broadcastInDim S8x4096x1 ![0, 1] bcast_S8x4096_S8x4096x1_0_1 Z)))
/-- the cotangents of the weights, -/
def dotT : FVec Ideal S8x4096x4096 .f32 :=
  Host.dotGeneral dot_S8x128x4096_S4096x8x128_S8x4096x4096_1_2_2_0_0_1 none (transpose S8x128x4096 [1, 2, 0] O transposes_S4096x8x128_S8x128x4096_1_2_0) V
/-- what a row's sum receives, -/
def backT : FVec Ideal S8x4096 .f32 :=
  Host.reduceAdd (Host.negf (shapeCast _ (sumT E) shapeCasts_S8x4096_S8x4096x1)) (constant S_ .f32 0x00000000#32) reducesTo_S8x4096x1_S8x4096_d2 h_S_
/-- the cotangents of the scores, -/
def slopeT : FVec Ideal S8x4096x4096 .f32 :=
  mulf (select maskT (mulf (addf (Host.divf G (colT Z)) (broadcastInDim S8x4096x4096 ![0, 1] bcast_S8x4096_S8x4096x4096_0_1 R)) E)
    (broadcastInDim S8x4096x4096 ![] bcast_S_S8x4096x4096 (constant S_ .f32 0x00000000#32))) (broadcastInDim S8x4096x4096 ![] bcast_S_S8x4096x4096 (constant S_ .f32 0x3D93CD3A#32))
/-- and the three gradients. -/
def valueT : FVec Ideal S4096x8x128 .f32 :=
  transpose S4096x8x128 [2, 0, 1] (Host.dotGeneral dot_S8x128x4096_S8x4096x4096_S8x128x4096_2_1_1_2_0_0 none
    (transpose S8x128x4096 [1, 2, 0] O transposes_S4096x8x128_S8x128x4096_1_2_0) (Host.divf E (colT Z))) transposes_S8x128x4096_S4096x8x128_2_0_1
def keyT : FVec Ideal S4096x8x192 .f32 :=
  transpose S4096x8x192 [1, 0, 2] (Host.dotGeneral dot_S8x4096x4096_S4096x8x192_S8x4096x192_1_0_2_2_0_1 none G Q) transposes_S8x4096x192_S4096x8x192_1_0_2
def queryT : FVec Ideal S4096x8x192 .f32 :=
  transpose S4096x8x192 [1, 0, 2] (Host.dotGeneral dot_S8x4096x4096_S4096x8x192_S8x4096x192_2_0_1_2_0_1 none G K) transposes_S8x4096x192_S4096x8x192_1_0_2

theorem scoresT_sem (h : Fin 8) (b a : Fin 4096) : scoresT Q K (ix3 h b a)
    = Scalar.select (IntOp.cmpi .sle (BitVec.ofNat 32 a.val) (BitVec.ofNat 32 b.val)) ((∑ x, Q (ix3 b h x) * K (ix3 a h x)) * Ideal.ofBits FTy.f32 0x3D93CD3A#32) (Ideal.ofBits FTy.f32 0xFF800000#32) := by
  pointwise [scoresT, maskT]
  rfl
theorem foldT_sem (h : Fin 8) (b : Fin 4096) : Host.reduce FloatOps.maximumf E (constant S_ .f32 0xFF800000#32) reducesTo_S8x4096x4096_S8x4096_d2 h_S_ (ix2 h b)
    = Finset.fold max (Ideal.ofBits FTy.f32 0xFF800000#32) (fun a => E (ix3 h b a)) Finset.univ := by
  pointwise []
theorem max_sem (h : Fin 8) (b : Fin 4096) :
    maximumf (broadcastInDim S8x4096 ![] bcast_S_S8x4096 (constant S_ .f32 0xFF800000#32)) Z (ix2 h b) = max (Ideal.ofBits FTy.f32 0xFF800000#32) (Z (ix2 h b)) := by
  pointwise []
theorem topT_sem (h : Fin 8) (b : Fin 4096) : topT E (ix2 h b)
    = max (Ideal.ofBits FTy.f32 0xFF800000#32) (Finset.fold max (Ideal.ofBits FTy.f32 0xFF800000#32) (fun a => E (ix3 h b a)) Finset.univ) := by
  unfold topT
  rw [max_sem, foldT_sem]
theorem exp_sem (h : Fin 8) (b a : Fin 4096) : Host.exp E (ix3 h b a) = Ideal.exp (E (ix3 h b a)) := by
  pointwise []
theorem sub_sem (h : Fin 8) (b a : Fin 4096) : subf E (colT Z) (ix3 h b a) = E (ix3 h b a) - Z (ix2 h b) := by
  pointwise [colT]
theorem expT_sem (h : Fin 8) (b a : Fin 4096) : expT E (ix3 h b a) = Ideal.exp (E (ix3 h b a) - topT E (ix2 h b)) := by
  unfold expT
  rw [exp_sem, sub_sem]
theorem sumT_sem (h : Fin 8) (b : Fin 4096) : sumT E (ix2 h b) = ∑ a, E (ix3 h b a) := by
  pointwise [sumT]
theorem mul_sem (h : Fin 8) (b a : Fin 4096) : mulf (mulf G (recT Z)) E (ix3 h b a)
    = G (ix3 h b a) * Ideal.div (Ideal.ofBits FTy.f32 0x3F800000#32) (Z (ix2 h b) * Z (ix2 h b)) * E (ix3 h b a) := by
  pointwise [recT]
theorem dotT_sem (h : Fin 8) (b a : Fin 4096) : dotT V O (ix3 h b a) = ∑ f, O (ix3 b h f) * V (ix3 a h f) := by
  pointwise [dotT]
theorem neg_sem (h : Fin 8) (b : Fin 4096) :
    Host.reduceAdd (Host.negf (shapeCast S8x4096x1 Z shapeCasts_S8x4096_S8x4096x1)) (constant S_ .f32 0x00000000#32) reducesTo_S8x4096x1_S8x4096_d2 h_S_ (ix2 h b)
      = ∑ _i : Fin 1, -Z (ix2 h b) := by
  pointwise []
theorem slopeT_sem (h : Fin 8) (b a : Fin 4096) : slopeT E G Z R (ix3 h b a)
    = Scalar.select (IntOp.cmpi .sle (BitVec.ofNat 32 a.val) (BitVec.ofNat 32 b.val))
        ((Ideal.div (G (ix3 h b a)) (Z (ix2 h b)) + R (ix2 h b)) * E (ix3 h b a)) 0 * Ideal.ofBits FTy.f32 0x3D93CD3A#32 := by
  pointwise [slopeT, maskT, colT]
theorem valueT_sem (a : Fin 4096) (h : Fin 8) (f : Fin 128) : valueT O E Z (ix3 a h f) = ∑ b, O (ix3 b h f) * Ideal.div (E (ix3 h b a)) (Z (ix2 h b)) := by
  pointwise [valueT, colT]
theorem keyT_sem (a : Fin 4096) (h : Fin 8) (x : Fin 192) : keyT Q G (ix3 a h x) = ∑ b, G (ix3 h b a) * Q (ix3 b h x) := by
  pointwise [keyT]
theorem queryT_sem (b : Fin 4096) (h : Fin 8) (x : Fin 192) : queryT K G (ix3 b h x) = ∑ a, G (ix3 h b a) * K (ix3 a h x) := by
  pointwise [queryT]
end

/-! ## The results -/

section
variable (m : (ℓ : Loc nD τ sig) → Buf (Elt Ideal) ℓ) (c : Dev nD)

abbrev aq : FVec Ideal S4096x8x192 .f32 := m ((c.tc : Thread nD τ).loc main_arg0)
abbrev ak : FVec Ideal S4096x8x192 .f32 := m ((c.tc : Thread nD τ).loc main_arg1)
abbrev av : FVec Ideal S4096x8x128 .f32 := m ((c.tc : Thread nD τ).loc main_arg2)
abbrev ao : FVec Ideal S4096x8x128 .f32 := m ((c.tc : Thread nD τ).loc main_arg3)
/-- The exponentials of the program, -/
abbrev aE : FVec Ideal S8x4096x4096 .f32 := expT (scoresT (aq m c) (ak m c))
/-- and its cotangents of the scores. -/
abbrev aS : FVec Ideal S8x4096x4096 .f32 :=
  slopeT (aE m c) (dotT (av m c) (ao m c)) (sumT (aE m c))
    (backT (mulf (mulf (dotT (av m c) (ao m c)) (recT (sumT (aE m c)))) (aE m c)))

set_option maxHeartbeats 1000000 in
theorem out_v_eq : res_out2 m c = valueT (ao m c) (aE m c) (sumT (aE m c)) := rfl
set_option maxHeartbeats 1000000 in
theorem out_k_eq : res_out1 m c = keyT (aq m c) (aS m c) := rfl
set_option maxHeartbeats 1000000 in
theorem out_q_eq : res_out0 m c = queryT (ak m c) (aS m c) := rfl

variable {m c} {q k : Fin 4096 → Fin 8 → Fin 192 → ℝ} {v o : Fin 4096 → Fin 8 → Fin 128 → ℝ}

/-- The reference's arguments hold the real numbers `q`, `k`, `v`, `o`. -/
structure Holds (m : (ℓ : Loc nD τ sig) → Buf (Elt Ideal) ℓ) (c : Dev nD)
    (q k : Fin 4096 → Fin 8 → Fin 192 → ℝ) (v o : Fin 4096 → Fin 8 → Fin 128 → ℝ) : Prop where
  hq : ∀ b h x, aq m c (ix3 b h x) = (q b h x : EReal)
  hk : ∀ b h x, ak m c (ix3 b h x) = (k b h x : EReal)
  hv : ∀ b h x, av m c (ix3 b h x) = (v b h x : EReal)
  ho : ∀ b h x, ao m c (ix3 b h x) = (o b h x : EReal)

variable (H : Holds m c q k v o)
include H

theorem score_at (h : Fin 8) (b a : Fin 4096) : scoresT (aq m c) (ak m c) (ix3 h b a) = masked q k h b a := by
  rw [scoresT_sem, causal]
  unfold masked score
  simp only [H.hq, H.hk, scale_eq, ofBits_bot, ← EReal.coe_mul, ← coe_sum]

theorem exp_at (h : Fin 8) (b a : Fin 4096) : aE m c (ix3 h b a) = (ex q k h b a : EReal) := by
  show expT (scoresT (aq m c) (ak m c)) (ix3 h b a) = _
  rw [expT_sem, topT_sem, score_at H, ofBits_bot, max_eq_right bot_le, ← exp_eq]
  simp only [score_at H]
  rfl

theorem sum_at (h : Fin 8) (b : Fin 4096) : sumT (aE m c) (ix2 h b) = (den q k h b : EReal) := by
  rw [sumT_sem]; simp only [exp_at H]; exact sum_exp q k h b

theorem dot_at (h : Fin 8) (b a : Fin 4096) : dotT (av m c) (ao m c) (ix3 h b a) = (dot v o h b a : EReal) := by
  rw [dotT_sem]; unfold dot
  simp only [H.hv, H.ho, ← EReal.coe_mul, ← coe_sum]

theorem back_at (h : Fin 8) (b : Fin 4096) :
    backT (mulf (mulf (dotT (av m c) (ao m c)) (recT (sumT (aE m c)))) (aE m c)) (ix2 h b)
      = ((-(∑ a, dot v o h b a * (1 / (den q k h b * den q k h b)) * ex q k h b a) : ℝ) : EReal) := by
  have hz := (mul_pos (den_pos q k h b) (den_pos q k h b)).ne'
  have h1 : Ideal.div (1 : EReal) (den q k h b * den q k h b : EReal) = ((1 / (den q k h b * den q k h b) : ℝ) : EReal) := by
    rw [← EReal.coe_mul, Ideal.div_coe hz, one_mul]
  unfold backT
  rw [neg_sem, sumT_sem, Fin.sum_univ_one, EReal.coe_neg, coe_sum]
  refine congrArg (fun z : EReal => -z) (Finset.sum_congr rfl fun a _ => ?_)
  rw [mul_sem, sum_at H, dot_at H, exp_at H, Ideal.ofBits_one_f32, h1, EReal.coe_mul, EReal.coe_mul]

theorem slope_at (h : Fin 8) (b a : Fin 4096) : aS m c (ix3 h b a) = ((slope q k v o h b a * scale : ℝ) : EReal) := by
  show slopeT (aE m c) (dotT (av m c) (ao m c)) (sumT (aE m c)) (backT _) (ix3 h b a) = _
  rw [slopeT_sem, causal, sum_at H, dot_at H, back_at H, exp_at H, div_den, scale_eq, ← EReal.coe_add, ← EReal.coe_mul, quotient_slope, EReal.coe_mul]
  by_cases hn : a.val ≤ b.val
  · rw [if_pos hn]
  · rw [if_neg hn, slope_masked q k v o h b a hn]; rfl

theorem query_at (b : Fin 4096) (h : Fin 8) (x : Fin 192) : queryT (ak m c) (aS m c) (ix3 b h x) = (dq q k v o b h x : EReal) := by
  rw [queryT_sem]
  unfold dq
  rw [coe_sum]
  exact Finset.sum_congr rfl fun a _ => by rw [slope_at H, H.hk, ← EReal.coe_mul]

theorem key_at (a : Fin 4096) (h : Fin 8) (x : Fin 192) : keyT (aq m c) (aS m c) (ix3 a h x) = (dk q k v o a h x : EReal) := by
  rw [keyT_sem]
  unfold dk
  rw [coe_sum]
  exact Finset.sum_congr rfl fun b _ => by rw [slope_at H, H.hq, ← EReal.coe_mul]

theorem value_at (a : Fin 4096) (h : Fin 8) (f : Fin 128) : valueT (ao m c) (aE m c) (sumT (aE m c)) (ix3 a h f) = (dv q k o a h f : EReal) := by
  rw [valueT_sem]
  unfold dv
  rw [coe_sum]
  exact Finset.sum_congr rfl fun b _ => by rw [exp_at H, sum_at H, H.ho, div_den, ← EReal.coe_mul, mul_comm (o b h f)]; rfl

/-- The gradient of the queries, -/
theorem out_q (b : Fin 4096) (h : Fin 8) (x : Fin 192) : res_out0 m c (ix3 b h x) = (dq q k v o b h x : EReal) :=
  (congrFun (out_q_eq m c) _).trans (query_at H b h x)
/-- of the keys, -/
theorem out_k (a : Fin 4096) (h : Fin 8) (x : Fin 192) : res_out1 m c (ix3 a h x) = (dk q k v o a h x : EReal) :=
  (congrFun (out_k_eq m c) _).trans (key_at H a h x)
/-- and of the values. -/
theorem out_v (a : Fin 4096) (h : Fin 8) (f : Fin 128) : res_out2 m c (ix3 a h f) = (dv q k o a h f : EReal) :=
  (congrFun (out_v_eq m c) _).trans (value_at H a h f)
end

end Cert.ReferenceAttnIdeal.Value
-- ==== Proof.AttnAlgebra.lean ====
/- The attention backward pair: at finite arguments the kernel's three gradients are the reference's. -/
module

public import proofs.«01_k».proof.Proof.Reals
public import proofs.«01_k».proof.Defs
public import proofs.«01_k».proof.Proof.AttnReference
public import proofs.«01_k».proof.Proof.AttnFrame
public import Idealize.ShloMosaic.Lib.ReduceAll

@[expose] public section

set_option maxRecDepth 16384

noncomputable section

open Idealize.ShloMosaic Idealize.ShloMosaic.TcCoe Idealize.ShloMosaic.Tactic Idealize.SL.Sem
open Idealize.ShloMosaic.Pipeline (Dat)

namespace Cert.KernelAttnIdeal.Body

open Cert.KernelAttnIdeal Cert.KernelAttnIdeal.Gen Cert.Attn Cert.Reals

/-! ## The arguments are real numbers -/

instance : Subsingleton Cert.Pre_finite_attn.S_.Idx := ⟨fun a b => funext fun i => i.elim0⟩

set_option maxHeartbeats 1000000 in
theorem finite_args [Cert.Pre_finite_attn.Facts] (x y : FVec Ideal S4096x8x192 .f32) (z w : FVec Ideal S4096x8x128 .f32)
    (h : Cert.Pre_finite_attn.fn (F := Ideal) x y z w = fun _ => 1#1) :
    (∀ i, x i = (((x i).toReal : ℝ) : EReal)) ∧ (∀ i, y i = (((y i).toReal : ℝ) : EReal))
      ∧ (∀ i, z i = (((z i).toReal : ℝ) : EReal)) ∧ (∀ i, w i = (((w i).toReal : ℝ) : EReal)) := by
  have h0 := congrFun h (fun i => i.elim0)
  unfold Cert.Pre_finite_attn.fn Cert.Pre_finite_attn.fn_part1 at h0
  obtain ⟨h1, hw⟩ := IntOp.andi_eq_one.1 h0
  obtain ⟨h2, hz⟩ := IntOp.andi_eq_one.1 h1
  obtain ⟨hx, hy⟩ := IntOp.andi_eq_one.1 h2
  exact ⟨fun i => real_of_cmp _ (Host.reduce_andi_all _ _ _ _ _ hx i), fun i => real_of_cmp _ (Host.reduce_andi_all _ _ _ _ _ hy i),
    fun i => real_of_cmp _ (Host.reduce_andi_all _ _ _ _ _ hz i), fun i => real_of_cmp _ (Host.reduce_andi_all _ _ _ _ _ hw i)⟩

/-! ## The lines after the kernel -/

/-- The queries' gradient as returned, of the kernel's array; -/
def endQ (x : FVec Ideal S8x4096x256 .f32) : FVec Ideal S4096x8x192 .f32 :=
  transpose S4096x8x192 [1, 0, 2] (mulf (extractStridedSlice S8x4096x192 ![0, 0, 0] x slices_S8x4096x256_S8x4096x192_0_0_0)
    (broadcastInDim S8x4096x192 ![] bcast_S_S8x4096x192 (constant S_ .f32 0x3D93CD3A#32))) transposes_S8x4096x192_S4096x8x192_1_0_2
/-- the keys'; -/
def endK (x : FVec Ideal S8x4096x256 .f32) : FVec Ideal S4096x8x192 .f32 :=
  transpose S4096x8x192 [1, 0, 2] (extractStridedSlice S8x4096x192 ![0, 0, 0] x slices_S8x4096x256_S8x4096x192_0_0_0) transposes_S8x4096x192_S4096x8x192_1_0_2
/-- the values'. -/
def endV (x : FVec Ideal S8x4096x128 .f32) : FVec Ideal S4096x8x128 .f32 :=
  transpose S4096x8x128 [1, 0, 2] x transposes_S8x4096x128_S4096x8x128_1_0_2

theorem endQ_sem (x : FVec Ideal S8x4096x256 .f32) (b : Fin 4096) (h : Fin 8) (e : Fin 192) :
    endQ x (ix3 b h e) = x (ix3 h b ⟨e.val, by omega⟩) * Ideal.ofBits FTy.f32 0x3D93CD3A#32 := by
  pointwise [endQ]
theorem endK_sem (x : FVec Ideal S8x4096x256 .f32) (b : Fin 4096) (h : Fin 8) (e : Fin 192) :
    endK x (ix3 b h e) = x (ix3 h b ⟨e.val, by omega⟩) := by
  pointwise [endK]
theorem endV_sem (x : FVec Ideal S8x4096x128 .f32) (b : Fin 4096) (h : Fin 8) (e : Fin 128) :
    endV x (ix3 b h e) = x (ix3 h b e) := by
  pointwise [endV]

variable (m : (ℓ : Loc nD τ sig) → Buf (Elt Ideal) ℓ) (c : Dev nD)

/-- What the lines after the kernel read of its arrays. -/
theorem entry (w : Fin 10) (ref : Ref sig .tc) (hw : Pipeline.arrRef spec0 w = ref) :
    HEq (Pipeline.withArrays (cfgs 0).spec c (V0 m c) (fun w => (dats m 0 c).arrAt w (cfgs 0).N) (Proc.devRef .tc ref)) ((dats m 0 c).arrAt w cfg0.N) := by
  subst hw
  exact heq_of_eq (Pipeline.withArrays_arr spec0 (by decide) c (V0 m c) _ w)

/-- The three results as the lines after the kernel leave them. -/
theorem tail_q : Pipeline.afterTail₀ cfgs (dats m) 0 (V0 m) [hostOps1] c main_v64 = endQ ((dats m 0 c).arrAt 7 cfg0.N) := by
  have e := eq_of_heq (entry m c 7 main_v60_0 rfl)
  unfold Pipeline.afterTail₀
  generalize Pipeline.withArrays (cfgs 0).spec c (V0 m c) (fun w => (dats m 0 c).arrAt w (cfgs 0).N) = W at e
  rw [← e]
  simp only [hostOps1, List.flatten_cons, List.flatten_nil, List.append_nil, StableHlo.TRef.nullary, StableHlo.TRef.unary, StableHlo.TRef.binary, StableHlo.TRef.ternary, StableHlo.TRef.toBuf, StableHlo.TRef.ofBuf, cast_eq]
  after_results_simp
  all_goals rfl
theorem tail_k : Pipeline.afterTail₀ cfgs (dats m) 0 (V0 m) [hostOps1] c main_v66 = endK ((dats m 0 c).arrAt 8 cfg0.N) := by
  have e := eq_of_heq (entry m c 8 main_v60_1 rfl)
  unfold Pipeline.afterTail₀
  generalize Pipeline.withArrays (cfgs 0).spec c (V0 m c) (fun w => (dats m 0 c).arrAt w (cfgs 0).N) = W at e
  rw [← e]
  simp only [hostOps1, List.flatten_cons, List.flatten_nil, List.append_nil, StableHlo.TRef.nullary, StableHlo.TRef.unary, StableHlo.TRef.binary, StableHlo.TRef.ternary, StableHlo.TRef.toBuf, StableHlo.TRef.ofBuf, cast_eq]
  after_results_simp
  all_goals rfl
theorem tail_v : Pipeline.afterTail₀ cfgs (dats m) 0 (V0 m) [hostOps1] c main_v67 = endV ((dats m 0 c).arrAt 9 cfg0.N) := by
  have e := eq_of_heq (entry m c 9 main_v60_2 rfl)
  unfold Pipeline.afterTail₀
  generalize Pipeline.withArrays (cfgs 0).spec c (V0 m c) (fun w => (dats m 0 c).arrAt w (cfgs 0).N) = W at e
  rw [← e]
  simp only [hostOps1, List.flatten_cons, List.flatten_nil, List.append_nil, StableHlo.TRef.nullary, StableHlo.TRef.unary, StableHlo.TRef.binary, StableHlo.TRef.ternary, StableHlo.TRef.toBuf, StableHlo.TRef.ofBuf, cast_eq]
  after_results_simp
  all_goals rfl

/-- The kernel program's three results. -/
def resQ : FVec Ideal S4096x8x192 .f32 := endQ (gradQ (aQ m c) (aK m c) (aT m c) (aV m c) (aL m c) (aD m c) (aO m c))
def resK : FVec Ideal S4096x8x192 .f32 := endK (gradK (aQ m c) (aK m c) (aV m c) (aL m c) (aD m c) (aO m c))
def resV : FVec Ideal S4096x8x128 .f32 := endV (gradV (aQ m c) (aK m c) (aL m c) (aO m c))

/-- The program ends with them, its arguments unchanged. -/
theorem run_results (g : Dev nD → PrngReg) : θ_run defs (onTc (τ := τ) (main (F := Ideal))) ⟨m, fun _ => 0, g⟩ (fun r => ∀ c : Dev nD,
      r.2.mem ((c.tc : Thread nD τ).loc main_v64) = resQ m c
      ∧ r.2.mem ((c.tc : Thread nD τ).loc main_v66) = resK m c
      ∧ r.2.mem ((c.tc : Thread nD τ).loc main_v67) = resV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine θ_run_mono (θ_run_and (run_main m g) (frame m g)) fun r hr c => ?_
  obtain ⟨⟨h, _⟩, hf, _⟩ := hr
  refine ⟨((h c).2 main_v64 (Pipeline.mem_restRefs_of main_v64 (by decide) (by decide))).trans ((tail_q m c).trans (congrArg endQ (final_q m c))),
    ((h c).2 main_v66 (Pipeline.mem_restRefs_of main_v66 (by decide) (by decide))).trans ((tail_k m c).trans (congrArg endK (final_k m c))),
    ((h c).2 main_v67 (Pipeline.mem_restRefs_of main_v67 (by decide) (by decide))).trans ((tail_v m c).trans (congrArg endV (final_v m c))), hf c⟩

end Cert.KernelAttnIdeal.Body

namespace Cert.Proof

open Cert.Attn Cert.KernelAttnIdeal.Body

/-- The kernel's results are the reference's. -/
theorem algebraic_attn [Cert.Pre_finite_attn.Facts] : Cert.algebraic_KernelAttnIdeal_ReferenceAttnIdeal_pre_finite_attn
    (hKernelAttnIdeal := Cert.KernelAttnIdeal.Gen.facts) (hReferenceAttnIdeal := Cert.ReferenceAttnIdeal.Gen.facts) := by
  intro m g m' g' hpre hagree
  have key : ∀ c : Dev Cert.KernelAttnIdeal.nD, Cert.ReferenceAttnIdeal.Value.res_out0 m' c = resQ m c
      ∧ Cert.ReferenceAttnIdeal.Value.res_out1 m' c = resK m c ∧ Cert.ReferenceAttnIdeal.Value.res_out2 m' c = resV m c := fun c => by
    obtain ⟨f0, f1, f2, f3⟩ := finite_args _ _ _ _ (hpre c)
    obtain ⟨g0, g1, g2, g3⟩ := hagree c
    have H : Cert.KernelAttnIdeal.Body.Holds m c (fun b h x => (iq m c (ix3 b h x)).toReal) (fun b h x => (ik m c (ix3 b h x)).toReal)
        (fun b h x => (iv m c (ix3 b h x)).toReal) (fun b h x => (io m c (ix3 b h x)).toReal) :=
      ⟨fun _ _ _ => f0 _, fun _ _ _ => f1 _, fun _ _ _ => f2 _, fun _ _ _ => f3 _⟩
    have H' : Cert.ReferenceAttnIdeal.Value.Holds m' c (fun b h x => (iq m c (ix3 b h x)).toReal) (fun b h x => (ik m c (ix3 b h x)).toReal)
        (fun b h x => (iv m c (ix3 b h x)).toReal) (fun b h x => (io m c (ix3 b h x)).toReal) :=
      ⟨fun _ _ _ => (congrFun g0 _).trans (f0 _), fun _ _ _ => (congrFun g1 _).trans (f1 _),
        fun _ _ _ => (congrFun g2 _).trans (f2 _), fun _ _ _ => (congrFun g3 _).trans (f3 _)⟩
    refine ⟨funext fun i => ?_, funext fun i => ?_, funext fun i => ?_⟩
    · obtain ⟨b, h, x, rfl⟩ : ∃ b h x, i = ix3 b h x := ⟨_, _, _, eq_ix3 i⟩
      exact (Cert.ReferenceAttnIdeal.Value.out_q H' b h x).trans ((endQ_sem _ b h x).trans (gradQ_at H b h x)).symm
    · obtain ⟨b, h, x, rfl⟩ : ∃ b h x, i = ix3 b h x := ⟨_, _, _, eq_ix3 i⟩
      exact (Cert.ReferenceAttnIdeal.Value.out_k H' b h x).trans ((endK_sem _ b h x).trans (gradK_at H b h x)).symm
    · obtain ⟨b, h, x, rfl⟩ : ∃ b h x, i = ix3 b h x := ⟨_, _, _, eq_ix3 i⟩
      exact (Cert.ReferenceAttnIdeal.Value.out_v H' b h x).trans ((endV_sem _ b h x).trans (gradV_at H b h x)).symm
  refine ⟨fun c => resQ m c, fun c => resK m c, fun c => resV m c, run_results m g, ?_⟩
  refine θ_run_mono (Cert.ReferenceAttnIdeal.Value.run m' g') fun r hr c => ?_
  obtain ⟨k0, k1, k2⟩ := key c
  exact ⟨(hr c).1.trans k0, (hr c).2.1.trans k1, (hr c).2.2.1.trans k2, (hr c).2.2.2⟩

end Cert.Proof
-- ==== Proof.GluTerms.lean ====
/- The reference's gradient of the gated linear unit, named step by step over whole arrays. -/
module

public import proofs.«01_k».proof.Proof.Gen.ReferenceGluIdeal.Run
public import Idealize.ShloMosaic.Lib.Pointwise
public import Idealize.ShloMosaic.Lib.Claim

@[expose] public section

set_option maxRecDepth 16384

noncomputable section

namespace Cert.Glu

open Idealize.ShloMosaic Idealize.ShloMosaic.TcCoe Idealize.SL.Sem
open Cert.ReferenceGluIdeal Cert.ReferenceGluIdeal.Gen

/-- One number at every index of an activation array. -/
abbrev fill (w : BitVec 32) : FVec Ideal S4096x512 .f32 := broadcastInDim S4096x512 ![] bcast_S_S4096x512 (constant S_ .f32 w)
/-- 0.044715 at every index. -/
abbrev cubic : FVec Ideal S4096x512 .f32 :=
  broadcastInDim S4096x512 ![] bcast_S_S4096x512 (Host.divf (constant S_ .f32 0x472EAB00#32) (constant S_ .f32 0x49742400#32))
/-- The hyperbolic tangent inside gelu. -/
def th (Y : FVec Ideal S4096x512 .f32) : FVec Ideal S4096x512 .f32 :=
  Host.tanh (mulf (fill 0x3F4C422A#32) (addf Y (mulf cubic (mulf (mulf Y Y) Y))))
/-- `(1 + tanh) / 2`. -/
def cdf (T : FVec Ideal S4096x512 .f32) : FVec Ideal S4096x512 .f32 := mulf (fill 0x3F000000#32) (addf (fill 0x3F800000#32) T)
/-- gelu. -/
def gelu (Y : FVec Ideal S4096x512 .f32) : FVec Ideal S4096x512 .f32 := mulf Y (cdf (th Y))
/-- The gate of the activations `Z`. -/
def gate (Z : FVec Ideal S4096x512 .f32) (W : FVec Ideal S512x512 .f32) (B : FVec Ideal S1x512 .f32) : FVec Ideal S4096x512 .f32 :=
  Host.divf (fill 0x3F800000#32) (addf (fill 0x3F800000#32) (Host.exp (Host.negf
    (addf (Host.dotGeneral dot_S4096x512_S512x512_S4096x512_1_0_0_1_n_n none Z W)
      (broadcastInDim S4096x512 ![0, 1] bcast_S1x512_S4096x512_0_1 B)))))
/-- The cotangent of the unit's product: the output's, back through the output projection. -/
def up (D : FVec Ideal S4096x1024 .f32) (O : FVec Ideal S512x1024 .f32) : FVec Ideal S4096x512 .f32 :=
  Host.dotGeneral dot_S4096x1024_S512x1024_S4096x512_1_1_0_0_n_n none D O
/-- The cotangent of the gate's argument. -/
def dpre (Z G S : FVec Ideal S4096x512 .f32) : FVec Ideal S4096x512 .f32 :=
  mulf (mulf Z G) (mulf S (subf (fill 0x3F800000#32) S))
/-- The cotangent of gelu's value. -/
def dz (G S P : FVec Ideal S4096x512 .f32) (W : FVec Ideal S512x512 .f32) : FVec Ideal S4096x512 .f32 :=
  addf (mulf G S) (Host.dotGeneral dot_S4096x512_S512x512_S4096x512_1_1_0_0_n_n none P W)
/-- The part of the input's cotangent that passes through the tangent. -/
def inner (Y T E : FVec Ideal S4096x512 .f32) : FVec Ideal S4096x512 .f32 :=
  mulf (fill 0x3F4C422A#32) (mulf (mulf (fill 0x3F000000#32) (mulf Y E))
    (mulf (addf (fill 0x3F800000#32) T) (subf (fill 0x3F800000#32) T)))
/-- The cotangent of the input. -/
def dy (Y T E : FVec Ideal S4096x512 .f32) : FVec Ideal S4096x512 .f32 :=
  addf (addf (mulf E (cdf T)) (inner Y T E)) (mulf (mulf cubic (inner Y T E)) (mulf (fill 0x40400000#32) (mulf Y Y)))
/-- The gradient of the gate's bias. -/
def db (P : FVec Ideal S4096x512 .f32) : FVec Ideal S1x512 .f32 :=
  shapeCast S1x512 (Host.reduceAdd P (constant S_ .f32 0x00000000#32) reducesTo_S4096x512_S512_d0 h_S_) shapeCasts_S512_S1x512
/-- The gradient of the gate's weights. -/
def dw (P Z : FVec Ideal S4096x512 .f32) : FVec Ideal S512x512 .f32 :=
  transpose S512x512 [1, 0] (Host.dotGeneral dot_S4096x512_S4096x512_S512x512_0_0_1_1_n_n none P Z) transposes_S512x512_S512x512_1_0
/-- The gradient of the output projection. -/
def dout (D : FVec Ideal S4096x1024 .f32) (Z S : FVec Ideal S4096x512 .f32) : FVec Ideal S512x1024 .f32 :=
  transpose S512x1024 [1, 0] (Host.dotGeneral dot_S4096x1024_S4096x512_S1024x512_0_0_1_1_n_n none D (mulf Z S)) transposes_S1024x512_S512x1024_1_0

variable (m : (ℓ : Loc nD τ sig) → Buf (Elt Ideal) ℓ) (c : Dev nD)

/-- The arguments, as arrays. -/
abbrev aD : FVec Ideal S4096x1024 .f32 := m ((c.tc : Thread nD τ).loc main_arg0)
abbrev aY : FVec Ideal S4096x512 .f32 := m ((c.tc : Thread nD τ).loc main_arg1)
abbrev aW : FVec Ideal S512x512 .f32 := m ((c.tc : Thread nD τ).loc main_arg2)
abbrev aB : FVec Ideal S1x512 .f32 := m ((c.tc : Thread nD τ).loc main_arg3)
abbrev aO : FVec Ideal S512x1024 .f32 := m ((c.tc : Thread nD τ).loc main_arg4)
/-- The gate, its argument's cotangent and gelu's cotangent, of the arguments. -/
abbrev vS (Y : FVec Ideal S4096x512 .f32) (W : FVec Ideal S512x512 .f32) (B : FVec Ideal S1x512 .f32) := gate (gelu Y) W B
abbrev vP (D : FVec Ideal S4096x1024 .f32) (Y : FVec Ideal S4096x512 .f32) (W : FVec Ideal S512x512 .f32) (B : FVec Ideal S1x512 .f32)
    (O : FVec Ideal S512x1024 .f32) := dpre (gelu Y) (up D O) (vS Y W B)
abbrev vE (D : FVec Ideal S4096x1024 .f32) (Y : FVec Ideal S4096x512 .f32) (W : FVec Ideal S512x512 .f32) (B : FVec Ideal S1x512 .f32)
    (O : FVec Ideal S512x1024 .f32) := dz (up D O) (vS Y W B) (vP D Y W B O) W

set_option maxHeartbeats 1000000 in
/-- The reference's run, its results named. -/
theorem run (g : Dev nD → PrngReg) :
    θ_run defs (onTc (τ := τ) (main (F := Ideal))) ⟨m, fun _ => 0, g⟩ fun r => ∀ c : Dev nD,
      r.2.mem ((c.tc : Thread nD τ).loc main_v59) = dy (aY m c) (th (aY m c)) (vE (aD m c) (aY m c) (aW m c) (aB m c) (aO m c))
      ∧ r.2.mem ((c.tc : Thread nD τ).loc main_v45) = dw (vP (aD m c) (aY m c) (aW m c) (aB m c) (aO m c)) (gelu (aY m c))
      ∧ r.2.mem ((c.tc : Thread nD τ).loc main_v43) = db (vP (aD m c) (aY m c) (aW m c) (aB m c) (aO m c))
      ∧ r.2.mem ((c.tc : Thread nD τ).loc main_v37) = dout (aD m c) (gelu (aY m c)) (vS (aY m c) (aW m c) (aB m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  θ_run_mono (Cert.ReferenceGluIdeal.Value.run m g) fun r h c => h c

end Cert.Glu

end
-- ==== Proof.GluTile.lean ====
/- One grid point of the gated unit's backward call: what its payloads hold, as the reference's terms over the whole
   arrays, read at the point's rows. -/
module

public import proofs.«01_k».proof.Proof.Gen.KernelGluIdeal.Value
public import proofs.«01_k».proof.Proof.GluTerms
public import Idealize.ShloMosaic.Lib.Pipeline.ValueKit

@[expose] public section

set_option maxRecDepth 16384

noncomputable section

namespace Cert.KernelGluIdeal.Value

open Idealize.ShloMosaic Idealize.ShloMosaic.TcCoe Idealize.SL.Sem
open Cert.KernelGluIdeal Cert.KernelGluIdeal.Gen

/-- The name's value is the quotient the reference takes. -/
theorem cubic_val : (Named.named (F := Ideal) (φ := .f32) κ "cubic" 0x3D372713#32 : EReal)
    = ((8943 / 200000 : ℝ) : EReal) := rfl

theorem slope_val : (Named.named (F := Ideal) (φ := .f32) κ "slope" 0x3E095D4F#32 : EReal) = ((26829 / 200000 : ℝ) : EReal) := rfl

theorem quotient_val : Ideal.div (Ideal.ofBits .f32 0x472EAB00#32) (Ideal.ofBits .f32 0x49742400#32) = ((8943 / 200000 : ℝ) : EReal) := by
  have h1 : Ideal.ofBits .f32 0x472EAB00#32 = ((44715 : ℝ) : EReal) := by
    simp [Ideal.ofBits, Ideal.ieee]
    rw [← EReal.coe_mul]
    norm_num
  have h2 : Ideal.ofBits .f32 0x49742400#32 = ((1000000 : ℝ) : EReal) := by
    simp [Ideal.ofBits, Ideal.ieee]
    rw [← EReal.coe_mul]
    norm_num
  rw [h1, h2, Ideal.div_coe (by norm_num), ← EReal.coe_mul]
  norm_num

theorem half_val : Ideal.ofBits .f32 0x3F000000#32 = ((1 / 2 : ℝ) : EReal) := by
  simp [Ideal.ofBits, Ideal.ieee]
  rw [← EReal.coe_mul]
  norm_num

theorem three_val : Ideal.ofBits .f32 0x40400000#32 = ((3 : ℝ) : EReal) := by
  simp [Ideal.ofBits, Ideal.ieee]
  rw [← EReal.coe_mul]
  norm_num

theorem root_val : ∃ κ0 : ℝ, Ideal.ofBits .f32 0x3F4C422A#32 = ((κ0 : ℝ) : EReal) := by
  refine ⟨_, (EReal.coe_toReal ?_ ?_).symm⟩ <;> simp [Ideal.ofBits, Ideal.ieee] <;> rw [← EReal.coe_mul]
  exacts [EReal.coe_ne_top _, EReal.coe_ne_bot _]

section
variable (X : FVec Ideal S256x512 .f32) (W : FVec Ideal S512x512 .bf16) (B : FVec Ideal S1x512 .f32) (D : Vec Ideal S256x1024 .bf16)
  (O : Vec Ideal S8x512x128 .bf16)

/-- The cotangent of the unit's product: all slabs but the last, -/
abbrev most : FVec Ideal S256x512 .f32 :=
  k0_pay13 (k0_pay10 D) (k0_pay11 D (View.ld O (Rect.unit ![0, 0, 0] ![1, 512, 128] inb_S8x512x128_S1x512x128_0_0_0)))
    (k0_pay12 D)
    (View.ld O (Rect.unit ![1, 0, 0] ![1, 512, 128] inb_S8x512x128_S1x512x128_1_0_0))
    (View.ld O (Rect.unit ![2, 0, 0] ![1, 512, 128] inb_S8x512x128_S1x512x128_2_0_0))
    (View.ld O (Rect.unit ![3, 0, 0] ![1, 512, 128] inb_S8x512x128_S1x512x128_3_0_0))
    (View.ld O (Rect.unit ![4, 0, 0] ![1, 512, 128] inb_S8x512x128_S1x512x128_4_0_0))
    (View.ld O (Rect.unit ![5, 0, 0] ![1, 512, 128] inb_S8x512x128_S1x512x128_5_0_0))
    (View.ld O (Rect.unit ![6, 0, 0] ![1, 512, 128] inb_S8x512x128_S1x512x128_6_0_0))
/-- and the last. -/
abbrev last : FVec Ideal S256x512 .f32 :=
  k0_pay14 (k0_pay10 D) (View.ld O (Rect.unit ![7, 0, 0] ![1, 512, 128] inb_S8x512x128_S1x512x128_7_0_0))

variable (ρ : Fin 256 → Fin 4096) (Y : FVec Ideal S4096x512 .f32) (AW : FVec Ideal S512x512 .f32) (AB : FVec Ideal S1x512 .f32)
  (AD : FVec Ideal S4096x1024 .f32) (AO : FVec Ideal S512x1024 .f32)

/-- The tangent. -/
theorem th_tile (hx : ∀ r a, X (ix2 r a) = Y (ix2 (ρ r) a)) (r a) : k0_pay6 X (ix2 r a) = Glu.th Y (ix2 (ρ r) a) := by
  pointwise [k0_pay6, Glu.th, Glu.fill, Glu.cubic]
  rw [hx, cubic_val, quotient_val]

/-- gelu. -/
theorem gelu_tile (hx : ∀ r a, X (ix2 r a) = Y (ix2 (ρ r) a)) (r a) : k0_pay7 X (ix2 r a) = Glu.gelu Y (ix2 (ρ r) a) := by
  have h := th_tile X ρ Y hx r a
  pointwise [k0_pay7, Glu.gelu, Glu.cdf, Glu.fill]
  rw [h, hx, mul_comm (Ideal.ofBits _ _), mul_assoc]

/-- The gate. -/
theorem gate_tile (hx : ∀ r a, X (ix2 r a) = Y (ix2 (ρ r) a)) (hw : ∀ r a, W (ix2 r a) = AW (ix2 r a)) (hb : ∀ r a, B (ix2 r a) = AB (ix2 r a)) (r a) :
    k0_pay9 X W B (ix2 r a) = Glu.gate (Glu.gelu Y) AW AB (ix2 (ρ r) a) := by
  pointwise [k0_pay9, k0_pay8, Glu.gate, Glu.fill]
  simp only [zero_sub, gelu_tile X ρ Y hx, hw, hb]

/-- The product's cotangent. -/
theorem up_tile (hd : ∀ r a, D (ix2 r a) = AD (ix2 (ρ r) a))
    (ho : ∀ (j : Fin 8) (b : Fin 512) (k : Fin 128), O (ix3 j b k) = AO (ix2 b ⟨j.val * 128 + k.val, by omega⟩)) (r a) :
    k0_pay15 (most D O) (last D O) (ix2 r a) = Glu.up AD AO (ix2 (ρ r) a) := by
  pointwise [k0_pay15, k0_pay13, k0_pay14, k0_pay12, k0_pay11, k0_pay10, Glu.up]
  refine Eq.trans ?_ (Fin.sum_mul_add_congr (S := 8) (n := 128)
    (F := fun s k => D (ix2 r ⟨s.val * 128 + k.val, by omega⟩) * O (ix3 s a k)) fun s k hl => by rw [hd, ho])
  rw [Fin.sum_univ_eight]
  simp only [Fin.val_zero, zero_mul, zero_add]
  rfl

variable (Z S : FVec Ideal S256x512 .f32) (G0 G1 : FVec Ideal S256x512 .f32)
  (AZ AS AG : FVec Ideal S4096x512 .f32)

/-- The gate's argument's cotangent. -/
theorem dpre_tile (hz : ∀ r a, Z (ix2 r a) = AZ (ix2 (ρ r) a)) (hs : ∀ r a, S (ix2 r a) = AS (ix2 (ρ r) a))
    (hg : ∀ r a, k0_pay15 G0 G1 (ix2 r a) = AG (ix2 (ρ r) a)) (r a) :
    k0_pay16 Z S G0 G1 (ix2 r a) = Glu.dpre AZ AG AS (ix2 (ρ r) a) := by
  pointwise [k0_pay16, Glu.dpre, Glu.fill]
  rw [hz, hs, hg, mul_comm (AG _), mul_assoc (_ * _)]

/-- The input's cotangent, where the input, its tangent and gelu's cotangent are real. -/
theorem dy_tile (T : FVec Ideal S256x512 .f32) (AT AP : FVec Ideal S4096x512 .f32)
    (hx : ∀ r a, X (ix2 r a) = Y (ix2 (ρ r) a)) (ht : ∀ r a, T (ix2 r a) = AT (ix2 (ρ r) a))
    (hs : ∀ r a, S (ix2 r a) = AS (ix2 (ρ r) a)) (hw : ∀ r a, W (ix2 r a) = AW (ix2 r a))
    (hg : ∀ r a, k0_pay15 G0 G1 (ix2 r a) = AG (ix2 (ρ r) a)) (hp : ∀ r a, k0_pay16 Z S G0 G1 (ix2 r a) = AP (ix2 (ρ r) a))
    (ry : ∀ i, ∃ y : ℝ, Y i = (y : EReal)) (rt : ∀ i, ∃ y : ℝ, AT i = (y : EReal)) (re : ∀ i, ∃ y : ℝ, Glu.dz AG AS AP AW i = (y : EReal)) (r a) :
    k0_pay18 X T Z S G0 G1 W (ix2 r a) = Glu.dy Y AT (Glu.dz AG AS AP AW) (ix2 (ρ r) a) := by
  have e : k0_pay18 X T Z S G0 G1 W (ix2 r a) = Glu.dz AG AS AP AW (ix2 (ρ r) a) * (Ideal.ofBits .f32 0x3F000000#32 * (1 + AT (ix2 (ρ r) a))
      + Ideal.ofBits .f32 0x3F000000#32 * Y (ix2 (ρ r) a) * (1 - AT (ix2 (ρ r) a) * AT (ix2 (ρ r) a))
        * (Ideal.ofBits .f32 0x3F4C422A#32 * (1 + ((26829 / 200000 : ℝ) : EReal) * (Y (ix2 (ρ r) a) * Y (ix2 (ρ r) a))))) := by
    pointwise [k0_pay18, k0_pay17, Glu.dz]
    simp only [hx, ht, hs, hw, hg, hp, slope_val]
  rw [e]
  generalize Glu.dz AG AS AP AW = E at re ⊢
  pointwise [Glu.dy, Glu.cdf, Glu.inner, Glu.fill, Glu.cubic]
  obtain ⟨y, hy⟩ := ry (ix2 (ρ r) a)
  obtain ⟨t, ht⟩ := rt (ix2 (ρ r) a)
  obtain ⟨d, hd⟩ := re (ix2 (ρ r) a)
  obtain ⟨k, hk⟩ := root_val
  rw [hy, ht, hd, hk, quotient_val, half_val, three_val, ← EReal.coe_one]
  simp only [← EReal.coe_mul, ← EReal.coe_add, ← EReal.coe_sub]
  congr 1
  ring

/-- What a point adds to the gradient of the gate's weights, -/
theorem dw_tile (Zb Pb : FVec Ideal S256x512 .bf16) (AP : FVec Ideal S4096x512 .f32) (A : FVec Ideal S512x512 .f32)
    (hz : ∀ r a, Zb (ix2 r a) = AZ (ix2 (ρ r) a)) (hp : ∀ r a, Pb (ix2 r a) = AP (ix2 (ρ r) a)) (a b : Fin 512) :
    k0_pay3 Zb Pb A (ix2 a b) = A (ix2 a b) + ∑ r : Fin 256, AZ (ix2 (ρ r) a) * AP (ix2 (ρ r) b) := by
  pointwise [k0_pay3]
  simp only [hz, hp]
/-- of its bias, -/
theorem db_tile (AP : FVec Ideal S4096x512 .f32) (A : FVec Ideal S1x512 .f32)
    (hp : ∀ r a, k0_pay16 Z S G0 G1 (ix2 r a) = AP (ix2 (ρ r) a)) (a : Fin 1) (b : Fin 512) :
    k0_pay1 (k0_pay19 Z S G0 G1) (k0_pay21 A) (ix2 a b) = A (ix2 a b) + ∑ r : Fin 256, AP (ix2 (ρ r) b) := by
  pointwise [k0_pay1, k0_pay19, k0_pay21]
  simp only [hp]
/-- and of the output projection. -/
theorem dout_tile (A : FVec Ideal S512x1024 .f32) (hz : ∀ r a, Z (ix2 r a) = AZ (ix2 (ρ r) a)) (hs : ∀ r a, S (ix2 r a) = AS (ix2 (ρ r) a))
    (hd : ∀ r a, D (ix2 r a) = AD (ix2 (ρ r) a)) (a : Fin 512) (b : Fin 1024) :
    k0_pay5 Z S (k0_pay10 D) A (ix2 a b) = A (ix2 a b) + ∑ r : Fin 256, AZ (ix2 (ρ r) a) * AS (ix2 (ρ r) a) * AD (ix2 (ρ r) b) := by
  pointwise [k0_pay5, k0_pay10]
  simp only [hz, hs, hd]

end

end Cert.KernelGluIdeal.Value

end
-- ==== Proof.GluValue.lean ====
/- What the gated unit's backward call leaves in its four result arrays, as the reference's terms. -/
module

public import proofs.«01_k».proof.Proof.GluTile

@[expose] public section

set_option maxRecDepth 16384

noncomputable section

namespace Cert.KernelGluIdeal.Value

open Idealize.ShloMosaic Idealize.ShloMosaic.TcCoe Idealize.SL.Sem
open Idealize.ShloMosaic.Pipeline (Dat)
open Cert.KernelGluIdeal Cert.KernelGluIdeal.Gen

variable (m : (ℓ : Loc nD τ sig) → Buf (Elt Ideal) ℓ) (c : Dev nD)

/-- The block of every window at a point. -/
theorem idx0 : ∀ t : Fin cfg0.N, win0_0.index t = ![t.val, 0] ∧ win0_1.index t = ![t.val, 0] ∧ win0_2.index t = ![0, 0]
    ∧ win0_3.index t = ![0, 0] ∧ win0_4.index t = ![0, 0, 0] ∧ win0_5.index t = ![t.val, 0] ∧ win0_6.index t = ![0, 0]
    ∧ win0_7.index t = ![0, 0] ∧ win0_8.index t = ![0, 0] :=
  (by decide +kernel : ∀ t : Fin grid0.N, _)

/-- The arguments, as arrays. -/
abbrev aD : FVec Ideal Cert.ReferenceGluIdeal.S4096x1024 .f32 := m ((c.tc : Thread nD τ).loc main_arg0)
abbrev aY : FVec Ideal Cert.ReferenceGluIdeal.S4096x512 .f32 := m ((c.tc : Thread nD τ).loc main_arg1)
abbrev aW : FVec Ideal Cert.ReferenceGluIdeal.S512x512 .f32 := m ((c.tc : Thread nD τ).loc main_arg2)
abbrev aB : FVec Ideal Cert.ReferenceGluIdeal.S1x512 .f32 := m ((c.tc : Thread nD τ).loc main_arg3)
abbrev aO : FVec Ideal Cert.ReferenceGluIdeal.S512x1024 .f32 := m ((c.tc : Thread nD τ).loc main_arg4)

theorem host_v3 : V m c main_v3 = (aD m c : FVec Ideal Cert.ReferenceGluIdeal.S4096x1024 .f32) := by
  show StableHlo.after _ _ _ = _
  after_results_simp <;> rfl

theorem host_v4 : V m c main_v4 = (aW m c : FVec Ideal Cert.ReferenceGluIdeal.S512x512 .f32) := by
  show StableHlo.after _ _ _ = _
  after_results_simp <;> rfl

theorem host_v2 : (V m c main_v2 : FVec Ideal S8x512x128 .bf16)
    = transpose S8x512x128 [1, 0, 2] (shapeCast S512x8x128 (aO m c : FVec Ideal S512x1024 .f32) shapeCasts_S512x1024_S512x8x128) transposes_S512x8x128_S8x512x128_1_0_2 := by
  show StableHlo.after _ _ _ = _
  after_results_simp <;> rfl

theorem slabs (A : FVec Ideal S512x1024 .f32) (j : Fin 8) (b : Fin 512) (k : Fin 128) :
    transpose S8x512x128 [1, 0, 2] (shapeCast S512x8x128 A shapeCasts_S512x1024_S512x8x128) transposes_S512x8x128_S8x512x128_1_0_2 (ix3 j b k)
      = A (ix2 b ⟨j.val * 128 + k.val, by omega⟩) := by
  pointwise []
  blk_ext

/-- A point's rows in the arrays. -/
abbrev row (t : Fin cfg0.N) (r : Fin 256) : Fin 4096 := ⟨t.val * 256 + r.val, by have := t.isLt; have : cfg0.N = 16 := N_0; omega⟩

theorem blk0 (t : Fin cfg0.N) (r : Fin 256) (a : Fin 1024) : (iblk m c 0 t : Vec Ideal S256x1024 .bf16) (ix2 r a) = aD m c (ix2 (row t r) a) := by
  rw [← host_v3]
  unfold iblk
  generalize V m c = X
  blk_point [idx0 t]
theorem blk1 (t : Fin cfg0.N) (r : Fin 256) (a : Fin 512) : (iblk m c 1 t : FVec Ideal S256x512 .f32) (ix2 r a) = aY m c (ix2 (row t r) a) := by
  rw [← show V m c main_arg1 = aY m c from V_main_arg1 m c]
  unfold iblk
  generalize V m c = X
  blk_point [idx0 t]
theorem blk2 (t : Fin cfg0.N) (r : Fin 512) (a : Fin 512) : (iblk m c 2 t : FVec Ideal S512x512 .bf16) (ix2 r a) = aW m c (ix2 r a) := by
  rw [← host_v4]
  unfold iblk
  generalize V m c = X
  blk_point [idx0 t]
theorem blk3 (t : Fin cfg0.N) (r : Fin 1) (a : Fin 512) : (iblk m c 3 t : FVec Ideal S1x512 .f32) (ix2 r a) = aB m c (ix2 r a) := by
  rw [← show V m c main_arg3 = aB m c from V_main_arg3 m c]
  unfold iblk
  generalize V m c = X
  blk_point [idx0 t]
theorem blk4 (t : Fin cfg0.N) (j : Fin 8) (b : Fin 512) (k : Fin 128) :
    (iblk m c 4 t : Vec Ideal S8x512x128 .bf16) (ix3 j b k) = aO m c (ix2 b ⟨j.val * 128 + k.val, by omega⟩) := by
  rw [← slabs (aO m c), ← host_v2]
  unfold iblk
  generalize V m c = X
  blk_point [idx0 t]

/-- gelu, the gate and its argument's cotangent, of the arguments. -/
abbrev vZ := Glu.gelu (aY m c)
abbrev vS := Glu.vS (aY m c) (aW m c) (aB m c)
abbrev vP := Glu.vP (aD m c) (aY m c) (aW m c) (aB m c) (aO m c)
abbrev vE := Glu.vE (aD m c) (aY m c) (aW m c) (aB m c) (aO m c)

theorem gelu_blk (t : Fin cfg0.N) (r a) : k0_pay7 (iblk m c 1 t) (ix2 r a) = vZ m c (ix2 (row t r) a) :=
  gelu_tile _ _ _ (blk1 m c t) r a
theorem gate_blk (t : Fin cfg0.N) (r a) : k0_pay9 (iblk m c 1 t) (iblk m c 2 t) (iblk m c 3 t) (ix2 r a) = vS m c (ix2 (row t r) a) :=
  gate_tile _ _ _ _ _ _ _ (blk1 m c t) (blk2 m c t) (blk3 m c t) r a
theorem up_blk (t : Fin cfg0.N) (r a) : k0_pay15 (most (iblk m c 0 t) (iblk m c 4 t)) (last (iblk m c 0 t) (iblk m c 4 t)) (ix2 r a)
    = Glu.up (aD m c) (aO m c) (ix2 (row t r) a) :=
  up_tile _ _ _ _ _ (blk0 m c t) (blk4 m c t) r a
theorem dpre_blk (t : Fin cfg0.N) (r a) : k0_pay16 (k0_pay7 (iblk m c 1 t)) (k0_pay9 (iblk m c 1 t) (iblk m c 2 t) (iblk m c 3 t))
    (most (iblk m c 0 t) (iblk m c 4 t)) (last (iblk m c 0 t) (iblk m c 4 t)) (ix2 r a) = vP m c (ix2 (row t r) a) :=
  dpre_tile _ _ _ _ _ _ _ _ (gelu_blk m c t) (gate_blk m c t) (up_blk m c t) r a

/-- The same two as the products' operands. -/
theorem gelu_op (t : Fin cfg0.N) (r a) : k0_pay8 (iblk m c 1 t) (ix2 r a) = vZ m c (ix2 (row t r) a) := gelu_blk m c t r a
theorem dpre_op (t : Fin cfg0.N) (r a) : k0_pay17 (k0_pay7 (iblk m c 1 t)) (k0_pay9 (iblk m c 1 t) (iblk m c 2 t) (iblk m c 3 t))
    (most (iblk m c 0 t) (iblk m c 4 t)) (last (iblk m c 0 t) (iblk m c 4 t)) (ix2 r a) = vP m c (ix2 (row t r) a) := dpre_blk m c t r a

/-- What a point adds to the gradients of the gate's weights, of its bias and of the output projection. -/
abbrev dwT (P Z : FVec Ideal Cert.ReferenceGluIdeal.S4096x512 .f32) (t : Fin cfg0.N) (a b : Fin 512) : EReal :=
  ∑ r : Fin 256, Z (ix2 (row t r) a) * P (ix2 (row t r) b)
abbrev dbT (P : FVec Ideal Cert.ReferenceGluIdeal.S4096x512 .f32) (t : Fin cfg0.N) (b : Fin 512) : EReal := ∑ r : Fin 256, P (ix2 (row t r) b)
abbrev doutT (D : FVec Ideal Cert.ReferenceGluIdeal.S4096x1024 .f32) (Z S : FVec Ideal Cert.ReferenceGluIdeal.S4096x512 .f32) (t : Fin cfg0.N)
    (a : Fin 512) (b : Fin 1024) : EReal := ∑ r : Fin 256, Z (ix2 (row t r) a) * S (ix2 (row t r) a) * D (ix2 (row t r) b)

theorem dw_first (t : Fin cfg0.N) (h : t.val % 16 = 0) (a b : Fin 512) :
    (outsAt0 m c t.val t.isLt).2.2.1 (ix2 a b) = 0 + dwT (vP m c) (vZ m c) t a b := by
  rw [outsAt0_A m c t h h h]; frame_out
  exact (dw_tile (row t) _ _ _ _ _ (gelu_op m c t) (dpre_op m c t) a b).trans (congrArg (fun x : EReal => x + _) (by pointwise [k0_pay2]))
theorem dw_next (t : Fin cfg0.N) (h : ¬ t.val % 16 = 0) (a b : Fin 512) :
    (outsAt0 m c t.val t.isLt).2.2.1 (ix2 a b) = (outsAt0 m c (t.val - 1) (by omega)).2.2.1 (ix2 a b) + dwT (vP m c) (vZ m c) t a b := by
  rw [outsAt0_B m c t h h h]; frame_out
  exact dw_tile (row t) _ _ _ _ _ (gelu_op m c t) (dpre_op m c t) a b

/-- The gradient of the gate's weights. -/
theorem final7 : (dats m 0 c).arrAt 7 cfg0.N = Glu.dw (vP m c) (vZ m c) := by
  refine (dats m 0 c).arrAt_eq_of_after_last 7 t0_15 (by decide +kernel) _ fun j => ?_
  blk_simp
  obtain ⟨a, b, rfl⟩ : ∃ a b, j = ix2 a b := ⟨j 0, j 1, by blk_ext⟩
  rw [after0_7, Pipeline.eq_sum_fin_of_reset_step_apply_last (fun n h (i : Fin 512 × Fin 512) => (outsAt0 m c n h).2.2.1 (ix2 i.1 i.2)) 16 (fun _ => 0)
    (fun t i => dwT (vP m c) (vZ m c) t i.1 i.2) (fun t h i => dw_first m c t h i.1 i.2) (fun t h i => dw_next m c t h i.1 i.2)
    (le_of_eq N_0) t0_15 rfl (a, b), zero_add]
  generalize vP m c = P
  generalize vZ m c = Z
  pointwise [Glu.dw]
  refine Fin.sum_mul_add_congr fun s k hl => EReal.mul_comm _ _

theorem db_first (t : Fin cfg0.N) (h : t.val % 16 = 0) (a : Fin 1) (b : Fin 512) :
    (outsAt0 m c t.val t.isLt).2.1 (ix2 a b) = 0 + dbT (vP m c) t b := by
  rw [outsAt0_A m c t h h h]; frame_out
  exact (db_tile (row t) _ _ _ _ _ _ (dpre_blk m c t) a b).trans (congrArg (fun x : EReal => x + _) (by pointwise [k0_pay20]))
theorem db_next (t : Fin cfg0.N) (h : ¬ t.val % 16 = 0) (a : Fin 1) (b : Fin 512) :
    (outsAt0 m c t.val t.isLt).2.1 (ix2 a b) = (outsAt0 m c (t.val - 1) (by omega)).2.1 (ix2 a b) + dbT (vP m c) t b := by
  rw [outsAt0_B m c t h h h]; frame_out
  exact db_tile (row t) _ _ _ _ _ _ (dpre_blk m c t) a b

/-- The gradient of the gate's bias. -/
theorem final6 : (dats m 0 c).arrAt 6 cfg0.N = Glu.db (vP m c) := by
  refine (dats m 0 c).arrAt_eq_of_after_last 6 t0_15 (by decide +kernel) _ fun j => ?_
  blk_simp
  obtain ⟨a, b, rfl⟩ : ∃ a b, j = ix2 a b := ⟨j 0, j 1, by blk_ext⟩
  rw [after0_6, Pipeline.eq_sum_fin_of_reset_step_apply_last (fun n h (i : Fin 1 × Fin 512) => (outsAt0 m c n h).2.1 (ix2 i.1 i.2)) 16 (fun _ => 0)
    (fun t i => dbT (vP m c) t i.2) (fun t h i => db_first m c t h i.1 i.2) (fun t h i => db_next m c t h i.1 i.2)
    (le_of_eq N_0) t0_15 rfl (a, b), zero_add]
  generalize vP m c = P
  pointwise [Glu.db]
  refine Fin.sum_mul_add_congr fun s k hl => rfl

theorem dout_first (t : Fin cfg0.N) (h : t.val % 16 = 0) (a : Fin 512) (b : Fin 1024) :
    (outsAt0 m c t.val t.isLt).2.2.2 (ix2 a b) = 0 + doutT (aD m c) (vZ m c) (vS m c) t a b := by
  rw [outsAt0_A m c t h h h]; frame_out
  exact (dout_tile _ (row t) _ _ _ _ _ _ (gelu_blk m c t) (gate_blk m c t) (blk0 m c t) a b).trans (congrArg (fun x : EReal => x + _) (by pointwise [k0_pay4]))
theorem dout_next (t : Fin cfg0.N) (h : ¬ t.val % 16 = 0) (a : Fin 512) (b : Fin 1024) :
    (outsAt0 m c t.val t.isLt).2.2.2 (ix2 a b)
      = (outsAt0 m c (t.val - 1) (by omega)).2.2.2 (ix2 a b) + doutT (aD m c) (vZ m c) (vS m c) t a b := by
  rw [outsAt0_B m c t h h h]; frame_out
  exact dout_tile _ (row t) _ _ _ _ _ _ (gelu_blk m c t) (gate_blk m c t) (blk0 m c t) a b

/-- The gradient of the output projection. -/
theorem final8 : (dats m 0 c).arrAt 8 cfg0.N = Glu.dout (aD m c) (vZ m c) (vS m c) := by
  refine (dats m 0 c).arrAt_eq_of_after_last 8 t0_15 (by decide +kernel) _ fun j => ?_
  blk_simp
  obtain ⟨a, b, rfl⟩ : ∃ a b, j = ix2 a b := ⟨j 0, j 1, by blk_ext⟩
  rw [after0_8, Pipeline.eq_sum_fin_of_reset_step_apply_last (fun n h (i : Fin 512 × Fin 1024) => (outsAt0 m c n h).2.2.2 (ix2 i.1 i.2)) 16 (fun _ => 0)
    (fun t i => doutT (aD m c) (vZ m c) (vS m c) t i.1 i.2) (fun t h i => dout_first m c t h i.1 i.2) (fun t h i => dout_next m c t h i.1 i.2)
    (le_of_eq N_0) t0_15 rfl (a, b), zero_add]
  generalize vZ m c = Z
  generalize vS m c = S
  generalize aD m c = D
  pointwise [Glu.dout]
  refine Fin.sum_mul_add_congr fun s k hl => EReal.mul_comm _ _

/-- The input's cotangent, where the input, the tangent and gelu's cotangent are real. -/
theorem final5 (ry : ∀ i, ∃ y : ℝ, aY m c i = (y : EReal)) (rt : ∀ i, ∃ y : ℝ, Glu.th (aY m c) i = (y : EReal))
    (re : ∀ i, ∃ y : ℝ, vE m c i = (y : EReal)) : (dats m 0 c).arrAt 5 cfg0.N = Glu.dy (aY m c) (Glu.th (aY m c)) (vE m c) := by
  refine (dats m 0 c).arrAt_eq_of_covers 5 _ (by decide +kernel) fun t _ y => ?_
  blk_simp
  rw [after0_5]
  obtain ⟨a, b, rfl⟩ : ∃ a b, y = ix2 a b := ⟨y 0, y 1, by blk_ext⟩
  have e := dy_tile _ _ (row t) _ _ _ _ _ _ _ _ _ _ _ (blk1 m c t)
    (th_tile _ _ _ (blk1 m c t)) (gate_blk m c t) (blk2 m c t) (up_blk m c t) (dpre_blk m c t) ry rt re a b
  have o : (outsAt0 m c t.val t.isLt).1 (ix2 a b) = Glu.dy (aY m c) (Glu.th (aY m c)) (vE m c) (ix2 (row t a) b) := by
    by_cases h : t.val % 16 = 0
    · rw [outsAt0_A m c t h h h]; frame_out; exact e
    · rw [outsAt0_B m c t h h h]; frame_out; exact e
  rw [o]
  generalize Glu.dy _ _ _ = X
  blk_point [idx0 t]

end Cert.KernelGluIdeal.Value

end
-- ==== Proof.GluAlgebra.lean ====
/- The gated unit's backward call computes the derivative of the reference's lines, at finite arguments. -/
module

public import proofs.«01_k».proof.Defs
public import Idealize.ShloMosaic.Lib.ReduceAll
public import proofs.«01_k».proof.Proof.GluValue
public import proofs.«01_k».proof.Proof.Reals
public import proofs.«01_k».proof.Proof.Gen.KernelGlu.Frame
public import proofs.«01_k».proof.Proof.Gen.Pre_finite_glu

@[expose] public section

set_option maxRecDepth 16384

noncomputable section

open Idealize.ShloMosaic Idealize.ShloMosaic.TcCoe Idealize.ShloMosaic.Tactic Idealize.SL.Sem

namespace Cert.Glu

open Cert.ReferenceGluIdeal Cert.ReferenceGluIdeal.Gen Cert.Reals

variable {Y Z G S P T : FVec Ideal S4096x512 .f32} {W : FVec Ideal S512x512 .f32} {B : FVec Ideal S1x512 .f32}
  {D : FVec Ideal S4096x1024 .f32} {O : FVec Ideal S512x1024 .f32}

/-! ## Every intermediate array of the reference is real where its operands are -/

theorem th_real (hy : ∀ i, IsReal (Y i)) (i) : IsReal (th Y i) := by
  obtain ⟨k, hk⟩ := Cert.KernelGluIdeal.Value.root_val
  pointwise [th, fill, cubic]
  rw [hk, Cert.KernelGluIdeal.Value.quotient_val]
  exact .tanh (.mul ⟨_, rfl⟩ (.add (hy _) (.mul ⟨_, rfl⟩ (.mul (.mul (hy _) (hy _)) (hy _)))))
theorem gelu_real (hy : ∀ i, IsReal (Y i)) (i) : IsReal (gelu Y i) := by
  have ht := th_real hy i
  pointwise [gelu, cdf, fill]
  rw [Cert.KernelGluIdeal.Value.half_val]
  exact .mul (hy _) (.mul ⟨_, rfl⟩ (.add .one ht))
theorem gate_real (hz : ∀ i, IsReal (Z i)) (hw : ∀ i, IsReal (W i)) (hb : ∀ i, IsReal (B i)) (i) : IsReal (gate Z W B i) := by
  obtain ⟨a, b, rfl⟩ : ∃ a b, i = ix2 a b := ⟨_, _, eq_ix2 i⟩
  pointwise [gate, fill]
  exact .gate (.add (.sum fun _ => .mul (hz _) (hw _)) (hb _))
theorem up_real (hd : ∀ i, IsReal (D i)) (ho : ∀ i, IsReal (O i)) (i) : IsReal (up D O i) := by
  obtain ⟨a, b, rfl⟩ : ∃ a b, i = ix2 a b := ⟨_, _, eq_ix2 i⟩
  pointwise [up]
  exact .sum fun _ => .mul (hd _) (ho _)
theorem dpre_real (hz : ∀ i, IsReal (Z i)) (hg : ∀ i, IsReal (G i)) (hs : ∀ i, IsReal (S i)) (i) : IsReal (dpre Z G S i) := by
  pointwise [dpre, fill]
  exact .mul (.mul (hz _) (hg _)) (.mul (hs _) (.sub .one (hs _)))
theorem dz_real (hg : ∀ i, IsReal (G i)) (hs : ∀ i, IsReal (S i)) (hp : ∀ i, IsReal (P i)) (hw : ∀ i, IsReal (W i)) (i) :
    IsReal (dz G S P W i) := by
  obtain ⟨a, b, rfl⟩ : ∃ a b, i = ix2 a b := ⟨_, _, eq_ix2 i⟩
  pointwise [dz]
  exact .add (.mul (hg _) (hs _)) (.sum fun _ => .mul (hp _) (hw _))

/-- gelu's cotangent is real at real arguments. -/
theorem vE_real (hd : ∀ i, IsReal (D i)) (hy : ∀ i, IsReal (Y i)) (hw : ∀ i, IsReal (W i)) (hb : ∀ i, IsReal (B i)) (ho : ∀ i, IsReal (O i)) (i) :
    IsReal (vE D Y W B O i) :=
  have z := gelu_real hy
  have s := gate_real z hw hb
  have u := up_real hd ho
  dz_real u s (dpre_real z u s) hw i

instance : Subsingleton Cert.Pre_finite_glu.S_.Idx := ⟨fun a b => funext fun i => i.elim0⟩

set_option maxHeartbeats 1000000 in
/-- The precondition says that all five arguments are real. -/
theorem finite_args [Cert.Pre_finite_glu.Facts] (h : Cert.Pre_finite_glu.fn (F := Ideal) D Y W B O = fun _ => 1#1) :
    (∀ i, IsReal (D i)) ∧ (∀ i, IsReal (Y i)) ∧ (∀ i, IsReal (W i)) ∧ (∀ i, IsReal (B i)) ∧ (∀ i, IsReal (O i)) := by
  have h0 := congrFun h (fun i => i.elim0)
  unfold Cert.Pre_finite_glu.fn Cert.Pre_finite_glu.fn_part1 at h0
  obtain ⟨h1, ho⟩ := IntOp.andi_eq_one.1 h0
  obtain ⟨h2, hb⟩ := IntOp.andi_eq_one.1 h1
  obtain ⟨h3, hw⟩ := IntOp.andi_eq_one.1 h2
  obtain ⟨hd, hy⟩ := IntOp.andi_eq_one.1 h3
  have real := fun (x : EReal) h => (⟨_, real_of_cmp x h⟩ : IsReal x)
  exact ⟨fun i => real _ (Host.reduce_andi_all _ _ _ _ _ hd i), fun i => real _ (Host.reduce_andi_all _ _ _ _ _ hy i),
    fun i => real _ (Host.reduce_andi_all _ _ _ _ _ hw i), fun i => real _ (Host.reduce_andi_all _ _ _ _ _ hb i),
    fun i => real _ (Host.reduce_andi_all _ _ _ _ _ ho i)⟩

end Cert.Glu

namespace Cert.Proof

open Cert.KernelGluIdeal Cert.KernelGluIdeal.Gen Cert.KernelGluIdeal.Value

/-- The reference's run: every operation in turn, the arguments unchanged, no semaphore declared. -/
theorem frame_reference_glu : Cert.quiescent_ReferenceGluIdeal (hReferenceGluIdeal := Cert.ReferenceGluIdeal.Gen.facts) := by
  intro m g _
  refine θ_run_mono (Cert.ReferenceGluIdeal.Value.run m g) fun r hr => ⟨fun c => ?_, ?_⟩
  · have hc := hr c
    and_intros
    all_goals run_conjunct
  · exact sem_eq_zero_of_no_sems (by decide) r.2

/-- The ideal kernel names two constants: gelu's coefficient and three times it. -/
theorem preserves_glu : Cert.preserves_KernelGlu_KernelGluIdeal :=
  ⟨IdealRules.named_const.statement Cert.KernelGluIdeal.κ "cubic" .f32 0x3D372713#32 ((8943 / 200000 : ℝ) : EReal) rfl,
    IdealRules.named_const.statement Cert.KernelGluIdeal.κ "slope" .f32 0x3E095D4F#32 ((26829 / 200000 : ℝ) : EReal) rfl⟩

set_option maxHeartbeats 1000000 in
/-- The kernel's results are the reference's. -/
theorem algebraic_glu [Cert.Pre_finite_glu.Facts] : Cert.algebraic_KernelGluIdeal_ReferenceGluIdeal_pre_finite_glu
    (hKernelGluIdeal := Cert.KernelGluIdeal.Gen.facts) (hReferenceGluIdeal := Cert.ReferenceGluIdeal.Gen.facts) := by
  intro m g m' g' hpre hagree
  have hdy : ∀ c, (dats m 0 c).arrAt 5 cfg0.N = Glu.dy (aY m c) (Glu.th (aY m c)) (vE m c) := fun c => by
    obtain ⟨fd, fy, fw, fb, fo⟩ := Glu.finite_args (hpre c)
    exact final5 m c fy (Glu.th_real fy) (Glu.vE_real fd fy fw fb fo)
  refine ⟨fun c => Glu.dy (aY m c) (Glu.th (aY m c)) (vE m c), fun c => Glu.dw (vP m c) (vZ m c), fun c => Glu.db (vP m c),
    fun c => Glu.dout (aD m c) (vZ m c) (vS m c), ?_, ?_⟩
  · refine θ_run_mono (Cert.KernelGluIdeal.Value.run_blocks m g) fun r hr c => ?_
    obtain ⟨h5, h6, h7, h8, h⟩ := hr c
    exact ⟨h5.trans (hdy c), h7.trans (final7 m c), h6.trans (final6 m c), h8.trans (final8 m c), h⟩
  · refine θ_run_mono (Glu.run m' g') fun r hr c => ?_
    obtain ⟨e0, e1, e2, e3, e4⟩ := hagree c
    have q0 : Glu.aD m' c = aD m c := e0
    have q1 : Glu.aY m' c = aY m c := e1
    have q2 : Glu.aW m' c = aW m c := e2
    have q3 : Glu.aB m' c = aB m c := e3
    have q4 : Glu.aO m' c = aO m c := e4
    obtain ⟨h1, h2, h3, h4, h⟩ := hr c
    rw [q0, q1, q2, q3, q4] at h1
    rw [q0, q1, q2, q3, q4] at h2
    rw [q0, q1, q2, q3, q4] at h3
    rw [q0, q1, q2, q3] at h4
    exact ⟨h1, h2, h3, h4, h⟩

end Cert.Proof

end
-- ==== Proof.MlpTerms.lean ====
/- The reference's loss and its gradients through the feed-forward block, named step by step over whole arrays. -/
module

public import proofs.«01_k».proof.Proof.Gen.ReferenceMlpIdeal.Run
public import Idealize.ShloMosaic.Lib.Pointwise
public import Idealize.ShloMosaic.Lib.Claim

@[expose] public section

set_option maxRecDepth 16384

noncomputable section

namespace Cert.Mlp

open Idealize.ShloMosaic Idealize.ShloMosaic.TcCoe Idealize.SL.Sem
open Cert.ReferenceMlpIdeal Cert.ReferenceMlpIdeal.Gen

/-- The rows of an array of width 1024, and those of the hidden layer. -/
abbrev Rows := FVec Ideal S4096x1024 .f32
abbrev Wide := FVec Ideal S4096x4096 .f32
/-- One number at every index: of a column, of the hidden layer, of an array of width 1024. -/
abbrev fill1 (w : BitVec 32) : FVec Ideal S4096x1 .f32 := broadcastInDim S4096x1 ![] bcast_S_S4096x1 (constant S_ .f32 w)
abbrev fillW (w : BitVec 32) : Wide := broadcastInDim S4096x4096 ![] bcast_S_S4096x4096 (constant S_ .f32 w)
abbrev fillR (w : BitVec 32) : Rows := broadcastInDim S4096x1024 ![] bcast_S_S4096x1024 (constant S_ .f32 w)
/-- A column, copied along its rows. -/
abbrev along (X : FVec Ideal S4096x1 .f32) : Rows := broadcastInDim S4096x1024 ![0, 1] bcast_S4096x1_S4096x1024_0_1 X
/-- A row, copied down. -/
abbrev down (G : FVec Ideal S1x1024 .f32) : Rows := broadcastInDim S4096x1024 ![0, 1] bcast_S1x1024_S4096x1024_0_1 G

/-- The mean square of each row plus the norm's epsilon. -/
def ms (H : Rows) : FVec Ideal S4096x1 .f32 :=
  addf (Host.divf (broadcastInDim S4096x1 ![0] bcast_S4096_S4096x1_0
    (Host.reduceAdd (mulf H H) (constant S_ .f32 0x00000000#32) reducesTo_S4096x1024_S4096_d1 h_S_)) (fill1 0x44800000#32))
    (fill1 0x358637BD#32)
/-- The norm's factor. -/
def inv (H : Rows) : FVec Ideal S4096x1 .f32 := Host.rsqrt (ms H)
/-- The derivative of the factor in the mean square. -/
def slope (H : Rows) : FVec Ideal S4096x1 .f32 := mulf (fill1 0xBF000000#32) (Host.divf (inv H) (ms H))
/-- The rows, normalised. -/
def xh (H : Rows) : Rows := mulf H (along (inv H))
/-- The rows, normalised and scaled by the gain. -/
def hn (H : Rows) (G : FVec Ideal S1x1024 .f32) : Rows := mulf (xh H) (down G)
/-- The hidden layer before its activation. -/
def act (H : Rows) (G : FVec Ideal S1x1024 .f32) (U : FVec Ideal S1024x4096 .f32) : Wide :=
  Host.dotGeneral (F := Ideal) dot_S4096x1024_S1024x4096_S4096x4096_1_0_0_1_n_n none (hn H G) U
/-- The rectified activations. -/
def rl (A : Wide) : Wide := maximumf A (fillW 0x00000000#32)
/-- Their squares, the hidden layer. -/
def hid (A : Wide) : Wide := mulf (rl A) (rl A)
/-- The block's output minus the target. -/
def err (H T : Rows) (A : Wide) (D : FVec Ideal S4096x1024 .f32) : Rows :=
  subf (addf H (Host.dotGeneral (F := Ideal) dot_S4096x4096_S4096x1024_S4096x1024_1_0_0_1_n_n none (hid A) D)) T
/-- The loss. -/
def loss (E : Rows) : FVec Ideal S_ .f32 :=
  mulf (constant S_ .f32 0x3F000000#32) (Host.reduceAdd (Host.divf
    (Host.reduceAdd (mulf E E) (constant S_ .f32 0x00000000#32) reducesTo_S4096x1024_S4096_d1 h_S_)
    (broadcastInDim S4096 ![] bcast_S_S4096 (constant S_ .f32 0x44800000#32)))
    (constant S_ .f32 0x00000000#32) reducesTo_S4096_S_d0 h_S_)
/-- The loss's cotangent of the output. -/
def dout (E : Rows) : Rows :=
  mulf (broadcastInDim S4096x1024 ![0] bcast_S4096_S4096x1024_0 (Host.divf
    (broadcastInDim S4096 ![] bcast_S_S4096 (mulf (constant S_ .f32 0x3F000000#32) (constant S_ .f32 0x3F800000#32)))
    (broadcastInDim S4096 ![] bcast_S_S4096 (constant S_ .f32 0x44800000#32)))) (mulf (fillR 0x40000000#32) E)
/-- The cotangent of the hidden layer before its activation. -/
def da (A : Wide) (O : Rows) (D : FVec Ideal S4096x1024 .f32) : Wide :=
  select (cmpf .ogt A (fillW 0x00000000#32))
    (mulf (Host.dotGeneral (F := Ideal) dot_S4096x1024_S4096x1024_S4096x4096_1_1_0_0_n_n none O D) (mulf (fillW 0x40000000#32) (rl A)))
    (fillW 0x00000000#32)
/-- The cotangent of the scaled rows. -/
def dhn (P : Wide) (U : FVec Ideal S1024x4096 .f32) : Rows :=
  Host.dotGeneral (F := Ideal) dot_S4096x4096_S1024x4096_S4096x1024_1_1_0_0_n_n none P U
/-- The gradient of the gain. -/
def dgain (H N : Rows) : FVec Ideal S1x1024 .f32 :=
  shapeCast S1x1024 (Host.reduceAdd (mulf (xh H) N) (constant S_ .f32 0x00000000#32) reducesTo_S4096x1024_S1024_d0 h_S_)
    shapeCasts_S1024_S1x1024
/-- The cotangent that reaches the rows through the norm's factor, halved. -/
def through (H C : Rows) : Rows :=
  broadcastInDim S4096x1024 ![0] bcast_S4096_S4096x1024_0 (Host.reduceAdd (Host.divf
    (mulf (shapeCast S4096x1 (Host.reduceAdd (mulf H C) (constant S_ .f32 0x00000000#32) reducesTo_S4096x1024_S4096_d1 h_S_)
      shapeCasts_S4096_S4096x1) (slope H)) (fill1 0x44800000#32))
    (constant S_ .f32 0x00000000#32) reducesTo_S4096x1_S4096_d1 h_S_)
/-- The cotangent of the block's input: along the residual path, and through the norm. -/
def dh (H O N : Rows) (G : FVec Ideal S1x1024 .f32) : Rows :=
  addf O (addf (addf (mulf (mulf N (down G)) (along (inv H))) (mulf H (through H (mulf N (down G)))))
    (mulf (through H (mulf N (down G))) H))

variable (m : (ℓ : Loc nD τ sig) → Buf (Elt Ideal) ℓ) (c : Dev nD)

/-- The arguments, as arrays. -/
abbrev aH : Rows := m ((c.tc : Thread nD τ).loc main_arg0)
abbrev aT : Rows := m ((c.tc : Thread nD τ).loc main_arg1)
abbrev aG : FVec Ideal S1x1024 .f32 := m ((c.tc : Thread nD τ).loc main_arg2)
abbrev aU : FVec Ideal S1024x4096 .f32 := m ((c.tc : Thread nD τ).loc main_arg3)
abbrev aD : FVec Ideal S4096x1024 .f32 := m ((c.tc : Thread nD τ).loc main_arg4)
/-- The difference from the target, its cotangent, and those of the hidden layer, of the arguments. -/
abbrev vE (H T : Rows) (G : FVec Ideal S1x1024 .f32) (U : FVec Ideal S1024x4096 .f32) (D : FVec Ideal S4096x1024 .f32) : Rows :=
  err H T (act H G U) D
abbrev vP (H T : Rows) (G : FVec Ideal S1x1024 .f32) (U : FVec Ideal S1024x4096 .f32) (D : FVec Ideal S4096x1024 .f32) : Wide :=
  da (act H G U) (dout (vE H T G U D)) D
abbrev vN (H T : Rows) (G : FVec Ideal S1x1024 .f32) (U : FVec Ideal S1024x4096 .f32) (D : FVec Ideal S4096x1024 .f32) : Rows :=
  dhn (vP H T G U D) U

set_option maxHeartbeats 2000000 in
/-- The reference's run, its results named. -/
theorem run (g : Dev nD → PrngReg) :
    θ_run defs (onTc (τ := τ) (main (F := Ideal))) ⟨m, fun _ => 0, g⟩ fun r => ∀ c : Dev nD,
      r.2.mem ((c.tc : Thread nD τ).loc main_v64)
          = broadcastInDim S8x128 ![] bcast_S_S8x128 (loss (vE (aH m c) (aT m c) (aG m c) (aU m c) (aD m c)))
      ∧ r.2.mem ((c.tc : Thread nD τ).loc main_v65)
          = dh (aH m c) (dout (vE (aH m c) (aT m c) (aG m c) (aU m c) (aD m c))) (vN (aH m c) (aT m c) (aG m c) (aU m c) (aD m c)) (aG m c)
      ∧ r.2.mem ((c.tc : Thread nD τ).loc main_v47) = dgain (aH m c) (vN (aH m c) (aT m c) (aG m c) (aU m c) (aD m c))
      ∧ r.2.mem ((c.tc : Thread nD τ).loc main_v66) = vP (aH m c) (aT m c) (aG m c) (aU m c) (aD m c)
      ∧ r.2.mem ((c.tc : Thread nD τ).loc main_v67) = dout (vE (aH m c) (aT m c) (aG m c) (aU m c) (aD m c))
      ∧ r.2.mem ((c.tc : Thread nD τ).loc main_v69)
          = transpose S4096x4096 [1, 0] (hid (act (aH m c) (aG m c) (aU m c))) transposes_S4096x4096_S4096x4096_1_0
      ∧ r.2.mem ((c.tc : Thread nD τ).loc main_v71)
          = transpose S1024x4096 [1, 0] (hn (aH m c) (aG m c)) transposes_S4096x1024_S1024x4096_1_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  θ_run_mono (Cert.ReferenceMlpIdeal.Value.run m g) fun r h c => h c

end Cert.Mlp

end
-- ==== Proof.MlpMath.lean ====
/- The derivative of the root-mean-square norm, in the form the reference takes and in the one the kernel takes, over the
   real numbers; and the loss summed in two orders. -/
module

public import proofs.«01_k».proof.Proof.AttnMath
public import proofs.«01_k».proof.Proof.Reals
public import Idealize.ShloMosaic.Lib.Pipeline.ValueKit

@[expose] public section

noncomputable section

namespace Cert.Mlp

open Idealize.ShloMosaic Cert.Reals

/-- The norm's epsilon is a positive real number. -/
theorem eps_val : ∃ e : ℝ, 0 < e ∧ Ideal.ofBits .f32 0x358637BD#32 = (e : EReal) := by
  simp [Ideal.ofBits, Ideal.ieee]
  rw [← EReal.coe_mul]
  exact ⟨_, by positivity, rfl⟩

/-- The norm's factor and its quotient by the mean square are real. -/
theorem factor {n : ℕ} (h : Fin n → ℝ) (e : ℝ) (he : 0 < e) :
    Ideal.rsqrt ((∑ k, (h k : EReal) * (h k : EReal)) * ((1 / 1024 : ℝ) : EReal) + (e : EReal))
        = (((Real.sqrt ((∑ k, h k * h k) * (1 / 1024) + e))⁻¹ : ℝ) : EReal)
      ∧ Ideal.div (((Real.sqrt ((∑ k, h k * h k) * (1 / 1024) + e))⁻¹ : ℝ) : EReal)
        ((∑ k, (h k : EReal) * (h k : EReal)) * ((1 / 1024 : ℝ) : EReal) + (e : EReal))
        = (((Real.sqrt ((∑ k, h k * h k) * (1 / 1024) + e))⁻¹ * (1 / ((∑ k, h k * h k) * (1 / 1024) + e)) : ℝ) : EReal) := by
  have hv : 0 < (∑ k, h k * h k) * (1 / 1024) + e :=
    add_pos_of_nonneg_of_pos (mul_nonneg (Finset.sum_nonneg fun k _ => mul_self_nonneg _) (by norm_num)) he
  have ev : (∑ k, (h k : EReal) * (h k : EReal)) * ((1 / 1024 : ℝ) : EReal) + (e : EReal) = (((∑ k, h k * h k) * (1 / 1024) + e : ℝ) : EReal) := by
    simp only [EReal.coe_add, EReal.coe_mul, Cert.Attn.coe_sum]
  rw [ev, Ideal.rsqrt_coe, if_neg hv.not_gt, if_neg hv.ne', Ideal.div_coe hv.ne', ← EReal.coe_mul]
  exact ⟨rfl, rfl⟩

/-- The derivative through the norm, gathered as the kernel gathers it and as the reference sums it. -/
theorem through_eq {n : ℕ} (H W : Fin n → EReal) (hH : ∀ k, IsReal (H k)) (hW : ∀ k, IsReal (W k)) (o : EReal) (b : Fin n) (e : ℝ) (he : 0 < e) :
    let v : EReal := (∑ k, H k * H k) * ((1 / 1024 : ℝ) : EReal) + (e : EReal)
    let q : EReal := (∑ k, H k * W k) * (((-(1 / 2) : ℝ) : EReal) * Ideal.div (Ideal.rsqrt v) v) * ((1 / 1024 : ℝ) : EReal)
    o + Ideal.rsqrt v * (W b - H b * Ideal.rsqrt v * ((∑ k, W k * (H k * Ideal.rsqrt v)) * ((1 / 1024 : ℝ) : EReal)))
      = o + (W b * Ideal.rsqrt v + H b * q + q * H b) := by
  choose h hh using hH
  choose w hw using hW
  obtain rfl : H = fun k => (h k : EReal) := funext hh
  obtain rfl : W = fun k => (w k : EReal) := funext hw
  obtain ⟨f1, f2⟩ := factor h e he
  dsimp only
  rw [f1, f2]
  have hv : 0 < (∑ k, h k * h k) * (1 / 1024) + e :=
    add_pos_of_nonneg_of_pos (mul_nonneg (Finset.sum_nonneg fun k _ => mul_self_nonneg _) (by norm_num)) he
  generalize (∑ k, h k * h k) * (1 / 1024) + e = V at hv ⊢
  have hi : (Real.sqrt V)⁻¹ * (Real.sqrt V)⁻¹ = 1 / V := by
    rw [← mul_inv, Real.mul_self_sqrt hv.le, one_div]
  generalize (Real.sqrt V)⁻¹ = i at hi ⊢
  simp only [← EReal.coe_mul, ← Cert.Attn.coe_sum, ← EReal.coe_sub, ← EReal.coe_add]
  congr 2
  have hs : ∑ k, w k * (h k * i) = (∑ k, h k * w k) * i := by
    rw [Finset.sum_mul]
    exact Finset.sum_congr rfl fun k _ => by ring
  rw [hs, ← hi]
  ring

/-- The loss, its constants taken inside the sum over the points or left outside. -/
theorem loss_eq (s : Fin 4096 → EReal) (hs : ∀ r, IsReal (s r)) :
    ∑ t : Fin 8, (∑ r : Fin 512, s ⟨t.val * 512 + r.val, by omega⟩) * ((1 / 2048 : ℝ) : EReal)
      = ((1 / 2 : ℝ) : EReal) * ∑ r : Fin 4096, s r * ((1 / 1024 : ℝ) : EReal) := by
  choose x hx using hs
  obtain rfl : s = fun k => (x k : EReal) := funext hx
  simp only [← EReal.coe_mul, ← Cert.Attn.coe_sum]
  congr 1
  rw [← Finset.sum_mul, ← Finset.sum_mul, Fin.sum_mul_add_congr (L := 4096) (S := 8) (n := 512) (f := x) fun s k hl => rfl]
  ring

end Cert.Mlp

end
-- ==== Proof.MlpTile.lean ====
/- One grid point of the feed-forward block's calls: what their payloads hold, as the reference's terms over the whole
   arrays, read at the point's rows. -/
module

public import proofs.«01_k».proof.Proof.Gen.KernelMlpIdeal.Frame
public import proofs.«01_k».proof.Proof.MlpTerms
public import proofs.«01_k».proof.Proof.MlpMath
public import Idealize.ShloMosaic.Lib.Pipeline.ValueKit

@[expose] public section

set_option maxRecDepth 16384

noncomputable section

namespace Cert.KernelMlpIdeal.Value

open Idealize.ShloMosaic Idealize.ShloMosaic.TcCoe Idealize.SL.Sem
open Cert.KernelMlpIdeal Cert.KernelMlpIdeal.Gen Cert.Reals

theorem mean_val : Ideal.ofBits .f32 0x3A800000#32 = ((1 / 1024 : ℝ) : EReal) := by
  simp [Ideal.ofBits, Ideal.ieee]
  rw [← EReal.coe_mul]
  norm_num
theorem half_mean_val : Ideal.ofBits .f32 0x3A000000#32 = ((1 / 2048 : ℝ) : EReal) := by
  simp [Ideal.ofBits, Ideal.ieee]
  rw [← EReal.coe_mul]
  norm_num
theorem width_val : Ideal.ofBits .f32 0x44800000#32 = ((1024 : ℝ) : EReal) := by
  simp [Ideal.ofBits, Ideal.ieee]
  rw [← EReal.coe_mul]
  norm_num
theorem half_val : Ideal.ofBits .f32 0x3F000000#32 = ((1 / 2 : ℝ) : EReal) := by
  simp [Ideal.ofBits, Ideal.ieee]
  rw [← EReal.coe_mul]
  norm_num
theorem minus_half_val : Ideal.ofBits .f32 0xBF000000#32 = ((-(1 / 2) : ℝ) : EReal) := by
  simp [Ideal.ofBits, Ideal.ieee]
  rw [← EReal.coe_mul]
  norm_num
theorem two_val : Ideal.ofBits .f32 0x40000000#32 = ((2 : ℝ) : EReal) := by
  simp [Ideal.ofBits, Ideal.ieee]
  rw [← EReal.coe_mul]
  norm_num

/-- Division by the width is multiplication by its inverse. -/
theorem mean_div (x : EReal) : Ideal.div x (Ideal.ofBits .f32 0x44800000#32) = x * Ideal.ofBits .f32 0x3A800000#32 := by
  rw [width_val, mean_val, Ideal.div_coe (by norm_num)]

/-- The hidden column at place `f` of slab `s`. -/
abbrev col (s : Fin 8) (f : Fin 512) : Fin 4096 := ⟨s.val * 512 + f.val, by omega⟩

/-- The slabs of the two weights. -/
abbrev u0 (U : Vec Ideal S8x1024x512 .bf16) : Vec Ideal S1x1024x512 .bf16 := View.ld U (Rect.unit ![0, 0, 0] ![1, 1024, 512] inb_S8x1024x512_S1x1024x512_0_0_0)
abbrev d0 (D : Vec Ideal S8x512x1024 .bf16) : Vec Ideal S1x512x1024 .bf16 := View.ld D (Rect.unit ![0, 0, 0] ![1, 512, 1024] inb_S8x512x1024_S1x512x1024_0_0_0)
abbrev u1 (U : Vec Ideal S8x1024x512 .bf16) : Vec Ideal S1x1024x512 .bf16 := View.ld U (Rect.unit ![1, 0, 0] ![1, 1024, 512] inb_S8x1024x512_S1x1024x512_1_0_0)
abbrev d1 (D : Vec Ideal S8x512x1024 .bf16) : Vec Ideal S1x512x1024 .bf16 := View.ld D (Rect.unit ![1, 0, 0] ![1, 512, 1024] inb_S8x512x1024_S1x512x1024_1_0_0)
abbrev u2 (U : Vec Ideal S8x1024x512 .bf16) : Vec Ideal S1x1024x512 .bf16 := View.ld U (Rect.unit ![2, 0, 0] ![1, 1024, 512] inb_S8x1024x512_S1x1024x512_2_0_0)
abbrev d2 (D : Vec Ideal S8x512x1024 .bf16) : Vec Ideal S1x512x1024 .bf16 := View.ld D (Rect.unit ![2, 0, 0] ![1, 512, 1024] inb_S8x512x1024_S1x512x1024_2_0_0)
abbrev u3 (U : Vec Ideal S8x1024x512 .bf16) : Vec Ideal S1x1024x512 .bf16 := View.ld U (Rect.unit ![3, 0, 0] ![1, 1024, 512] inb_S8x1024x512_S1x1024x512_3_0_0)
abbrev d3 (D : Vec Ideal S8x512x1024 .bf16) : Vec Ideal S1x512x1024 .bf16 := View.ld D (Rect.unit ![3, 0, 0] ![1, 512, 1024] inb_S8x512x1024_S1x512x1024_3_0_0)
abbrev u4 (U : Vec Ideal S8x1024x512 .bf16) : Vec Ideal S1x1024x512 .bf16 := View.ld U (Rect.unit ![4, 0, 0] ![1, 1024, 512] inb_S8x1024x512_S1x1024x512_4_0_0)
abbrev d4 (D : Vec Ideal S8x512x1024 .bf16) : Vec Ideal S1x512x1024 .bf16 := View.ld D (Rect.unit ![4, 0, 0] ![1, 512, 1024] inb_S8x512x1024_S1x512x1024_4_0_0)
abbrev u5 (U : Vec Ideal S8x1024x512 .bf16) : Vec Ideal S1x1024x512 .bf16 := View.ld U (Rect.unit ![5, 0, 0] ![1, 1024, 512] inb_S8x1024x512_S1x1024x512_5_0_0)
abbrev d5 (D : Vec Ideal S8x512x1024 .bf16) : Vec Ideal S1x512x1024 .bf16 := View.ld D (Rect.unit ![5, 0, 0] ![1, 512, 1024] inb_S8x512x1024_S1x512x1024_5_0_0)
abbrev u6 (U : Vec Ideal S8x1024x512 .bf16) : Vec Ideal S1x1024x512 .bf16 := View.ld U (Rect.unit ![6, 0, 0] ![1, 1024, 512] inb_S8x1024x512_S1x1024x512_6_0_0)
abbrev d6 (D : Vec Ideal S8x512x1024 .bf16) : Vec Ideal S1x512x1024 .bf16 := View.ld D (Rect.unit ![6, 0, 0] ![1, 512, 1024] inb_S8x512x1024_S1x512x1024_6_0_0)
abbrev u7 (U : Vec Ideal S8x1024x512 .bf16) : Vec Ideal S1x1024x512 .bf16 := View.ld U (Rect.unit ![7, 0, 0] ![1, 1024, 512] inb_S8x1024x512_S1x1024x512_7_0_0)
abbrev d7 (D : Vec Ideal S8x512x1024 .bf16) : Vec Ideal S1x512x1024 .bf16 := View.ld D (Rect.unit ![7, 0, 0] ![1, 512, 1024] inb_S8x512x1024_S1x512x1024_7_0_0)

/-- A slab, read. -/
theorem u_at (U : Vec Ideal S8x1024x512 .bf16) {o : ℕ} (s : Fin 8) (h : s.val = o)
    (inb : ∀ a : Fin S8x1024x512.rank, (![o, 0, 0] : Fin 3 → ℕ) a + (![1, 1024, 512] : Fin 3 → ℕ) a ≤ S8x1024x512.size a) (k : Fin 1024) (f : Fin 512) :
    (View.ld U (Rect.unit ![o, 0, 0] ![1, 1024, 512] inb) : Vec Ideal S1x1024x512 .bf16) (ix3 0 k f) = U (ix3 s k f) := by
  subst h
  exact View.ld_unit_apply_of _ _ _ _ _ _ fun a => by fin_cases a <;> simp
theorem d_at (D : Vec Ideal S8x512x1024 .bf16) {o : ℕ} (s : Fin 8) (h : s.val = o)
    (inb : ∀ a : Fin S8x512x1024.rank, (![o, 0, 0] : Fin 3 → ℕ) a + (![1, 512, 1024] : Fin 3 → ℕ) a ≤ S8x512x1024.size a) (f : Fin 512) (k : Fin 1024) :
    (View.ld D (Rect.unit ![o, 0, 0] ![1, 512, 1024] inb) : Vec Ideal S1x512x1024 .bf16) (ix3 0 f k) = D (ix3 s f k) := by
  subst h
  exact View.ld_unit_apply_of _ _ _ _ _ _ fun a => by fin_cases a <;> simp

section
variable (H T : Vec Ideal S512x1024 .f32) (G : Vec Ideal S1x1024 .f32) (U : Vec Ideal S8x1024x512 .bf16) (D : Vec Ideal S8x512x1024 .bf16)
  (X : FVec Ideal S512x1024 .bf16)

/-- The output summed over all slabs but the last, -/
abbrev outK : FVec Ideal S512x1024 .f32 :=
  k0_pay12 (k0_pay6 H G) (k0_pay10 (k0_pay6 H G) (k0_pay8 H G (u0 U) (d0 D)) (k0_pay9 H G (u1 U)) (d1 D) (u2 U) (d2 D) (u3 U) (d3 D))
    (k0_pay11 (k0_pay6 H G) (u4 U)) (d4 D) (u5 U) (d5 D) (u6 U) (d6 D)
/-- and the last slab's hidden activations. -/
abbrev lastK : FVec Ideal S512x512 .f32 := k0_pay13 (k0_pay6 H G) (u7 U)

variable (ρ : Fin 512 → Fin 4096) (AH AT : Mlp.Rows) (AG : FVec Ideal Cert.ReferenceMlpIdeal.S1x1024 .f32)
  (AU : FVec Ideal Cert.ReferenceMlpIdeal.S1024x4096 .f32) (AD : FVec Ideal Cert.ReferenceMlpIdeal.S4096x1024 .f32)

/-- The rows, normalised and scaled. -/
theorem hn_tile (hh : ∀ r a, H (ix2 r a) = AH (ix2 (ρ r) a)) (hg : ∀ a, G (ix2 0 a) = AG (ix2 0 a)) (r a) :
    k0_pay5 H G (ix2 r a) = Mlp.hn AH AG (ix2 (ρ r) a) := by
  pointwise [k0_pay5, Mlp.hn, Mlp.xh, Mlp.inv, Mlp.ms]
  simp only [hh, hg, mean_div]

variable (AX : Mlp.Rows) (A : Mlp.Wide)

/-- The block's output minus the target. -/
theorem err_tile (hh : ∀ r a, H (ix2 r a) = AH (ix2 (ρ r) a)) (hg : ∀ a, G (ix2 0 a) = AG (ix2 0 a))
    (ht : ∀ r a, T (ix2 r a) = AT (ix2 (ρ r) a))
    (hu : ∀ s k f, U (ix3 s k f) = AU (ix2 k (col s f))) (hd : ∀ s f k, D (ix3 s f k) = AD (ix2 (col s f) k)) (r a) :
    k0_pay1 (outK H G U D) (lastK H G U) (d7 D) T (ix2 r a) = Mlp.err AH AT (Mlp.act AH AG AU) AD (ix2 (ρ r) a) := by
  have hx : ∀ r a, k0_pay6 H G (ix2 r a) = Mlp.hn AH AG (ix2 (ρ r) a) := hn_tile H G ρ AH AG hh hg
  pointwise [k0_pay1, k0_pay12, k0_pay11, k0_pay10, k0_pay9, k0_pay8, k0_pay13, u0, d0, u1, d1, u2, d2, u3, d3, u4, d4, u5, d5, u6, d6, u7, d7,
    Mlp.err, Mlp.hid, Mlp.rl, Mlp.act]
  simp only [hx, hh, ht]
  rw [← Fin.sum_mul_add_congr (L := 4096) (S := 8) (n := 512) (f := fun f => max (∑ k : Fin 1024, Mlp.hn AH AG (ix2 (ρ r) k) * AU (ix2 k f)) 0
      * max (∑ k : Fin 1024, Mlp.hn AH AG (ix2 (ρ r) k) * AU (ix2 k f)) 0 * AD (ix2 f a))
    (F := fun s f => max (∑ k : Fin 1024, Mlp.hn AH AG (ix2 (ρ r) k) * U (ix3 s k f)) 0
      * max (∑ k : Fin 1024, Mlp.hn AH AG (ix2 (ρ r) k) * U (ix3 s k f)) 0 * D (ix3 s f a)) fun s k hl => by simp only [hu, hd],
    Fin.sum_univ_eight]
  simp only [← add_assoc]

/-- What a point adds to the loss. -/
theorem loss_tile (E : Mlp.Rows) (A : FVec Ideal S8x128 .f32) (W : FVec Ideal S512x1024 .f32) (L : FVec Ideal S512x512 .f32)
    (he : ∀ r a, k0_pay1 W L (d7 D) T (ix2 r a) = E (ix2 (ρ r) a)) (a b) :
    k0_pay4 W L (d7 D) T A (ix2 a b)
      = A (ix2 a b) + (∑ r : Fin 512, ∑ k : Fin 1024, E (ix2 (ρ r) k) * E (ix2 (ρ r) k)) * Ideal.ofBits .f32 0x3A000000#32 := by
  pointwise [k0_pay4]
  simp only [he]

/-- The loss's cotangent of the output. -/
theorem dout_tile (E : Mlp.Rows) (W : FVec Ideal S512x1024 .f32) (L : FVec Ideal S512x512 .f32)
    (he : ∀ r a, k0_pay1 W L (d7 D) T (ix2 r a) = E (ix2 (ρ r) a)) (r a) :
    k0_pay2 W L (d7 D) T (ix2 r a) = Mlp.dout E (ix2 (ρ r) a) := by
  pointwise [k0_pay2, Mlp.dout]
  simp only [he, mean_div]
  rw [half_val, mean_val, two_val, ← mul_assoc, mul_comm (E _)]
  simp only [← EReal.coe_mul]
  norm_num

end

section
variable (O : Vec Ideal S512x1024 .f32) (X : Vec Ideal S512x1024 .bf16) (H : Vec Ideal S512x1024 .f32) (G : Vec Ideal S1x1024 .f32)
  (U : Vec Ideal S8x1024x512 .bf16) (D : Vec Ideal S8x512x1024 .bf16)
  (ρ : Fin 512 → Fin 4096) (AO AH : Mlp.Rows) (AG : FVec Ideal Cert.ReferenceMlpIdeal.S1x1024 .f32)
  (AU : FVec Ideal Cert.ReferenceMlpIdeal.S1024x4096 .f32) (AD : FVec Ideal Cert.ReferenceMlpIdeal.S4096x1024 .f32)

/-- Where the activation is not positive its rectified value is zero, so the product needs no selection. -/
theorem select_relu (y w z : EReal) : y * (w * max z 0) = if 0 < z then y * (w * max z 0) else 0 := by
  split
  · rfl
  · rw [max_eq_right (not_lt.1 ‹_›), mul_zero, mul_zero]

variable (Ub : Vec Ideal S1x1024x512 .bf16) (Db : Vec Ideal S1x512x1024 .bf16) (s : Fin 8)

/-- A slab of the hidden layer, turned. -/
theorem hid_tile (hx : ∀ r a, X (ix2 r a) = AH (ix2 (ρ r) a)) (hu : ∀ k f, Ub (ix3 0 k f) = AU (ix2 k (col s f))) (f r) :
    k1_pay9 X Ub (ix2 f r) = Mlp.hid (Host.dotGeneral (F := Ideal)
      Cert.ReferenceMlpIdeal.dot_S4096x1024_S1024x4096_S4096x4096_1_0_0_1_n_n none AH AU) (ix2 (ρ r) (col s f)) := by
  pointwise [k1_pay9, k1_pay8, k1_pay7, Mlp.hid, Mlp.rl]
  simp only [hx, hu]

/-- A slab of the hidden layer's cotangent. -/
theorem da_tile (ho : ∀ r a, O (ix2 r a) = AO (ix2 (ρ r) a)) (hx : ∀ r a, X (ix2 r a) = AH (ix2 (ρ r) a))
    (hu : ∀ k f, Ub (ix3 0 k f) = AU (ix2 k (col s f))) (hd : ∀ f k, Db (ix3 0 f k) = AD (ix2 (col s f) k)) (r f) :
    k1_pay10 O X Ub Db (ix2 r f) = Mlp.da (Host.dotGeneral (F := Ideal)
      Cert.ReferenceMlpIdeal.dot_S4096x1024_S1024x4096_S4096x4096_1_0_0_1_n_n none AH AU) AO AD (ix2 (ρ r) (col s f)) := by
  pointwise [k1_pay10, k1_pay8, k1_pay7, k1_pay6, k1_pay5, Mlp.da, Mlp.rl]
  simp only [hx, hu, ho, hd]
  exact select_relu _ _ _

/-- The cotangent of the scaled rows, summed over the slabs. -/
abbrev dhnK : FVec Ideal S512x1024 .f32 :=
  k1_pay39 (k1_pay6 O) (k1_pay7 X)
    (k1_pay31 (k1_pay6 O)
      (k1_pay27 (k1_pay6 O) (k1_pay7 X)
        (k1_pay23 (k1_pay6 O) (k1_pay7 X)
          (k1_pay15 (k1_pay6 O) (k1_pay7 X) (k1_pay11 O X (u0 U) (d0 D) (u0 U)) (u1 U) (d1 D) (u1 U))
          (k1_pay16 (k1_pay7 X) (u2 U)) (k1_pay18 (d2 D)) (u2 U) (u3 U) (d3 D) (u3 U))
        (u4 U) (d4 D) (u4 U))
      (k1_pay28 (k1_pay7 X) (u5 U)) (d5 D) (u5 U))
    (k1_pay34 (k1_pay6 O) (k1_pay7 X) (u6 U) (d6 D)) (k1_pay35 (u6 U)) (u7 U) (d7 D) (u7 U)

theorem dhn_tile (ho : ∀ r a, O (ix2 r a) = AO (ix2 (ρ r) a)) (hx : ∀ r a, X (ix2 r a) = AH (ix2 (ρ r) a))
    (hu : ∀ s k f, U (ix3 s k f) = AU (ix2 k (col s f))) (hd : ∀ s f k, D (ix3 s f k) = AD (ix2 (col s f) k)) (r a) :
    dhnK O X U D (ix2 r a) = Mlp.dhn (Mlp.da (Host.dotGeneral (F := Ideal)
      Cert.ReferenceMlpIdeal.dot_S4096x1024_S1024x4096_S4096x4096_1_0_0_1_n_n none AH AU) AO AD) AU (ix2 (ρ r) a) := by
  have h := fun (s : Fin 8) (Ub : Vec Ideal S1x1024x512 .bf16) (Db : Vec Ideal S1x512x1024 .bf16)
    (eu : ∀ k f, Ub (ix3 0 k f) = U (ix3 s k f)) (ed : ∀ f k, Db (ix3 0 f k) = D (ix3 s f k)) =>
      da_tile O X ρ AO AH AU AD Ub Db s ho hx (fun k f => (eu k f).trans (hu s k f)) fun f k => (ed f k).trans (hd s f k)
  generalize Mlp.da _ AO AD = P at h ⊢
  have q0 : ∀ r f, k1_pay10 O X (u0 U) (d0 D) (ix2 r f) = P (ix2 (ρ r) (col 0 f)) := h 0 _ _ (u_at U 0 rfl _) (d_at D 0 rfl _)
  have q1 : ∀ r f, k1_pay14 (k1_pay6 O) (k1_pay7 X) (u1 U) (d1 D) (ix2 r f) = P (ix2 (ρ r) (col 1 f)) := h 1 _ _ (u_at U 1 rfl _) (d_at D 1 rfl _)
  have q2 : ∀ r f, k1_pay19 (k1_pay6 O) (k1_pay16 (k1_pay7 X) (u2 U)) (k1_pay18 (d2 D)) (ix2 r f) = P (ix2 (ρ r) (col 2 f)) := h 2 _ _ (u_at U 2 rfl _) (d_at D 2 rfl _)
  have q3 : ∀ r f, k1_pay22 (k1_pay6 O) (k1_pay7 X) (u3 U) (d3 D) (ix2 r f) = P (ix2 (ρ r) (col 3 f)) := h 3 _ _ (u_at U 3 rfl _) (d_at D 3 rfl _)
  have q4 : ∀ r f, k1_pay26 (k1_pay6 O) (k1_pay7 X) (u4 U) (d4 D) (ix2 r f) = P (ix2 (ρ r) (col 4 f)) := h 4 _ _ (u_at U 4 rfl _) (d_at D 4 rfl _)
  have q5 : ∀ r f, k1_pay30 (k1_pay6 O) (k1_pay28 (k1_pay7 X) (u5 U)) (d5 D) (ix2 r f) = P (ix2 (ρ r) (col 5 f)) := h 5 _ _ (u_at U 5 rfl _) (d_at D 5 rfl _)
  have q6 : ∀ r f, k1_pay34 (k1_pay6 O) (k1_pay7 X) (u6 U) (d6 D) (ix2 r f) = P (ix2 (ρ r) (col 6 f)) := h 6 _ _ (u_at U 6 rfl _) (d_at D 6 rfl _)
  have q7 : ∀ r f, k1_pay38 (k1_pay6 O) (k1_pay7 X) (u7 U) (d7 D) (ix2 r f) = P (ix2 (ρ r) (col 7 f)) := h 7 _ _ (u_at U 7 rfl _) (d_at D 7 rfl _)
  have v0 : ∀ k f, u0 U (ix3 0 k f) = U (ix3 0 k f) := u_at U 0 rfl _
  have v1 : ∀ k f, u1 U (ix3 0 k f) = U (ix3 1 k f) := u_at U 1 rfl _
  have v2 : ∀ k f, u2 U (ix3 0 k f) = U (ix3 2 k f) := u_at U 2 rfl _
  have v3 : ∀ k f, u3 U (ix3 0 k f) = U (ix3 3 k f) := u_at U 3 rfl _
  have v4 : ∀ k f, u4 U (ix3 0 k f) = U (ix3 4 k f) := u_at U 4 rfl _
  have v5 : ∀ k f, u5 U (ix3 0 k f) = U (ix3 5 k f) := u_at U 5 rfl _
  have v6 : ∀ k f, u6 U (ix3 0 k f) = U (ix3 6 k f) := u_at U 6 rfl _
  have v7 : ∀ k f, u7 U (ix3 0 k f) = U (ix3 7 k f) := u_at U 7 rfl _
  pointwise [k1_pay39, k1_pay31, k1_pay27, k1_pay23, k1_pay15, k1_pay11, k1_pay35, Mlp.dhn]
  simp only [q0, q1, q2, q3, q4, q5, q6, q7, v0, v1, v2, v3, v4, v5, v6, v7]
  rw [← Fin.sum_mul_add_congr (L := 4096) (S := 8) (n := 512) (f := fun f => P (ix2 (ρ r) f) * AU (ix2 a f))
    (F := fun s f => P (ix2 (ρ r) (col s f)) * U (ix3 s a f)) fun s k hl => by simp only [hu], Fin.sum_univ_eight]

/-- The gradient of the gain, a point's part. -/
theorem dgain_tile (N : Mlp.Rows) (W : FVec Ideal S512x1024 .f32) (A : Vec Ideal S1x1024 .f32) (hn : ∀ r a, W (ix2 r a) = N (ix2 (ρ r) a))
    (hh : ∀ r a, H (ix2 r a) = AH (ix2 (ρ r) a)) (z b) :
    k1_pay4 W H (k1_pay40 H) A (ix2 z b) = A (ix2 z b) + ∑ r : Fin 512, Mlp.xh AH (ix2 (ρ r) b) * N (ix2 (ρ r) b) := by
  pointwise [k1_pay4, k1_pay1, k1_pay40, Mlp.xh, Mlp.inv, Mlp.ms]
  simp only [hn, hh, mean_div, EReal.mul_comm (N _)]

/-- The cotangent of the block's input, where the rows, the gain and the scaled rows' cotangent are real. -/
theorem dh_tile (N : Mlp.Rows) (W : FVec Ideal S512x1024 .f32) (hn : ∀ r a, W (ix2 r a) = N (ix2 (ρ r) a))
    (ho : ∀ r a, O (ix2 r a) = AO (ix2 (ρ r) a)) (hh : ∀ r a, H (ix2 r a) = AH (ix2 (ρ r) a)) (hg : ∀ a, G (ix2 0 a) = AG (ix2 0 a))
    (rh : ∀ i, ∃ y : ℝ, AH i = (y : EReal)) (rg : ∀ i, ∃ y : ℝ, AG i = (y : EReal)) (rn : ∀ i, ∃ y : ℝ, N i = (y : EReal)) (r b) :
    k1_pay2 (k1_pay5 O) W H (k1_pay40 H) G (ix2 r b) = Mlp.dh AH AO N AG (ix2 (ρ r) b) := by
  pointwise [k1_pay2, k1_pay1, k1_pay5, k1_pay40, Mlp.dh, Mlp.through, Mlp.slope, Mlp.inv, Mlp.ms]
  obtain ⟨e, he, hv⟩ := Mlp.eps_val
  simp only [hn, hh, ho, hg, mean_div, hv, mean_val, minus_half_val, Fin.sum_univ_one]
  exact Mlp.through_eq (fun k => AH (ix2 (ρ r) k)) (fun k => N (ix2 (ρ r) k) * AG (ix2 0 k)) (fun k => rh _) (fun k => IsReal.mul (rn _) (rg _)) _ b e he

end

end Cert.KernelMlpIdeal.Value

end
-- ==== Proof.MlpForward.lean ====
/- What the feed-forward block's forward call computes over the arrays it reads: the normalised rows, turned as well, the
   loss, and the loss's cotangent of the output. -/
module

public import proofs.«01_k».proof.Proof.MlpTile

@[expose] public section

set_option maxRecDepth 16384

noncomputable section

namespace Cert.KernelMlpIdeal.Value

open Idealize.ShloMosaic Idealize.ShloMosaic.TcCoe Idealize.SL.Sem
open Idealize.ShloMosaic.Pipeline (Dat)
open Cert.KernelMlpIdeal Cert.KernelMlpIdeal.Gen Cert.Reals

variable (V : (c : Dev nD) → (b : Ref sig .tc) → Buf (Elt Ideal) ((c : Thread nD τ).loc b)) (c : Dev nD)

/-- The block of every window at a point of the forward call. -/
theorem idx0 : ∀ t : Fin cfg0.N, win0_0.index t = ![t.val, 0] ∧ win0_1.index t = ![t.val, 0] ∧ win0_2.index t = ![0, 0]
    ∧ win0_3.index t = ![0, 0, 0] ∧ win0_4.index t = ![0, 0, 0] ∧ win0_5.index t = ![t.val, 0] ∧ win0_6.index t = ![t.val, 0]
    ∧ win0_7.index t = ![0, t.val] ∧ win0_8.index t = ![0, 0] :=
  (by decide +kernel : ∀ t : Fin grid0.N, _)

/-- A point's rows in the arrays. -/
abbrev row (t : Fin cfg0.N) (r : Fin 512) : Fin 4096 := ⟨t.val * 512 + r.val, by have := t.isLt; have : cfg0.N = 8 := N_0; omega⟩

theorem fblk0 (t : Fin cfg0.N) (r : Fin 512) (a : Fin 1024) :
    (iblk0 V c 0 t : Vec Ideal S512x1024 .f32) (ix2 r a) = (V c main_arg0 : Mlp.Rows) (ix2 (row t r) a) := by
  unfold iblk0
  generalize V c = X
  blk_point [idx0 t]
theorem fblk1 (t : Fin cfg0.N) (r : Fin 512) (a : Fin 1024) :
    (iblk0 V c 1 t : Vec Ideal S512x1024 .f32) (ix2 r a) = (V c main_arg1 : Mlp.Rows) (ix2 (row t r) a) := by
  unfold iblk0
  generalize V c = X
  blk_point [idx0 t]
theorem fblk2 (t : Fin cfg0.N) (a : Fin 1024) :
    (iblk0 V c 2 t : Vec Ideal S1x1024 .f32) (ix2 0 a) = (V c main_arg2 : FVec Ideal S1x1024 .f32) (ix2 0 a) := by
  unfold iblk0
  generalize V c = X
  blk_point [idx0 t]
theorem fblk3 (t : Fin cfg0.N) (s : Fin 8) (k : Fin 1024) (f : Fin 512) :
    (iblk0 V c 3 t : Vec Ideal S8x1024x512 .bf16) (ix3 s k f) = (V c main_v2 : FVec Ideal S8x1024x512 .bf16) (ix3 s k f) := by
  unfold iblk0
  generalize V c = X
  blk_point [idx0 t]
theorem fblk4 (t : Fin cfg0.N) (s : Fin 8) (f : Fin 512) (k : Fin 1024) :
    (iblk0 V c 4 t : Vec Ideal S8x512x1024 .bf16) (ix3 s f k) = (V c main_v4 : FVec Ideal S8x512x1024 .bf16) (ix3 s f k) := by
  unfold iblk0
  generalize V c = X
  blk_point [idx0 t]

/-- The normalised rows. -/
theorem final0_5 : (dat0 V c).arrAt 5 cfg0.N = Mlp.hn (V c main_arg0) (V c main_arg2) := by
  refine (dat0 V c).arrAt_eq_of_covers 5 _ (by decide +kernel) fun t _ y => ?_
  blk_simp
  rw [after0_5]
  obtain ⟨a, b, rfl⟩ : ∃ a b, y = ix2 a b := ⟨y 0, y 1, by blk_ext⟩
  have e := hn_tile (iblk0 V c 0 t) (iblk0 V c 2 t) (row t) (V c main_arg0) (V c main_arg2) (fblk0 V c t) (fblk2 V c t) a b
  have o : (outsAt0 V c t.val t.isLt).1 (ix2 a b) = Mlp.hn (V c main_arg0) (V c main_arg2) (ix2 (row t a) b) := by
    by_cases h : t.val % 8 = 0
    · rw [outsAt0_A V c t h]; frame_out; exact e
    · rw [outsAt0_B V c t h]; frame_out; exact e
  rw [o]
  generalize Mlp.hn (V c main_arg0) (V c main_arg2) = X
  blk_point [idx0 t]

theorem turned_tile (H : Vec Ideal S512x1024 .f32) (G : Vec Ideal S1x1024 .f32) (a : Fin 512) (b : Fin 1024) :
    k0_pay7 H G (ix2 b a) = k0_pay5 H G (ix2 a b) := by
  pointwise [k0_pay7, k0_pay6]

/-- The normalised rows, turned. -/
theorem final0_7 : (dat0 V c).arrAt 7 cfg0.N
    = transpose Cert.ReferenceMlpIdeal.S1024x4096 [1, 0] (Mlp.hn (V c main_arg0) (V c main_arg2))
      Cert.ReferenceMlpIdeal.Gen.transposes_S4096x1024_S1024x4096_1_0 := by
  refine (dat0 V c).arrAt_eq_of_covers 7 _ (by decide +kernel) fun t _ y => ?_
  blk_simp
  rw [after0_7]
  obtain ⟨b, a, rfl⟩ : ∃ b a, y = ix2 b a := ⟨y 0, y 1, by blk_ext⟩
  have e := (turned_tile (iblk0 V c 0 t) (iblk0 V c 2 t) a b).trans
    (hn_tile (iblk0 V c 0 t) (iblk0 V c 2 t) (row t) (V c main_arg0) (V c main_arg2) (fblk0 V c t) (fblk2 V c t) a b)
  have o : (outsAt0 V c t.val t.isLt).2.2.1 (ix2 b a) = Mlp.hn (V c main_arg0) (V c main_arg2) (ix2 (row t a) b) := by
    by_cases h : t.val % 8 = 0
    · rw [outsAt0_A V c t h]; frame_out; exact e
    · rw [outsAt0_B V c t h]; frame_out; exact e
  rw [o]
  generalize Mlp.hn (V c main_arg0) (V c main_arg2) = X
  pointwise []
  blk_point [idx0 t]

section
variable (AU : FVec Ideal Cert.ReferenceMlpIdeal.S1024x4096 .f32) (AD : FVec Ideal Cert.ReferenceMlpIdeal.S4096x1024 .f32)
  (hu : ∀ s k f, (V c main_v2 : FVec Ideal S8x1024x512 .bf16) (ix3 s k f) = AU (ix2 k (col s f)))
  (hd : ∀ s f k, (V c main_v4 : FVec Ideal S8x512x1024 .bf16) (ix3 s f k) = AD (ix2 (col s f) k))
include hu hd

theorem err_blk (t : Fin cfg0.N) (r a) :
    k0_pay1 (outK (iblk0 V c 0 t) (iblk0 V c 2 t) (iblk0 V c 3 t) (iblk0 V c 4 t)) (lastK (iblk0 V c 0 t) (iblk0 V c 2 t) (iblk0 V c 3 t))
      (d7 (iblk0 V c 4 t)) (iblk0 V c 1 t) (ix2 r a)
      = Mlp.vE (V c main_arg0) (V c main_arg1) (V c main_arg2) AU AD (ix2 (row t r) a) :=
  err_tile (iblk0 V c 0 t) (iblk0 V c 1 t) (iblk0 V c 2 t) (iblk0 V c 3 t) (iblk0 V c 4 t) (row t) (V c main_arg0) (V c main_arg1)
    (V c main_arg2) AU AD (fblk0 V c t) (fblk2 V c t) (fblk1 V c t)
    (fun s k f => (fblk3 V c t s k f).trans (hu s k f)) (fun s f k => (fblk4 V c t s f k).trans (hd s f k)) r a

/-- The loss's cotangent of the output. -/
theorem final0_6 : (dat0 V c).arrAt 6 cfg0.N = Mlp.dout (Mlp.vE (V c main_arg0) (V c main_arg1) (V c main_arg2) AU AD) := by
  refine (dat0 V c).arrAt_eq_of_covers 6 _ (by decide +kernel) fun t _ y => ?_
  blk_simp
  rw [after0_6]
  obtain ⟨a, b, rfl⟩ : ∃ a b, y = ix2 a b := ⟨y 0, y 1, by blk_ext⟩
  have e := dout_tile (iblk0 V c 1 t) (iblk0 V c 4 t) (row t) _ _ _ (err_blk V c AU AD hu hd t) a b
  have o : (outsAt0 V c t.val t.isLt).2.1 (ix2 a b)
      = Mlp.dout (Mlp.vE (V c main_arg0) (V c main_arg1) (V c main_arg2) AU AD) (ix2 (row t a) b) := by
    by_cases h : t.val % 8 = 0
    · rw [outsAt0_A V c t h]; frame_out; exact e
    · rw [outsAt0_B V c t h]; frame_out; exact e
  rw [o]
  generalize Mlp.dout _ = X
  blk_point [idx0 t]

/-- What a point adds to the loss. -/
abbrev lossT (E : Mlp.Rows) (t : Fin cfg0.N) : EReal :=
  (∑ r : Fin 512, ∑ k : Fin 1024, E (ix2 (row t r) k) * E (ix2 (row t r) k)) * Ideal.ofBits .f32 0x3A000000#32

theorem loss_first (t : Fin cfg0.N) (h : t.val % 8 = 0) (a : Fin 8) (b : Fin 128) :
    (outsAt0 V c t.val t.isLt).2.2.2 (ix2 a b) = 0 + lossT (Mlp.vE (V c main_arg0) (V c main_arg1) (V c main_arg2) AU AD) t := by
  rw [outsAt0_A V c t h]; frame_out
  exact (loss_tile (iblk0 V c 1 t) (iblk0 V c 4 t) (row t) _ _ _ _ (err_blk V c AU AD hu hd t) a b).trans
    (congrArg (fun x : EReal => x + _) (by pointwise [k0_pay3]))
theorem loss_next (t : Fin cfg0.N) (h : ¬ t.val % 8 = 0) (a : Fin 8) (b : Fin 128) :
    (outsAt0 V c t.val t.isLt).2.2.2 (ix2 a b) = (outsAt0 V c (t.val - 1) (by omega)).2.2.2 (ix2 a b)
      + lossT (Mlp.vE (V c main_arg0) (V c main_arg1) (V c main_arg2) AU AD) t := by
  rw [outsAt0_B V c t h]; frame_out
  exact loss_tile (iblk0 V c 1 t) (iblk0 V c 4 t) (row t) _ _ _ _ (err_blk V c AU AD hu hd t) a b

/-- The loss, at every place of its array, where the difference from the target is real. -/
theorem final0_8 (re : ∀ i, ∃ y : ℝ, Mlp.vE (V c main_arg0) (V c main_arg1) (V c main_arg2) AU AD i = (y : EReal)) :
    (dat0 V c).arrAt 8 cfg0.N = broadcastInDim Cert.ReferenceMlpIdeal.S8x128 ![] Cert.ReferenceMlpIdeal.Gen.bcast_S_S8x128
      (Mlp.loss (Mlp.vE (V c main_arg0) (V c main_arg1) (V c main_arg2) AU AD)) := by
  refine (dat0 V c).arrAt_eq_of_after_last 8 t0_7 (by decide +kernel) _ fun j => ?_
  blk_simp
  obtain ⟨a, b, rfl⟩ : ∃ a b, j = ix2 a b := ⟨j 0, j 1, by blk_ext⟩
  rw [after0_8, Pipeline.eq_sum_fin_of_reset_step_apply_last (fun n h (i : Fin 8 × Fin 128) => (outsAt0 V c n h).2.2.2 (ix2 i.1 i.2)) 8 (fun _ => 0)
    (fun t i => lossT (Mlp.vE (V c main_arg0) (V c main_arg1) (V c main_arg2) AU AD) t) (fun t h i => loss_first V c AU AD hu hd t h i.1 i.2)
    (fun t h i => loss_next V c AU AD hu hd t h i.1 i.2) (le_of_eq N_0) t0_7 rfl (a, b), zero_add]
  generalize Mlp.vE _ _ _ AU AD = E at re ⊢
  pointwise [Mlp.loss]
  simp only [mean_div, half_val, mean_val]
  unfold lossT
  rw [half_mean_val]
  exact Mlp.loss_eq (fun r => ∑ k : Fin 1024, E (ix2 r k) * E (ix2 r k)) fun r => IsReal.sum fun k => IsReal.mul (re _) (re _)

end

end Cert.KernelMlpIdeal.Value

end
-- ==== Proof.MlpBackward.lean ====
/- What the feed-forward block's backward call computes over the arrays it reads: the cotangents of the hidden layer and
   of the block's input, the gradient of the norm's gain, and the two arrays laid out for the weights' gradients. -/
module

public import proofs.«01_k».proof.Proof.MlpTile

@[expose] public section

set_option maxRecDepth 16384

noncomputable section

namespace Cert.KernelMlpIdeal.Value

open Idealize.ShloMosaic Idealize.ShloMosaic.TcCoe Idealize.SL.Sem
open Idealize.ShloMosaic.Pipeline (Dat)
open Cert.KernelMlpIdeal Cert.KernelMlpIdeal.Gen Cert.Reals

variable (V : (c : Dev nD) → (b : Ref sig .tc) → Buf (Elt Ideal) ((c : Thread nD τ).loc b)) (c : Dev nD)

/-- The block of every window at a point of the backward call. -/
theorem idx1 : ∀ t : Fin cfg1.N, win1_0.index t = ![t.val, 0] ∧ win1_1.index t = ![t.val, 0] ∧ win1_2.index t = ![t.val, 0]
    ∧ win1_3.index t = ![0, 0] ∧ win1_4.index t = ![0, 0, 0] ∧ win1_5.index t = ![0, 0, 0] ∧ win1_6.index t = ![t.val, 0]
    ∧ win1_7.index t = ![t.val, 0] ∧ win1_8.index t = ![t.val, 0] ∧ win1_9.index t = ![0, t.val] ∧ win1_10.index t = ![0, 0] :=
  (by decide +kernel : ∀ t : Fin grid1.N, _)

/-- A point's rows in the arrays. -/
abbrev brow (t : Fin cfg1.N) (r : Fin 512) : Fin 4096 := ⟨t.val * 512 + r.val, by have := t.isLt; have : cfg1.N = 8 := N_1; omega⟩

theorem bblk0 (t : Fin cfg1.N) (r : Fin 512) (a : Fin 1024) :
    (iblk1 V c 0 t : Vec Ideal S512x1024 .f32) (ix2 r a) = (V c main_v5_1 : Mlp.Rows) (ix2 (brow t r) a) := by
  unfold iblk1
  generalize V c = X
  blk_point [idx1 t]
theorem bblk1 (t : Fin cfg1.N) (r : Fin 512) (a : Fin 1024) :
    (iblk1 V c 1 t : Vec Ideal S512x1024 .bf16) (ix2 r a) = (V c main_v5_0 : Mlp.Rows) (ix2 (brow t r) a) := by
  unfold iblk1
  generalize V c = X
  blk_point [idx1 t]
theorem bblk2 (t : Fin cfg1.N) (r : Fin 512) (a : Fin 1024) :
    (iblk1 V c 2 t : Vec Ideal S512x1024 .f32) (ix2 r a) = (V c main_arg0 : Mlp.Rows) (ix2 (brow t r) a) := by
  unfold iblk1
  generalize V c = X
  blk_point [idx1 t]
theorem bblk3 (t : Fin cfg1.N) (a : Fin 1024) :
    (iblk1 V c 3 t : Vec Ideal S1x1024 .f32) (ix2 0 a) = (V c main_arg2 : FVec Ideal S1x1024 .f32) (ix2 0 a) := by
  unfold iblk1
  generalize V c = X
  blk_point [idx1 t]
theorem bblk4 (t : Fin cfg1.N) (s : Fin 8) (k : Fin 1024) (f : Fin 512) :
    (iblk1 V c 4 t : Vec Ideal S8x1024x512 .bf16) (ix3 s k f) = (V c main_v2 : FVec Ideal S8x1024x512 .bf16) (ix3 s k f) := by
  unfold iblk1
  generalize V c = X
  blk_point [idx1 t]
theorem bblk5 (t : Fin cfg1.N) (s : Fin 8) (f : Fin 512) (k : Fin 1024) :
    (iblk1 V c 5 t : Vec Ideal S8x512x1024 .bf16) (ix3 s f k) = (V c main_v4 : FVec Ideal S8x512x1024 .bf16) (ix3 s f k) := by
  unfold iblk1
  generalize V c = X
  blk_point [idx1 t]

/-- The output's cotangent, as the weight's gradient reads it. -/
theorem final1_8 : (dat1 V c).arrAt 8 cfg1.N = (V c main_v5_1 : Mlp.Rows) := by
  refine (dat1 V c).arrAt_eq_of_covers 8 _ (by decide +kernel) fun t _ y => ?_
  blk_simp
  rw [after1_8]
  obtain ⟨a, b, rfl⟩ : ∃ a b, y = ix2 a b := ⟨y 0, y 1, by blk_ext⟩
  have e : k1_pay6 (iblk1 V c 0 t) (ix2 a b) = (V c main_v5_1 : Mlp.Rows) (ix2 (brow t a) b) := by
    pointwise [k1_pay6, k1_pay5]
    exact bblk0 V c t a b
  have o : (outsAt1 V c t.val t.isLt).2.2.1 (ix2 a b) = (V c main_v5_1 : Mlp.Rows) (ix2 (brow t a) b) := by
    by_cases h : t.val % 8 = 0
    · rw [outsAt1_A V c t h]; frame_out; exact e
    · rw [outsAt1_B V c t h]; frame_out; exact e
  rw [o]
  generalize V c = X
  blk_point [idx1 t]

/-- The hidden layer before its activation, from the normalised rows. -/
abbrev pre (X : Mlp.Rows) (AU : FVec Ideal Cert.ReferenceMlpIdeal.S1024x4096 .f32) : Mlp.Wide :=
  Host.dotGeneral (F := Ideal) Cert.ReferenceMlpIdeal.dot_S4096x1024_S1024x4096_S4096x4096_1_0_0_1_n_n none X AU

section
variable (AU : FVec Ideal Cert.ReferenceMlpIdeal.S1024x4096 .f32) (AD : FVec Ideal Cert.ReferenceMlpIdeal.S4096x1024 .f32)

section
variable (hu : ∀ s k f, (V c main_v2 : FVec Ideal S8x1024x512 .bf16) (ix3 s k f) = AU (ix2 k (col s f)))
include hu

/-- Slab `s` of the hidden layer at a point. -/
theorem hid_at (t : Fin cfg1.N) (s : Fin 8) {o : ℕ} (ho : s.val = o)
    (inb : ∀ a : Fin S8x1024x512.rank, (![o, 0, 0] : Fin 3 → ℕ) a + (![1, 1024, 512] : Fin 3 → ℕ) a ≤ S8x1024x512.size a)
    (x : S512x512.Idx) (w : Fin 4096) (a : Fin 512) (hw : w.val = s.val * 512 + (x 0).val) (ha : a.val = (x 1).val) :
    k1_pay9 (iblk1 V c 1 t) (View.ld (iblk1 V c 4 t : Vec Ideal S8x1024x512 .bf16) (Rect.unit ![o, 0, 0] ![1, 1024, 512] inb)) x
      = Mlp.hid (pre (V c main_v5_0) AU) (ix2 (brow t a) w) := by
  obtain ⟨f, r, rfl⟩ : ∃ (f r : Fin 512), x = ix2 f r := ⟨x 0, x 1, by blk_ext⟩
  obtain rfl : w = col s f := Fin.ext hw
  obtain rfl : a = r := Fin.ext ha
  exact hid_tile (iblk1 V c 1 t) (brow t) (V c main_v5_0) AU _ s (bblk1 V c t)
    (fun k f => (u_at _ s ho inb k f).trans ((bblk4 V c t s k f).trans (hu s k f))) f a

/-- The hidden layer, turned. -/
theorem final1_9 : (dat1 V c).arrAt 9 cfg1.N
    = transpose Cert.ReferenceMlpIdeal.S4096x4096 [1, 0] (Mlp.hid (pre (V c main_v5_0) AU))
      Cert.ReferenceMlpIdeal.Gen.transposes_S4096x4096_S4096x4096_1_0 := by
  refine (dat1 V c).arrAt_eq_of_covers 9 _ (by decide +kernel) fun t _ y => ?_
  blk_simp
  rw [after1_9]
  obtain ⟨w, a, rfl⟩ : ∃ (w : Fin 4096) (a : Fin 512), y = ix2 w a := ⟨y 0, y 1, by blk_ext⟩
  have e := fun s {o} ho inb x hw ha => hid_at V c AU hu t s (o := o) ho inb x w a hw ha
  have o : (outsAt1 V c t.val t.isLt).2.2.2.1 (ix2 w a) = Mlp.hid (pre (V c main_v5_0) AU) (ix2 (brow t a) w) := by
    by_cases h : t.val % 8 = 0
    · rw [outsAt1_A V c t h]; frame_out
      canon_tiles x h
      · exact e 7 rfl _ x h0 h1
      · exact e 6 rfl _ x h0 h1
      · exact e 5 rfl _ x h0 h1
      · exact e 4 rfl _ x h0 h1
      · exact e 3 rfl _ x h0 h1
      · exact e 2 rfl _ x h0 h1
      · exact e 1 rfl _ x h0 h1
      · exact e 0 rfl _ x (by simpa using h0) h1
    · rw [outsAt1_B V c t h]; frame_out
      canon_tiles x h
      · exact e 7 rfl _ x h0 h1
      · exact e 6 rfl _ x h0 h1
      · exact e 5 rfl _ x h0 h1
      · exact e 4 rfl _ x h0 h1
      · exact e 3 rfl _ x h0 h1
      · exact e 2 rfl _ x h0 h1
      · exact e 1 rfl _ x h0 h1
      · exact e 0 rfl _ x (by simpa using h0) h1
  rw [o]
  generalize Mlp.hid _ = X
  pointwise []
  blk_point [idx1 t]

variable (hd : ∀ s f k, (V c main_v4 : FVec Ideal S8x512x1024 .bf16) (ix3 s f k) = AD (ix2 (col s f) k))
include hd

/-- Slab `s` of the hidden layer's cotangent at a point. -/
theorem da_at (t : Fin cfg1.N) (s : Fin 8) {o : ℕ} (ho : s.val = o)
    (inb : ∀ a : Fin S8x1024x512.rank, (![o, 0, 0] : Fin 3 → ℕ) a + (![1, 1024, 512] : Fin 3 → ℕ) a ≤ S8x1024x512.size a)
    (jnb : ∀ a : Fin S8x512x1024.rank, (![o, 0, 0] : Fin 3 → ℕ) a + (![1, 512, 1024] : Fin 3 → ℕ) a ≤ S8x512x1024.size a)
    (x : S512x512.Idx) (w : Fin 4096) (a : Fin 512) (ha : a.val = (x 0).val) (hw : w.val = s.val * 512 + (x 1).val) :
    k1_pay10 (iblk1 V c 0 t) (iblk1 V c 1 t) (View.ld (iblk1 V c 4 t : Vec Ideal S8x1024x512 .bf16) (Rect.unit ![o, 0, 0] ![1, 1024, 512] inb))
      (View.ld (iblk1 V c 5 t : Vec Ideal S8x512x1024 .bf16) (Rect.unit ![o, 0, 0] ![1, 512, 1024] jnb)) x
      = Mlp.da (pre (V c main_v5_0) AU) (V c main_v5_1) AD (ix2 (brow t a) w) := by
  obtain ⟨r, f, rfl⟩ : ∃ (r f : Fin 512), x = ix2 r f := ⟨x 0, x 1, by blk_ext⟩
  obtain rfl : w = col s f := Fin.ext hw
  obtain rfl : a = r := Fin.ext ha
  exact da_tile (iblk1 V c 0 t) (iblk1 V c 1 t) (brow t) (V c main_v5_1) (V c main_v5_0) AU AD _ _ s (bblk0 V c t) (bblk1 V c t)
    (fun k f => (u_at _ s ho inb k f).trans ((bblk4 V c t s k f).trans (hu s k f)))
    (fun f k => (d_at _ s ho jnb f k).trans ((bblk5 V c t s f k).trans (hd s f k))) a f

/-- The hidden layer's cotangent. -/
theorem final1_6 : (dat1 V c).arrAt 6 cfg1.N = Mlp.da (pre (V c main_v5_0) AU) (V c main_v5_1) AD := by
  refine (dat1 V c).arrAt_eq_of_covers 6 _ (by decide +kernel) fun t _ y => ?_
  blk_simp
  rw [after1_6]
  obtain ⟨a, w, rfl⟩ : ∃ (a : Fin 512) (w : Fin 4096), y = ix2 a w := ⟨y 0, y 1, by blk_ext⟩
  have e := fun s {o} ho inb jnb x ha hw => da_at V c AU AD hu hd t s (o := o) ho inb jnb x w a ha hw
  have o : (outsAt1 V c t.val t.isLt).1 (ix2 a w) = Mlp.da (pre (V c main_v5_0) AU) (V c main_v5_1) AD (ix2 (brow t a) w) := by
    by_cases h : t.val % 8 = 0
    · rw [outsAt1_A V c t h]; frame_out
      canon_tiles x h
      · exact e 7 rfl _ _ x h0 h1
      · exact e 6 rfl _ _ x h0 h1
      · exact e 5 rfl _ _ x h0 h1
      · exact e 4 rfl _ _ x h0 h1
      · exact e 3 rfl _ _ x h0 h1
      · exact e 2 rfl _ _ x h0 h1
      · exact e 1 rfl _ _ x h0 h1
      · exact e 0 rfl _ _ x h0 (by simpa using h1)
    · rw [outsAt1_B V c t h]; frame_out
      canon_tiles x h
      · exact e 7 rfl _ _ x h0 h1
      · exact e 6 rfl _ _ x h0 h1
      · exact e 5 rfl _ _ x h0 h1
      · exact e 4 rfl _ _ x h0 h1
      · exact e 3 rfl _ _ x h0 h1
      · exact e 2 rfl _ _ x h0 h1
      · exact e 1 rfl _ _ x h0 h1
      · exact e 0 rfl _ _ x h0 (by simpa using h1)
  rw [o]
  generalize Mlp.da _ _ AD = X
  blk_point [idx1 t]

/-- The cotangent of the scaled rows at a point. -/
theorem dhn_blk (t : Fin cfg1.N) (r a) :
    dhnK (iblk1 V c 0 t) (iblk1 V c 1 t) (iblk1 V c 4 t) (iblk1 V c 5 t) (ix2 r a)
      = Mlp.dhn (Mlp.da (pre (V c main_v5_0) AU) (V c main_v5_1) AD) AU (ix2 (brow t r) a) :=
  dhn_tile (iblk1 V c 0 t) (iblk1 V c 1 t) (iblk1 V c 4 t) (iblk1 V c 5 t) (brow t) (V c main_v5_1) (V c main_v5_0) AU AD
    (bblk0 V c t) (bblk1 V c t) (fun s k f => (bblk4 V c t s k f).trans (hu s k f)) (fun s f k => (bblk5 V c t s f k).trans (hd s f k)) r a

/-- The cotangent of the block's input, where the input, the gain and the scaled rows' cotangent are real. -/
theorem final1_7 (rh : ∀ i, ∃ y : ℝ, (V c main_arg0 : Mlp.Rows) i = (y : EReal))
    (rg : ∀ i, ∃ y : ℝ, (V c main_arg2 : FVec Ideal S1x1024 .f32) i = (y : EReal))
    (rn : ∀ i, ∃ y : ℝ, Mlp.dhn (Mlp.da (pre (V c main_v5_0) AU) (V c main_v5_1) AD) AU i = (y : EReal)) :
    (dat1 V c).arrAt 7 cfg1.N = Mlp.dh (V c main_arg0) (V c main_v5_1) (Mlp.dhn (Mlp.da (pre (V c main_v5_0) AU) (V c main_v5_1) AD) AU)
      (V c main_arg2) := by
  refine (dat1 V c).arrAt_eq_of_covers 7 _ (by decide +kernel) fun t _ y => ?_
  blk_simp
  rw [after1_7]
  obtain ⟨a, b, rfl⟩ : ∃ a b, y = ix2 a b := ⟨y 0, y 1, by blk_ext⟩
  have n := dhn_blk V c AU AD hu hd t
  generalize Mlp.dhn _ AU = N at n rn ⊢
  have e := dh_tile (iblk1 V c 0 t) (iblk1 V c 2 t) (iblk1 V c 3 t) (brow t) (V c main_v5_1) (V c main_arg0) (V c main_arg2) N _ n
    (bblk0 V c t) (bblk2 V c t) (bblk3 V c t) rh rg rn a b
  have o : (outsAt1 V c t.val t.isLt).2.1 (ix2 a b) = Mlp.dh (V c main_arg0) (V c main_v5_1) N (V c main_arg2) (ix2 (brow t a) b) := by
    by_cases h : t.val % 8 = 0
    · rw [outsAt1_A V c t h]; frame_out; exact e
    · rw [outsAt1_B V c t h]; frame_out; exact e
  rw [o]
  generalize Mlp.dh _ _ _ _ = X
  blk_point [idx1 t]

/-- What a point adds to the gain's gradient. -/
abbrev gainT (H N : Mlp.Rows) (t : Fin cfg1.N) (b : Fin 1024) : EReal :=
  ∑ r : Fin 512, Mlp.xh H (ix2 (brow t r) b) * N (ix2 (brow t r) b)

theorem gain_first (t : Fin cfg1.N) (h : t.val % 8 = 0) (a : Fin 1) (b : Fin 1024) :
    (outsAt1 V c t.val t.isLt).2.2.2.2 (ix2 a b)
      = 0 + gainT (V c main_arg0) (Mlp.dhn (Mlp.da (pre (V c main_v5_0) AU) (V c main_v5_1) AD) AU) t b := by
  rw [outsAt1_A V c t h]; frame_out
  exact (dgain_tile (iblk1 V c 2 t) (brow t) (V c main_arg0) _ _ _ (dhn_blk V c AU AD hu hd t) (bblk2 V c t) a b).trans
    (congrArg (fun x : EReal => x + _) (by pointwise [k1_pay3]))
theorem gain_next (t : Fin cfg1.N) (h : ¬ t.val % 8 = 0) (a : Fin 1) (b : Fin 1024) :
    (outsAt1 V c t.val t.isLt).2.2.2.2 (ix2 a b) = (outsAt1 V c (t.val - 1) (by omega)).2.2.2.2 (ix2 a b)
      + gainT (V c main_arg0) (Mlp.dhn (Mlp.da (pre (V c main_v5_0) AU) (V c main_v5_1) AD) AU) t b := by
  rw [outsAt1_B V c t h]; frame_out
  exact dgain_tile (iblk1 V c 2 t) (brow t) (V c main_arg0) _ _ _ (dhn_blk V c AU AD hu hd t) (bblk2 V c t) a b

/-- The gradient of the norm's gain. -/
theorem final1_10 : (dat1 V c).arrAt 10 cfg1.N
    = Mlp.dgain (V c main_arg0) (Mlp.dhn (Mlp.da (pre (V c main_v5_0) AU) (V c main_v5_1) AD) AU) := by
  refine (dat1 V c).arrAt_eq_of_after_last 10 t1_7 (by decide +kernel) _ fun j => ?_
  blk_simp
  obtain ⟨a, b, rfl⟩ : ∃ a b, j = ix2 a b := ⟨j 0, j 1, by blk_ext⟩
  rw [after1_10, Pipeline.eq_sum_fin_of_reset_step_apply_last (fun n h (i : Fin 1 × Fin 1024) => (outsAt1 V c n h).2.2.2.2 (ix2 i.1 i.2)) 8 (fun _ => 0)
    (fun t i => gainT (V c main_arg0) (Mlp.dhn (Mlp.da (pre (V c main_v5_0) AU) (V c main_v5_1) AD) AU) t i.2)
    (fun t h i => gain_first V c AU AD hu hd t h i.1 i.2) (fun t h i => gain_next V c AU AD hu hd t h i.1 i.2)
    (le_of_eq N_1) t1_7 rfl (a, b), zero_add]
  generalize Mlp.dhn _ AU = N
  generalize (V c main_arg0 : Mlp.Rows) = H
  pointwise [Mlp.dgain]
  refine Fin.sum_mul_add_congr fun s k hl => rfl

end

end

end Cert.KernelMlpIdeal.Value

end
-- ==== Proof.MlpRun.lean ====
/- The run of the feed-forward block's two calls: what every buffer of the device holds at the end. -/
module

public import proofs.«01_k».proof.Proof.Gen.KernelMlpIdeal.Frame

@[expose] public section

set_option maxRecDepth 16384

noncomputable section

namespace Cert.KernelMlpIdeal.Value

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelMlpIdeal Cert.KernelMlpIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the program ends with every unscoped buffer at the contents of the last
    boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

/-- The run read at the results: each is what its region's write-backs leave; the arguments end as launched. -/
theorem run_main : θ_run defs (onTc (τ := τ) (main (F := F))) ⟨m, fun _ => 0, ρ⟩ (fun r => ∀ c : Dev nD,
      r.2.mem ((c.tc : Thread nD τ).loc main_v5_3) = (dat0 (V1 m ρ) c).arrAt 8 cfg0.N
      ∧ r.2.mem ((c.tc : Thread nD τ).loc main_v6_1) = (dat1 (V2 m ρ) c).arrAt 7 cfg1.N
      ∧ r.2.mem ((c.tc : Thread nD τ).loc main_v6_4) = (dat1 (V2 m ρ) c).arrAt 10 cfg1.N
      ∧ r.2.mem ((c.tc : Thread nD τ).loc main_v6_0) = (dat1 (V2 m ρ) c).arrAt 6 cfg1.N
      ∧ r.2.mem ((c.tc : Thread nD τ).loc main_v6_2) = (dat1 (V2 m ρ) c).arrAt 8 cfg1.N
      ∧ r.2.mem ((c.tc : Thread nD τ).loc main_v6_3) = (dat1 (V2 m ρ) c).arrAt 9 cfg1.N
      ∧ r.2.mem ((c.tc : Thread nD τ).loc main_v5_2) = (dat0 (V1 m ρ) c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v5_3 (by decide))).trans ((W3_of m ρ c main_v5_3 (by decide +kernel)).trans (W2_arr m ρ c 8)),
     (h c _ (mem_uc main_v6_1 (by decide))).trans (W3_arr m ρ c 7),
     (h c _ (mem_uc main_v6_4 (by decide))).trans (W3_arr m ρ c 10),
     (h c _ (mem_uc main_v6_0 (by decide))).trans (W3_arr m ρ c 6),
     (h c _ (mem_uc main_v6_2 (by decide))).trans (W3_arr m ρ c 8),
     (h c _ (mem_uc main_v6_3 (by decide))).trans (W3_arr m ρ c 9),
     (h c _ (mem_uc main_v5_2 (by decide))).trans ((W3_of m ρ c main_v5_2 (by decide +kernel)).trans (W2_arr m ρ c 7)),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

end Cert.KernelMlpIdeal.Value

end
-- ==== Proof.MlpAlgebra.lean ====
/- The feed-forward block's two calls compute the loss and the derivative of the reference's lines, at finite arguments. -/
module

public import proofs.«01_k».proof.Defs
public import Idealize.ShloMosaic.Lib.ReduceAll
public import proofs.«01_k».proof.Proof.MlpForward
public import proofs.«01_k».proof.Proof.MlpBackward
public import proofs.«01_k».proof.Proof.MlpRun
public import proofs.«01_k».proof.Proof.Gen.KernelMlp.Frame
public import proofs.«01_k».proof.Proof.Gen.Pre_finite_mlp

@[expose] public section

set_option maxRecDepth 16384

noncomputable section

open Idealize.ShloMosaic Idealize.ShloMosaic.TcCoe Idealize.ShloMosaic.Tactic Idealize.SL.Sem

namespace Cert.Mlp

open Cert.ReferenceMlpIdeal Cert.ReferenceMlpIdeal.Gen Cert.Reals

variable {H T O E : Rows} {G : FVec Ideal S1x1024 .f32} {A P : Wide} {U : FVec Ideal S1024x4096 .f32} {D : FVec Ideal S4096x1024 .f32}

/-! ## Every intermediate array of the reference is real where its operands are -/

theorem real_max {x y : EReal} (hx : IsReal x) (hy : IsReal y) : IsReal (max x y) := by
  rcases max_choice x y with h | h <;> rw [h] <;> assumption
theorem real_zero : IsReal 0 := ⟨0, EReal.coe_zero.symm⟩

theorem hn_real (hh : ∀ i, IsReal (H i)) (hg : ∀ i, IsReal (G i)) (i) : IsReal (hn H G i) := by
  obtain ⟨a, b, rfl⟩ : ∃ a b, i = ix2 a b := ⟨_, _, eq_ix2 i⟩
  obtain ⟨e, he, hv⟩ := eps_val
  have hr := hh
  choose x hx using fun k : Fin 1024 => hh (ix2 a k)
  have f := (factor x e he).1
  pointwise [hn, xh, inv, ms]
  simp only [Cert.KernelMlpIdeal.Value.mean_div, Cert.KernelMlpIdeal.Value.mean_val, hv, hx]
  rw [f]
  exact .mul (.mul ⟨_, rfl⟩ ⟨_, rfl⟩) (hg _)
theorem act_real (hh : ∀ i, IsReal (H i)) (hg : ∀ i, IsReal (G i)) (hu : ∀ i, IsReal (U i)) (i) : IsReal (act H G U i) := by
  obtain ⟨a, b, rfl⟩ : ∃ a b, i = ix2 a b := ⟨_, _, eq_ix2 i⟩
  have h := hn_real hh hg
  pointwise [act]
  exact .sum fun _ => .mul (h _) (hu _)
theorem rl_real (ha : ∀ i, IsReal (A i)) (i) : IsReal (rl A i) := by
  pointwise [rl]
  exact real_max (ha _) real_zero
theorem err_real (hh : ∀ i, IsReal (H i)) (ht : ∀ i, IsReal (T i)) (ha : ∀ i, IsReal (A i)) (hd : ∀ i, IsReal (D i)) (i) :
    IsReal (err H T A D i) := by
  obtain ⟨a, b, rfl⟩ : ∃ a b, i = ix2 a b := ⟨_, _, eq_ix2 i⟩
  have h := rl_real ha
  pointwise [err, hid]
  exact .sub (.add (hh _) (.sum fun _ => .mul (.mul (h _) (h _)) (hd _))) (ht _)
theorem dout_real (he : ∀ i, IsReal (E i)) (i) : IsReal (dout E i) := by
  pointwise [dout]
  simp only [Cert.KernelMlpIdeal.Value.mean_div, Cert.KernelMlpIdeal.Value.mean_val, Cert.KernelMlpIdeal.Value.half_val,
    Cert.KernelMlpIdeal.Value.two_val]
  exact .mul (.mul (by first | exact ⟨_, rfl⟩ | exact .mul ⟨_, rfl⟩ .one) ⟨_, rfl⟩) (.mul ⟨_, rfl⟩ (he _))
theorem da_real (ha : ∀ i, IsReal (A i)) (ho : ∀ i, IsReal (O i)) (hd : ∀ i, IsReal (D i)) (i) : IsReal (da A O D i) := by
  obtain ⟨a, b, rfl⟩ : ∃ a b, i = ix2 a b := ⟨_, _, eq_ix2 i⟩
  have h := rl_real ha
  pointwise [da]
  rw [Cert.KernelMlpIdeal.Value.two_val]
  split
  · exact .mul (.sum fun _ => .mul (ho _) (hd _)) (.mul ⟨_, rfl⟩ (h _))
  · exact real_zero
theorem dhn_real (hp : ∀ i, IsReal (P i)) (hu : ∀ i, IsReal (U i)) (i) : IsReal (dhn P U i) := by
  obtain ⟨a, b, rfl⟩ : ∃ a b, i = ix2 a b := ⟨_, _, eq_ix2 i⟩
  pointwise [dhn]
  exact .sum fun _ => .mul (hp _) (hu _)

instance : Subsingleton Cert.Pre_finite_mlp.S_.Idx := ⟨fun a b => funext fun i => i.elim0⟩

set_option maxHeartbeats 1000000 in
/-- The precondition says that all five arguments are real. -/
theorem finite_args [Cert.Pre_finite_mlp.Facts] (h : Cert.Pre_finite_mlp.fn (F := Ideal) H T G U D = fun _ => 1#1) :
    (∀ i, IsReal (H i)) ∧ (∀ i, IsReal (T i)) ∧ (∀ i, IsReal (G i)) ∧ (∀ i, IsReal (U i)) ∧ (∀ i, IsReal (D i)) := by
  have h0 := congrFun h (fun i => i.elim0)
  unfold Cert.Pre_finite_mlp.fn Cert.Pre_finite_mlp.fn_part1 at h0
  obtain ⟨h1, ho⟩ := IntOp.andi_eq_one.1 h0
  obtain ⟨h2, hb⟩ := IntOp.andi_eq_one.1 h1
  obtain ⟨h3, hw⟩ := IntOp.andi_eq_one.1 h2
  obtain ⟨hd, hy⟩ := IntOp.andi_eq_one.1 h3
  have real := fun (x : EReal) h => (⟨_, real_of_cmp x h⟩ : IsReal x)
  exact ⟨fun i => real _ (Host.reduce_andi_all _ _ _ _ _ hd i), fun i => real _ (Host.reduce_andi_all _ _ _ _ _ hy i),
    fun i => real _ (Host.reduce_andi_all _ _ _ _ _ hw i), fun i => real _ (Host.reduce_andi_all _ _ _ _ _ hb i),
    fun i => real _ (Host.reduce_andi_all _ _ _ _ _ ho i)⟩

end Cert.Mlp

namespace Cert.KernelMlpIdeal.Value

open Cert.KernelMlpIdeal Cert.KernelMlpIdeal.Gen

variable (m : (ℓ : Loc nD τ sig) → Buf (Elt Ideal) ℓ) (ρ : Dev nD → PrngReg) (c : Dev nD)

/-- The arguments, as arrays. -/
abbrev kH : Mlp.Rows := m ((c.tc : Thread nD τ).loc main_arg0)
abbrev kT : Mlp.Rows := m ((c.tc : Thread nD τ).loc main_arg1)
abbrev kG : FVec Ideal S1x1024 .f32 := m ((c.tc : Thread nD τ).loc main_arg2)
abbrev kU : FVec Ideal Cert.ReferenceMlpIdeal.S1024x4096 .f32 := m ((c.tc : Thread nD τ).loc main_arg3)
abbrev kD : FVec Ideal Cert.ReferenceMlpIdeal.S4096x1024 .f32 := m ((c.tc : Thread nD τ).loc main_arg4)

theorem V1_arg (a : Ref sig .tc) (h : a ∈ argRefs) : V1 m ρ c a = m ((c : Thread nD τ).loc a) := W1_args m ρ c a h
theorem V2_arg (a : Ref sig .tc) (h : a ∈ argRefs) : V2 m ρ c a = m ((c : Thread nD τ).loc a) := W2_args m ρ c a h

/-- The host's slabs of the two weights. -/
theorem host_v2 : (V1 m ρ c main_v2 : FVec Ideal S8x1024x512 .bf16)
    = transpose S8x1024x512 [1, 0, 2] (shapeCast S1024x8x512 (kU m c : FVec Ideal S1024x4096 .f32) shapeCasts_S1024x4096_S1024x8x512)
      transposes_S1024x8x512_S8x1024x512_1_0_2 := by
  show StableHlo.after hostOps0 (W0 m ρ c) (Proc.devRef .tc main_v2) = _
  after_results_simp <;> rfl
theorem host_v4 : (V1 m ρ c main_v4 : FVec Ideal S8x512x1024 .bf16)
    = shapeCast S8x512x1024 (kD m c : FVec Ideal S4096x1024 .f32) shapeCasts_S4096x1024_S8x512x1024 := by
  show StableHlo.after hostOps0 (W0 m ρ c) (Proc.devRef .tc main_v4) = _
  after_results_simp <;> rfl

theorem up_slabs (A : FVec Ideal S1024x4096 .f32) (s : Fin 8) (k : Fin 1024) (f : Fin 512) :
    transpose S8x1024x512 [1, 0, 2] (shapeCast S1024x8x512 A shapeCasts_S1024x4096_S1024x8x512) transposes_S1024x8x512_S8x1024x512_1_0_2
      (ix3 s k f) = A (ix2 k (col s f)) := by
  pointwise []
  blk_ext
theorem down_slabs (A : FVec Ideal S4096x1024 .f32) (s : Fin 8) (f : Fin 512) (k : Fin 1024) :
    shapeCast S8x512x1024 A shapeCasts_S4096x1024_S8x512x1024 (ix3 s f k) = A (ix2 (col s f) k) := by
  pointwise []
  blk_ext

theorem fu (s k f) : (V1 m ρ c main_v2 : FVec Ideal S8x1024x512 .bf16) (ix3 s k f) = kU m c (ix2 k (col s f)) :=
  (congrFun (host_v2 m ρ c) _).trans (up_slabs _ s k f)
theorem fd (s f k) : (V1 m ρ c main_v4 : FVec Ideal S8x512x1024 .bf16) (ix3 s f k) = kD m c (ix2 (col s f) k) :=
  (congrFun (host_v4 m ρ c) _).trans (down_slabs _ s f k)
theorem bu (s k f) : (V2 m ρ c main_v2 : FVec Ideal S8x1024x512 .bf16) (ix3 s k f) = kU m c (ix2 k (col s f)) :=
  (congrFun (W2_of m ρ c main_v2 (by decide +kernel)) _).trans (fu m ρ c s k f)
theorem bd (s f k) : (V2 m ρ c main_v4 : FVec Ideal S8x512x1024 .bf16) (ix3 s f k) = kD m c (ix2 (col s f) k) :=
  (congrFun (W2_of m ρ c main_v4 (by decide +kernel)) _).trans (fd m ρ c s f k)

/-- The reference's intermediate arrays at the kernel's arguments. -/
abbrev kE : Mlp.Rows := Mlp.vE (kH m c) (kT m c) (kG m c) (kU m c) (kD m c)
abbrev kP : Mlp.Wide := Mlp.vP (kH m c) (kT m c) (kG m c) (kU m c) (kD m c)
abbrev kN : Mlp.Rows := Mlp.vN (kH m c) (kT m c) (kG m c) (kU m c) (kD m c)

theorem f0 : V1 m ρ c main_arg0 = kH m c := V1_arg m ρ c _ (by decide +kernel)
theorem f1 : V1 m ρ c main_arg1 = kT m c := V1_arg m ρ c _ (by decide +kernel)
theorem f2 : V1 m ρ c main_arg2 = kG m c := V1_arg m ρ c _ (by decide +kernel)
theorem b0 : V2 m ρ c main_arg0 = kH m c := V2_arg m ρ c _ (by decide +kernel)
theorem b2 : V2 m ρ c main_arg2 = kG m c := V2_arg m ρ c _ (by decide +kernel)

theorem out_hn : (dat0 (V1 m ρ) c).arrAt 5 cfg0.N = Mlp.hn (kH m c) (kG m c) := by
  rw [final0_5, f0, f2]
theorem out_dout : (dat0 (V1 m ρ) c).arrAt 6 cfg0.N = Mlp.dout (kE m c) := by
  rw [final0_6 _ c _ _ (fu m ρ c) (fd m ρ c), f0, f1, f2]
theorem out_hnt : (dat0 (V1 m ρ) c).arrAt 7 cfg0.N
    = transpose Cert.ReferenceMlpIdeal.S1024x4096 [1, 0] (Mlp.hn (kH m c) (kG m c))
      Cert.ReferenceMlpIdeal.Gen.transposes_S4096x1024_S1024x4096_1_0 := by
  rw [final0_7, f0, f2]
theorem out_loss (re : ∀ i, ∃ y : ℝ, kE m c i = (y : EReal)) : (dat0 (V1 m ρ) c).arrAt 8 cfg0.N
    = broadcastInDim Cert.ReferenceMlpIdeal.S8x128 ![] Cert.ReferenceMlpIdeal.Gen.bcast_S_S8x128 (Mlp.loss (kE m c)) := by
  rw [final0_8 _ c _ _ (fu m ρ c) (fd m ρ c) (by rw [f0, f1, f2]; exact re), f0, f1, f2]

/-- The rows the backward call reads are those the forward call wrote. -/
theorem b5_0 : V2 m ρ c main_v5_0 = Mlp.hn (kH m c) (kG m c) := (W2_arr m ρ c 5).trans (out_hn m ρ c)
theorem b5_1 : V2 m ρ c main_v5_1 = Mlp.dout (kE m c) := (W2_arr m ρ c 6).trans (out_dout m ρ c)

theorem out_da : (dat1 (V2 m ρ) c).arrAt 6 cfg1.N = kP m c := by
  rw [final1_6 _ c _ _ (bu m ρ c) (bd m ρ c), b5_0, b5_1]
  rfl
theorem out_dh (rh : ∀ i, ∃ y : ℝ, kH m c i = (y : EReal)) (rg : ∀ i, ∃ y : ℝ, kG m c i = (y : EReal))
    (rn : ∀ i, ∃ y : ℝ, kN m c i = (y : EReal)) :
    (dat1 (V2 m ρ) c).arrAt 7 cfg1.N = Mlp.dh (kH m c) (Mlp.dout (kE m c)) (kN m c) (kG m c) := by
  rw [final1_7 _ c _ _ (bu m ρ c) (bd m ρ c) (by rw [b0]; exact rh) (by rw [b2]; exact rg) (by rw [b5_0, b5_1]; exact rn),
    b5_0, b5_1, b0, b2]
  rfl
theorem out_dout_b : (dat1 (V2 m ρ) c).arrAt 8 cfg1.N = Mlp.dout (kE m c) := by
  rw [final1_8, b5_1]
theorem out_hid : (dat1 (V2 m ρ) c).arrAt 9 cfg1.N
    = transpose Cert.ReferenceMlpIdeal.S4096x4096 [1, 0] (Mlp.hid (Mlp.act (kH m c) (kG m c) (kU m c)))
      Cert.ReferenceMlpIdeal.Gen.transposes_S4096x4096_S4096x4096_1_0 := by
  rw [final1_9 _ c _ (bu m ρ c), b5_0]
  rfl
theorem out_gain : (dat1 (V2 m ρ) c).arrAt 10 cfg1.N = Mlp.dgain (kH m c) (kN m c) := by
  rw [final1_10 _ c _ _ (bu m ρ c) (bd m ρ c), b5_0, b5_1, b0]
  rfl

end Cert.KernelMlpIdeal.Value

namespace Cert.Proof

open Cert.KernelMlpIdeal Cert.KernelMlpIdeal.Gen Cert.KernelMlpIdeal.Value

/-- The reference's run: every operation in turn, the arguments unchanged, no semaphore declared. -/
theorem frame_reference_mlp : Cert.quiescent_ReferenceMlpIdeal (hReferenceMlpIdeal := Cert.ReferenceMlpIdeal.Gen.facts) := by
  intro m g _
  refine θ_run_mono (Cert.ReferenceMlpIdeal.Value.run m g) fun r hr => ⟨fun c => ?_, ?_⟩
  · have hc := hr c
    and_intros
    all_goals run_conjunct
  · exact sem_eq_zero_of_no_sems (by decide) r.2

set_option maxHeartbeats 1000000 in
/-- The kernel's results are the reference's. -/
theorem algebraic_mlp [Cert.Pre_finite_mlp.Facts] : Cert.algebraic_KernelMlpIdeal_ReferenceMlpIdeal_pre_finite_mlp
    (hKernelMlpIdeal := Cert.KernelMlpIdeal.Gen.facts) (hReferenceMlpIdeal := Cert.ReferenceMlpIdeal.Gen.facts) := by
  intro m g m' g' hpre hagree
  have real : ∀ c, (∀ i, Reals.IsReal (kH m c i)) ∧ (∀ i, Reals.IsReal (kG m c i)) ∧ (∀ i, Reals.IsReal (kE m c i))
      ∧ ∀ i, Reals.IsReal (kN m c i) := fun c => by
    obtain ⟨rh, rt, rg, ru, rd⟩ := Mlp.finite_args (hpre c)
    have ra := Mlp.act_real rh rg ru
    have re := Mlp.err_real rh rt ra rd
    exact ⟨rh, rg, re, Mlp.dhn_real (Mlp.da_real ra (Mlp.dout_real re) rd) ru⟩
  refine ⟨fun c => broadcastInDim Cert.ReferenceMlpIdeal.S8x128 ![] Cert.ReferenceMlpIdeal.Gen.bcast_S_S8x128 (Mlp.loss (kE m c)),
    fun c => Mlp.dh (kH m c) (Mlp.dout (kE m c)) (kN m c) (kG m c), fun c => Mlp.dgain (kH m c) (kN m c), fun c => kP m c,
    fun c => Mlp.dout (kE m c),
    fun c => transpose Cert.ReferenceMlpIdeal.S4096x4096 [1, 0] (Mlp.hid (Mlp.act (kH m c) (kG m c) (kU m c)))
      Cert.ReferenceMlpIdeal.Gen.transposes_S4096x4096_S4096x4096_1_0,
    fun c => transpose Cert.ReferenceMlpIdeal.S1024x4096 [1, 0] (Mlp.hn (kH m c) (kG m c))
      Cert.ReferenceMlpIdeal.Gen.transposes_S4096x1024_S1024x4096_1_0, ?_, ?_⟩
  · refine θ_run_mono (run_main m g) fun r hr c => ?_
    obtain ⟨rh, rg, re, rn⟩ := real c
    obtain ⟨h1, h2, h3, h4, h5, h6, h7, h⟩ := hr c
    exact ⟨h1.trans (out_loss m g c re), h2.trans (out_dh m g c rh rg rn), h3.trans (out_gain m g c), h4.trans (out_da m g c),
      h5.trans (out_dout_b m g c), h6.trans (out_hid m g c), h7.trans (out_hnt m g c), h⟩
  · refine θ_run_mono (Mlp.run m' g') fun r hr c => ?_
    obtain ⟨e0, e1, e2, e3, e4⟩ := hagree c
    have q0 : Mlp.aH m' c = kH m c := e0
    have q1 : Mlp.aT m' c = kT m c := e1
    have q2 : Mlp.aG m' c = kG m c := e2
    have q3 : Mlp.aU m' c = kU m c := e3
    have q4 : Mlp.aD m' c = kD m c := e4
    obtain ⟨h1, h2, h3, h4, h5, h6, h7, h⟩ := hr c
    rw [q0, q1, q2, q3, q4] at h1
    rw [q0, q1, q2, q3, q4] at h2
    rw [q0, q1, q2, q3, q4] at h3
    rw [q0, q1, q2, q3, q4] at h4
    rw [q0, q1, q2, q3, q4] at h5
    rw [q0, q2, q3] at h6
    rw [q0, q2] at h7
    exact ⟨h1, h2, h3, h4, h5, h6, h7, h⟩

end Cert.Proof

end
-- ==== Proof.lean ====
module

public import proofs.«01_k».proof.Defs
public import proofs.«01_k».proof.Proof.Gen.KernelMerge
public import proofs.«01_k».proof.Proof.Gen.KernelMerge.Skeleton
public import proofs.«01_k».proof.Proof.Gen.KernelMerge.Launch
public import proofs.«01_k».proof.Proof.Gen.KernelMerge.Points
public import proofs.«01_k».proof.Proof.Gen.KernelMerge.Frame
public import proofs.«01_k».proof.Proof.Gen.KernelMergeIdeal
public import proofs.«01_k».proof.Proof.Gen.KernelMergeIdeal.Skeleton
public import proofs.«01_k».proof.Proof.Gen.KernelMergeIdeal.Launch
public import proofs.«01_k».proof.Proof.Gen.KernelMergeIdeal.Points
public import proofs.«01_k».proof.Proof.Gen.KernelMergeIdeal.Frame
public import proofs.«01_k».proof.Proof.Gen.ReferenceMergeIdeal
public import proofs.«01_k».proof.Proof.Gen.ReferenceMergeIdeal.Run
public import proofs.«01_k».proof.Proof.Gen.KernelAttn
public import proofs.«01_k».proof.Proof.Gen.KernelAttn.Skeleton
public import proofs.«01_k».proof.Proof.Gen.KernelAttn.Launch
public import proofs.«01_k».proof.Proof.Gen.KernelAttn.Points
public import proofs.«01_k».proof.Proof.Gen.KernelAttn.Frame
public import proofs.«01_k».proof.Proof.Gen.KernelAttn.Loops
public import proofs.«01_k».proof.Proof.Gen.KernelAttnIdeal
public import proofs.«01_k».proof.Proof.Gen.KernelAttnIdeal.Skeleton
public import proofs.«01_k».proof.Proof.Gen.KernelAttnIdeal.Launch
public import proofs.«01_k».proof.Proof.Gen.KernelAttnIdeal.Points
public import proofs.«01_k».proof.Proof.Gen.KernelAttnIdeal.Frame
public import proofs.«01_k».proof.Proof.Gen.KernelAttnIdeal.Loops
public import proofs.«01_k».proof.Proof.Gen.ReferenceAttnIdeal
public import proofs.«01_k».proof.Proof.Gen.ReferenceAttnIdeal.Run
public import proofs.«01_k».proof.Proof.Gen.Pre_finite_attn
public import proofs.«01_k».proof.Proof.MergeResults
public import proofs.«01_k».proof.Proof.AttnResults
public import proofs.«01_k».proof.Proof.AttnAlgebra
public import proofs.«01_k».proof.Proof.GluAlgebra
public import proofs.«01_k».proof.Proof.MlpAlgebra
public import proofs.«01_k».proof.Proof.Gen.Pre_finite_glu
public import proofs.«01_k».proof.Proof.Gen.Pre_finite_mlp
public import proofs.«01_k».proof.Proof.Gen.KernelMlpIdeal.Frame
public import proofs.«01_k».proof.Proof.Gen.KernelMlp.Frame
public import proofs.«01_k».proof.Proof.Gen.ReferenceMlpIdeal.Run
public import proofs.«01_k».proof.Proof.Gen.KernelGluIdeal.Value
public import proofs.«01_k».proof.Proof.Gen.KernelGlu.Frame
public import proofs.«01_k».proof.Proof.Gen.ReferenceGluIdeal.Run
public import proofs.«01_k».proof.Proof.Gen.KernelInproj.Frame
public import proofs.«01_k».proof.Proof.Gen.KernelInprojIdeal.Frame
public import proofs.«01_k».proof.Proof.Gen.KernelPrep.Frame
public import proofs.«01_k».proof.Proof.Gen.KernelPrepIdeal.Frame
public import proofs.«01_k».proof.Proof.Gen.KernelQkv.Frame
public import proofs.«01_k».proof.Proof.Gen.KernelQkvIdeal.Frame
public import Idealize.ShloMosaic.Adequacy
public import Idealize.ShloMosaic.Lib.Claim
public import Idealize.ShloMosaic.Init

@[expose] public section

noncomputable section

namespace Cert.Proof

open Idealize.ShloMosaic Idealize.SL.Sem Cert.KernelMerge

/-- The reference's run: every operation in turn, the arguments unchanged, no semaphore declared. -/
theorem frame_reference : Cert.quiescent_ReferenceMergeIdeal (hReferenceMergeIdeal := Cert.ReferenceMergeIdeal.Gen.facts) := by
  intro m g _
  refine θ_run_mono (Cert.ReferenceMergeIdeal.Value.run m g) fun r hr => ⟨fun c => ?_, ?_⟩
  · have hc := hr c
    and_intros
    all_goals run_conjunct
  · exact sem_eq_zero_of_no_sems (by decide) r.2

theorem claim : Cert.Claim :=
  letI := Cert.Pre_finite_attn.Gen.facts
  letI := Cert.Pre_finite_glu.Gen.facts
  letI := Cert.Pre_finite_mlp.Gen.facts
  ⟨Cert.KernelMerge.Gen.facts, Cert.KernelMergeIdeal.Gen.facts, Cert.ReferenceMergeIdeal.Gen.facts,
  Cert.KernelAttn.Gen.facts, Cert.KernelAttnIdeal.Gen.facts, Cert.ReferenceAttnIdeal.Gen.facts,
  Cert.KernelGlu.Gen.facts, Cert.KernelGluIdeal.Gen.facts, Cert.ReferenceGluIdeal.Gen.facts,
  Cert.KernelMlp.Gen.facts, Cert.KernelMlpIdeal.Gen.facts, Cert.ReferenceMlpIdeal.Gen.facts,
  Cert.KernelInproj.Gen.facts, Cert.KernelInprojIdeal.Gen.facts,
  Cert.KernelPrep.Gen.facts, Cert.KernelPrepIdeal.Gen.facts,
  Cert.KernelQkv.Gen.facts, Cert.KernelQkvIdeal.Gen.facts,
  Cert.Pre_finite_attn.Gen.facts, Cert.Pre_finite_glu.Gen.facts, Cert.Pre_finite_mlp.Gen.facts,
  fun m ρ _ => Cert.KernelMerge.Gen.frame m ρ,
  fun m ρ _ => Cert.KernelMergeIdeal.Gen.frame m ρ,
  frame_reference,
  frame_kernel_attn,
  frame_kernel_attn_ideal, fun m ρ _ => frame_kernel_attn_ideal m ρ trivial,
  frame_reference_attn, fun m ρ _ => frame_reference_attn m ρ trivial,
  fun m ρ _ => Cert.KernelGlu.Gen.frame m ρ,
  fun m ρ _ => Cert.KernelGluIdeal.Gen.frame m ρ, fun m ρ _ => Cert.KernelGluIdeal.Gen.frame m ρ,
  frame_reference_glu, fun m ρ _ => frame_reference_glu m ρ trivial,
  fun m ρ _ => Cert.KernelMlp.Gen.frame m ρ,
  fun m ρ _ => Cert.KernelMlpIdeal.Gen.frame m ρ, fun m ρ _ => Cert.KernelMlpIdeal.Gen.frame m ρ,
  frame_reference_mlp, fun m ρ _ => frame_reference_mlp m ρ trivial,
  fun m ρ _ => Cert.KernelInproj.Gen.frame m ρ, fun m ρ _ => Cert.KernelInprojIdeal.Gen.frame m ρ,
  fun m ρ _ => Cert.KernelPrep.Gen.frame m ρ, fun m ρ _ => Cert.KernelPrepIdeal.Gen.frame m ρ,
  fun m ρ _ => Cert.KernelQkv.Gen.frame m ρ, fun m ρ _ => Cert.KernelQkvIdeal.Gen.frame m ρ,
  trivial,
  Cert.KernelMergeIdeal.Value.algebraic,
  trivial,
  algebraic_attn,
  preserves_glu,
  algebraic_glu,
  trivial,
  algebraic_mlp,
  trivial, trivial, trivial⟩

end Cert.Proof

end
